-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v46_1)) (v3 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v46_1) = v2 c
          ∧ r.2.mem ((c.tc : Thread Cert.KernelIdeal.nD Cert.KernelIdeal.τ).loc Cert.KernelIdeal.main_v55) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x8x256 : Shape := ⟨3, ![1024, 8, 256]⟩
abbrev S1024x4x128 : Shape := ⟨3, ![1024, 4, 128]⟩
abbrev S2560x1024 : Shape := ⟨2, ![2560, 1024]⟩
abbrev S1024 : Shape := ⟨1, ![1024]⟩
abbrev S1024x1024 : Shape := ⟨2, ![1024, 1024]⟩
abbrev S1024x8192 : Shape := ⟨2, ![1024, 8192]⟩
abbrev S8192 : Shape := ⟨1, ![8192]⟩
abbrev S8192x1024 : Shape := ⟨2, ![8192, 1024]⟩
abbrev S1024x256 : Shape := ⟨2, ![1024, 256]⟩
abbrev S256 : Shape := ⟨1, ![256]⟩
abbrev S128 : Shape := ⟨1, ![128]⟩
abbrev S1024x2048 : Shape := ⟨2, ![1024, 2048]⟩
abbrev S1024x512 : Shape := ⟨2, ![1024, 512]⟩
abbrev S1x256 : Shape := ⟨2, ![1, 256]⟩
abbrev S8x256 : Shape := ⟨2, ![8, 256]⟩
abbrev S2048 : Shape := ⟨1, ![2048]⟩
abbrev S1x2048 : Shape := ⟨2, ![1, 2048]⟩
abbrev S8x2048 : Shape := ⟨2, ![8, 2048]⟩
abbrev S_ : Shape := ⟨0, ![]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S8x512 : Shape := ⟨2, ![8, 512]⟩
abbrev S1 : Shape := ⟨1, ![1]⟩
abbrev S2 : Shape := ⟨1, ![2]⟩
abbrev S1x1x1x1 : Shape := ⟨4, ![1, 1, 1, 1]⟩
abbrev S1024x1x16x512 : Shape := ⟨4, ![1024, 1, 16, 512]⟩
abbrev S1x1024 : Shape := ⟨2, ![1, 1024]⟩
abbrev S8x1024 : Shape := ⟨2, ![8, 1024]⟩
abbrev S256x2048 : Shape := ⟨2, ![256, 2048]⟩
abbrev S256x512 : Shape := ⟨2, ![256, 512]⟩
abbrev S256x1024 : Shape := ⟨2, ![256, 1024]⟩
abbrev S256x2560 : Shape := ⟨2, ![256, 2560]⟩
abbrev S1x8192 : Shape := ⟨2, ![1, 8192]⟩
abbrev S8x8192 : Shape := ⟨2, ![8, 8192]⟩
abbrev S4x1024x4 : Shape := ⟨3, ![4, 1024, 4]⟩
abbrev S2048x1024 : Shape := ⟨2, ![2048, 1024]⟩
abbrev S1x256x4 : Shape := ⟨3, ![1, 256, 4]⟩
abbrev S256x1 : Shape := ⟨2, ![256, 1]⟩
abbrev S256x4 : Shape := ⟨2, ![256, 4]⟩
abbrev S256x256 : Shape := ⟨2, ![256, 256]⟩
abbrev S1024x4x4 : Shape := ⟨3, ![1024, 4, 4]⟩
abbrev S1024x1x16 : Shape := ⟨3, ![1024, 1, 16]⟩

abbrev nBuf : Space → Nat
  | .hbm => 361
  | .vmem => 46
  | .smem => 0
  | _ => 0

abbrev hbmTy0_0 (i : Nat) : BufTy := match i % 128 with
  | 0 => ⟨S1024x8x256, .f32⟩
  | 1 => ⟨S1024x4x128, .f32⟩
  | 2 => ⟨S2560x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S1024x8192, .f32⟩
  | 9 => ⟨S8192, .f32⟩
  | 10 => ⟨S8192x1024, .f32⟩
  | 11 => ⟨S1024, .f32⟩
  | 12 => ⟨S1024x1024, .f32⟩
  | 13 => ⟨S1024, .f32⟩
  | 14 => ⟨S1024x1024, .f32⟩
  | 15 => ⟨S1024, .f32⟩
  | 16 => ⟨S1024x256, .f32⟩
  | 17 => ⟨S256, .f32⟩
  | 18 => ⟨S256, .f32⟩
  | 19 => ⟨S256, .f32⟩
  | 20 => ⟨S128, .f32⟩
  | 21 => ⟨S128, .f32⟩
  | 22 => ⟨S1024x2048, .f32⟩
  | 23 => ⟨S1024x512, .f32⟩
  | 24 => ⟨S1x256, .f32⟩
  | 25 => ⟨S8x256, .f32⟩
  | 26 => ⟨S2048, .f32⟩
  | 27 => ⟨S1x2048, .f32⟩
  | 28 => ⟨S8x2048, .f32⟩
  | 29 => ⟨S_, .f32⟩
  | 30 => ⟨S256, .f32⟩
  | 31 => ⟨S256, .f32⟩
  | 32 => ⟨S256, .f32⟩
  | 33 => ⟨S1x256, .f32⟩
  | 34 => ⟨S8x256, .f32⟩
  | 35 => ⟨S2048, .f32⟩
  | 36 => ⟨S1x2048, .f32⟩
  | 37 => ⟨S8x2048, .f32⟩
  | 38 => ⟨S1x128, .f32⟩
  | 39 => ⟨S4x128, .f32⟩
  | 40 => ⟨S512, .f32⟩
  | 41 => ⟨S1x512, .f32⟩
  | 42 => ⟨S8x512, .f32⟩
  | 43 => ⟨S_, .f32⟩
  | 44 => ⟨S128, .f32⟩
  | 45 => ⟨S128, .f32⟩
  | 46 => ⟨S128, .f32⟩
  | 47 => ⟨S1x128, .f32⟩
  | 48 => ⟨S4x128, .f32⟩
  | 49 => ⟨S512, .f32⟩
  | 50 => ⟨S1x512, .f32⟩
  | 51 => ⟨S8x512, .f32⟩
  | 52 => ⟨S_, .i32⟩
  | 53 => ⟨S_, .i32⟩
  | 54 => ⟨S_, .i32⟩
  | 55 => ⟨S_, .i32⟩
  | 56 => ⟨S1, .i32⟩
  | 57 => ⟨S_, .i32⟩
  | 58 => ⟨S_, .i32⟩
  | 59 => ⟨S_, .i32⟩
  | 60 => ⟨S1, .i32⟩
  | 61 => ⟨S2, .i32⟩
  | 62 => ⟨S_, .f32⟩
  | 63 => ⟨S_, .f32⟩
  | 64 => ⟨S_, .f32⟩
  | 65 => ⟨S_, .f32⟩
  | 66 => ⟨S1x1x1x1, .f32⟩
  | 67 => ⟨S1x1x1x1, .f32⟩
  | 68 => ⟨S1, .i32⟩
  | 69 => ⟨S_, .i32⟩
  | 70 => ⟨S1, .i32⟩
  | 71 => ⟨S_, .i32⟩
  | 72 => ⟨S1024x1x16x512, .i64⟩
  | 73 => ⟨S1024x1x16x512, .i64⟩
  | 74 => ⟨S1024x1x16x512, .i64⟩
  | 75 => ⟨S1024x1x16x512, .i64⟩
  | 76 => ⟨S_, .i64⟩
  | 77 => ⟨S1024x1x16x512, .i64⟩
  | 78 => ⟨S1024x1x16x512, .i64⟩
  | 79 => ⟨S_, .i64⟩
  | 80 => ⟨S1024x1x16x512, .i64⟩
  | 81 => ⟨S1024x1x16x512, .i64⟩
  | 82 => ⟨S_, .i64⟩
  | 83 => ⟨S1024x1x16x512, .i64⟩
  | 84 => ⟨S1024x1x16x512, .i64⟩
  | 85 => ⟨S_, .i64⟩
  | 86 => ⟨S1024x1x16x512, .i64⟩
  | 87 => ⟨S1024x1x16x512, .i64⟩
  | 88 => ⟨S1024x1x16x512, .i64⟩
  | 89 => ⟨S1024x1x16x512, .i64⟩
  | 90 => ⟨S1024x1x16x512, .i64⟩
  | 91 => ⟨S_, .i64⟩
  | 92 => ⟨S1024x1x16x512, .i64⟩
  | 93 => ⟨S1024x1x16x512, .i64⟩
  | 94 => ⟨S1024x1x16x512, .i32⟩
  | 95 => ⟨S1024x1x16x512, .i32⟩
  | 96 => ⟨S_, .i32⟩
  | 97 => ⟨S_, .i32⟩
  | 98 => ⟨S_, .i32⟩
  | 99 => ⟨S1024x1x16x512, .i32⟩
  | 100 => ⟨S1024x1x16x512, .i32⟩
  | 101 => ⟨S1024x1x16x512, .i32⟩
  | 102 => ⟨S1024x1x16x512, .i32⟩
  | 103 => ⟨S1024x1x16x512, .i32⟩
  | 104 => ⟨S_, .i32⟩
  | 105 => ⟨S1024x1x16x512, .i32⟩
  | 106 => ⟨S1024x1x16x512, .i32⟩
  | 107 => ⟨S_, .i32⟩
  | 108 => ⟨S1024x1x16x512, .i32⟩
  | 109 => ⟨S1024x1x16x512, .i32⟩
  | 110 => ⟨S1024x1x16x512, .i32⟩
  | 111 => ⟨S1024x1x16x512, .i32⟩
  | 112 => ⟨S1024x1x16x512, .i32⟩
  | 113 => ⟨S_, .i32⟩
  | 114 => ⟨S1024x1x16x512, .i32⟩
  | 115 => ⟨S1024x1x16x512, .i32⟩
  | 116 => ⟨S_, .i32⟩
  | 117 => ⟨S1024x1x16x512, .i32⟩
  | 118 => ⟨S1024x1x16x512, .i32⟩
  | 119 => ⟨S1024x1x16x512, .i32⟩
  | 120 => ⟨S1024x1x16x512, .i32⟩
  | 121 => ⟨S1024x1x16x512, .i32⟩
  | 122 => ⟨S_, .i32⟩
  | 123 => ⟨S1024x1x16x512, .i32⟩
  | 124 => ⟨S1024x1x16x512, .i32⟩
  | 125 => ⟨S_, .i32⟩
  | 126 => ⟨S1024x1x16x512, .i32⟩
  | 127 => ⟨S1024x1x16x512, .i32⟩
  | _ => ⟨S1024x8x256, .f32⟩

abbrev hbmTy0_1 (i : Nat) : BufTy := match i % 128 with
  | 0 => ⟨S1024x1x16x512, .i32⟩
  | 1 => ⟨S1024x1x16x512, .i32⟩
  | 2 => ⟨S1024x1x16x512, .i32⟩
  | 3 => ⟨S_, .i32⟩
  | 4 => ⟨S1024x1x16x512, .i32⟩
  | 5 => ⟨S1024x1x16x512, .i32⟩
  | 6 => ⟨S_, .i32⟩
  | 7 => ⟨S1024x1x16x512, .i32⟩
  | 8 => ⟨S1024x1x16x512, .i32⟩
  | 9 => ⟨S1024x1x16x512, .i32⟩
  | 10 => ⟨S1024x1x16x512, .i32⟩
  | 11 => ⟨S1024x1x16x512, .i32⟩
  | 12 => ⟨S1024x1x16x512, .i32⟩
  | 13 => ⟨S1024x1x16x512, .i32⟩
  | 14 => ⟨S1024x1x16x512, .i32⟩
  | 15 => ⟨S_, .i32⟩
  | 16 => ⟨S1024x1x16x512, .i32⟩
  | 17 => ⟨S1024x1x16x512, .i32⟩
  | 18 => ⟨S1024x1x16x512, .i32⟩
  | 19 => ⟨S_, .i32⟩
  | 20 => ⟨S1024x1x16x512, .i32⟩
  | 21 => ⟨S1024x1x16x512, .i32⟩
  | 22 => ⟨S_, .i32⟩
  | 23 => ⟨S1024x1x16x512, .i32⟩
  | 24 => ⟨S1024x1x16x512, .i32⟩
  | 25 => ⟨S1024x1x16x512, .i32⟩
  | 26 => ⟨S1024x1x16x512, .i32⟩
  | 27 => ⟨S1024x1x16x512, .i32⟩
  | 28 => ⟨S_, .i32⟩
  | 29 => ⟨S1024x1x16x512, .i32⟩
  | 30 => ⟨S1024x1x16x512, .i32⟩
  | 31 => ⟨S_, .i32⟩
  | 32 => ⟨S1024x1x16x512, .i32⟩
  | 33 => ⟨S1024x1x16x512, .i32⟩
  | 34 => ⟨S1024x1x16x512, .i32⟩
  | 35 => ⟨S1024x1x16x512, .i32⟩
  | 36 => ⟨S1024x1x16x512, .i32⟩
  | 37 => ⟨S_, .i32⟩
  | 38 => ⟨S1024x1x16x512, .i32⟩
  | 39 => ⟨S1024x1x16x512, .i32⟩
  | 40 => ⟨S_, .i32⟩
  | 41 => ⟨S1024x1x16x512, .i32⟩
  | 42 => ⟨S1024x1x16x512, .i32⟩
  | 43 => ⟨S1024x1x16x512, .i32⟩
  | 44 => ⟨S1024x1x16x512, .i32⟩
  | 45 => ⟨S1024x1x16x512, .i32⟩
  | 46 => ⟨S_, .i32⟩
  | 47 => ⟨S1024x1x16x512, .i32⟩
  | 48 => ⟨S1024x1x16x512, .i32⟩
  | 49 => ⟨S_, .i32⟩
  | 50 => ⟨S1024x1x16x512, .i32⟩
  | 51 => ⟨S1024x1x16x512, .i32⟩
  | 52 => ⟨S1024x1x16x512, .i32⟩
  | 53 => ⟨S1024x1x16x512, .i32⟩
  | 54 => ⟨S1024x1x16x512, .i32⟩
  | 55 => ⟨S1024x1x16x512, .i32⟩
  | 56 => ⟨S1024x1x16x512, .i32⟩
  | 57 => ⟨S1024x1x16x512, .i32⟩
  | 58 => ⟨S_, .i32⟩
  | 59 => ⟨S1024x1x16x512, .i32⟩
  | 60 => ⟨S1024x1x16x512, .i32⟩
  | 61 => ⟨S1024x1x16x512, .i32⟩
  | 62 => ⟨S_, .i32⟩
  | 63 => ⟨S1024x1x16x512, .i32⟩
  | 64 => ⟨S1024x1x16x512, .i32⟩
  | 65 => ⟨S_, .i32⟩
  | 66 => ⟨S1024x1x16x512, .i32⟩
  | 67 => ⟨S1024x1x16x512, .i32⟩
  | 68 => ⟨S1024x1x16x512, .i32⟩
  | 69 => ⟨S1024x1x16x512, .i32⟩
  | 70 => ⟨S1024x1x16x512, .i32⟩
  | 71 => ⟨S_, .i32⟩
  | 72 => ⟨S1024x1x16x512, .i32⟩
  | 73 => ⟨S1024x1x16x512, .i32⟩
  | 74 => ⟨S_, .i32⟩
  | 75 => ⟨S1024x1x16x512, .i32⟩
  | 76 => ⟨S1024x1x16x512, .i32⟩
  | 77 => ⟨S1024x1x16x512, .i32⟩
  | 78 => ⟨S1024x1x16x512, .i32⟩
  | 79 => ⟨S1024x1x16x512, .i32⟩
  | 80 => ⟨S_, .i32⟩
  | 81 => ⟨S1024x1x16x512, .i32⟩
  | 82 => ⟨S1024x1x16x512, .i32⟩
  | 83 => ⟨S_, .i32⟩
  | 84 => ⟨S1024x1x16x512, .i32⟩
  | 85 => ⟨S1024x1x16x512, .i32⟩
  | 86 => ⟨S1024x1x16x512, .i32⟩
  | 87 => ⟨S1024x1x16x512, .i32⟩
  | 88 => ⟨S1024x1x16x512, .i32⟩
  | 89 => ⟨S_, .i32⟩
  | 90 => ⟨S1024x1x16x512, .i32⟩
  | 91 => ⟨S1024x1x16x512, .i32⟩
  | 92 => ⟨S_, .i32⟩
  | 93 => ⟨S1024x1x16x512, .i32⟩
  | 94 => ⟨S1024x1x16x512, .i32⟩
  | 95 => ⟨S1024x1x16x512, .i32⟩
  | 96 => ⟨S1024x1x16x512, .i32⟩
  | 97 => ⟨S1024x1x16x512, .i32⟩
  | 98 => ⟨S1024x1x16x512, .i32⟩
  | 99 => ⟨S1024x1x16x512, .i32⟩
  | 100 => ⟨S1024x1x16x512, .i32⟩
  | 101 => ⟨S_, .i32⟩
  | 102 => ⟨S1024x1x16x512, .i32⟩
  | 103 => ⟨S1024x1x16x512, .i32⟩
  | 104 => ⟨S1024x1x16x512, .i32⟩
  | 105 => ⟨S_, .i32⟩
  | 106 => ⟨S1024x1x16x512, .i32⟩
  | 107 => ⟨S1024x1x16x512, .i32⟩
  | 108 => ⟨S_, .i32⟩
  | 109 => ⟨S1024x1x16x512, .i32⟩
  | 110 => ⟨S1024x1x16x512, .i32⟩
  | 111 => ⟨S1024x1x16x512, .i32⟩
  | 112 => ⟨S1024x1x16x512, .i32⟩
  | 113 => ⟨S1024x1x16x512, .i32⟩
  | 114 => ⟨S_, .i32⟩
  | 115 => ⟨S1024x1x16x512, .i32⟩
  | 116 => ⟨S1024x1x16x512, .i32⟩
  | 117 => ⟨S_, .i32⟩
  | 118 => ⟨S1024x1x16x512, .i32⟩
  | 119 => ⟨S1024x1x16x512, .i32⟩
  | 120 => ⟨S1024x1x16x512, .i32⟩
  | 121 => ⟨S1024x1x16x512, .i32⟩
  | 122 => ⟨S1024x1x16x512, .i32⟩
  | 123 => ⟨S_, .i32⟩
  | 124 => ⟨S1024x1x16x512, .i32⟩
  | 125 => ⟨S1024x1x16x512, .i32⟩
  | 126 => ⟨S_, .i32⟩
  | 127 => ⟨S1024x1x16x512, .i32⟩
  | _ => ⟨S1024x8x256, .f32⟩

abbrev hbmTy0_2 (i : Nat) : BufTy := match i % 128 with
  | 0 => ⟨S1024x1x16x512, .i32⟩
  | 1 => ⟨S1024x1x16x512, .i32⟩
  | 2 => ⟨S1024x1x16x512, .i32⟩
  | 3 => ⟨S1024x1x16x512, .i32⟩
  | 4 => ⟨S_, .i32⟩
  | 5 => ⟨S1024x1x16x512, .i32⟩
  | 6 => ⟨S1024x1x16x512, .i32⟩
  | 7 => ⟨S_, .i32⟩
  | 8 => ⟨S1024x1x16x512, .i32⟩
  | 9 => ⟨S1024x1x16x512, .i32⟩
  | 10 => ⟨S1024x1x16x512, .i32⟩
  | 11 => ⟨S1024x1x16x512, .i32⟩
  | 12 => ⟨S1024x1x16x512, .i32⟩
  | 13 => ⟨S1024x1x16x512, .i32⟩
  | 14 => ⟨S1024x1x16x512, .i32⟩
  | 15 => ⟨S1024x1x16x512, .i32⟩
  | 16 => ⟨S_, .i32⟩
  | 17 => ⟨S1024x1x16x512, .i32⟩
  | 18 => ⟨S1024x1x16x512, .i32⟩
  | 19 => ⟨S1024x1x16x512, .i32⟩
  | 20 => ⟨S_, .i32⟩
  | 21 => ⟨S1024x1x16x512, .i32⟩
  | 22 => ⟨S1024x1x16x512, .i32⟩
  | 23 => ⟨S_, .i32⟩
  | 24 => ⟨S1024x1x16x512, .i32⟩
  | 25 => ⟨S1024x1x16x512, .i32⟩
  | 26 => ⟨S1024x1x16x512, .i32⟩
  | 27 => ⟨S1024x1x16x512, .i32⟩
  | 28 => ⟨S1024x1x16x512, .i32⟩
  | 29 => ⟨S_, .i32⟩
  | 30 => ⟨S1024x1x16x512, .i32⟩
  | 31 => ⟨S1024x1x16x512, .i32⟩
  | 32 => ⟨S_, .i32⟩
  | 33 => ⟨S1024x1x16x512, .i32⟩
  | 34 => ⟨S1024x1x16x512, .i32⟩
  | 35 => ⟨S1024x1x16x512, .i32⟩
  | 36 => ⟨S1024x1x16x512, .i32⟩
  | 37 => ⟨S1024x1x16x512, .i32⟩
  | 38 => ⟨S_, .i32⟩
  | 39 => ⟨S1024x1x16x512, .i32⟩
  | 40 => ⟨S1024x1x16x512, .i32⟩
  | 41 => ⟨S_, .i32⟩
  | 42 => ⟨S1024x1x16x512, .i32⟩
  | 43 => ⟨S1024x1x16x512, .i32⟩
  | 44 => ⟨S1024x1x16x512, .i32⟩
  | 45 => ⟨S1024x1x16x512, .i32⟩
  | 46 => ⟨S1024x1x16x512, .i32⟩
  | 47 => ⟨S_, .i32⟩
  | 48 => ⟨S1024x1x16x512, .i32⟩
  | 49 => ⟨S1024x1x16x512, .i32⟩
  | 50 => ⟨S_, .i32⟩
  | 51 => ⟨S1024x1x16x512, .i32⟩
  | 52 => ⟨S1024x1x16x512, .i32⟩
  | 53 => ⟨S1024x1x16x512, .i32⟩
  | 54 => ⟨S1024x1x16x512, .i32⟩
  | 55 => ⟨S1024x1x16x512, .i32⟩
  | 56 => ⟨S1024x1x16x512, .i32⟩
  | 57 => ⟨S1024x1x16x512, .i32⟩
  | 58 => ⟨S1024x1x16x512, .i32⟩
  | 59 => ⟨S_, .i32⟩
  | 60 => ⟨S1024x1x16x512, .i32⟩
  | 61 => ⟨S1024x1x16x512, .i32⟩
  | 62 => ⟨S1024x1x16x512, .i32⟩
  | 63 => ⟨S_, .i32⟩
  | 64 => ⟨S1024x1x16x512, .i32⟩
  | 65 => ⟨S1024x1x16x512, .i32⟩
  | 66 => ⟨S_, .i32⟩
  | 67 => ⟨S1024x1x16x512, .i32⟩
  | 68 => ⟨S1024x1x16x512, .i32⟩
  | 69 => ⟨S1024x1x16x512, .f32⟩
  | 70 => ⟨S_, .f32⟩
  | 71 => ⟨S1024x1x16x512, .f32⟩
  | 72 => ⟨S1024x1x16x512, .f32⟩
  | 73 => ⟨S1x1x1x1, .f32⟩
  | 74 => ⟨S1024x1x16x512, .f32⟩
  | 75 => ⟨S1024x1x16x512, .f32⟩
  | 76 => ⟨S1024x1x16x512, .f32⟩
  | 77 => ⟨S1024x1x16x512, .f32⟩
  | 78 => ⟨S1024x1x16x512, .f32⟩
  | 79 => ⟨S1024x1x16x512, .f32⟩
  | 80 => ⟨S1024x8192, .f32⟩
  | 81 => ⟨S1x1024, .f32⟩
  | 82 => ⟨S8x1024, .f32⟩
  | 83 => ⟨S1x1024, .f32⟩
  | 84 => ⟨S8x1024, .f32⟩
  | 85 => ⟨S1x1024, .f32⟩
  | 86 => ⟨S8x1024, .f32⟩
  | 87 => ⟨S1024x1024, .bf16⟩
  | 88 => ⟨S1x8192, .f32⟩
  | 89 => ⟨S8x8192, .f32⟩
  | 90 => ⟨S1024x8192, .f32⟩
  | 91 => ⟨S1024x8192, .f32⟩
  | 92 => ⟨S4x1024x4, .i32⟩
  | 93 => ⟨S1024x1024, .f32⟩
  | 94 => ⟨S1x1024, .f32⟩
  | 95 => ⟨S8x1024, .f32⟩
  | 96 => ⟨S1x1024, .f32⟩
  | 97 => ⟨S8x1024, .f32⟩
  | 98 => ⟨S1x1024, .f32⟩
  | 99 => ⟨S8x1024, .f32⟩
  | 100 => ⟨S1x256, .f32⟩
  | 101 => ⟨S8x256, .f32⟩
  | 102 => ⟨S1024x256, .f32⟩
  | 103 => ⟨S1024x4x4, .i32⟩
  | 104 => ⟨S1024x1x16, .i32⟩
  | _ => ⟨S1024x8x256, .f32⟩

abbrev hbmTy (i : Nat) : BufTy := match i / 128 with
  | 0 => hbmTy0_0 i
  | 1 => hbmTy0_1 i
  | 2 => hbmTy0_2 i
  | _ => ⟨S1024x8x256, .f32⟩

abbrev bufTy : (tb : Table) → Fin (tcTables nBuf tb) → BufTy
  | .hbm, ⟨i, _⟩ => hbmTy i
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S8x2048, .f32⟩
  | .local _ .vmem, ⟨5, _⟩ => ⟨S8x2048, .f32⟩
  | .local _ .vmem, ⟨6, _⟩ => ⟨S8x512, .f32⟩
  | .local _ .vmem, ⟨7, _⟩ => ⟨S8x512, .f32⟩
  | .local _ .vmem, ⟨8, _⟩ => ⟨S2560x1024, .f32⟩
  | .local _ .vmem, ⟨9, _⟩ => ⟨S8x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | .local _ .vmem, ⟨13, _⟩ => ⟨S8x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1024x2048, .f32⟩
  | .local _ .vmem, ⟨19, _⟩ => ⟨S1024x2048, .f32⟩
  | .local _ .vmem, ⟨20, _⟩ => ⟨S8x2048, .f32⟩
  | .local _ .vmem, ⟨21, _⟩ => ⟨S8x2048, .f32⟩
  | .local _ .vmem, ⟨22, _⟩ => ⟨S256x2048, .f32⟩
  | .local _ .vmem, ⟨23, _⟩ => ⟨S256x2048, .f32⟩
  | .local _ .vmem, ⟨24, _⟩ => ⟨S2048x1024, .f32⟩
  | .local _ .vmem, ⟨25, _⟩ => ⟨S2048x1024, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S1x256x4, .i32⟩
  | .local _ .vmem, ⟨31, _⟩ => ⟨S1x256x4, .i32⟩
  | .local _ .vmem, ⟨32, _⟩ => ⟨S256x1024, .f32⟩
  | .local _ .vmem, ⟨33, _⟩ => ⟨S256x1024, .f32⟩
  | .local _ .vmem, ⟨34, _⟩ => ⟨S1024x1024, .f32⟩
  | .local _ .vmem, ⟨35, _⟩ => ⟨S256x1024, .f32⟩
  | .local _ .vmem, ⟨36, _⟩ => ⟨S256x1024, .f32⟩
  | .local _ .vmem, ⟨37, _⟩ => ⟨S8x1024, .f32⟩
  | .local _ .vmem, ⟨38, _⟩ => ⟨S1024x1024, .f32⟩
  | .local _ .vmem, ⟨39, _⟩ => ⟨S8x1024, .f32⟩
  | .local _ .vmem, ⟨40, _⟩ => ⟨S1024x1024, .f32⟩
  | .local _ .vmem, ⟨41, _⟩ => ⟨S8x1024, .f32⟩
  | .local _ .vmem, ⟨42, _⟩ => ⟨S1024x256, .f32⟩
  | .local _ .vmem, ⟨43, _⟩ => ⟨S8x256, .f32⟩
  | .local _ .vmem, ⟨44, _⟩ => ⟨S256x256, .f32⟩
  | .local _ .vmem, ⟨45, _⟩ => ⟨S256x256, .f32⟩
  | _, _ => ⟨S1024x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c : Ref sig .tc := ⟨.hbm, 52, rfl⟩
abbrev main_c_1 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_2 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_cst_4 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c : Ref sig .tc := ⟨.hbm, 76, rfl⟩
abbrev main_call0_v12 : Ref sig .tc := ⟨.hbm, 77, rfl⟩
abbrev main_call0_v13 : Ref sig .tc := ⟨.hbm, 78, rfl⟩
abbrev main_call0_c_0 : Ref sig .tc := ⟨.hbm, 79, rfl⟩
abbrev main_call0_v14 : Ref sig .tc := ⟨.hbm, 80, rfl⟩
abbrev main_call0_v15 : Ref sig .tc := ⟨.hbm, 81, rfl⟩
abbrev main_call0_c_1 : Ref sig .tc := ⟨.hbm, 82, rfl⟩
abbrev main_call0_v16 : Ref sig .tc := ⟨.hbm, 83, rfl⟩
abbrev main_call0_v17 : Ref sig .tc := ⟨.hbm, 84, rfl⟩
abbrev main_call0_c_2 : Ref sig .tc := ⟨.hbm, 85, rfl⟩
abbrev main_call0_v18 : Ref sig .tc := ⟨.hbm, 86, rfl⟩
abbrev main_call0_v19 : Ref sig .tc := ⟨.hbm, 87, rfl⟩
abbrev main_call0_v20 : Ref sig .tc := ⟨.hbm, 88, rfl⟩
abbrev main_call0_v21 : Ref sig .tc := ⟨.hbm, 89, rfl⟩
abbrev main_call0_v22 : Ref sig .tc := ⟨.hbm, 90, rfl⟩
abbrev main_call0_c_3 : Ref sig .tc := ⟨.hbm, 91, rfl⟩
abbrev main_call0_v23 : Ref sig .tc := ⟨.hbm, 92, rfl⟩
abbrev main_call0_v24 : Ref sig .tc := ⟨.hbm, 93, rfl⟩
abbrev main_call0_v25 : Ref sig .tc := ⟨.hbm, 94, rfl⟩
abbrev main_call0_v26 : Ref sig .tc := ⟨.hbm, 95, rfl⟩
abbrev main_call0_call0_v0 : Ref sig .tc := ⟨.hbm, 96, rfl⟩
abbrev main_call0_call0_c : Ref sig .tc := ⟨.hbm, 97, rfl⟩
abbrev main_call0_call0_v1 : Ref sig .tc := ⟨.hbm, 98, rfl⟩
abbrev main_call0_call0_v2 : Ref sig .tc := ⟨.hbm, 99, rfl⟩
abbrev main_call0_call0_v3 : Ref sig .tc := ⟨.hbm, 100, rfl⟩
abbrev main_call0_call0_v4 : Ref sig .tc := ⟨.hbm, 101, rfl⟩
abbrev main_call0_call0_v5 : Ref sig .tc := ⟨.hbm, 102, rfl⟩
abbrev main_call0_call0_v6 : Ref sig .tc := ⟨.hbm, 103, rfl⟩
abbrev main_call0_call0_c_0 : Ref sig .tc := ⟨.hbm, 104, rfl⟩
abbrev main_call0_call0_v7 : Ref sig .tc := ⟨.hbm, 105, rfl⟩
abbrev main_call0_call0_v8 : Ref sig .tc := ⟨.hbm, 106, rfl⟩
abbrev main_call0_call0_c_1 : Ref sig .tc := ⟨.hbm, 107, rfl⟩
abbrev main_call0_call0_v9 : Ref sig .tc := ⟨.hbm, 108, rfl⟩
abbrev main_call0_call0_v10 : Ref sig .tc := ⟨.hbm, 109, rfl⟩
abbrev main_call0_call0_v11 : Ref sig .tc := ⟨.hbm, 110, rfl⟩
abbrev main_call0_call0_v12 : Ref sig .tc := ⟨.hbm, 111, rfl⟩
abbrev main_call0_call0_v13 : Ref sig .tc := ⟨.hbm, 112, rfl⟩
abbrev main_call0_call0_c_2 : Ref sig .tc := ⟨.hbm, 113, rfl⟩
abbrev main_call0_call0_v14 : Ref sig .tc := ⟨.hbm, 114, rfl⟩
abbrev main_call0_call0_v15 : Ref sig .tc := ⟨.hbm, 115, rfl⟩
abbrev main_call0_call0_c_3 : Ref sig .tc := ⟨.hbm, 116, rfl⟩
abbrev main_call0_call0_v16 : Ref sig .tc := ⟨.hbm, 117, rfl⟩
abbrev main_call0_call0_v17 : Ref sig .tc := ⟨.hbm, 118, rfl⟩
abbrev main_call0_call0_v18 : Ref sig .tc := ⟨.hbm, 119, rfl⟩
abbrev main_call0_call0_v19 : Ref sig .tc := ⟨.hbm, 120, rfl⟩
abbrev main_call0_call0_v20 : Ref sig .tc := ⟨.hbm, 121, rfl⟩
abbrev main_call0_call0_c_4 : Ref sig .tc := ⟨.hbm, 122, rfl⟩
abbrev main_call0_call0_v21 : Ref sig .tc := ⟨.hbm, 123, rfl⟩
abbrev main_call0_call0_v22 : Ref sig .tc := ⟨.hbm, 124, rfl⟩
abbrev main_call0_call0_c_5 : Ref sig .tc := ⟨.hbm, 125, rfl⟩
abbrev main_call0_call0_v23 : Ref sig .tc := ⟨.hbm, 126, rfl⟩
abbrev main_call0_call0_v24 : Ref sig .tc := ⟨.hbm, 127, rfl⟩
abbrev main_call0_call0_v25 : Ref sig .tc := ⟨.hbm, 128, rfl⟩
abbrev main_call0_call0_v26 : Ref sig .tc := ⟨.hbm, 129, rfl⟩
abbrev main_call0_call0_v27 : Ref sig .tc := ⟨.hbm, 130, rfl⟩
abbrev main_call0_call0_c_6 : Ref sig .tc := ⟨.hbm, 131, rfl⟩
abbrev main_call0_call0_v28 : Ref sig .tc := ⟨.hbm, 132, rfl⟩
abbrev main_call0_call0_v29 : Ref sig .tc := ⟨.hbm, 133, rfl⟩
abbrev main_call0_call0_c_7 : Ref sig .tc := ⟨.hbm, 134, rfl⟩
abbrev main_call0_call0_v30 : Ref sig .tc := ⟨.hbm, 135, rfl⟩
abbrev main_call0_call0_v31 : Ref sig .tc := ⟨.hbm, 136, rfl⟩
abbrev main_call0_call0_v32 : Ref sig .tc := ⟨.hbm, 137, rfl⟩
abbrev main_call0_call0_v33 : Ref sig .tc := ⟨.hbm, 138, rfl⟩
abbrev main_call0_call0_v34 : Ref sig .tc := ⟨.hbm, 139, rfl⟩
abbrev main_call0_call0_v35 : Ref sig .tc := ⟨.hbm, 140, rfl⟩
abbrev main_call0_call0_v36 : Ref sig .tc := ⟨.hbm, 141, rfl⟩
abbrev main_call0_call0_v37 : Ref sig .tc := ⟨.hbm, 142, rfl⟩
abbrev main_call0_call0_c_8 : Ref sig .tc := ⟨.hbm, 143, rfl⟩
abbrev main_call0_call0_v38 : Ref sig .tc := ⟨.hbm, 144, rfl⟩
abbrev main_call0_call0_v39 : Ref sig .tc := ⟨.hbm, 145, rfl⟩
abbrev main_call0_call0_v40 : Ref sig .tc := ⟨.hbm, 146, rfl⟩
abbrev main_call0_call0_c_9 : Ref sig .tc := ⟨.hbm, 147, rfl⟩
abbrev main_call0_call0_v41 : Ref sig .tc := ⟨.hbm, 148, rfl⟩
abbrev main_call0_call0_v42 : Ref sig .tc := ⟨.hbm, 149, rfl⟩
abbrev main_call0_call0_c_10 : Ref sig .tc := ⟨.hbm, 150, rfl⟩
abbrev main_call0_call0_v43 : Ref sig .tc := ⟨.hbm, 151, rfl⟩
abbrev main_call0_call0_v44 : Ref sig .tc := ⟨.hbm, 152, rfl⟩
abbrev main_call0_call0_v45 : Ref sig .tc := ⟨.hbm, 153, rfl⟩
abbrev main_call0_call0_v46 : Ref sig .tc := ⟨.hbm, 154, rfl⟩
abbrev main_call0_call0_v47 : Ref sig .tc := ⟨.hbm, 155, rfl⟩
abbrev main_call0_call0_c_11 : Ref sig .tc := ⟨.hbm, 156, rfl⟩
abbrev main_call0_call0_v48 : Ref sig .tc := ⟨.hbm, 157, rfl⟩
abbrev main_call0_call0_v49 : Ref sig .tc := ⟨.hbm, 158, rfl⟩
abbrev main_call0_call0_c_12 : Ref sig .tc := ⟨.hbm, 159, rfl⟩
abbrev main_call0_call0_v50 : Ref sig .tc := ⟨.hbm, 160, rfl⟩
abbrev main_call0_call0_v51 : Ref sig .tc := ⟨.hbm, 161, rfl⟩
abbrev main_call0_call0_v52 : Ref sig .tc := ⟨.hbm, 162, rfl⟩
abbrev main_call0_call0_v53 : Ref sig .tc := ⟨.hbm, 163, rfl⟩
abbrev main_call0_call0_v54 : Ref sig .tc := ⟨.hbm, 164, rfl⟩
abbrev main_call0_call0_c_13 : Ref sig .tc := ⟨.hbm, 165, rfl⟩
abbrev main_call0_call0_v55 : Ref sig .tc := ⟨.hbm, 166, rfl⟩
abbrev main_call0_call0_v56 : Ref sig .tc := ⟨.hbm, 167, rfl⟩
abbrev main_call0_call0_c_14 : Ref sig .tc := ⟨.hbm, 168, rfl⟩
abbrev main_call0_call0_v57 : Ref sig .tc := ⟨.hbm, 169, rfl⟩
abbrev main_call0_call0_v58 : Ref sig .tc := ⟨.hbm, 170, rfl⟩
abbrev main_call0_call0_v59 : Ref sig .tc := ⟨.hbm, 171, rfl⟩
abbrev main_call0_call0_v60 : Ref sig .tc := ⟨.hbm, 172, rfl⟩
abbrev main_call0_call0_v61 : Ref sig .tc := ⟨.hbm, 173, rfl⟩
abbrev main_call0_call0_c_15 : Ref sig .tc := ⟨.hbm, 174, rfl⟩
abbrev main_call0_call0_v62 : Ref sig .tc := ⟨.hbm, 175, rfl⟩
abbrev main_call0_call0_v63 : Ref sig .tc := ⟨.hbm, 176, rfl⟩
abbrev main_call0_call0_c_16 : Ref sig .tc := ⟨.hbm, 177, rfl⟩
abbrev main_call0_call0_v64 : Ref sig .tc := ⟨.hbm, 178, rfl⟩
abbrev main_call0_call0_v65 : Ref sig .tc := ⟨.hbm, 179, rfl⟩
abbrev main_call0_call0_v66 : Ref sig .tc := ⟨.hbm, 180, rfl⟩
abbrev main_call0_call0_v67 : Ref sig .tc := ⟨.hbm, 181, rfl⟩
abbrev main_call0_call0_v68 : Ref sig .tc := ⟨.hbm, 182, rfl⟩
abbrev main_call0_call0_v69 : Ref sig .tc := ⟨.hbm, 183, rfl⟩
abbrev main_call0_call0_v70 : Ref sig .tc := ⟨.hbm, 184, rfl⟩
abbrev main_call0_call0_v71 : Ref sig .tc := ⟨.hbm, 185, rfl⟩
abbrev main_call0_call0_c_17 : Ref sig .tc := ⟨.hbm, 186, rfl⟩
abbrev main_call0_call0_v72 : Ref sig .tc := ⟨.hbm, 187, rfl⟩
abbrev main_call0_call0_v73 : Ref sig .tc := ⟨.hbm, 188, rfl⟩
abbrev main_call0_call0_v74 : Ref sig .tc := ⟨.hbm, 189, rfl⟩
abbrev main_call0_call0_c_18 : Ref sig .tc := ⟨.hbm, 190, rfl⟩
abbrev main_call0_call0_v75 : Ref sig .tc := ⟨.hbm, 191, rfl⟩
abbrev main_call0_call0_v76 : Ref sig .tc := ⟨.hbm, 192, rfl⟩
abbrev main_call0_call0_c_19 : Ref sig .tc := ⟨.hbm, 193, rfl⟩
abbrev main_call0_call0_v77 : Ref sig .tc := ⟨.hbm, 194, rfl⟩
abbrev main_call0_call0_v78 : Ref sig .tc := ⟨.hbm, 195, rfl⟩
abbrev main_call0_call0_v79 : Ref sig .tc := ⟨.hbm, 196, rfl⟩
abbrev main_call0_call0_v80 : Ref sig .tc := ⟨.hbm, 197, rfl⟩
abbrev main_call0_call0_v81 : Ref sig .tc := ⟨.hbm, 198, rfl⟩
abbrev main_call0_call0_c_20 : Ref sig .tc := ⟨.hbm, 199, rfl⟩
abbrev main_call0_call0_v82 : Ref sig .tc := ⟨.hbm, 200, rfl⟩
abbrev main_call0_call0_v83 : Ref sig .tc := ⟨.hbm, 201, rfl⟩
abbrev main_call0_call0_c_21 : Ref sig .tc := ⟨.hbm, 202, rfl⟩
abbrev main_call0_call0_v84 : Ref sig .tc := ⟨.hbm, 203, rfl⟩
abbrev main_call0_call0_v85 : Ref sig .tc := ⟨.hbm, 204, rfl⟩
abbrev main_call0_call0_v86 : Ref sig .tc := ⟨.hbm, 205, rfl⟩
abbrev main_call0_call0_v87 : Ref sig .tc := ⟨.hbm, 206, rfl⟩
abbrev main_call0_call0_v88 : Ref sig .tc := ⟨.hbm, 207, rfl⟩
abbrev main_call0_call0_c_22 : Ref sig .tc := ⟨.hbm, 208, rfl⟩
abbrev main_call0_call0_v89 : Ref sig .tc := ⟨.hbm, 209, rfl⟩
abbrev main_call0_call0_v90 : Ref sig .tc := ⟨.hbm, 210, rfl⟩
abbrev main_call0_call0_c_23 : Ref sig .tc := ⟨.hbm, 211, rfl⟩
abbrev main_call0_call0_v91 : Ref sig .tc := ⟨.hbm, 212, rfl⟩
abbrev main_call0_call0_v92 : Ref sig .tc := ⟨.hbm, 213, rfl⟩
abbrev main_call0_call0_v93 : Ref sig .tc := ⟨.hbm, 214, rfl⟩
abbrev main_call0_call0_v94 : Ref sig .tc := ⟨.hbm, 215, rfl⟩
abbrev main_call0_call0_v95 : Ref sig .tc := ⟨.hbm, 216, rfl⟩
abbrev main_call0_call0_c_24 : Ref sig .tc := ⟨.hbm, 217, rfl⟩
abbrev main_call0_call0_v96 : Ref sig .tc := ⟨.hbm, 218, rfl⟩
abbrev main_call0_call0_v97 : Ref sig .tc := ⟨.hbm, 219, rfl⟩
abbrev main_call0_call0_c_25 : Ref sig .tc := ⟨.hbm, 220, rfl⟩
abbrev main_call0_call0_v98 : Ref sig .tc := ⟨.hbm, 221, rfl⟩
abbrev main_call0_call0_v99 : Ref sig .tc := ⟨.hbm, 222, rfl⟩
abbrev main_call0_call0_v100 : Ref sig .tc := ⟨.hbm, 223, rfl⟩
abbrev main_call0_call0_v101 : Ref sig .tc := ⟨.hbm, 224, rfl⟩
abbrev main_call0_call0_v102 : Ref sig .tc := ⟨.hbm, 225, rfl⟩
abbrev main_call0_call0_v103 : Ref sig .tc := ⟨.hbm, 226, rfl⟩
abbrev main_call0_call0_v104 : Ref sig .tc := ⟨.hbm, 227, rfl⟩
abbrev main_call0_call0_v105 : Ref sig .tc := ⟨.hbm, 228, rfl⟩
abbrev main_call0_call0_c_26 : Ref sig .tc := ⟨.hbm, 229, rfl⟩
abbrev main_call0_call0_v106 : Ref sig .tc := ⟨.hbm, 230, rfl⟩
abbrev main_call0_call0_v107 : Ref sig .tc := ⟨.hbm, 231, rfl⟩
abbrev main_call0_call0_v108 : Ref sig .tc := ⟨.hbm, 232, rfl⟩
abbrev main_call0_call0_c_27 : Ref sig .tc := ⟨.hbm, 233, rfl⟩
abbrev main_call0_call0_v109 : Ref sig .tc := ⟨.hbm, 234, rfl⟩
abbrev main_call0_call0_v110 : Ref sig .tc := ⟨.hbm, 235, rfl⟩
abbrev main_call0_call0_c_28 : Ref sig .tc := ⟨.hbm, 236, rfl⟩
abbrev main_call0_call0_v111 : Ref sig .tc := ⟨.hbm, 237, rfl⟩
abbrev main_call0_call0_v112 : Ref sig .tc := ⟨.hbm, 238, rfl⟩
abbrev main_call0_call0_v113 : Ref sig .tc := ⟨.hbm, 239, rfl⟩
abbrev main_call0_call0_v114 : Ref sig .tc := ⟨.hbm, 240, rfl⟩
abbrev main_call0_call0_v115 : Ref sig .tc := ⟨.hbm, 241, rfl⟩
abbrev main_call0_call0_c_29 : Ref sig .tc := ⟨.hbm, 242, rfl⟩
abbrev main_call0_call0_v116 : Ref sig .tc := ⟨.hbm, 243, rfl⟩
abbrev main_call0_call0_v117 : Ref sig .tc := ⟨.hbm, 244, rfl⟩
abbrev main_call0_call0_c_30 : Ref sig .tc := ⟨.hbm, 245, rfl⟩
abbrev main_call0_call0_v118 : Ref sig .tc := ⟨.hbm, 246, rfl⟩
abbrev main_call0_call0_v119 : Ref sig .tc := ⟨.hbm, 247, rfl⟩
abbrev main_call0_call0_v120 : Ref sig .tc := ⟨.hbm, 248, rfl⟩
abbrev main_call0_call0_v121 : Ref sig .tc := ⟨.hbm, 249, rfl⟩
abbrev main_call0_call0_v122 : Ref sig .tc := ⟨.hbm, 250, rfl⟩
abbrev main_call0_call0_c_31 : Ref sig .tc := ⟨.hbm, 251, rfl⟩
abbrev main_call0_call0_v123 : Ref sig .tc := ⟨.hbm, 252, rfl⟩
abbrev main_call0_call0_v124 : Ref sig .tc := ⟨.hbm, 253, rfl⟩
abbrev main_call0_call0_c_32 : Ref sig .tc := ⟨.hbm, 254, rfl⟩
abbrev main_call0_call0_v125 : Ref sig .tc := ⟨.hbm, 255, rfl⟩
abbrev main_call0_call0_v126 : Ref sig .tc := ⟨.hbm, 256, rfl⟩
abbrev main_call0_call0_v127 : Ref sig .tc := ⟨.hbm, 257, rfl⟩
abbrev main_call0_call0_v128 : Ref sig .tc := ⟨.hbm, 258, rfl⟩
abbrev main_call0_call0_v129 : Ref sig .tc := ⟨.hbm, 259, rfl⟩
abbrev main_call0_call0_c_33 : Ref sig .tc := ⟨.hbm, 260, rfl⟩
abbrev main_call0_call0_v130 : Ref sig .tc := ⟨.hbm, 261, rfl⟩
abbrev main_call0_call0_v131 : Ref sig .tc := ⟨.hbm, 262, rfl⟩
abbrev main_call0_call0_c_34 : Ref sig .tc := ⟨.hbm, 263, rfl⟩
abbrev main_call0_call0_v132 : Ref sig .tc := ⟨.hbm, 264, rfl⟩
abbrev main_call0_call0_v133 : Ref sig .tc := ⟨.hbm, 265, rfl⟩
abbrev main_call0_call0_v134 : Ref sig .tc := ⟨.hbm, 266, rfl⟩
abbrev main_call0_call0_v135 : Ref sig .tc := ⟨.hbm, 267, rfl⟩
abbrev main_call0_call0_v136 : Ref sig .tc := ⟨.hbm, 268, rfl⟩
abbrev main_call0_call0_v137 : Ref sig .tc := ⟨.hbm, 269, rfl⟩
abbrev main_call0_call0_v138 : Ref sig .tc := ⟨.hbm, 270, rfl⟩
abbrev main_call0_call0_v139 : Ref sig .tc := ⟨.hbm, 271, rfl⟩
abbrev main_call0_call0_c_35 : Ref sig .tc := ⟨.hbm, 272, rfl⟩
abbrev main_call0_call0_v140 : Ref sig .tc := ⟨.hbm, 273, rfl⟩
abbrev main_call0_call0_v141 : Ref sig .tc := ⟨.hbm, 274, rfl⟩
abbrev main_call0_call0_v142 : Ref sig .tc := ⟨.hbm, 275, rfl⟩
abbrev main_call0_call0_c_36 : Ref sig .tc := ⟨.hbm, 276, rfl⟩
abbrev main_call0_call0_v143 : Ref sig .tc := ⟨.hbm, 277, rfl⟩
abbrev main_call0_call0_v144 : Ref sig .tc := ⟨.hbm, 278, rfl⟩
abbrev main_call0_call0_c_37 : Ref sig .tc := ⟨.hbm, 279, rfl⟩
abbrev main_call0_call0_v145 : Ref sig .tc := ⟨.hbm, 280, rfl⟩
abbrev main_call0_call0_v146 : Ref sig .tc := ⟨.hbm, 281, rfl⟩
abbrev main_call0_call0_v147 : Ref sig .tc := ⟨.hbm, 282, rfl⟩
abbrev main_call0_call0_v148 : Ref sig .tc := ⟨.hbm, 283, rfl⟩
abbrev main_call0_call0_v149 : Ref sig .tc := ⟨.hbm, 284, rfl⟩
abbrev main_call0_call0_c_38 : Ref sig .tc := ⟨.hbm, 285, rfl⟩
abbrev main_call0_call0_v150 : Ref sig .tc := ⟨.hbm, 286, rfl⟩
abbrev main_call0_call0_v151 : Ref sig .tc := ⟨.hbm, 287, rfl⟩
abbrev main_call0_call0_c_39 : Ref sig .tc := ⟨.hbm, 288, rfl⟩
abbrev main_call0_call0_v152 : Ref sig .tc := ⟨.hbm, 289, rfl⟩
abbrev main_call0_call0_v153 : Ref sig .tc := ⟨.hbm, 290, rfl⟩
abbrev main_call0_call0_v154 : Ref sig .tc := ⟨.hbm, 291, rfl⟩
abbrev main_call0_call0_v155 : Ref sig .tc := ⟨.hbm, 292, rfl⟩
abbrev main_call0_call0_v156 : Ref sig .tc := ⟨.hbm, 293, rfl⟩
abbrev main_call0_call0_c_40 : Ref sig .tc := ⟨.hbm, 294, rfl⟩
abbrev main_call0_call0_v157 : Ref sig .tc := ⟨.hbm, 295, rfl⟩
abbrev main_call0_call0_v158 : Ref sig .tc := ⟨.hbm, 296, rfl⟩
abbrev main_call0_call0_c_41 : Ref sig .tc := ⟨.hbm, 297, rfl⟩
abbrev main_call0_call0_v159 : Ref sig .tc := ⟨.hbm, 298, rfl⟩
abbrev main_call0_call0_v160 : Ref sig .tc := ⟨.hbm, 299, rfl⟩
abbrev main_call0_call0_v161 : Ref sig .tc := ⟨.hbm, 300, rfl⟩
abbrev main_call0_call0_v162 : Ref sig .tc := ⟨.hbm, 301, rfl⟩
abbrev main_call0_call0_v163 : Ref sig .tc := ⟨.hbm, 302, rfl⟩
abbrev main_call0_call0_c_42 : Ref sig .tc := ⟨.hbm, 303, rfl⟩
abbrev main_call0_call0_v164 : Ref sig .tc := ⟨.hbm, 304, rfl⟩
abbrev main_call0_call0_v165 : Ref sig .tc := ⟨.hbm, 305, rfl⟩
abbrev main_call0_call0_c_43 : Ref sig .tc := ⟨.hbm, 306, rfl⟩
abbrev main_call0_call0_v166 : Ref sig .tc := ⟨.hbm, 307, rfl⟩
abbrev main_call0_call0_v167 : Ref sig .tc := ⟨.hbm, 308, rfl⟩
abbrev main_call0_call0_v168 : Ref sig .tc := ⟨.hbm, 309, rfl⟩
abbrev main_call0_call0_v169 : Ref sig .tc := ⟨.hbm, 310, rfl⟩
abbrev main_call0_call0_v170 : Ref sig .tc := ⟨.hbm, 311, rfl⟩
abbrev main_call0_v27_0 : Ref sig .tc := ⟨.hbm, 312, rfl⟩
abbrev main_call0_call0_v172 : Ref sig .tc := ⟨.hbm, 313, rfl⟩
abbrev main_call0_call0_v173 : Ref sig .tc := ⟨.hbm, 314, rfl⟩
abbrev main_call0_call0_c_44 : Ref sig .tc := ⟨.hbm, 315, rfl⟩
abbrev main_call0_call0_v174 : Ref sig .tc := ⟨.hbm, 316, rfl⟩
abbrev main_call0_v27_1 : Ref sig .tc := ⟨.hbm, 317, rfl⟩
abbrev main_call0_v28 : Ref sig .tc := ⟨.hbm, 318, rfl⟩
abbrev main_call0_c_4 : Ref sig .tc := ⟨.hbm, 319, rfl⟩
abbrev main_call0_v29 : Ref sig .tc := ⟨.hbm, 320, rfl⟩
abbrev main_call0_v30 : Ref sig .tc := ⟨.hbm, 321, rfl⟩
abbrev main_call0_c_5 : Ref sig .tc := ⟨.hbm, 322, rfl⟩
abbrev main_call0_v31 : Ref sig .tc := ⟨.hbm, 323, rfl⟩
abbrev main_call0_v32 : Ref sig .tc := ⟨.hbm, 324, rfl⟩
abbrev main_call0_v33 : Ref sig .tc := ⟨.hbm, 325, rfl⟩
abbrev main_call0_cst : Ref sig .tc := ⟨.hbm, 326, rfl⟩
abbrev main_call0_v34 : Ref sig .tc := ⟨.hbm, 327, rfl⟩
abbrev main_call0_v35 : Ref sig .tc := ⟨.hbm, 328, rfl⟩
abbrev main_call0_v36 : Ref sig .tc := ⟨.hbm, 329, rfl⟩
abbrev main_call0_v37 : Ref sig .tc := ⟨.hbm, 330, rfl⟩
abbrev main_call0_v38 : Ref sig .tc := ⟨.hbm, 331, rfl⟩
abbrev main_call0_v39 : Ref sig .tc := ⟨.hbm, 332, rfl⟩
abbrev main_call0_v40 : Ref sig .tc := ⟨.hbm, 333, rfl⟩
abbrev main_call0_v41 : Ref sig .tc := ⟨.hbm, 334, rfl⟩
abbrev main_v35 : Ref sig .tc := ⟨.hbm, 335, rfl⟩
abbrev main_v36 : Ref sig .tc := ⟨.hbm, 336, rfl⟩
abbrev main_v37 : Ref sig .tc := ⟨.hbm, 337, rfl⟩
abbrev main_v38 : Ref sig .tc := ⟨.hbm, 338, rfl⟩
abbrev main_v39 : Ref sig .tc := ⟨.hbm, 339, rfl⟩
abbrev main_v40 : Ref sig .tc := ⟨.hbm, 340, rfl⟩
abbrev main_v41 : Ref sig .tc := ⟨.hbm, 341, rfl⟩
abbrev main_v42 : Ref sig .tc := ⟨.hbm, 342, rfl⟩
abbrev main_v43 : Ref sig .tc := ⟨.hbm, 343, rfl⟩
abbrev main_v44 : Ref sig .tc := ⟨.hbm, 344, rfl⟩
abbrev main_v45 : Ref sig .tc := ⟨.hbm, 345, rfl⟩
abbrev main_v46_0 : Ref sig .tc := ⟨.hbm, 346, rfl⟩
abbrev main_v46_1 : Ref sig .tc := ⟨.hbm, 347, rfl⟩
abbrev main_v46_2 : Ref sig .tc := ⟨.hbm, 348, rfl⟩
abbrev main_v46_3 : Ref sig .tc := ⟨.hbm, 349, rfl⟩
abbrev main_v47 : Ref sig .tc := ⟨.hbm, 350, rfl⟩
abbrev main_v48 : Ref sig .tc := ⟨.hbm, 351, rfl⟩
abbrev main_v49 : Ref sig .tc := ⟨.hbm, 352, rfl⟩
abbrev main_v50 : Ref sig .tc := ⟨.hbm, 353, rfl⟩
abbrev main_v51 : Ref sig .tc := ⟨.hbm, 354, rfl⟩
abbrev main_v52 : Ref sig .tc := ⟨.hbm, 355, rfl⟩
abbrev main_v53 : Ref sig .tc := ⟨.hbm, 356, rfl⟩
abbrev main_v54 : Ref sig .tc := ⟨.hbm, 357, rfl⟩
abbrev main_v55 : Ref sig .tc := ⟨.hbm, 358, rfl⟩
abbrev main_v56 : Ref sig .tc := ⟨.hbm, 359, rfl⟩
abbrev main_v57 : Ref sig .tc := ⟨.hbm, 360, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_scratch0 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg2_0 : Ref sig .tc := ⟨.vmem, 38, rfl⟩
abbrev cc2_stg3_0 : Ref sig .tc := ⟨.vmem, 39, rfl⟩
abbrev cc2_stg4_0 : Ref sig .tc := ⟨.vmem, 40, rfl⟩
abbrev cc2_stg5_0 : Ref sig .tc := ⟨.vmem, 41, rfl⟩
abbrev cc2_stg6_0 : Ref sig .tc := ⟨.vmem, 42, rfl⟩
abbrev cc2_stg7_0 : Ref sig .tc := ⟨.vmem, 43, rfl⟩
abbrev cc2_stg8_0 : Ref sig .tc := ⟨.vmem, 44, rfl⟩
abbrev cc2_stg8_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc2_sem0_0 : DmaSem sig := 34
abbrev cc2_sem0_1 : DmaSem sig := 35
abbrev cc2_sem1_0 : DmaSem sig := 36
abbrev cc2_sem2_0 : DmaSem sig := 37
abbrev cc2_sem3_0 : DmaSem sig := 38
abbrev cc2_sem4_0 : DmaSem sig := 39
abbrev cc2_sem5_0 : DmaSem sig := 40
abbrev cc2_sem6_0 : DmaSem sig := 41
abbrev cc2_sem7_0 : DmaSem sig := 42
abbrev cc2_sem8_0 : DmaSem sig := 43
abbrev cc2_sem8_1 : DmaSem sig := 44

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2560x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![4, 4], ![false, false]⟩

def k1_cond1 (i : grid1.Coords) : BitVec 1 :=
  let arg0 : BitVec 32 := BitVec.ofNat 32 (i 0).val
  let c0_i32 : BitVec 32 := 0#32
  let v136 : BitVec 1 := Scalar.cmpi .eq arg0 c0_i32
  let v137 : BitVec 32 := Scalar.extui v136
  let c0_i32_41 : BitVec 32 := 0#32
  let v138 : BitVec 1 := Scalar.cmpi .ne v137 c0_i32_41
  v138

def k1_off1 (i : grid1.Coords) : Fin 2 → Nat :=
  let arg1 : BitVec 32 := BitVec.ofNat 32 (i 1).val
  let c256_i32 : BitVec 32 := 256#32
  let v135 : BitVec 32 := Scalar.muli arg1 c256_i32
  let v147 : Index := Scalar.indexCast v135
  let c0_46 : Index := 0#32
  ![v147.toNat, 0]
def k1_cond2 (i : grid1.Coords) : BitVec 1 :=
  let arg0 : BitVec 32 := BitVec.ofNat 32 (i 0).val
  let c0_i32_42 : BitVec 32 := 0#32
  let v139 : BitVec 1 := Scalar.cmpi .sgt arg0 c0_i32_42
  let c3_i32 : BitVec 32 := 3#32
  let v140 : BitVec 1 := Scalar.cmpi .slt arg0 c3_i32
  let v141 : BitVec 1 := Scalar.andi v139 v140
  let v142 : BitVec 32 := Scalar.extui v141
  let c0_i32_43 : BitVec 32 := 0#32
  let v143 : BitVec 1 := Scalar.cmpi .ne v142 c0_i32_43
  v143

def k1_off2 (i : grid1.Coords) : Fin 2 → Nat :=
  let arg1 : BitVec 32 := BitVec.ofNat 32 (i 1).val
  let c256_i32 : BitVec 32 := 256#32
  let v135 : BitVec 32 := Scalar.muli arg1 c256_i32
  let v147 : Index := Scalar.indexCast v135
  let c0_46 : Index := 0#32
  ![v147.toNat, 0]
def k1_cond3 (i : grid1.Coords) : BitVec 1 :=
  let arg0 : BitVec 32 := BitVec.ofNat 32 (i 0).val
  let c3_i32_44 : BitVec 32 := 3#32
  let v144 : BitVec 1 := Scalar.cmpi .eq arg0 c3_i32_44
  let v145 : BitVec 32 := Scalar.extui v144
  let c0_i32_45 : BitVec 32 := 0#32
  let v146 : BitVec 1 := Scalar.cmpi .ne v145 c0_i32_45
  v146

def k1_off3 (i : grid1.Coords) : Fin 2 → Nat :=
  let arg1 : BitVec 32 := BitVec.ofNat 32 (i 1).val
  let c256_i32 : BitVec 32 := 256#32
  let v135 : BitVec 32 := Scalar.muli arg1 c256_i32
  let v147 : Index := Scalar.indexCast v135
  let c0_46 : Index := 0#32
  ![v147.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S8x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x256x4 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S8x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S8x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== ReferenceIdeal.lean ====
abbrev S1024x8x256 : Shape := ⟨3, ![1024, 8, 256]⟩
abbrev S1024x4x128 : Shape := ⟨3, ![1024, 4, 128]⟩
abbrev S2560x1024 : Shape := ⟨2, ![2560, 1024]⟩
abbrev S1024 : Shape := ⟨1, ![1024]⟩
abbrev S1024x1024 : Shape := ⟨2, ![1024, 1024]⟩
abbrev S1024x8192 : Shape := ⟨2, ![1024, 8192]⟩
abbrev S8192 : Shape := ⟨1, ![8192]⟩
abbrev S8192x1024 : Shape := ⟨2, ![8192, 1024]⟩
abbrev S1024x256 : Shape := ⟨2, ![1024, 256]⟩
abbrev S256 : Shape := ⟨1, ![256]⟩
abbrev S128 : Shape := ⟨1, ![128]⟩
abbrev S1x1x256 : Shape := ⟨3, ![1, 1, 256]⟩
abbrev S_ : Shape := ⟨0, ![]⟩
abbrev S1x1x128 : Shape := ⟨3, ![1, 1, 128]⟩
abbrev S1024x2048 : Shape := ⟨2, ![1024, 2048]⟩
abbrev S1024x512 : Shape := ⟨2, ![1024, 512]⟩
abbrev S1024x2560 : Shape := ⟨2, ![1024, 2560]⟩
abbrev S1x1024 : Shape := ⟨2, ![1, 1024]⟩
abbrev S1x8192 : Shape := ⟨2, ![1, 8192]⟩
abbrev S1024x1x16x512 : Shape := ⟨4, ![1024, 1, 16, 512]⟩
abbrev S1 : Shape := ⟨1, ![1]⟩
abbrev S2 : Shape := ⟨1, ![2]⟩
abbrev S1x1x1x1 : Shape := ⟨4, ![1, 1, 1, 1]⟩
abbrev S1024x1x16 : Shape := ⟨3, ![1024, 1, 16]⟩
abbrev S1024x1x16x1 : Shape := ⟨4, ![1024, 1, 16, 1]⟩
abbrev S1x1x1x512 : Shape := ⟨4, ![1, 1, 1, 512]⟩
abbrev S1x256 : Shape := ⟨2, ![1, 256]⟩

abbrev nBuf : Space → Nat
  | .hbm => 495
  | .vmem => 0
  | .smem => 0
  | _ => 0

abbrev hbmTy0_0 (i : Nat) : BufTy := match i % 128 with
  | 0 => ⟨S1024x8x256, .f32⟩
  | 1 => ⟨S1024x4x128, .f32⟩
  | 2 => ⟨S2560x1024, .f32⟩
  | 3 => ⟨S1024, .f32⟩
  | 4 => ⟨S1024x1024, .f32⟩
  | 5 => ⟨S1024, .f32⟩
  | 6 => ⟨S1024x1024, .f32⟩
  | 7 => ⟨S1024, .f32⟩
  | 8 => ⟨S1024x8192, .f32⟩
  | 9 => ⟨S8192, .f32⟩
  | 10 => ⟨S8192x1024, .f32⟩
  | 11 => ⟨S1024, .f32⟩
  | 12 => ⟨S1024x1024, .f32⟩
  | 13 => ⟨S1024, .f32⟩
  | 14 => ⟨S1024x1024, .f32⟩
  | 15 => ⟨S1024, .f32⟩
  | 16 => ⟨S1024x256, .f32⟩
  | 17 => ⟨S256, .f32⟩
  | 18 => ⟨S256, .f32⟩
  | 19 => ⟨S256, .f32⟩
  | 20 => ⟨S128, .f32⟩
  | 21 => ⟨S128, .f32⟩
  | 22 => ⟨S1x1x256, .f32⟩
  | 23 => ⟨S1024x8x256, .f32⟩
  | 24 => ⟨S1024x8x256, .f32⟩
  | 25 => ⟨S_, .f32⟩
  | 26 => ⟨S256, .f32⟩
  | 27 => ⟨S256, .f32⟩
  | 28 => ⟨S256, .f32⟩
  | 29 => ⟨S1x1x256, .f32⟩
  | 30 => ⟨S1024x8x256, .f32⟩
  | 31 => ⟨S1024x8x256, .f32⟩
  | 32 => ⟨S_, .f32⟩
  | 33 => ⟨S_, .f32⟩
  | 34 => ⟨S_, .f32⟩
  | 35 => ⟨S1024x8x256, .f32⟩
  | 36 => ⟨S1024x8x256, .f32⟩
  | 37 => ⟨S_, .f32⟩
  | 38 => ⟨S1024x8x256, .f32⟩
  | 39 => ⟨S1024x8x256, .f32⟩
  | 40 => ⟨S1024x8x256, .i1⟩
  | 41 => ⟨S_, .f32⟩
  | 42 => ⟨S_, .f32⟩
  | 43 => ⟨S1024x8x256, .f32⟩
  | 44 => ⟨S1024x8x256, .f32⟩
  | 45 => ⟨S1x1x128, .f32⟩
  | 46 => ⟨S1024x4x128, .f32⟩
  | 47 => ⟨S1024x4x128, .f32⟩
  | 48 => ⟨S_, .f32⟩
  | 49 => ⟨S128, .f32⟩
  | 50 => ⟨S128, .f32⟩
  | 51 => ⟨S128, .f32⟩
  | 52 => ⟨S1x1x128, .f32⟩
  | 53 => ⟨S1024x4x128, .f32⟩
  | 54 => ⟨S1024x4x128, .f32⟩
  | 55 => ⟨S_, .f32⟩
  | 56 => ⟨S_, .f32⟩
  | 57 => ⟨S_, .f32⟩
  | 58 => ⟨S1024x4x128, .f32⟩
  | 59 => ⟨S1024x4x128, .f32⟩
  | 60 => ⟨S_, .f32⟩
  | 61 => ⟨S1024x4x128, .f32⟩
  | 62 => ⟨S1024x4x128, .f32⟩
  | 63 => ⟨S1024x4x128, .i1⟩
  | 64 => ⟨S_, .f32⟩
  | 65 => ⟨S_, .f32⟩
  | 66 => ⟨S1024x4x128, .f32⟩
  | 67 => ⟨S1024x4x128, .f32⟩
  | 68 => ⟨S1024x2048, .f32⟩
  | 69 => ⟨S1024x512, .f32⟩
  | 70 => ⟨S1024x2560, .f32⟩
  | 71 => ⟨S1024x1024, .f32⟩
  | 72 => ⟨S1x1024, .f32⟩
  | 73 => ⟨S1024x1024, .f32⟩
  | 74 => ⟨S1024x1024, .f32⟩
  | 75 => ⟨S_, .f32⟩
  | 76 => ⟨S_, .f32⟩
  | 77 => ⟨S1024x1024, .f32⟩
  | 78 => ⟨S1024x1024, .i1⟩
  | 79 => ⟨S_, .f32⟩
  | 80 => ⟨S1024x1024, .f32⟩
  | 81 => ⟨S1024x1024, .f32⟩
  | 82 => ⟨S1024x1024, .f32⟩
  | 83 => ⟨S1024x1024, .f32⟩
  | 84 => ⟨S1x1024, .f32⟩
  | 85 => ⟨S1024x1024, .f32⟩
  | 86 => ⟨S1024x1024, .f32⟩
  | 87 => ⟨S_, .f32⟩
  | 88 => ⟨S_, .f32⟩
  | 89 => ⟨S1024x1024, .f32⟩
  | 90 => ⟨S1024x1024, .i1⟩
  | 91 => ⟨S_, .f32⟩
  | 92 => ⟨S1024x1024, .f32⟩
  | 93 => ⟨S1024x1024, .f32⟩
  | 94 => ⟨S1024x1024, .f32⟩
  | 95 => ⟨S1024x1024, .f32⟩
  | 96 => ⟨S1x1024, .f32⟩
  | 97 => ⟨S1024x1024, .f32⟩
  | 98 => ⟨S1024x1024, .f32⟩
  | 99 => ⟨S_, .f32⟩
  | 100 => ⟨S_, .f32⟩
  | 101 => ⟨S1024x1024, .f32⟩
  | 102 => ⟨S1024x1024, .i1⟩
  | 103 => ⟨S_, .f32⟩
  | 104 => ⟨S1024x1024, .f32⟩
  | 105 => ⟨S1024x1024, .f32⟩
  | 106 => ⟨S1024x1024, .f32⟩
  | 107 => ⟨S1024x8192, .f32⟩
  | 108 => ⟨S1x8192, .f32⟩
  | 109 => ⟨S1024x8192, .f32⟩
  | 110 => ⟨S1024x8192, .f32⟩
  | 111 => ⟨S1024x1x16x512, .f32⟩
  | 112 => ⟨S_, .i32⟩
  | 113 => ⟨S_, .i32⟩
  | 114 => ⟨S_, .i32⟩
  | 115 => ⟨S_, .i32⟩
  | 116 => ⟨S1, .i32⟩
  | 117 => ⟨S_, .i32⟩
  | 118 => ⟨S_, .i32⟩
  | 119 => ⟨S_, .i32⟩
  | 120 => ⟨S1, .i32⟩
  | 121 => ⟨S2, .i32⟩
  | 122 => ⟨S_, .f32⟩
  | 123 => ⟨S_, .f32⟩
  | 124 => ⟨S_, .f32⟩
  | 125 => ⟨S_, .f32⟩
  | 126 => ⟨S1x1x1x1, .f32⟩
  | 127 => ⟨S1x1x1x1, .f32⟩
  | _ => ⟨S1024x8x256, .f32⟩

abbrev hbmTy0_1 (i : Nat) : BufTy := match i % 128 with
  | 0 => ⟨S1, .i32⟩
  | 1 => ⟨S_, .i32⟩
  | 2 => ⟨S1, .i32⟩
  | 3 => ⟨S_, .i32⟩
  | 4 => ⟨S1024x1x16x512, .i64⟩
  | 5 => ⟨S1024x1x16x512, .i64⟩
  | 6 => ⟨S1024x1x16x512, .i64⟩
  | 7 => ⟨S1024x1x16x512, .i64⟩
  | 8 => ⟨S_, .i64⟩
  | 9 => ⟨S1024x1x16x512, .i64⟩
  | 10 => ⟨S1024x1x16x512, .i64⟩
  | 11 => ⟨S_, .i64⟩
  | 12 => ⟨S1024x1x16x512, .i64⟩
  | 13 => ⟨S1024x1x16x512, .i64⟩
  | 14 => ⟨S_, .i64⟩
  | 15 => ⟨S1024x1x16x512, .i64⟩
  | 16 => ⟨S1024x1x16x512, .i64⟩
  | 17 => ⟨S_, .i64⟩
  | 18 => ⟨S1024x1x16x512, .i64⟩
  | 19 => ⟨S1024x1x16x512, .i64⟩
  | 20 => ⟨S1024x1x16x512, .i64⟩
  | 21 => ⟨S1024x1x16x512, .i64⟩
  | 22 => ⟨S1024x1x16x512, .i64⟩
  | 23 => ⟨S_, .i64⟩
  | 24 => ⟨S1024x1x16x512, .i64⟩
  | 25 => ⟨S1024x1x16x512, .i64⟩
  | 26 => ⟨S1024x1x16x512, .i32⟩
  | 27 => ⟨S1024x1x16x512, .i32⟩
  | 28 => ⟨S_, .i32⟩
  | 29 => ⟨S_, .i32⟩
  | 30 => ⟨S_, .i32⟩
  | 31 => ⟨S1024x1x16x512, .i32⟩
  | 32 => ⟨S1024x1x16x512, .i32⟩
  | 33 => ⟨S1024x1x16x512, .i32⟩
  | 34 => ⟨S1024x1x16x512, .i32⟩
  | 35 => ⟨S1024x1x16x512, .i32⟩
  | 36 => ⟨S_, .i32⟩
  | 37 => ⟨S1024x1x16x512, .i32⟩
  | 38 => ⟨S1024x1x16x512, .i32⟩
  | 39 => ⟨S_, .i32⟩
  | 40 => ⟨S1024x1x16x512, .i32⟩
  | 41 => ⟨S1024x1x16x512, .i32⟩
  | 42 => ⟨S1024x1x16x512, .i32⟩
  | 43 => ⟨S1024x1x16x512, .i32⟩
  | 44 => ⟨S1024x1x16x512, .i32⟩
  | 45 => ⟨S_, .i32⟩
  | 46 => ⟨S1024x1x16x512, .i32⟩
  | 47 => ⟨S1024x1x16x512, .i32⟩
  | 48 => ⟨S_, .i32⟩
  | 49 => ⟨S1024x1x16x512, .i32⟩
  | 50 => ⟨S1024x1x16x512, .i32⟩
  | 51 => ⟨S1024x1x16x512, .i32⟩
  | 52 => ⟨S1024x1x16x512, .i32⟩
  | 53 => ⟨S1024x1x16x512, .i32⟩
  | 54 => ⟨S_, .i32⟩
  | 55 => ⟨S1024x1x16x512, .i32⟩
  | 56 => ⟨S1024x1x16x512, .i32⟩
  | 57 => ⟨S_, .i32⟩
  | 58 => ⟨S1024x1x16x512, .i32⟩
  | 59 => ⟨S1024x1x16x512, .i32⟩
  | 60 => ⟨S1024x1x16x512, .i32⟩
  | 61 => ⟨S1024x1x16x512, .i32⟩
  | 62 => ⟨S1024x1x16x512, .i32⟩
  | 63 => ⟨S_, .i32⟩
  | 64 => ⟨S1024x1x16x512, .i32⟩
  | 65 => ⟨S1024x1x16x512, .i32⟩
  | 66 => ⟨S_, .i32⟩
  | 67 => ⟨S1024x1x16x512, .i32⟩
  | 68 => ⟨S1024x1x16x512, .i32⟩
  | 69 => ⟨S1024x1x16x512, .i32⟩
  | 70 => ⟨S1024x1x16x512, .i32⟩
  | 71 => ⟨S1024x1x16x512, .i32⟩
  | 72 => ⟨S1024x1x16x512, .i32⟩
  | 73 => ⟨S1024x1x16x512, .i32⟩
  | 74 => ⟨S1024x1x16x512, .i32⟩
  | 75 => ⟨S_, .i32⟩
  | 76 => ⟨S1024x1x16x512, .i32⟩
  | 77 => ⟨S1024x1x16x512, .i32⟩
  | 78 => ⟨S1024x1x16x512, .i32⟩
  | 79 => ⟨S_, .i32⟩
  | 80 => ⟨S1024x1x16x512, .i32⟩
  | 81 => ⟨S1024x1x16x512, .i32⟩
  | 82 => ⟨S_, .i32⟩
  | 83 => ⟨S1024x1x16x512, .i32⟩
  | 84 => ⟨S1024x1x16x512, .i32⟩
  | 85 => ⟨S1024x1x16x512, .i32⟩
  | 86 => ⟨S1024x1x16x512, .i32⟩
  | 87 => ⟨S1024x1x16x512, .i32⟩
  | 88 => ⟨S_, .i32⟩
  | 89 => ⟨S1024x1x16x512, .i32⟩
  | 90 => ⟨S1024x1x16x512, .i32⟩
  | 91 => ⟨S_, .i32⟩
  | 92 => ⟨S1024x1x16x512, .i32⟩
  | 93 => ⟨S1024x1x16x512, .i32⟩
  | 94 => ⟨S1024x1x16x512, .i32⟩
  | 95 => ⟨S1024x1x16x512, .i32⟩
  | 96 => ⟨S1024x1x16x512, .i32⟩
  | 97 => ⟨S_, .i32⟩
  | 98 => ⟨S1024x1x16x512, .i32⟩
  | 99 => ⟨S1024x1x16x512, .i32⟩
  | 100 => ⟨S_, .i32⟩
  | 101 => ⟨S1024x1x16x512, .i32⟩
  | 102 => ⟨S1024x1x16x512, .i32⟩
  | 103 => ⟨S1024x1x16x512, .i32⟩
  | 104 => ⟨S1024x1x16x512, .i32⟩
  | 105 => ⟨S1024x1x16x512, .i32⟩
  | 106 => ⟨S_, .i32⟩
  | 107 => ⟨S1024x1x16x512, .i32⟩
  | 108 => ⟨S1024x1x16x512, .i32⟩
  | 109 => ⟨S_, .i32⟩
  | 110 => ⟨S1024x1x16x512, .i32⟩
  | 111 => ⟨S1024x1x16x512, .i32⟩
  | 112 => ⟨S1024x1x16x512, .i32⟩
  | 113 => ⟨S1024x1x16x512, .i32⟩
  | 114 => ⟨S1024x1x16x512, .i32⟩
  | 115 => ⟨S1024x1x16x512, .i32⟩
  | 116 => ⟨S1024x1x16x512, .i32⟩
  | 117 => ⟨S1024x1x16x512, .i32⟩
  | 118 => ⟨S_, .i32⟩
  | 119 => ⟨S1024x1x16x512, .i32⟩
  | 120 => ⟨S1024x1x16x512, .i32⟩
  | 121 => ⟨S1024x1x16x512, .i32⟩
  | 122 => ⟨S_, .i32⟩
  | 123 => ⟨S1024x1x16x512, .i32⟩
  | 124 => ⟨S1024x1x16x512, .i32⟩
  | 125 => ⟨S_, .i32⟩
  | 126 => ⟨S1024x1x16x512, .i32⟩
  | 127 => ⟨S1024x1x16x512, .i32⟩
  | _ => ⟨S1024x8x256, .f32⟩

abbrev hbmTy0_2 (i : Nat) : BufTy := match i % 128 with
  | 0 => ⟨S1024x1x16x512, .i32⟩
  | 1 => ⟨S1024x1x16x512, .i32⟩
  | 2 => ⟨S1024x1x16x512, .i32⟩
  | 3 => ⟨S_, .i32⟩
  | 4 => ⟨S1024x1x16x512, .i32⟩
  | 5 => ⟨S1024x1x16x512, .i32⟩
  | 6 => ⟨S_, .i32⟩
  | 7 => ⟨S1024x1x16x512, .i32⟩
  | 8 => ⟨S1024x1x16x512, .i32⟩
  | 9 => ⟨S1024x1x16x512, .i32⟩
  | 10 => ⟨S1024x1x16x512, .i32⟩
  | 11 => ⟨S1024x1x16x512, .i32⟩
  | 12 => ⟨S_, .i32⟩
  | 13 => ⟨S1024x1x16x512, .i32⟩
  | 14 => ⟨S1024x1x16x512, .i32⟩
  | 15 => ⟨S_, .i32⟩
  | 16 => ⟨S1024x1x16x512, .i32⟩
  | 17 => ⟨S1024x1x16x512, .i32⟩
  | 18 => ⟨S1024x1x16x512, .i32⟩
  | 19 => ⟨S1024x1x16x512, .i32⟩
  | 20 => ⟨S1024x1x16x512, .i32⟩
  | 21 => ⟨S_, .i32⟩
  | 22 => ⟨S1024x1x16x512, .i32⟩
  | 23 => ⟨S1024x1x16x512, .i32⟩
  | 24 => ⟨S_, .i32⟩
  | 25 => ⟨S1024x1x16x512, .i32⟩
  | 26 => ⟨S1024x1x16x512, .i32⟩
  | 27 => ⟨S1024x1x16x512, .i32⟩
  | 28 => ⟨S1024x1x16x512, .i32⟩
  | 29 => ⟨S1024x1x16x512, .i32⟩
  | 30 => ⟨S1024x1x16x512, .i32⟩
  | 31 => ⟨S1024x1x16x512, .i32⟩
  | 32 => ⟨S1024x1x16x512, .i32⟩
  | 33 => ⟨S_, .i32⟩
  | 34 => ⟨S1024x1x16x512, .i32⟩
  | 35 => ⟨S1024x1x16x512, .i32⟩
  | 36 => ⟨S1024x1x16x512, .i32⟩
  | 37 => ⟨S_, .i32⟩
  | 38 => ⟨S1024x1x16x512, .i32⟩
  | 39 => ⟨S1024x1x16x512, .i32⟩
  | 40 => ⟨S_, .i32⟩
  | 41 => ⟨S1024x1x16x512, .i32⟩
  | 42 => ⟨S1024x1x16x512, .i32⟩
  | 43 => ⟨S1024x1x16x512, .i32⟩
  | 44 => ⟨S1024x1x16x512, .i32⟩
  | 45 => ⟨S1024x1x16x512, .i32⟩
  | 46 => ⟨S_, .i32⟩
  | 47 => ⟨S1024x1x16x512, .i32⟩
  | 48 => ⟨S1024x1x16x512, .i32⟩
  | 49 => ⟨S_, .i32⟩
  | 50 => ⟨S1024x1x16x512, .i32⟩
  | 51 => ⟨S1024x1x16x512, .i32⟩
  | 52 => ⟨S1024x1x16x512, .i32⟩
  | 53 => ⟨S1024x1x16x512, .i32⟩
  | 54 => ⟨S1024x1x16x512, .i32⟩
  | 55 => ⟨S_, .i32⟩
  | 56 => ⟨S1024x1x16x512, .i32⟩
  | 57 => ⟨S1024x1x16x512, .i32⟩
  | 58 => ⟨S_, .i32⟩
  | 59 => ⟨S1024x1x16x512, .i32⟩
  | 60 => ⟨S1024x1x16x512, .i32⟩
  | 61 => ⟨S1024x1x16x512, .i32⟩
  | 62 => ⟨S1024x1x16x512, .i32⟩
  | 63 => ⟨S1024x1x16x512, .i32⟩
  | 64 => ⟨S_, .i32⟩
  | 65 => ⟨S1024x1x16x512, .i32⟩
  | 66 => ⟨S1024x1x16x512, .i32⟩
  | 67 => ⟨S_, .i32⟩
  | 68 => ⟨S1024x1x16x512, .i32⟩
  | 69 => ⟨S1024x1x16x512, .i32⟩
  | 70 => ⟨S1024x1x16x512, .i32⟩
  | 71 => ⟨S1024x1x16x512, .i32⟩
  | 72 => ⟨S1024x1x16x512, .i32⟩
  | 73 => ⟨S1024x1x16x512, .i32⟩
  | 74 => ⟨S1024x1x16x512, .i32⟩
  | 75 => ⟨S1024x1x16x512, .i32⟩
  | 76 => ⟨S_, .i32⟩
  | 77 => ⟨S1024x1x16x512, .i32⟩
  | 78 => ⟨S1024x1x16x512, .i32⟩
  | 79 => ⟨S1024x1x16x512, .i32⟩
  | 80 => ⟨S_, .i32⟩
  | 81 => ⟨S1024x1x16x512, .i32⟩
  | 82 => ⟨S1024x1x16x512, .i32⟩
  | 83 => ⟨S_, .i32⟩
  | 84 => ⟨S1024x1x16x512, .i32⟩
  | 85 => ⟨S1024x1x16x512, .i32⟩
  | 86 => ⟨S1024x1x16x512, .i32⟩
  | 87 => ⟨S1024x1x16x512, .i32⟩
  | 88 => ⟨S1024x1x16x512, .i32⟩
  | 89 => ⟨S_, .i32⟩
  | 90 => ⟨S1024x1x16x512, .i32⟩
  | 91 => ⟨S1024x1x16x512, .i32⟩
  | 92 => ⟨S_, .i32⟩
  | 93 => ⟨S1024x1x16x512, .i32⟩
  | 94 => ⟨S1024x1x16x512, .i32⟩
  | 95 => ⟨S1024x1x16x512, .i32⟩
  | 96 => ⟨S1024x1x16x512, .i32⟩
  | 97 => ⟨S1024x1x16x512, .i32⟩
  | 98 => ⟨S_, .i32⟩
  | 99 => ⟨S1024x1x16x512, .i32⟩
  | 100 => ⟨S1024x1x16x512, .i32⟩
  | 101 => ⟨S_, .i32⟩
  | 102 => ⟨S1024x1x16x512, .i32⟩
  | 103 => ⟨S1024x1x16x512, .i32⟩
  | 104 => ⟨S1024x1x16x512, .i32⟩
  | 105 => ⟨S1024x1x16x512, .i32⟩
  | 106 => ⟨S1024x1x16x512, .i32⟩
  | 107 => ⟨S_, .i32⟩
  | 108 => ⟨S1024x1x16x512, .i32⟩
  | 109 => ⟨S1024x1x16x512, .i32⟩
  | 110 => ⟨S_, .i32⟩
  | 111 => ⟨S1024x1x16x512, .i32⟩
  | 112 => ⟨S1024x1x16x512, .i32⟩
  | 113 => ⟨S1024x1x16x512, .i32⟩
  | 114 => ⟨S1024x1x16x512, .i32⟩
  | 115 => ⟨S1024x1x16x512, .i32⟩
  | 116 => ⟨S1024x1x16x512, .i32⟩
  | 117 => ⟨S1024x1x16x512, .i32⟩
  | 118 => ⟨S1024x1x16x512, .i32⟩
  | 119 => ⟨S_, .i32⟩
  | 120 => ⟨S1024x1x16x512, .i32⟩
  | 121 => ⟨S1024x1x16x512, .i32⟩
  | 122 => ⟨S1024x1x16x512, .i32⟩
  | 123 => ⟨S_, .i32⟩
  | 124 => ⟨S1024x1x16x512, .i32⟩
  | 125 => ⟨S1024x1x16x512, .i32⟩
  | 126 => ⟨S_, .i32⟩
  | 127 => ⟨S1024x1x16x512, .i32⟩
  | _ => ⟨S1024x8x256, .f32⟩

abbrev hbmTy0_3 (i : Nat) : BufTy := match i % 128 with
  | 0 => ⟨S1024x1x16x512, .i32⟩
  | 1 => ⟨S1024x1x16x512, .f32⟩
  | 2 => ⟨S_, .f32⟩
  | 3 => ⟨S1024x1x16x512, .f32⟩
  | 4 => ⟨S1024x1x16x512, .f32⟩
  | 5 => ⟨S1x1x1x1, .f32⟩
  | 6 => ⟨S1024x1x16x512, .f32⟩
  | 7 => ⟨S1024x1x16x512, .f32⟩
  | 8 => ⟨S1024x1x16x512, .f32⟩
  | 9 => ⟨S1024x1x16x512, .f32⟩
  | 10 => ⟨S1024x1x16x512, .f32⟩
  | 11 => ⟨S1024x1x16x512, .f32⟩
  | 12 => ⟨S_, .f32⟩
  | 13 => ⟨S1024x1x16x512, .f32⟩
  | 14 => ⟨S1024x1x16x512, .f32⟩
  | 15 => ⟨S1024x1x16x512, .f32⟩
  | 16 => ⟨S1024x1x16x512, .f32⟩
  | 17 => ⟨S_, .f32⟩
  | 18 => ⟨S1024x1x16x512, .f32⟩
  | 19 => ⟨S1024x1x16x512, .f32⟩
  | 20 => ⟨S1024x1x16x512, .f32⟩
  | 21 => ⟨S1024x1x16x512, .f32⟩
  | 22 => ⟨S1024x1x16x512, .f32⟩
  | 23 => ⟨S_, .f32⟩
  | 24 => ⟨S1024x1x16x512, .f32⟩
  | 25 => ⟨S1024x1x16x512, .f32⟩
  | 26 => ⟨S_, .f32⟩
  | 27 => ⟨S1024x1x16, .f32⟩
  | 28 => ⟨S_, .f32⟩
  | 29 => ⟨S1024x1x16, .f32⟩
  | 30 => ⟨S1024x1x16, .f32⟩
  | 31 => ⟨S1024x1x16x1, .f32⟩
  | 32 => ⟨S1024x1x16x512, .f32⟩
  | 33 => ⟨S1024x1x16x512, .f32⟩
  | 34 => ⟨S1024x1x16x512, .f32⟩
  | 35 => ⟨S_, .f32⟩
  | 36 => ⟨S1024x1x16, .f32⟩
  | 37 => ⟨S1024x1x16x1, .f32⟩
  | 38 => ⟨S1024x1x16x512, .f32⟩
  | 39 => ⟨S1024x1x16x512, .f32⟩
  | 40 => ⟨S1024x1x16x512, .i32⟩
  | 41 => ⟨S_, .f32⟩
  | 42 => ⟨S_, .i32⟩
  | 43 => ⟨S1024x1x16, .f32⟩
  | 44 => ⟨S1024x1x16, .i32⟩
  | 45 => ⟨S1024x1x16x1, .i32⟩
  | 46 => ⟨S1x1x1x512, .i32⟩
  | 47 => ⟨S1024x1x16x512, .i32⟩
  | 48 => ⟨S1024x1x16x512, .i32⟩
  | 49 => ⟨S1024x1x16x512, .i1⟩
  | 50 => ⟨S1024x1x16x512, .f32⟩
  | 51 => ⟨S1024x1x16x512, .f32⟩
  | 52 => ⟨S1024x1x16x512, .f32⟩
  | 53 => ⟨S1024x1x16x512, .i32⟩
  | 54 => ⟨S_, .f32⟩
  | 55 => ⟨S_, .i32⟩
  | 56 => ⟨S1024x1x16, .f32⟩
  | 57 => ⟨S1024x1x16, .i32⟩
  | 58 => ⟨S1024x8192, .f32⟩
  | 59 => ⟨S1024x8192, .f32⟩
  | 60 => ⟨S_, .f32⟩
  | 61 => ⟨S1024x8192, .f32⟩
  | 62 => ⟨S1024x8192, .f32⟩
  | 63 => ⟨S_, .f32⟩
  | 64 => ⟨S_, .f32⟩
  | 65 => ⟨S1024x8192, .f32⟩
  | 66 => ⟨S1024x8192, .i1⟩
  | 67 => ⟨S_, .f32⟩
  | 68 => ⟨S1024x8192, .f32⟩
  | 69 => ⟨S1024x8192, .f32⟩
  | 70 => ⟨S1024x8192, .f32⟩
  | 71 => ⟨S1024x1024, .f32⟩
  | 72 => ⟨S1x1024, .f32⟩
  | 73 => ⟨S1024x1024, .f32⟩
  | 74 => ⟨S1024x1024, .f32⟩
  | 75 => ⟨S_, .f32⟩
  | 76 => ⟨S_, .f32⟩
  | 77 => ⟨S1024x1024, .f32⟩
  | 78 => ⟨S1024x1024, .i1⟩
  | 79 => ⟨S_, .f32⟩
  | 80 => ⟨S1024x1024, .f32⟩
  | 81 => ⟨S1024x1024, .f32⟩
  | 82 => ⟨S1024x1024, .f32⟩
  | 83 => ⟨S1024x1024, .f32⟩
  | 84 => ⟨S1x1024, .f32⟩
  | 85 => ⟨S1024x1024, .f32⟩
  | 86 => ⟨S1024x1024, .f32⟩
  | 87 => ⟨S_, .f32⟩
  | 88 => ⟨S_, .f32⟩
  | 89 => ⟨S1024x1024, .f32⟩
  | 90 => ⟨S1024x1024, .i1⟩
  | 91 => ⟨S_, .f32⟩
  | 92 => ⟨S1024x1024, .f32⟩
  | 93 => ⟨S1024x1024, .f32⟩
  | 94 => ⟨S1024x1024, .f32⟩
  | 95 => ⟨S1024x1024, .f32⟩
  | 96 => ⟨S1x1024, .f32⟩
  | 97 => ⟨S1024x1024, .f32⟩
  | 98 => ⟨S1024x1024, .f32⟩
  | 99 => ⟨S_, .f32⟩
  | 100 => ⟨S_, .f32⟩
  | 101 => ⟨S1024x1024, .f32⟩
  | 102 => ⟨S1024x1024, .i1⟩
  | 103 => ⟨S_, .f32⟩
  | 104 => ⟨S1024x1024, .f32⟩
  | 105 => ⟨S1024x1024, .f32⟩
  | 106 => ⟨S1024x1024, .f32⟩
  | 107 => ⟨S1024x256, .f32⟩
  | 108 => ⟨S1x256, .f32⟩
  | 109 => ⟨S1024x256, .f32⟩
  | 110 => ⟨S1024x256, .f32⟩
  | _ => ⟨S1024x8x256, .f32⟩

abbrev hbmTy (i : Nat) : BufTy := match i / 128 with
  | 0 => hbmTy0_0 i
  | 1 => hbmTy0_1 i
  | 2 => hbmTy0_2 i
  | 3 => hbmTy0_3 i
  | _ => ⟨S1024x8x256, .f32⟩

abbrev bufTy : (tb : Table) → Fin (tcTables nBuf tb) → BufTy
  | .hbm, ⟨i, _⟩ => hbmTy i
  | _, _ => ⟨S1024x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_0 : Ref sig .tc := ⟨.hbm, 32, rfl⟩
abbrev main_cst_1 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v9 : Ref sig .tc := ⟨.hbm, 39, rfl⟩
abbrev main_v10 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst_3 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_4 : Ref sig .tc := ⟨.hbm, 55, rfl⟩
abbrev main_cst_5 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v21 : Ref sig .tc := ⟨.hbm, 62, rfl⟩
abbrev main_v22 : Ref sig .tc := ⟨.hbm, 63, rfl⟩
abbrev main_cst_6 : Ref sig .tc := ⟨.hbm, 64, rfl⟩
abbrev main_call3_v0 : Ref sig .tc := ⟨.hbm, 65, rfl⟩
abbrev main_call3_v1 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_cst_7 : Ref sig .tc := ⟨.hbm, 75, rfl⟩
abbrev main_call4_cst : Ref sig .tc := ⟨.hbm, 76, rfl⟩
abbrev main_call4_v0 : Ref sig .tc := ⟨.hbm, 77, rfl⟩
abbrev main_call4_v1 : Ref sig .tc := ⟨.hbm, 78, rfl⟩
abbrev main_call4_v2 : Ref sig .tc := ⟨.hbm, 79, rfl⟩
abbrev main_call4_v3 : Ref sig .tc := ⟨.hbm, 80, rfl⟩
abbrev main_call4_v4 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_cst_8 : Ref sig .tc := ⟨.hbm, 87, rfl⟩
abbrev main_call5_cst : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_cst_9 : Ref sig .tc := ⟨.hbm, 99, rfl⟩
abbrev main_call6_cst : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_v41 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_c : Ref sig .tc := ⟨.hbm, 112, rfl⟩
abbrev main_c_10 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_c_11 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_cst_12 : Ref sig .tc := ⟨.hbm, 122, rfl⟩
abbrev main_cst_13 : Ref sig .tc := ⟨.hbm, 123, rfl⟩
abbrev main_call7_v0 : Ref sig .tc := ⟨.hbm, 124, rfl⟩
abbrev main_call7_v1 : Ref sig .tc := ⟨.hbm, 125, rfl⟩
abbrev main_call7_v2 : Ref sig .tc := ⟨.hbm, 126, rfl⟩
abbrev main_call7_v3 : Ref sig .tc := ⟨.hbm, 127, rfl⟩
abbrev main_call7_v4 : Ref sig .tc := ⟨.hbm, 128, rfl⟩
abbrev main_call7_v5 : Ref sig .tc := ⟨.hbm, 129, rfl⟩
abbrev main_call7_v6 : Ref sig .tc := ⟨.hbm, 130, rfl⟩
abbrev main_call7_v7 : Ref sig .tc := ⟨.hbm, 131, rfl⟩
abbrev main_call7_v8 : Ref sig .tc := ⟨.hbm, 132, rfl⟩
abbrev main_call7_v9 : Ref sig .tc := ⟨.hbm, 133, rfl⟩
abbrev main_call7_v10 : Ref sig .tc := ⟨.hbm, 134, rfl⟩
abbrev main_call7_v11 : Ref sig .tc := ⟨.hbm, 135, rfl⟩
abbrev main_call7_c : Ref sig .tc := ⟨.hbm, 136, rfl⟩
abbrev main_call7_v12 : Ref sig .tc := ⟨.hbm, 137, rfl⟩
abbrev main_call7_v13 : Ref sig .tc := ⟨.hbm, 138, rfl⟩
abbrev main_call7_c_0 : Ref sig .tc := ⟨.hbm, 139, rfl⟩
abbrev main_call7_v14 : Ref sig .tc := ⟨.hbm, 140, rfl⟩
abbrev main_call7_v15 : Ref sig .tc := ⟨.hbm, 141, rfl⟩
abbrev main_call7_c_1 : Ref sig .tc := ⟨.hbm, 142, rfl⟩
abbrev main_call7_v16 : Ref sig .tc := ⟨.hbm, 143, rfl⟩
abbrev main_call7_v17 : Ref sig .tc := ⟨.hbm, 144, rfl⟩
abbrev main_call7_c_2 : Ref sig .tc := ⟨.hbm, 145, rfl⟩
abbrev main_call7_v18 : Ref sig .tc := ⟨.hbm, 146, rfl⟩
abbrev main_call7_v19 : Ref sig .tc := ⟨.hbm, 147, rfl⟩
abbrev main_call7_v20 : Ref sig .tc := ⟨.hbm, 148, rfl⟩
abbrev main_call7_v21 : Ref sig .tc := ⟨.hbm, 149, rfl⟩
abbrev main_call7_v22 : Ref sig .tc := ⟨.hbm, 150, rfl⟩
abbrev main_call7_c_3 : Ref sig .tc := ⟨.hbm, 151, rfl⟩
abbrev main_call7_v23 : Ref sig .tc := ⟨.hbm, 152, rfl⟩
abbrev main_call7_v24 : Ref sig .tc := ⟨.hbm, 153, rfl⟩
abbrev main_call7_v25 : Ref sig .tc := ⟨.hbm, 154, rfl⟩
abbrev main_call7_v26 : Ref sig .tc := ⟨.hbm, 155, rfl⟩
abbrev main_call7_call0_v0 : Ref sig .tc := ⟨.hbm, 156, rfl⟩
abbrev main_call7_call0_c : Ref sig .tc := ⟨.hbm, 157, rfl⟩
abbrev main_call7_call0_v1 : Ref sig .tc := ⟨.hbm, 158, rfl⟩
abbrev main_call7_call0_v2 : Ref sig .tc := ⟨.hbm, 159, rfl⟩
abbrev main_call7_call0_v3 : Ref sig .tc := ⟨.hbm, 160, rfl⟩
abbrev main_call7_call0_v4 : Ref sig .tc := ⟨.hbm, 161, rfl⟩
abbrev main_call7_call0_v5 : Ref sig .tc := ⟨.hbm, 162, rfl⟩
abbrev main_call7_call0_v6 : Ref sig .tc := ⟨.hbm, 163, rfl⟩
abbrev main_call7_call0_c_0 : Ref sig .tc := ⟨.hbm, 164, rfl⟩
abbrev main_call7_call0_v7 : Ref sig .tc := ⟨.hbm, 165, rfl⟩
abbrev main_call7_call0_v8 : Ref sig .tc := ⟨.hbm, 166, rfl⟩
abbrev main_call7_call0_c_1 : Ref sig .tc := ⟨.hbm, 167, rfl⟩
abbrev main_call7_call0_v9 : Ref sig .tc := ⟨.hbm, 168, rfl⟩
abbrev main_call7_call0_v10 : Ref sig .tc := ⟨.hbm, 169, rfl⟩
abbrev main_call7_call0_v11 : Ref sig .tc := ⟨.hbm, 170, rfl⟩
abbrev main_call7_call0_v12 : Ref sig .tc := ⟨.hbm, 171, rfl⟩
abbrev main_call7_call0_v13 : Ref sig .tc := ⟨.hbm, 172, rfl⟩
abbrev main_call7_call0_c_2 : Ref sig .tc := ⟨.hbm, 173, rfl⟩
abbrev main_call7_call0_v14 : Ref sig .tc := ⟨.hbm, 174, rfl⟩
abbrev main_call7_call0_v15 : Ref sig .tc := ⟨.hbm, 175, rfl⟩
abbrev main_call7_call0_c_3 : Ref sig .tc := ⟨.hbm, 176, rfl⟩
abbrev main_call7_call0_v16 : Ref sig .tc := ⟨.hbm, 177, rfl⟩
abbrev main_call7_call0_v17 : Ref sig .tc := ⟨.hbm, 178, rfl⟩
abbrev main_call7_call0_v18 : Ref sig .tc := ⟨.hbm, 179, rfl⟩
abbrev main_call7_call0_v19 : Ref sig .tc := ⟨.hbm, 180, rfl⟩
abbrev main_call7_call0_v20 : Ref sig .tc := ⟨.hbm, 181, rfl⟩
abbrev main_call7_call0_c_4 : Ref sig .tc := ⟨.hbm, 182, rfl⟩
abbrev main_call7_call0_v21 : Ref sig .tc := ⟨.hbm, 183, rfl⟩
abbrev main_call7_call0_v22 : Ref sig .tc := ⟨.hbm, 184, rfl⟩
abbrev main_call7_call0_c_5 : Ref sig .tc := ⟨.hbm, 185, rfl⟩
abbrev main_call7_call0_v23 : Ref sig .tc := ⟨.hbm, 186, rfl⟩
abbrev main_call7_call0_v24 : Ref sig .tc := ⟨.hbm, 187, rfl⟩
abbrev main_call7_call0_v25 : Ref sig .tc := ⟨.hbm, 188, rfl⟩
abbrev main_call7_call0_v26 : Ref sig .tc := ⟨.hbm, 189, rfl⟩
abbrev main_call7_call0_v27 : Ref sig .tc := ⟨.hbm, 190, rfl⟩
abbrev main_call7_call0_c_6 : Ref sig .tc := ⟨.hbm, 191, rfl⟩
abbrev main_call7_call0_v28 : Ref sig .tc := ⟨.hbm, 192, rfl⟩
abbrev main_call7_call0_v29 : Ref sig .tc := ⟨.hbm, 193, rfl⟩
abbrev main_call7_call0_c_7 : Ref sig .tc := ⟨.hbm, 194, rfl⟩
abbrev main_call7_call0_v30 : Ref sig .tc := ⟨.hbm, 195, rfl⟩
abbrev main_call7_call0_v31 : Ref sig .tc := ⟨.hbm, 196, rfl⟩
abbrev main_call7_call0_v32 : Ref sig .tc := ⟨.hbm, 197, rfl⟩
abbrev main_call7_call0_v33 : Ref sig .tc := ⟨.hbm, 198, rfl⟩
abbrev main_call7_call0_v34 : Ref sig .tc := ⟨.hbm, 199, rfl⟩
abbrev main_call7_call0_v35 : Ref sig .tc := ⟨.hbm, 200, rfl⟩
abbrev main_call7_call0_v36 : Ref sig .tc := ⟨.hbm, 201, rfl⟩
abbrev main_call7_call0_v37 : Ref sig .tc := ⟨.hbm, 202, rfl⟩
abbrev main_call7_call0_c_8 : Ref sig .tc := ⟨.hbm, 203, rfl⟩
abbrev main_call7_call0_v38 : Ref sig .tc := ⟨.hbm, 204, rfl⟩
abbrev main_call7_call0_v39 : Ref sig .tc := ⟨.hbm, 205, rfl⟩
abbrev main_call7_call0_v40 : Ref sig .tc := ⟨.hbm, 206, rfl⟩
abbrev main_call7_call0_c_9 : Ref sig .tc := ⟨.hbm, 207, rfl⟩
abbrev main_call7_call0_v41 : Ref sig .tc := ⟨.hbm, 208, rfl⟩
abbrev main_call7_call0_v42 : Ref sig .tc := ⟨.hbm, 209, rfl⟩
abbrev main_call7_call0_c_10 : Ref sig .tc := ⟨.hbm, 210, rfl⟩
abbrev main_call7_call0_v43 : Ref sig .tc := ⟨.hbm, 211, rfl⟩
abbrev main_call7_call0_v44 : Ref sig .tc := ⟨.hbm, 212, rfl⟩
abbrev main_call7_call0_v45 : Ref sig .tc := ⟨.hbm, 213, rfl⟩
abbrev main_call7_call0_v46 : Ref sig .tc := ⟨.hbm, 214, rfl⟩
abbrev main_call7_call0_v47 : Ref sig .tc := ⟨.hbm, 215, rfl⟩
abbrev main_call7_call0_c_11 : Ref sig .tc := ⟨.hbm, 216, rfl⟩
abbrev main_call7_call0_v48 : Ref sig .tc := ⟨.hbm, 217, rfl⟩
abbrev main_call7_call0_v49 : Ref sig .tc := ⟨.hbm, 218, rfl⟩
abbrev main_call7_call0_c_12 : Ref sig .tc := ⟨.hbm, 219, rfl⟩
abbrev main_call7_call0_v50 : Ref sig .tc := ⟨.hbm, 220, rfl⟩
abbrev main_call7_call0_v51 : Ref sig .tc := ⟨.hbm, 221, rfl⟩
abbrev main_call7_call0_v52 : Ref sig .tc := ⟨.hbm, 222, rfl⟩
abbrev main_call7_call0_v53 : Ref sig .tc := ⟨.hbm, 223, rfl⟩
abbrev main_call7_call0_v54 : Ref sig .tc := ⟨.hbm, 224, rfl⟩
abbrev main_call7_call0_c_13 : Ref sig .tc := ⟨.hbm, 225, rfl⟩
abbrev main_call7_call0_v55 : Ref sig .tc := ⟨.hbm, 226, rfl⟩
abbrev main_call7_call0_v56 : Ref sig .tc := ⟨.hbm, 227, rfl⟩
abbrev main_call7_call0_c_14 : Ref sig .tc := ⟨.hbm, 228, rfl⟩
abbrev main_call7_call0_v57 : Ref sig .tc := ⟨.hbm, 229, rfl⟩
abbrev main_call7_call0_v58 : Ref sig .tc := ⟨.hbm, 230, rfl⟩
abbrev main_call7_call0_v59 : Ref sig .tc := ⟨.hbm, 231, rfl⟩
abbrev main_call7_call0_v60 : Ref sig .tc := ⟨.hbm, 232, rfl⟩
abbrev main_call7_call0_v61 : Ref sig .tc := ⟨.hbm, 233, rfl⟩
abbrev main_call7_call0_c_15 : Ref sig .tc := ⟨.hbm, 234, rfl⟩
abbrev main_call7_call0_v62 : Ref sig .tc := ⟨.hbm, 235, rfl⟩
abbrev main_call7_call0_v63 : Ref sig .tc := ⟨.hbm, 236, rfl⟩
abbrev main_call7_call0_c_16 : Ref sig .tc := ⟨.hbm, 237, rfl⟩
abbrev main_call7_call0_v64 : Ref sig .tc := ⟨.hbm, 238, rfl⟩
abbrev main_call7_call0_v65 : Ref sig .tc := ⟨.hbm, 239, rfl⟩
abbrev main_call7_call0_v66 : Ref sig .tc := ⟨.hbm, 240, rfl⟩
abbrev main_call7_call0_v67 : Ref sig .tc := ⟨.hbm, 241, rfl⟩
abbrev main_call7_call0_v68 : Ref sig .tc := ⟨.hbm, 242, rfl⟩
abbrev main_call7_call0_v69 : Ref sig .tc := ⟨.hbm, 243, rfl⟩
abbrev main_call7_call0_v70 : Ref sig .tc := ⟨.hbm, 244, rfl⟩
abbrev main_call7_call0_v71 : Ref sig .tc := ⟨.hbm, 245, rfl⟩
abbrev main_call7_call0_c_17 : Ref sig .tc := ⟨.hbm, 246, rfl⟩
abbrev main_call7_call0_v72 : Ref sig .tc := ⟨.hbm, 247, rfl⟩
abbrev main_call7_call0_v73 : Ref sig .tc := ⟨.hbm, 248, rfl⟩
abbrev main_call7_call0_v74 : Ref sig .tc := ⟨.hbm, 249, rfl⟩
abbrev main_call7_call0_c_18 : Ref sig .tc := ⟨.hbm, 250, rfl⟩
abbrev main_call7_call0_v75 : Ref sig .tc := ⟨.hbm, 251, rfl⟩
abbrev main_call7_call0_v76 : Ref sig .tc := ⟨.hbm, 252, rfl⟩
abbrev main_call7_call0_c_19 : Ref sig .tc := ⟨.hbm, 253, rfl⟩
abbrev main_call7_call0_v77 : Ref sig .tc := ⟨.hbm, 254, rfl⟩
abbrev main_call7_call0_v78 : Ref sig .tc := ⟨.hbm, 255, rfl⟩
abbrev main_call7_call0_v79 : Ref sig .tc := ⟨.hbm, 256, rfl⟩
abbrev main_call7_call0_v80 : Ref sig .tc := ⟨.hbm, 257, rfl⟩
abbrev main_call7_call0_v81 : Ref sig .tc := ⟨.hbm, 258, rfl⟩
abbrev main_call7_call0_c_20 : Ref sig .tc := ⟨.hbm, 259, rfl⟩
abbrev main_call7_call0_v82 : Ref sig .tc := ⟨.hbm, 260, rfl⟩
abbrev main_call7_call0_v83 : Ref sig .tc := ⟨.hbm, 261, rfl⟩
abbrev main_call7_call0_c_21 : Ref sig .tc := ⟨.hbm, 262, rfl⟩
abbrev main_call7_call0_v84 : Ref sig .tc := ⟨.hbm, 263, rfl⟩
abbrev main_call7_call0_v85 : Ref sig .tc := ⟨.hbm, 264, rfl⟩
abbrev main_call7_call0_v86 : Ref sig .tc := ⟨.hbm, 265, rfl⟩
abbrev main_call7_call0_v87 : Ref sig .tc := ⟨.hbm, 266, rfl⟩
abbrev main_call7_call0_v88 : Ref sig .tc := ⟨.hbm, 267, rfl⟩
abbrev main_call7_call0_c_22 : Ref sig .tc := ⟨.hbm, 268, rfl⟩
abbrev main_call7_call0_v89 : Ref sig .tc := ⟨.hbm, 269, rfl⟩
abbrev main_call7_call0_v90 : Ref sig .tc := ⟨.hbm, 270, rfl⟩
abbrev main_call7_call0_c_23 : Ref sig .tc := ⟨.hbm, 271, rfl⟩
abbrev main_call7_call0_v91 : Ref sig .tc := ⟨.hbm, 272, rfl⟩
abbrev main_call7_call0_v92 : Ref sig .tc := ⟨.hbm, 273, rfl⟩
abbrev main_call7_call0_v93 : Ref sig .tc := ⟨.hbm, 274, rfl⟩
abbrev main_call7_call0_v94 : Ref sig .tc := ⟨.hbm, 275, rfl⟩
abbrev main_call7_call0_v95 : Ref sig .tc := ⟨.hbm, 276, rfl⟩
abbrev main_call7_call0_c_24 : Ref sig .tc := ⟨.hbm, 277, rfl⟩
abbrev main_call7_call0_v96 : Ref sig .tc := ⟨.hbm, 278, rfl⟩
abbrev main_call7_call0_v97 : Ref sig .tc := ⟨.hbm, 279, rfl⟩
abbrev main_call7_call0_c_25 : Ref sig .tc := ⟨.hbm, 280, rfl⟩
abbrev main_call7_call0_v98 : Ref sig .tc := ⟨.hbm, 281, rfl⟩
abbrev main_call7_call0_v99 : Ref sig .tc := ⟨.hbm, 282, rfl⟩
abbrev main_call7_call0_v100 : Ref sig .tc := ⟨.hbm, 283, rfl⟩
abbrev main_call7_call0_v101 : Ref sig .tc := ⟨.hbm, 284, rfl⟩
abbrev main_call7_call0_v102 : Ref sig .tc := ⟨.hbm, 285, rfl⟩
abbrev main_call7_call0_v103 : Ref sig .tc := ⟨.hbm, 286, rfl⟩
abbrev main_call7_call0_v104 : Ref sig .tc := ⟨.hbm, 287, rfl⟩
abbrev main_call7_call0_v105 : Ref sig .tc := ⟨.hbm, 288, rfl⟩
abbrev main_call7_call0_c_26 : Ref sig .tc := ⟨.hbm, 289, rfl⟩
abbrev main_call7_call0_v106 : Ref sig .tc := ⟨.hbm, 290, rfl⟩
abbrev main_call7_call0_v107 : Ref sig .tc := ⟨.hbm, 291, rfl⟩
abbrev main_call7_call0_v108 : Ref sig .tc := ⟨.hbm, 292, rfl⟩
abbrev main_call7_call0_c_27 : Ref sig .tc := ⟨.hbm, 293, rfl⟩
abbrev main_call7_call0_v109 : Ref sig .tc := ⟨.hbm, 294, rfl⟩
abbrev main_call7_call0_v110 : Ref sig .tc := ⟨.hbm, 295, rfl⟩
abbrev main_call7_call0_c_28 : Ref sig .tc := ⟨.hbm, 296, rfl⟩
abbrev main_call7_call0_v111 : Ref sig .tc := ⟨.hbm, 297, rfl⟩
abbrev main_call7_call0_v112 : Ref sig .tc := ⟨.hbm, 298, rfl⟩
abbrev main_call7_call0_v113 : Ref sig .tc := ⟨.hbm, 299, rfl⟩
abbrev main_call7_call0_v114 : Ref sig .tc := ⟨.hbm, 300, rfl⟩
abbrev main_call7_call0_v115 : Ref sig .tc := ⟨.hbm, 301, rfl⟩
abbrev main_call7_call0_c_29 : Ref sig .tc := ⟨.hbm, 302, rfl⟩
abbrev main_call7_call0_v116 : Ref sig .tc := ⟨.hbm, 303, rfl⟩
abbrev main_call7_call0_v117 : Ref sig .tc := ⟨.hbm, 304, rfl⟩
abbrev main_call7_call0_c_30 : Ref sig .tc := ⟨.hbm, 305, rfl⟩
abbrev main_call7_call0_v118 : Ref sig .tc := ⟨.hbm, 306, rfl⟩
abbrev main_call7_call0_v119 : Ref sig .tc := ⟨.hbm, 307, rfl⟩
abbrev main_call7_call0_v120 : Ref sig .tc := ⟨.hbm, 308, rfl⟩
abbrev main_call7_call0_v121 : Ref sig .tc := ⟨.hbm, 309, rfl⟩
abbrev main_call7_call0_v122 : Ref sig .tc := ⟨.hbm, 310, rfl⟩
abbrev main_call7_call0_c_31 : Ref sig .tc := ⟨.hbm, 311, rfl⟩
abbrev main_call7_call0_v123 : Ref sig .tc := ⟨.hbm, 312, rfl⟩
abbrev main_call7_call0_v124 : Ref sig .tc := ⟨.hbm, 313, rfl⟩
abbrev main_call7_call0_c_32 : Ref sig .tc := ⟨.hbm, 314, rfl⟩
abbrev main_call7_call0_v125 : Ref sig .tc := ⟨.hbm, 315, rfl⟩
abbrev main_call7_call0_v126 : Ref sig .tc := ⟨.hbm, 316, rfl⟩
abbrev main_call7_call0_v127 : Ref sig .tc := ⟨.hbm, 317, rfl⟩
abbrev main_call7_call0_v128 : Ref sig .tc := ⟨.hbm, 318, rfl⟩
abbrev main_call7_call0_v129 : Ref sig .tc := ⟨.hbm, 319, rfl⟩
abbrev main_call7_call0_c_33 : Ref sig .tc := ⟨.hbm, 320, rfl⟩
abbrev main_call7_call0_v130 : Ref sig .tc := ⟨.hbm, 321, rfl⟩
abbrev main_call7_call0_v131 : Ref sig .tc := ⟨.hbm, 322, rfl⟩
abbrev main_call7_call0_c_34 : Ref sig .tc := ⟨.hbm, 323, rfl⟩
abbrev main_call7_call0_v132 : Ref sig .tc := ⟨.hbm, 324, rfl⟩
abbrev main_call7_call0_v133 : Ref sig .tc := ⟨.hbm, 325, rfl⟩
abbrev main_call7_call0_v134 : Ref sig .tc := ⟨.hbm, 326, rfl⟩
abbrev main_call7_call0_v135 : Ref sig .tc := ⟨.hbm, 327, rfl⟩
abbrev main_call7_call0_v136 : Ref sig .tc := ⟨.hbm, 328, rfl⟩
abbrev main_call7_call0_v137 : Ref sig .tc := ⟨.hbm, 329, rfl⟩
abbrev main_call7_call0_v138 : Ref sig .tc := ⟨.hbm, 330, rfl⟩
abbrev main_call7_call0_v139 : Ref sig .tc := ⟨.hbm, 331, rfl⟩
abbrev main_call7_call0_c_35 : Ref sig .tc := ⟨.hbm, 332, rfl⟩
abbrev main_call7_call0_v140 : Ref sig .tc := ⟨.hbm, 333, rfl⟩
abbrev main_call7_call0_v141 : Ref sig .tc := ⟨.hbm, 334, rfl⟩
abbrev main_call7_call0_v142 : Ref sig .tc := ⟨.hbm, 335, rfl⟩
abbrev main_call7_call0_c_36 : Ref sig .tc := ⟨.hbm, 336, rfl⟩
abbrev main_call7_call0_v143 : Ref sig .tc := ⟨.hbm, 337, rfl⟩
abbrev main_call7_call0_v144 : Ref sig .tc := ⟨.hbm, 338, rfl⟩
abbrev main_call7_call0_c_37 : Ref sig .tc := ⟨.hbm, 339, rfl⟩
abbrev main_call7_call0_v145 : Ref sig .tc := ⟨.hbm, 340, rfl⟩
abbrev main_call7_call0_v146 : Ref sig .tc := ⟨.hbm, 341, rfl⟩
abbrev main_call7_call0_v147 : Ref sig .tc := ⟨.hbm, 342, rfl⟩
abbrev main_call7_call0_v148 : Ref sig .tc := ⟨.hbm, 343, rfl⟩
abbrev main_call7_call0_v149 : Ref sig .tc := ⟨.hbm, 344, rfl⟩
abbrev main_call7_call0_c_38 : Ref sig .tc := ⟨.hbm, 345, rfl⟩
abbrev main_call7_call0_v150 : Ref sig .tc := ⟨.hbm, 346, rfl⟩
abbrev main_call7_call0_v151 : Ref sig .tc := ⟨.hbm, 347, rfl⟩
abbrev main_call7_call0_c_39 : Ref sig .tc := ⟨.hbm, 348, rfl⟩
abbrev main_call7_call0_v152 : Ref sig .tc := ⟨.hbm, 349, rfl⟩
abbrev main_call7_call0_v153 : Ref sig .tc := ⟨.hbm, 350, rfl⟩
abbrev main_call7_call0_v154 : Ref sig .tc := ⟨.hbm, 351, rfl⟩
abbrev main_call7_call0_v155 : Ref sig .tc := ⟨.hbm, 352, rfl⟩
abbrev main_call7_call0_v156 : Ref sig .tc := ⟨.hbm, 353, rfl⟩
abbrev main_call7_call0_c_40 : Ref sig .tc := ⟨.hbm, 354, rfl⟩
abbrev main_call7_call0_v157 : Ref sig .tc := ⟨.hbm, 355, rfl⟩
abbrev main_call7_call0_v158 : Ref sig .tc := ⟨.hbm, 356, rfl⟩
abbrev main_call7_call0_c_41 : Ref sig .tc := ⟨.hbm, 357, rfl⟩
abbrev main_call7_call0_v159 : Ref sig .tc := ⟨.hbm, 358, rfl⟩
abbrev main_call7_call0_v160 : Ref sig .tc := ⟨.hbm, 359, rfl⟩
abbrev main_call7_call0_v161 : Ref sig .tc := ⟨.hbm, 360, rfl⟩
abbrev main_call7_call0_v162 : Ref sig .tc := ⟨.hbm, 361, rfl⟩
abbrev main_call7_call0_v163 : Ref sig .tc := ⟨.hbm, 362, rfl⟩
abbrev main_call7_call0_c_42 : Ref sig .tc := ⟨.hbm, 363, rfl⟩
abbrev main_call7_call0_v164 : Ref sig .tc := ⟨.hbm, 364, rfl⟩
abbrev main_call7_call0_v165 : Ref sig .tc := ⟨.hbm, 365, rfl⟩
abbrev main_call7_call0_c_43 : Ref sig .tc := ⟨.hbm, 366, rfl⟩
abbrev main_call7_call0_v166 : Ref sig .tc := ⟨.hbm, 367, rfl⟩
abbrev main_call7_call0_v167 : Ref sig .tc := ⟨.hbm, 368, rfl⟩
abbrev main_call7_call0_v168 : Ref sig .tc := ⟨.hbm, 369, rfl⟩
abbrev main_call7_call0_v169 : Ref sig .tc := ⟨.hbm, 370, rfl⟩
abbrev main_call7_call0_v170 : Ref sig .tc := ⟨.hbm, 371, rfl⟩
abbrev main_call7_v27_0 : Ref sig .tc := ⟨.hbm, 372, rfl⟩
abbrev main_call7_call0_v172 : Ref sig .tc := ⟨.hbm, 373, rfl⟩
abbrev main_call7_call0_v173 : Ref sig .tc := ⟨.hbm, 374, rfl⟩
abbrev main_call7_call0_c_44 : Ref sig .tc := ⟨.hbm, 375, rfl⟩
abbrev main_call7_call0_v174 : Ref sig .tc := ⟨.hbm, 376, rfl⟩
abbrev main_call7_v27_1 : Ref sig .tc := ⟨.hbm, 377, rfl⟩
abbrev main_call7_v28 : Ref sig .tc := ⟨.hbm, 378, rfl⟩
abbrev main_call7_c_4 : Ref sig .tc := ⟨.hbm, 379, rfl⟩
abbrev main_call7_v29 : Ref sig .tc := ⟨.hbm, 380, rfl⟩
abbrev main_call7_v30 : Ref sig .tc := ⟨.hbm, 381, rfl⟩
abbrev main_call7_c_5 : Ref sig .tc := ⟨.hbm, 382, rfl⟩
abbrev main_call7_v31 : Ref sig .tc := ⟨.hbm, 383, rfl⟩
abbrev main_call7_v32 : Ref sig .tc := ⟨.hbm, 384, rfl⟩
abbrev main_call7_v33 : Ref sig .tc := ⟨.hbm, 385, rfl⟩
abbrev main_call7_cst : Ref sig .tc := ⟨.hbm, 386, rfl⟩
abbrev main_call7_v34 : Ref sig .tc := ⟨.hbm, 387, rfl⟩
abbrev main_call7_v35 : Ref sig .tc := ⟨.hbm, 388, rfl⟩
abbrev main_call7_v36 : Ref sig .tc := ⟨.hbm, 389, rfl⟩
abbrev main_call7_v37 : Ref sig .tc := ⟨.hbm, 390, rfl⟩
abbrev main_call7_v38 : Ref sig .tc := ⟨.hbm, 391, rfl⟩
abbrev main_call7_v39 : Ref sig .tc := ⟨.hbm, 392, rfl⟩
abbrev main_call7_v40 : Ref sig .tc := ⟨.hbm, 393, rfl⟩
abbrev main_call7_v41 : Ref sig .tc := ⟨.hbm, 394, rfl⟩
abbrev main_v54 : Ref sig .tc := ⟨.hbm, 395, rfl⟩
abbrev main_cst_14 : Ref sig .tc := ⟨.hbm, 396, rfl⟩
abbrev main_v55 : Ref sig .tc := ⟨.hbm, 397, rfl⟩
abbrev main_v56 : Ref sig .tc := ⟨.hbm, 398, rfl⟩
abbrev main_v57 : Ref sig .tc := ⟨.hbm, 399, rfl⟩
abbrev main_v58 : Ref sig .tc := ⟨.hbm, 400, rfl⟩
abbrev main_cst_15 : Ref sig .tc := ⟨.hbm, 401, rfl⟩
abbrev main_v59 : Ref sig .tc := ⟨.hbm, 402, rfl⟩
abbrev main_v60 : Ref sig .tc := ⟨.hbm, 403, rfl⟩
abbrev main_v61 : Ref sig .tc := ⟨.hbm, 404, rfl⟩
abbrev main_v62 : Ref sig .tc := ⟨.hbm, 405, rfl⟩
abbrev main_v63 : Ref sig .tc := ⟨.hbm, 406, rfl⟩
abbrev main_cst_16 : Ref sig .tc := ⟨.hbm, 407, rfl⟩
abbrev main_v64 : Ref sig .tc := ⟨.hbm, 408, rfl⟩
abbrev main_v65 : Ref sig .tc := ⟨.hbm, 409, rfl⟩
abbrev main_cst_17 : Ref sig .tc := ⟨.hbm, 410, rfl⟩
abbrev main_v66 : Ref sig .tc := ⟨.hbm, 411, rfl⟩
abbrev main_cst_18 : Ref sig .tc := ⟨.hbm, 412, rfl⟩
abbrev main_v67 : Ref sig .tc := ⟨.hbm, 413, rfl⟩
abbrev main_v68 : Ref sig .tc := ⟨.hbm, 414, rfl⟩
abbrev main_v69 : Ref sig .tc := ⟨.hbm, 415, rfl⟩
abbrev main_v70 : Ref sig .tc := ⟨.hbm, 416, rfl⟩
abbrev main_v71 : Ref sig .tc := ⟨.hbm, 417, rfl⟩
abbrev main_v72 : Ref sig .tc := ⟨.hbm, 418, rfl⟩
abbrev main_cst_19 : Ref sig .tc := ⟨.hbm, 419, rfl⟩
abbrev main_v73 : Ref sig .tc := ⟨.hbm, 420, rfl⟩
abbrev main_v74 : Ref sig .tc := ⟨.hbm, 421, rfl⟩
abbrev main_v75 : Ref sig .tc := ⟨.hbm, 422, rfl⟩
abbrev main_v76 : Ref sig .tc := ⟨.hbm, 423, rfl⟩
abbrev main_call8_v0 : Ref sig .tc := ⟨.hbm, 424, rfl⟩
abbrev main_call8_cst : Ref sig .tc := ⟨.hbm, 425, rfl⟩
abbrev main_call8_c : Ref sig .tc := ⟨.hbm, 426, rfl⟩
abbrev main_call8_v1_0 : Ref sig .tc := ⟨.hbm, 427, rfl⟩
abbrev main_v77 : Ref sig .tc := ⟨.hbm, 428, rfl⟩
abbrev main_call9_v0 : Ref sig .tc := ⟨.hbm, 429, rfl⟩
abbrev main_call9_v1 : Ref sig .tc := ⟨.hbm, 430, rfl⟩
abbrev main_call9_v2 : Ref sig .tc := ⟨.hbm, 431, rfl⟩
abbrev main_call9_v3 : Ref sig .tc := ⟨.hbm, 432, rfl⟩
abbrev main_call9_v4 : Ref sig .tc := ⟨.hbm, 433, rfl⟩
abbrev main_v78 : Ref sig .tc := ⟨.hbm, 434, rfl⟩
abbrev main_v79 : Ref sig .tc := ⟨.hbm, 435, rfl⟩
abbrev main_v80 : Ref sig .tc := ⟨.hbm, 436, rfl⟩
abbrev main_call10_v0 : Ref sig .tc := ⟨.hbm, 437, rfl⟩
abbrev main_call10_cst : Ref sig .tc := ⟨.hbm, 438, rfl⟩
abbrev main_call10_c : Ref sig .tc := ⟨.hbm, 439, rfl⟩
abbrev main_call10_v1_0 : Ref sig .tc := ⟨.hbm, 440, rfl⟩
abbrev main_v81 : Ref sig .tc := ⟨.hbm, 441, rfl⟩
abbrev main_v82 : Ref sig .tc := ⟨.hbm, 442, rfl⟩
abbrev main_v83 : Ref sig .tc := ⟨.hbm, 443, rfl⟩
abbrev main_cst_20 : Ref sig .tc := ⟨.hbm, 444, rfl⟩
abbrev main_v84 : Ref sig .tc := ⟨.hbm, 445, rfl⟩
abbrev main_v85 : Ref sig .tc := ⟨.hbm, 446, rfl⟩
abbrev main_cst_21 : Ref sig .tc := ⟨.hbm, 447, rfl⟩
abbrev main_call11_cst : Ref sig .tc := ⟨.hbm, 448, rfl⟩
abbrev main_call11_v0 : Ref sig .tc := ⟨.hbm, 449, rfl⟩
abbrev main_call11_v1 : Ref sig .tc := ⟨.hbm, 450, rfl⟩
abbrev main_call11_v2 : Ref sig .tc := ⟨.hbm, 451, rfl⟩
abbrev main_call11_v3 : Ref sig .tc := ⟨.hbm, 452, rfl⟩
abbrev main_call11_v4 : Ref sig .tc := ⟨.hbm, 453, rfl⟩
abbrev main_v86 : Ref sig .tc := ⟨.hbm, 454, rfl⟩
abbrev main_v87 : Ref sig .tc := ⟨.hbm, 455, rfl⟩
abbrev main_v88 : Ref sig .tc := ⟨.hbm, 456, rfl⟩
abbrev main_v89 : Ref sig .tc := ⟨.hbm, 457, rfl⟩
abbrev main_v90 : Ref sig .tc := ⟨.hbm, 458, rfl⟩
abbrev main_cst_22 : Ref sig .tc := ⟨.hbm, 459, rfl⟩
abbrev main_call12_cst : Ref sig .tc := ⟨.hbm, 460, rfl⟩
abbrev main_call12_v0 : Ref sig .tc := ⟨.hbm, 461, rfl⟩
abbrev main_call12_v1 : Ref sig .tc := ⟨.hbm, 462, rfl⟩
abbrev main_call12_v2 : Ref sig .tc := ⟨.hbm, 463, rfl⟩
abbrev main_call12_v3 : Ref sig .tc := ⟨.hbm, 464, rfl⟩
abbrev main_call12_v4 : Ref sig .tc := ⟨.hbm, 465, rfl⟩
abbrev main_v91 : Ref sig .tc := ⟨.hbm, 466, rfl⟩
abbrev main_v92 : Ref sig .tc := ⟨.hbm, 467, rfl⟩
abbrev main_v93 : Ref sig .tc := ⟨.hbm, 468, rfl⟩
abbrev main_v94 : Ref sig .tc := ⟨.hbm, 469, rfl⟩
abbrev main_v95 : Ref sig .tc := ⟨.hbm, 470, rfl⟩
abbrev main_cst_23 : Ref sig .tc := ⟨.hbm, 471, rfl⟩
abbrev main_call13_cst : Ref sig .tc := ⟨.hbm, 472, rfl⟩
abbrev main_call13_v0 : Ref sig .tc := ⟨.hbm, 473, rfl⟩
abbrev main_call13_v1 : Ref sig .tc := ⟨.hbm, 474, rfl⟩
abbrev main_call13_v2 : Ref sig .tc := ⟨.hbm, 475, rfl⟩
abbrev main_call13_v3 : Ref sig .tc := ⟨.hbm, 476, rfl⟩
abbrev main_call13_v4 : Ref sig .tc := ⟨.hbm, 477, rfl⟩
abbrev main_v96 : Ref sig .tc := ⟨.hbm, 478, rfl⟩
abbrev main_v97 : Ref sig .tc := ⟨.hbm, 479, rfl⟩
abbrev main_v98 : Ref sig .tc := ⟨.hbm, 480, rfl⟩
abbrev main_v99 : Ref sig .tc := ⟨.hbm, 481, rfl⟩
abbrev main_v100 : Ref sig .tc := ⟨.hbm, 482, rfl⟩
abbrev main_cst_24 : Ref sig .tc := ⟨.hbm, 483, rfl⟩
abbrev main_call14_cst : Ref sig .tc := ⟨.hbm, 484, rfl⟩
abbrev main_call14_v0 : Ref sig .tc := ⟨.hbm, 485, rfl⟩
abbrev main_call14_v1 : Ref sig .tc := ⟨.hbm, 486, rfl⟩
abbrev main_call14_v2 : Ref sig .tc := ⟨.hbm, 487, rfl⟩
abbrev main_call14_v3 : Ref sig .tc := ⟨.hbm, 488, rfl⟩
abbrev main_call14_v4 : Ref sig .tc := ⟨.hbm, 489, rfl⟩
abbrev main_v101 : Ref sig .tc := ⟨.hbm, 490, rfl⟩
abbrev main_v102 : Ref sig .tc := ⟨.hbm, 491, rfl⟩
abbrev main_v103 : Ref sig .tc := ⟨.hbm, 492, rfl⟩
abbrev main_v104 : Ref sig .tc := ⟨.hbm, 493, rfl⟩
abbrev main_v105 : Ref sig .tc := ⟨.hbm, 494, rfl⟩

abbrev nD : Nat := 1
abbrev τ : Topo := Topo.v7x

variable {F : FTy → Type} [FloatOps F]
-- ==== Proof.Reg0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The encoder's trunk, the first of the three pipelined calls: what its body leaves in the output block, and that it does. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the buffers when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, fetched there or not, for any data that starts from `V` and leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 holds its block at every point, fetched there or not, for any data that starts from `V` and leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 holds its block at every point, fetched there or not, for any data that starts from `V` and leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 holds its block at every point, fetched there or not, for any data that starts from `V` and leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 holds its block at every point, fetched there or not, for any data that starts from `V` and leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5 holds its block at every point, fetched there or not, for any data that starts from `V` and leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6 holds its block at every point, fetched there or not, for any data that starts from `V` and leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7 holds its block at every point, fetched there or not, for any data that starts from `V` and leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8 holds its block at every point, fetched there or not, for any data that starts from `V` and leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- Input window 9 holds its block at every point, fetched there or not, for any data that starts from `V` and leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- Input window 10 holds its block at every point, fetched there or not, for any data that starts from `V` and leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- Input window 11 holds its block at every point, fetched there or not, for any data that starts from `V` and leaves the block in place. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x2048 := Rect.unit (s := S256x2048) ![0, 0] S256x2048.size inb_S256x2048_S256x2048_0_0
abbrev r0_1 : Rect S8x2048 := Rect.unit (s := S8x2048) ![0, 0] S1x2048.size inb_S8x2048_S1x2048_0_0
abbrev r0_2 : Rect S256x512 := Rect.unit (s := S256x512) ![0, 0] S256x512.size inb_S256x512_S256x512_0_0
abbrev r0_3 : Rect S8x512 := Rect.unit (s := S8x512) ![0, 0] S1x512.size inb_S8x512_S1x512_0_0
abbrev r0_4 : Rect S2560x1024 := Rect.unit (s := S2560x1024) ![0, 0] S2560x1024.size inb_S2560x1024_S2560x1024_0_0
abbrev r0_5 : Rect S8x1024 := Rect.unit (s := S8x1024) ![0, 0] S1x1024.size inb_S8x1024_S1x1024_0_0
abbrev r0_6 : Rect S1024x1024 := Rect.unit (s := S1024x1024) ![0, 0] S1024x1024.size inb_S1024x1024_S1024x1024_0_0
abbrev r0_7 : Rect S256x1024 := Rect.unit (s := S256x1024) ![0, 0] S256x1024.size inb_S256x1024_S256x1024_0_0

/-! ## What the body leaves in each output window's buffer -/

/-- Window 12's staging buffer after the body, from the input windows' blocks: its 1 store as pieces, LAST
    FIRST (Lib/Pipeline/FrameBody.lean `View.canon`; the payloads are the skeleton's). -/
def out0_12 (x0 : Vec F S256x2048 .f32) (x1 : Vec F S256x512 .f32) (x2 : Vec F S8x2048 .f32) (x3 : Vec F S8x2048 .f32) (x4 : Vec F S8x512 .f32) (x5 : Vec F S8x512 .f32) (x6 : Vec F S2560x1024 .f32) (x7 : Vec F S8x1024 .f32) (x8 : Vec F S1024x1024 .f32) (x9 : Vec F S8x1024 .f32) (x10 : Vec F S1024x1024 .f32) (x11 : Vec F S8x1024 .f32) : Vec F S256x1024 .bf16 :=
  View.canon [⟨r0_7, k0_pay3 (k0_pay1 (View.ld x0 r0_0) (View.ld x2 r0_1) (View.ld x3 r0_1) (View.ld x1 r0_2) (View.ld x4 r0_3) (View.ld x5 r0_3)) (k0_pay2 (View.ld x6 r0_4)) (constant S256x1024 .f32 0x00000000#32) (View.ld x7 r0_5) (View.ld x8 r0_6) (View.ld x9 r0_5) (View.ld x10 r0_6) (View.ld x11 r0_5)⟩]

/-- Its stores tile the buffer (checked by evaluation), so they cover it. -/
theorem cover0_12 (p0 : Vec F S256x1024 .bf16) (y : S256x1024.Idx) :
    ∃ pc ∈ ([⟨r0_7, p0⟩] : List (View.Piece (Elt F) S256x1024 .bf16)), y ∈ pc.1.set :=
  View.cover_of_tiled [⟨r0_7, p0⟩] S256x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`*_eq_skeleton`), which `sl_exec` runs (Lib/Exec.lean), through every part call. -/
theorem sound_kernel0 (c : Dev nD) (E : Set ℕ) (i : grid0.Coords) (arg1 : Memref sig .tc .vmem S256x2048 .f32) (harg1 : arg1.IsWhole) (arg2 : Memref sig .tc .vmem S256x512 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S2560x1024 .f32) (harg7 : arg7.IsWhole) (arg8 : Memref sig .tc .vmem S8x1024 .f32) (harg8 : arg8.IsWhole) (arg9 : Memref sig .tc .vmem S1024x1024 .f32) (harg9 : arg9.IsWhole) (arg10 : Memref sig .tc .vmem S8x1024 .f32) (harg10 : arg10.IsWhole) (arg11 : Memref sig .tc .vmem S1024x1024 .f32) (harg11 : arg11.IsWhole) (arg12 : Memref sig .tc .vmem S8x1024 .f32) (harg12 : arg12.IsWhole) (arg13 : Memref sig .tc .vmem S256x1024 .bf16) (harg13 : arg13.IsWhole)
    (x0 : Vec F S256x2048 .f32) (x1 : Vec F S256x512 .f32) (x2 : Vec F S8x2048 .f32) (x3 : Vec F S8x2048 .f32) (x4 : Vec F S8x512 .f32) (x5 : Vec F S8x512 .f32) (x6 : Vec F S2560x1024 .f32) (x7 : Vec F S8x1024 .f32) (x8 : Vec F S1024x1024 .f32) (x9 : Vec F S8x1024 .f32) (x10 : Vec F S1024x1024 .f32) (x11 : Vec F S8x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11)) -∗ K ⟨⟩))
      ⊢ wp frame (wpE (defs₀ (F := F)) Variants.none c none) E (cc0__enc_trunk_kernel i arg1 harg1 arg2 harg2 arg3 harg3 arg4 harg4 arg5 harg5 arg6 harg6 arg7 harg7 arg8 harg8 arg9 harg9 arg10 harg10 arg11 harg11 arg12 harg12 arg13 harg13) K := by
  simp only [cc0__enc_trunk_kernel_eq_skeleton]; unfold cc0__enc_trunk_kernel_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover0_12 _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand
-- ==== Proof.Reg1Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The quantiser, the second of the three pipelined calls: its body on whole blocks, in each of the three cases of its conditionals. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the buffers when the region is entered
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, fetched there or not, for any data that starts from `V` and leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 holds its block at every point, fetched there or not, for any data that starts from `V` and leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 holds its block at every point, fetched there or not, for any data that starts from `V` and leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 holds its block at every point, fetched there or not, for any data that starts from `V` and leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 holds its block at every point, fetched there or not, for any data that starts from `V` and leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S256x1024 := Rect.unit (s := S256x1024) ![0, 0] S256x1024.size inb_S256x1024_S256x1024_0_0
abbrev r1_1 : Rect S1024x2048 := Rect.unit (s := S1024x2048) ![0, 0] S1024x2048.size inb_S1024x2048_S1024x2048_0_0
abbrev r1_2 : Rect S8x2048 := Rect.unit (s := S8x2048) ![0, 0] S1x2048.size inb_S8x2048_S1x2048_0_0
abbrev r1_3 : Rect S256x2048 := Rect.unit (s := S256x2048) ![0, 0] S256x2048.size inb_S256x2048_S256x2048_0_0
abbrev r1_4 : Rect S1x256x4 := Rect.unit (s := S1x256x4) ![0, 0, 0] S1x256x4.size inb_S1x256x4_S1x256x4_0_0_0
abbrev r1_5 : Rect S2048x1024 := Rect.unit (s := S2048x1024) ![0, 0] S2048x1024.size inb_S2048x1024_S2048x1024_0_0

/-! ## What the body computes from its blocks -/

/-- The logits of the point's four groups, noise added. -/
def lg1 (x0 : Vec F S256x1024 .bf16) (x1 : Vec F S1024x2048 .f32) (x2 : Vec F S8x2048 .f32) (x3 : Vec F S256x2048 .f32) : FVec F S256x2048 .f32 := k1_pay6 (View.ld x0 r1_0) (View.ld x1 r1_1) (View.ld x2 r1_2) (View.ld x3 r1_3)
/-- The softmax of the first group. -/
def sm1_0 (x0 : Vec F S256x1024 .bf16) (x1 : Vec F S1024x2048 .f32) (x2 : Vec F S8x2048 .f32) (x3 : Vec F S256x2048 .f32) : FVec F S256x512 .f32 := k1_pay7 (View.ld x0 r1_0) (View.ld x1 r1_1) (View.ld x2 r1_2) (View.ld x3 r1_3)
/-- The first group's largest weight, row by row. -/
def mx1_0 (x0 : Vec F S256x1024 .bf16) (x1 : Vec F S1024x2048 .f32) (x2 : Vec F S8x2048 .f32) (x3 : Vec F S256x2048 .f32) : FVec F S256x1 .f32 := k1_pay8 (View.ld x0 r1_0) (View.ld x1 r1_1) (View.ld x2 r1_2) (View.ld x3 r1_3)
/-- The position in a group. -/
def io1 : IVec S256x512 32 := iota .tc S256x512 32 [1] iota_S256x512_d1_w32
/-- The four softmaxes side by side. -/
def soft1 (x0 : Vec F S256x1024 .bf16) (x1 : Vec F S1024x2048 .f32) (x2 : Vec F S8x2048 .f32) (x3 : Vec F S256x2048 .f32) : FVec F S256x2048 .bf16 :=
  k1_pay19 (lg1 x0 x1 x2 x3) (sm1_0 x0 x1 x2 x3) (k1_pay11 (lg1 x0 x1 x2 x3)) (k1_pay14 (lg1 x0 x1 x2 x3))

/-- The block of the first result: the latent code. -/
def out1_5 (x0 : Vec F S256x1024 .bf16) (x1 : Vec F S1024x2048 .f32) (x2 : Vec F S8x2048 .f32) (x3 : Vec F S256x2048 .f32) : Vec F S256x2048 .f32 := View.canon [⟨r1_3, k1_pay5 (View.ld x0 r1_0) (View.ld x1 r1_1) (View.ld x2 r1_2)⟩]
/-- The block of the one-hot rows. -/
def out1_6 (x0 : Vec F S256x1024 .bf16) (x1 : Vec F S1024x2048 .f32) (x2 : Vec F S8x2048 .f32) (x3 : Vec F S256x2048 .f32) : Vec F S256x2048 .f32 :=
  View.canon [⟨r1_3, k1_pay20 (lg1 x0 x1 x2 x3) (k1_pay10 (sm1_0 x0 x1 x2 x3) io1 (mx1_0 x0 x1 x2 x3)) (k1_pay13 (lg1 x0 x1 x2 x3)) (k1_pay14 (lg1 x0 x1 x2 x3)) io1 (k1_pay15 (lg1 x0 x1 x2 x3))⟩]
/-- The block of the chosen positions. -/
def out1_7 (x0 : Vec F S256x1024 .bf16) (x1 : Vec F S1024x2048 .f32) (x2 : Vec F S8x2048 .f32) (x3 : Vec F S256x2048 .f32) : Vec F S1x256x4 .i32 :=
  View.canon [⟨r1_4, k1_pay21 (lg1 x0 x1 x2 x3) (k1_pay9 (sm1_0 x0 x1 x2 x3) io1 (mx1_0 x0 x1 x2 x3)) (k1_pay12 (lg1 x0 x1 x2 x3)) (k1_pay14 (lg1 x0 x1 x2 x3)) io1 (k1_pay15 (lg1 x0 x1 x2 x3))⟩]

theorem cover1_5 (p0 : Vec F S256x2048 .f32) (y : S256x2048.Idx) :
    ∃ pc ∈ ([⟨r1_3, p0⟩] : List (View.Piece (Elt F) S256x2048 .f32)), y ∈ pc.1.set :=
  View.cover_of_tiled [⟨r1_3, p0⟩] S256x2048.size (by rfl) y
theorem cover1_7 (p0 : Vec F S1x256x4 .i32) (y : S1x256x4.Idx) :
    ∃ pc ∈ ([⟨r1_4, p0⟩] : List (View.Piece (Elt F) S1x256x4 .i32)), y ∈ pc.1.set :=
  View.cover_of_tiled [⟨r1_4, p0⟩] S1x256x4.size (by rfl) y
theorem cover1_8 (p0 : Vec F S256x1024 .f32) (y : S256x1024.Idx) :
    ∃ pc ∈ ([⟨r1_0, p0⟩] : List (View.Piece (Elt F) S256x1024 .f32)), y ∈ pc.1.set :=
  View.cover_of_tiled [⟨r1_0, p0⟩] S256x1024.size (by rfl) y

/-! ## The rows of the accumulator -/

/-- Rows `256 * j` to `256 * j + 255` of the accumulator. -/
abbrev rS (j : Fin 4) : Rect S1024x1024 :=
  Rect.unit (s := S1024x1024) ![256 * j.val, 0] S256x1024.size (by intro a; have := j.isLt; fin_cases a <;> simp [S256x1024, S1024x1024] <;> omega)

/-- A write to the accumulator's rows, read back: the write over what was there. -/
theorem read_writes_overlay {S : Shape} {e : EltTy} {κ : Kind} {sp : Space} (v : View sig κ sp S e) (f : v.ty.Contents (Elt F))
    (r : Rect S) (w : r.shape.Idx → Elt F e) :
    v.read (Elt F) (v.writes (Elt F) f [⟨r, w⟩]) = r.overlay (v.read (Elt F) f) w := by
  funext y
  by_cases hy : y ∈ r.set
  · obtain ⟨x, rfl⟩ := r.exists_idx_of_mem hy
    exact (View.read_writes_cons_emb v f r w [] x).trans (r.overlay_emb _ _ x).symm
  · rw [View.writes_cons, View.read_slice_write_of_not_mem r _ _ _ (by rwa [Rect.map_emb_univ]), r.overlay_of_not_mem _ _ hy]
    rfl

/-! ## The body's triple, by the group column of the point -/

set_option maxHeartbeats 2000000 in
/-- In the first column the body starts the accumulator's rows. -/
theorem sound_kernel1_A (c : Dev nD) (E : Set ℕ) (i : grid1.Coords) (arg2 : Memref sig .tc .vmem S256x1024 .bf16) (harg2 : arg2.IsWhole) (arg3 : Memref sig .tc .vmem S1024x2048 .f32) (harg3 : arg3.IsWhole) (arg4 : Memref sig .tc .vmem S8x2048 .f32) (harg4 : arg4.IsWhole) (arg5 : Memref sig .tc .vmem S256x2048 .f32) (harg5 : arg5.IsWhole) (arg6 : Memref sig .tc .vmem S2048x1024 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S1x256x4 .i32) (harg9 : arg9.IsWhole) (arg10 : Memref sig .tc .vmem S256x1024 .f32) (harg10 : arg10.IsWhole) (arg11 : Memref sig .tc .vmem S1024x1024 .f32) (harg11 : arg11.IsWhole)
    (h1 : k1_cond1 i = 1#1) (h2 : ¬ k1_cond2 i = 1#1) (h3 : ¬ k1_cond3 i = 1#1)
    (x0 : Vec F S256x1024 .bf16) (x1 : Vec F S1024x2048 .f32) (x2 : Vec F S8x2048 .f32) (x3 : Vec F S256x2048 .f32) (x4 : Vec F S2048x1024 .f32) (xs : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3) ∗ owns (c : Thread nD τ) arg8 fullShare (out1_6 x0 x1 x2 x3) ∗ owns (c : Thread nD τ) arg9 fullShare (out1_7 x0 x1 x2 x3) ∗ (∃ d, owns (c : Thread nD τ) arg10 fullShare d) ∗ owns (c : Thread nD τ) arg11 fullShare ((Rect.unit (s := S1024x1024) (k1_off1 i) S256x1024.size (k1_off1_inb i h1)).overlay xs (k1_pay2 (soft1 x0 x1 x2 x3) (View.ld x4 r1_5)))) -∗ K ⟨⟩))
      ⊢ wp frame (wpE (defs₀ (F := F)) Variants.none c none) E (cc1__quant_kernel i arg2 harg2 arg3 harg3 arg4 harg4 arg5 harg5 arg6 harg6 arg7 harg7 arg8 harg8 arg9 harg9 arg10 harg10 arg11 harg11) K := by
  simp only [cc1__quant_kernel_eq_skeleton]; unfold cc1__quant_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs, %hfs, HS⟩, Hk⟩
  subst hf0 hf1 hf2 hf3 hf4 hfs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    rfl
  isplitl [H6]
  · iexists _; isplitr
    swap; · iexact H6
    ipureintro
    refine (View.read_writes_eq_canon _ _ _ (cover1_5 _)).trans ?_
    rfl
  isplitl [H7]
  · iexists _; isplitr
    swap; · iexact H7
    ipureintro
    refine (View.read_writes_eq_canon _ _ _ (cover1_7 _)).trans ?_
    rfl
  isplitl [H8]
  · iexists _, _; isplitr; swap; · iexact H8
    ipureintro; rfl
  iexists _; isplitr
  swap; · iexact HS
  ipureintro
  refine (read_writes_overlay _ _ _ _).trans ?_
  rfl

set_option maxHeartbeats 2000000 in
/-- In the second and third columns the body adds to the accumulator's rows. -/
theorem sound_kernel1_B (c : Dev nD) (E : Set ℕ) (i : grid1.Coords) (arg2 : Memref sig .tc .vmem S256x1024 .bf16) (harg2 : arg2.IsWhole) (arg3 : Memref sig .tc .vmem S1024x2048 .f32) (harg3 : arg3.IsWhole) (arg4 : Memref sig .tc .vmem S8x2048 .f32) (harg4 : arg4.IsWhole) (arg5 : Memref sig .tc .vmem S256x2048 .f32) (harg5 : arg5.IsWhole) (arg6 : Memref sig .tc .vmem S2048x1024 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S1x256x4 .i32) (harg9 : arg9.IsWhole) (arg10 : Memref sig .tc .vmem S256x1024 .f32) (harg10 : arg10.IsWhole) (arg11 : Memref sig .tc .vmem S1024x1024 .f32) (harg11 : arg11.IsWhole)
    (h1 : ¬ k1_cond1 i = 1#1) (h2 : k1_cond2 i = 1#1) (h3 : ¬ k1_cond3 i = 1#1)
    (x0 : Vec F S256x1024 .bf16) (x1 : Vec F S1024x2048 .f32) (x2 : Vec F S8x2048 .f32) (x3 : Vec F S256x2048 .f32) (x4 : Vec F S2048x1024 .f32) (xs : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3) ∗ owns (c : Thread nD τ) arg8 fullShare (out1_6 x0 x1 x2 x3) ∗ owns (c : Thread nD τ) arg9 fullShare (out1_7 x0 x1 x2 x3) ∗ (∃ d, owns (c : Thread nD τ) arg10 fullShare d) ∗ owns (c : Thread nD τ) arg11 fullShare ((Rect.unit (s := S1024x1024) (k1_off2 i) S256x1024.size (k1_off2_inb i h2)).overlay xs (k1_pay3 (soft1 x0 x1 x2 x3) (View.ld x4 r1_5) (View.ld xs (Rect.unit (s := S1024x1024) (k1_off2 i) S256x1024.size (k1_off2_inb i h2)))))) -∗ K ⟨⟩))
      ⊢ wp frame (wpE (defs₀ (F := F)) Variants.none c none) E (cc1__quant_kernel i arg2 harg2 arg3 harg3 arg4 harg4 arg5 harg5 arg6 harg6 arg7 harg7 arg8 harg8 arg9 harg9 arg10 harg10 arg11 harg11) K := by
  simp only [cc1__quant_kernel_eq_skeleton]; unfold cc1__quant_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs, %hfs, HS⟩, Hk⟩
  subst hf0 hf1 hf2 hf3 hf4 hfs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    rfl
  isplitl [H6]
  · iexists _; isplitr
    swap; · iexact H6
    ipureintro
    refine (View.read_writes_eq_canon _ _ _ (cover1_5 _)).trans ?_
    rfl
  isplitl [H7]
  · iexists _; isplitr
    swap; · iexact H7
    ipureintro
    refine (View.read_writes_eq_canon _ _ _ (cover1_7 _)).trans ?_
    rfl
  isplitl [H8]
  · iexists _, _; isplitr; swap; · iexact H8
    ipureintro; rfl
  iexists _; isplitr
  swap; · iexact HS
  ipureintro
  refine (read_writes_overlay _ _ _ _).trans ?_
  rfl

set_option maxHeartbeats 2000000 in
/-- In the last column the body adds its part to the accumulator's rows and stores the sum to the output block. -/
theorem sound_kernel1_C (c : Dev nD) (E : Set ℕ) (i : grid1.Coords) (arg2 : Memref sig .tc .vmem S256x1024 .bf16) (harg2 : arg2.IsWhole) (arg3 : Memref sig .tc .vmem S1024x2048 .f32) (harg3 : arg3.IsWhole) (arg4 : Memref sig .tc .vmem S8x2048 .f32) (harg4 : arg4.IsWhole) (arg5 : Memref sig .tc .vmem S256x2048 .f32) (harg5 : arg5.IsWhole) (arg6 : Memref sig .tc .vmem S2048x1024 .f32) (harg6 : arg6.IsWhole) (arg7 : Memref sig .tc .vmem S256x2048 .f32) (harg7 : arg7.IsWhole) (arg8 : Memref sig .tc .vmem S256x2048 .f32) (harg8 : arg8.IsWhole) (arg9 : Memref sig .tc .vmem S1x256x4 .i32) (harg9 : arg9.IsWhole) (arg10 : Memref sig .tc .vmem S256x1024 .f32) (harg10 : arg10.IsWhole) (arg11 : Memref sig .tc .vmem S1024x1024 .f32) (harg11 : arg11.IsWhole)
    (h1 : ¬ k1_cond1 i = 1#1) (h2 : ¬ k1_cond2 i = 1#1) (h3 : k1_cond3 i = 1#1)
    (x0 : Vec F S256x1024 .bf16) (x1 : Vec F S1024x2048 .f32) (x2 : Vec F S8x2048 .f32) (x3 : Vec F S256x2048 .f32) (x4 : Vec F S2048x1024 .f32) (xs : Vec F S1024x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out1_5 x0 x1 x2 x3) ∗ owns (c : Thread nD τ) arg8 fullShare (out1_6 x0 x1 x2 x3) ∗ owns (c : Thread nD τ) arg9 fullShare (out1_7 x0 x1 x2 x3) ∗ owns (c : Thread nD τ) arg10 fullShare (View.canon [⟨r1_0, k1_pay4 (soft1 x0 x1 x2 x3) (View.ld x4 r1_5) (View.ld xs (Rect.unit (s := S1024x1024) (k1_off3 i) S256x1024.size (k1_off3_inb i h3)))⟩]) ∗ owns (c : Thread nD τ) arg11 fullShare (xs)) -∗ K ⟨⟩))
      ⊢ wp frame (wpE (defs₀ (F := F)) Variants.none c none) E (cc1__quant_kernel i arg2 harg2 arg3 harg3 arg4 harg4 arg5 harg5 arg6 harg6 arg7 harg7 arg8 harg8 arg9 harg9 arg10 harg10 arg11 harg11) K := by
  simp only [cc1__quant_kernel_eq_skeleton]; unfold cc1__quant_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs, %hfs, HS⟩, Hk⟩
  subst hf0 hf1 hf2 hf3 hf4 hfs
  sl_exec (disch := first | sl_exact h1 | sl_exact h2 | sl_exact h3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    rfl
  isplitl [H6]
  · iexists _; isplitr
    swap; · iexact H6
    ipureintro
    refine (View.read_writes_eq_canon _ _ _ (cover1_5 _)).trans ?_
    rfl
  isplitl [H7]
  · iexists _; isplitr
    swap; · iexact H7
    ipureintro
    refine (View.read_writes_eq_canon _ _ _ (cover1_7 _)).trans ?_
    rfl
  isplitl [H8]
  · iexists _; isplitr
    swap; · iexact H8
    ipureintro
    refine (View.read_writes_eq_canon _ _ _ (cover1_8 _)).trans ?_
    rfl
  iexists fs; isplitr; · ipureintro; rfl
  iexact HS

end Cert.KernelIdeal.Hand
-- ==== Proof.Reg1.lean ====
module

public import proofs.«01_k».proof.Proof.Reg1Body
public import Idealize.ShloMosaic.Lib.Pipeline.DatRel
public import Idealize.ShloMosaic.Lib.Pipeline.ArrRel
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The quantiser: its proof data with the accumulator carried from point to point, and what its arrays hold at the end. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the buffers when the region is entered
variable (V : (c : Dev nD) → (b : Ref sig .tc) → Buf (Elt F) ((c : Thread nD τ).loc b))

/-- The scratch buffer the accumulator lives in. -/
abbrev scM : Memref sig .tc .vmem S1024x1024 .f32 := Memref.whole cc1_scratch0

/-- The point of column `k` and row block `i`. -/
def pt (k : ℕ) (i : Fin 4) : Fin cfg1.N := ⟨(4 * k + i.val) % 16, Nat.mod_lt _ (by decide)⟩

/-- The accumulator's rows of row block `i` after column `k`. -/
def acc (c : Dev nD) : ℕ → Fin 4 → Vec F S256x1024 .f32
  | 0, i => k1_pay2 (soft1 (iblk1 V c 0 (pt 0 i)) (iblk1 V c 1 (pt 0 i)) (iblk1 V c 2 (pt 0 i)) (iblk1 V c 3 (pt 0 i))) (View.ld (iblk1 V c 4 (pt 0 i)) r1_5)
  | k + 1, i => k1_pay3 (soft1 (iblk1 V c 0 (pt (k + 1) i)) (iblk1 V c 1 (pt (k + 1) i)) (iblk1 V c 2 (pt (k + 1) i)) (iblk1 V c 3 (pt (k + 1) i))) (View.ld (iblk1 V c 4 (pt (k + 1) i)) r1_5) (acc c k i)

/-- What the last column stores to the fourth result's row block `i`. -/
def fin1 (c : Dev nD) (i : Fin 4) : Vec F S256x1024 .f32 :=
  View.canon [⟨r1_0, k1_pay4 (soft1 (iblk1 V c 0 (pt 3 i)) (iblk1 V c 1 (pt 3 i)) (iblk1 V c 2 (pt 3 i)) (iblk1 V c 3 (pt 3 i))) (View.ld (iblk1 V c 4 (pt 3 i)) r1_5) (acc V c 2 i)⟩]

/-- Before point `n` the accumulator's rows of the last four points hold what those points left there. -/
def Inv (c : Dev nD) (n : ℕ) (S : Vec F S1024x1024 .f32) : Prop :=
  ∀ u : ℕ, u < n → n ≤ u + 4 → u < 12 → View.ld S (rS ⟨u % 4, Nat.mod_lt _ (by decide)⟩) = acc V c (u / 4) ⟨u % 4, Nat.mod_lt _ (by decide)⟩

/-- The row block of a point. -/
def row1 (t : Fin cfg1.N) : Fin 4 := ⟨t.val % 4, Nat.mod_lt _ (by decide)⟩

/-- The invariant carried through the points. -/
def Phi1 (c : Dev nD) (n : ℕ) : sProp 𝕄 :=
  iprop((∃ S, ⌜Inv V c n S⌝ ∗ owns (c : Thread nD τ) scM fullShare S)
    ∗ Pipeline.scopedRestBut (Ix := Unit) (Name := ℕ) (U := UR sig nD τ) (Lvl := ℕ) (Val := Elt F) spec1 c [cc1_scratch0]
    ∗ ∃ r, prngReg c r)

/-- The proof data of the call. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t)
    | ⟨7, _⟩ => out1_7 (iblk1 V c 0 t) (iblk1 V c 1 t) (iblk1 V c 2 t) (iblk1 V c 3 t)
    | ⟨8, _⟩ => fin1 V c (row1 t)
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) := by dsimp only [dat1]
theorem after1_7 (c : Dev nD) (t : Fin cfg1.N) : (dat1 V c).after 7 t = out1_7 (iblk1 V c 0 t) (iblk1 V c 1 t) (iblk1 V c 2 t) (iblk1 V c 3 t) := by dsimp only [dat1]
theorem after1_8 (c : Dev nD) (t : Fin cfg1.N) : (dat1 V c).after 8 t = fin1 V c (row1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- The fourth result is the one window whose contents are not named at every point. -/
def fgt1 (w : Fin cfg1.W) : Bool := match w with
  | ⟨8, _⟩ => true
  | _ => false
/-- In the last column the fourth result's block is the finished sum; before that it may be anything. -/
def Rl1 (c : Dev nD) (w : Fin cfg1.W) (t : Fin cfg1.N) (X : (cfg1.win w).block.Idx → Elt F (cfg1.win w).elt) : Prop :=
  12 ≤ t.val → X = (dat1 V c).after w t

/-- The same data, the fourth result held to `Rl1` only. -/
abbrev rd1 (c : Dev nD) : Pipeline.RDat τ (Elt F) Unit ℕ (UR sig nD τ) ℕ cfg1 c := (dat1 V c).toRRel fgt1 (Rl1 V c)

/-! ## The conditionals and the row block, off the point's number -/

theorem hc1 : ∀ t : Fin grid1.N, k1_cond1 (grid1.coords t) = 1#1 ↔ t.val < 4 := by decide +kernel
theorem hc2 : ∀ t : Fin grid1.N, k1_cond2 (grid1.coords t) = 1#1 ↔ 4 ≤ t.val ∧ t.val < 12 := by decide +kernel
theorem hc3 : ∀ t : Fin grid1.N, k1_cond3 (grid1.coords t) = 1#1 ↔ 12 ≤ t.val := by decide +kernel
theorem hrow : ∀ t : Fin grid1.N, (grid1.coords t 1).val = t.val % 4 := by decide +kernel

theorem pt_row (t : Fin cfg1.N) : pt (t.val / 4) (row1 t) = t := by
  have h : t.val < 16 := t.isLt
  apply Fin.ext
  show (4 * (t.val / 4) + t.val % 4) % 16 = t.val
  omega

/-- A rectangle of the accumulator at a row block's offset is that row block. -/
theorem rect_rS (off : Fin 2 → ℕ) (j : Fin 4) (h : off = ![256 * j.val, 0]) (inb) :
    (Rect.unit (s := S1024x1024) off S256x1024.size inb) = rS j := by
  subst h; rfl
/-- Loading a rectangle at a row block's offset is loading that row block. -/
theorem ld_rect (off : Fin 2 → ℕ) (j : Fin 4) (h : off = ![256 * j.val, 0]) (inb) (S : Vec F S1024x1024 .f32) :
    (View.ld S (Rect.unit (s := S1024x1024) off S256x1024.size inb) : Vec F S256x1024 .f32) = View.ld S (rS j) := by
  subst h; rfl
/-- Writing a rectangle at a row block's offset is writing that row block. -/
theorem overlay_rect (off : Fin 2 → ℕ) (j : Fin 4) (h : off = ![256 * j.val, 0]) (inb) (S : Vec F S1024x1024 .f32) (w : Vec F S256x1024 .f32) :
    (Rect.unit (s := S1024x1024) off S256x1024.size inb).overlay S w = (rS j).overlay S w := by
  subst h; rfl

/-- Reading back the row block just written. -/
theorem ld_overlay_same (S : Vec F S1024x1024 .f32) (j : Fin 4) (w : Vec F S256x1024 .f32) :
    View.ld ((rS j).overlay S w) (rS j) = w := by
  funext x; exact (rS j).overlay_emb S w x

/-- A row block is unchanged by a write to another. -/
theorem ld_overlay_ne (S : Vec F S1024x1024 .f32) (j k : Fin 4) (h : j.val ≠ k.val) (w : Vec F S256x1024 .f32) :
    View.ld ((rS j).overlay S w) (rS k) = View.ld S (rS k) := by
  funext x
  refine (rS j).overlay_of_not_mem S w ?_
  intro hm
  have h0 := (Rect.mem_set_unit.mp hm) 0
  have hx : (x 0).val < 256 := (x 0).isLt
  have e : (((rS k).emb x) 0 : ℕ) = 256 * k.val + (x 0).val := by
    rw [Rect.emb_apply]; show 256 * k.val + 1 * (x 0).val = _; omega
  have h1 : 256 * j.val ≤ (((rS k).emb x) 0 : ℕ) := h0.1
  have h2 : (((rS k).emb x) 0 : ℕ) < 256 * j.val + 256 := h0.2
  omega

/-- One point's write keeps the invariant. -/
theorem inv_store (c : Dev nD) (t : Fin cfg1.N) (S : Vec F S1024x1024 .f32) (hS : Inv V c t.val S) (w : Vec F S256x1024 .f32)
    (hw : w = acc V c (t.val / 4) (row1 t)) : Inv V c (t.val + 1) ((rS (row1 t)).overlay S w) := by
  intro u h1 h2 h3
  by_cases hu : u = t.val
  · subst hu
    exact (ld_overlay_same S (row1 t) w).trans hw
  · refine (ld_overlay_ne S (row1 t) _ ?_ w).trans (hS u (by omega) (by omega) h3)
    show t.val % 4 ≠ u % 4
    omega

/-- What a later column loads is what the column before left. -/
theorem inv_load (c : Dev nD) (t : Fin cfg1.N) (S : Vec F S1024x1024 .f32) (hS : Inv V c t.val S) (k : ℕ) (hk : t.val / 4 = k + 1) :
    View.ld S (rS (row1 t)) = acc V c k (row1 t) := by
  have ht : t.val < 16 := t.isLt
  have h := hS (t.val - 4) (by omega) (by omega) (by omega)
  have e1 : (t.val - 4) / 4 = k := by omega
  have e2 : (t.val - 4) % 4 = t.val % 4 := by omega
  rw [e1] at h
  have e3 : (⟨(t.val - 4) % 4, Nat.mod_lt _ (by decide)⟩ : Fin 4) = row1 t := Fin.ext e2
  rw [e3] at h
  exact h

theorem acc_zero (c : Dev nD) (t : Fin cfg1.N) (h : t.val / 4 = 0) :
    acc V c (t.val / 4) (row1 t) = k1_pay2 (soft1 (iblk1 V c 0 t) (iblk1 V c 1 t) (iblk1 V c 2 t) (iblk1 V c 3 t)) (View.ld (iblk1 V c 4 t) r1_5) := by
  have e := pt_row t
  rw [h] at e ⊢
  rw [acc, e]
theorem acc_succ (c : Dev nD) (t : Fin cfg1.N) (k : ℕ) (h : t.val / 4 = k + 1) :
    acc V c (t.val / 4) (row1 t) = k1_pay3 (soft1 (iblk1 V c 0 t) (iblk1 V c 1 t) (iblk1 V c 2 t) (iblk1 V c 3 t)) (View.ld (iblk1 V c 4 t) r1_5) (acc V c k (row1 t)) := by
  have e := pt_row t
  rw [h] at e ⊢
  rw [acc, e]

/-! ## The body obligation -/

def bodyPre1 (c : Dev nD) (t : Fin cfg1.N) : sProp 𝕄 :=
  iprop(Phi1 V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ Y, ⌜(rd1 V c).Finds 8 t Y⌝ ∗ owns (c : Thread nD τ) (st1_8 t) fullShare Y))

def bodyPost1 (c : Dev nD) (t : Fin cfg1.N) : sProp 𝕄 :=
  iprop(Phi1 V c (t.val + 1) ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ (∃ X, ⌜Rl1 V c 8 t X⌝ ∗ owns (c : Thread nD τ) (st1_8 t) fullShare X))

/-- The body at a point of the first column. -/
theorem sound_body1_A (c : Dev nD) (t : Fin cfg1.N) (h : t.val < 4) :
    bodyPre1 V c t ⊢ wp frame (wpE (defs₀ (F := F)) Variants.none c none) Set.univ (bodyAt1 t) (fun _ => bodyPost1 V c t) := by
  have ht : t.val < 16 := t.isLt
  unfold bodyPre1 bodyPost1 bodyAt1 Phi1
  simp only [before1_0, before1_1, before1_2, before1_3, before1_4]
  rw [show (dat1 V c).owesAt () t.succ = (dat1 V c).owesAt () t.castSucc from rfl,
    after1_0, after1_1, after1_2, after1_3, after1_4, after1_5, after1_6, after1_7]
  iintro ⟨⟨⟨%S, %hS, HS⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %hd8, H8⟩⟩
  iapply (sound_kernel1_A c Set.univ (grid1.coords t) _ _ _ _ _ _ _ _ _ _ _ _ _ _ _ _ _ _ _ _ ((hc1 t).mpr h) (fun e => by have := (hc2 t).mp e; omega) (fun e => by have := (hc3 t).mp e; omega) (iblk1 V c 0 t) (iblk1 V c 1 t) (iblk1 V c 2 t) (iblk1 V c 3 t) (iblk1 V c 4 t) S _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS]; · iexact HS
  iintro ⟨H0, H1, H2, H3, H4, H5, H6, H7, ⟨%d8, H8⟩, HS⟩
  isplitl [HS Hrest Hp]
  · isplitl [HS]
    · iexists _; isplitr
      swap; · iexact HS
      ipureintro
      rw [overlay_rect _ (row1 t) ((k1_off1_eq _).trans (by rw [hrow]; rfl))]
      exact inv_store V c t S hS _ (acc_zero V c t (by omega)).symm
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; isplitr
  · ipureintro; intro h; exfalso; omega
  iexact H8

/-- The body at a point of the second or third column. -/
theorem sound_body1_B (c : Dev nD) (t : Fin cfg1.N) (h : 4 ≤ t.val ∧ t.val < 12) :
    bodyPre1 V c t ⊢ wp frame (wpE (defs₀ (F := F)) Variants.none c none) Set.univ (bodyAt1 t) (fun _ => bodyPost1 V c t) := by
  have ht : t.val < 16 := t.isLt
  unfold bodyPre1 bodyPost1 bodyAt1 Phi1
  simp only [before1_0, before1_1, before1_2, before1_3, before1_4]
  rw [show (dat1 V c).owesAt () t.succ = (dat1 V c).owesAt () t.castSucc from rfl,
    after1_0, after1_1, after1_2, after1_3, after1_4, after1_5, after1_6, after1_7]
  iintro ⟨⟨⟨%S, %hS, HS⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %hd8, H8⟩⟩
  iapply (sound_kernel1_B c Set.univ (grid1.coords t) _ _ _ _ _ _ _ _ _ _ _ _ _ _ _ _ _ _ _ _ (fun e => by have := (hc1 t).mp e; omega) ((hc2 t).mpr h) (fun e => by have := (hc3 t).mp e; omega) (iblk1 V c 0 t) (iblk1 V c 1 t) (iblk1 V c 2 t) (iblk1 V c 3 t) (iblk1 V c 4 t) S _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS]; · iexact HS
  iintro ⟨H0, H1, H2, H3, H4, H5, H6, H7, ⟨%d8, H8⟩, HS⟩
  isplitl [HS Hrest Hp]
  · isplitl [HS]
    · iexists _; isplitr
      swap; · iexact HS
      ipureintro
      obtain ⟨k, hk⟩ : ∃ k, t.val / 4 = k + 1 := ⟨t.val / 4 - 1, by omega⟩
      rw [overlay_rect _ (row1 t) ((k1_off2_eq _).trans (by rw [hrow]; rfl)), ld_rect _ (row1 t) ((k1_off2_eq _).trans (by rw [hrow]; rfl)), inv_load V c t S hS k hk]
      exact inv_store V c t S hS _ (acc_succ V c t k hk).symm
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; isplitr
  · ipureintro; intro h; exfalso; omega
  iexact H8

/-- The body at a point of the last column. -/
theorem sound_body1_C (c : Dev nD) (t : Fin cfg1.N) (h : 12 ≤ t.val) :
    bodyPre1 V c t ⊢ wp frame (wpE (defs₀ (F := F)) Variants.none c none) Set.univ (bodyAt1 t) (fun _ => bodyPost1 V c t) := by
  have ht : t.val < 16 := t.isLt
  unfold bodyPre1 bodyPost1 bodyAt1 Phi1
  simp only [before1_0, before1_1, before1_2, before1_3, before1_4]
  rw [show (dat1 V c).owesAt () t.succ = (dat1 V c).owesAt () t.castSucc from rfl,
    after1_0, after1_1, after1_2, after1_3, after1_4, after1_5, after1_6, after1_7]
  iintro ⟨⟨⟨%S, %hS, HS⟩, Hrest, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, %hd8, H8⟩⟩
  iapply (sound_kernel1_C c Set.univ (grid1.coords t) _ _ _ _ _ _ _ _ _ _ _ _ _ _ _ _ _ _ _ _ (fun e => by have := (hc1 t).mp e; omega) (fun e => by have := (hc2 t).mp e; omega) ((hc3 t).mpr h) (iblk1 V c 0 t) (iblk1 V c 1 t) (iblk1 V c 2 t) (iblk1 V c 3 t) (iblk1 V c 4 t) S _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [HS]; · iexact HS
  iintro ⟨H0, H1, H2, H3, H4, H5, H6, H7, H8, HS⟩
  isplitl [HS Hrest Hp]
  · isplitl [HS]
    · iexists S; isplitr
      · ipureintro; intro u h1 h2 h3; exact hS u (by omega) (by omega) h3
      iexact HS
    isplitl [Hrest]; · iexact Hrest
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists _; isplitr
  swap; · iexact H8
  ipureintro
  intro _
  rw [after1_8, ld_rect _ (row1 t) ((k1_off3_eq _).trans (by rw [hrow]; rfl)), inv_load V c t S hS 2 (by omega)]
  unfold fin1
  have e := pt_row t
  rw [show t.val / 4 = 3 by omega] at e
  rw [e]
  rfl

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  by_cases h1 : t.val < 4
  · exact sound_body1_A V c t h1
  by_cases h2 : t.val < 12
  · exact sound_body1_B V c t ⟨by omega, h2⟩
  · exact sound_body1_C V c t (by omega)

theorem defs₀_row1 (t : Fin cfg1.N) :
    defs₀ (F := F) .tc cfg1.body (cfg1.bodyArgs t (cfg1.slots t)) = bodyAt1 t := by
  unfold defs₀; rw [Defs.onTc_tc]

/-- The body obligation of the call. -/
theorem body_obligation1 (c : Dev nD) : (rd1 (F := F) V c).BodyObligation (defs₀ (F := F)) Variants.none () Set.univ :=
  Pipeline.BodyObligationRel.toRRel (dat1 V c) fun t => by
    rw [bigSep_W1, bigSep_W1, defs₀_row1]
    exact triple_restated (sound_body1 V c t) rfl .rfl fun _ => .rfl

/-! ## The arrays at the end -/

theorem index1_8 : ∀ t : Fin grid1.N, win1_8.index t = ![t.val % 4, 0] := by decide +kernel

/-- Two data that agree on every point from `k` on, all of them writing back, leave the same at each index those points cover. -/
theorem last_writes {Λ₀ : Idealize.SL.Sem.Labels} {cfg : Cfg sig Λ₀} (c : Dev nD) (d d' : Dat τ (Elt F) Unit ℕ (UR sig nD τ) ℕ cfg c) (w : Fin cfg.W) (k : ℕ)
    (hf : ∀ u, (cfg.win w).flush u = true)
    (h : ∀ u : Fin cfg.N, k ≤ u.val → d.flushed w u = d'.flushed w u) (i : ((cfg.win w).arr.view.loc (c : Thread nD τ)).2.ty.Idx) :
    ∀ (n : ℕ) (u : Fin cfg.N), k ≤ u.val → u.val < n → i ∈ ((cfg.win w).blk u).view.set → d.arrAt w n i = d'.arrAt w n i
  | 0, _, _, h2, _ => absurd h2 (Nat.not_lt_zero _)
  | n + 1, u, h1, h2, h3 => by
    rw [d.arrAt_succ_apply, d'.arrAt_succ_apply]
    by_cases hn : n < cfg.N
    swap
    · rw [dif_neg hn, dif_neg hn]
      exact last_writes c d d' w k hf h i n u h1 (by have := u.isLt; omega) h3
    rw [dif_pos hn, dif_pos hn, if_pos (hf _), if_pos (hf _)]
    by_cases hin : i ∈ ((cfg.win w).blk ⟨n, hn⟩).view.set
    · rw [h ⟨n, hn⟩ (by show k ≤ n; omega)]
      obtain ⟨y, -, rfl⟩ := Finset.mem_map.mp hin
      rw [View.write_emb_of_mem _ _ (Finset.mem_univ y), View.write_emb_of_mem _ _ (Finset.mem_univ y)]
    · rw [View.write_of_not_mem _ _ _ (by rwa [View.setOn_univ]), View.write_of_not_mem _ _ _ (by rwa [View.setOn_univ])]
      have hun : u.val ≠ n := fun e => hin (by have : u = ⟨n, hn⟩ := Fin.ext e; exact this ▸ h3)
      exact last_writes c d d' w k hf h i n u h1 (by omega) h3

/-- Every element of the fourth array lies in a block of the last column. -/
theorem cover_last (j : S1024x1024.Idx) : ∃ u : Fin cfg1.N, 12 ≤ u.val ∧ u.val < cfg1.N ∧ (cfg1.win 8).arr.view.emb j ∈ ((cfg1.win 8).blk u).view.set := by
  have h0 : (j 0).val < 1024 := (j 0).isLt
  have h1 : (j 1).val < 1024 := (j 1).isLt
  have hu : 12 + (j 0).val / 256 < 16 := by omega
  refine ⟨⟨12 + (j 0).val / 256, hu⟩, by show 12 ≤ 12 + (j 0).val / 256; omega, hu, ?_⟩
  refine (win1_8.emb_mem_blk_iff ⟨12 + (j 0).val / 256, hu⟩ j).mpr ?_
  rw [index1_8]
  intro a
  fin_cases a
  · show (12 + (j 0).val / 256) % 4 * 256 ≤ (j 0).val ∧ (j 0).val < (12 + (j 0).val / 256) % 4 * 256 + 256
    omega
  · show 0 * 1024 ≤ (j 1).val ∧ (j 1).val < 0 * 1024 + 1024
    omega

theorem fgt1_eq : ∀ w : Fin cfg1.W, fgt1 w = true → w = 8 := by decide

/-- Whatever the earlier columns left in the fourth result, at the end its array is the one the data name. -/
theorem rd1_arrAt (c : Dev nD) (w : Fin cfg1.W) (G) (hG : (rd1 V c).ArrAt w cfg1.N G) : G = (dat1 V c).arrAt w cfg1.N := by
  by_cases hw : fgt1 w = true
  · obtain rfl := fgt1_eq w hw
    obtain ⟨X, hX, hA⟩ := hG.exists_exact
    have e := hA (Function.update (fun w' t => (dat1 V c).after w' t) 8 X) fun u _ _ => by rw [Function.update_self]
    rw [e]
    funext i
    obtain ⟨u₀, h1, h2, h3⟩ := cover_last i
    refine last_writes c _ _ 8 12 flush1_8 (fun u hu => ?_) i cfg1.N u₀ h1 h2 h3
    unfold Dat.flushed
    rw [Pipeline.RDat.withAfter_after, Function.update_self]
    refine congrArg _ ?_
    exact (Pipeline.Dat.toRRel_leaves (dat1 V c) (w := 8) rfl (hX u u.isLt (flush1_8 u))) hu
  · exact ((dat1 V c).toR_arrAt w _ G) (((dat1 V c).toR.override_arrAt (by simp only [eq_false_of_ne_true hw]) _ G).mp hG)

theorem owns_scM (c : Dev nD) (S : Vec F S1024x1024 .f32) :
    (owns (c : Thread nD τ) scM fullShare S : sProp 𝕄) = ((c : Thread nD τ).loc cc1_scratch0 ↦{fullShare} S) := owns_whole _ _ _ _

/-- Entering the call: nothing is known of the accumulator. -/
theorem Phi1_in (c : Dev nD) : (Pipeline.ΦA spec1 c : sProp 𝕄) ⊢ Phi1 V c 0 := by
  unfold Pipeline.ΦA Phi1
  rw [scopedRest1_split]
  simp only [owns_scM]
  iintro ⟨⟨⟨%f, Hf⟩, Hr⟩, Hp⟩
  isplitl [Hf]
  · iexists f; isplitr
    · ipureintro; intro u h; exact absurd h (Nat.not_lt_zero _)
    iexact Hf
  isplitl [Hr]; · iexact Hr
  iexact Hp

/-- Leaving it: the accumulator is given back. -/
theorem Phi1_out (c : Dev nD) (n : ℕ) : Phi1 V c n ⊢ (Pipeline.ΦA spec1 c : sProp 𝕄) := by
  unfold Pipeline.ΦA Phi1
  rw [scopedRest1_split]
  simp only [owns_scM]
  iintro ⟨⟨%S, -, HS⟩, Hr, Hp⟩
  isplitl [HS Hr]
  · isplitl [HS]
    · iexists S; iexact HS
    iexact Hr
  iexact Hp

end Cert.KernelIdeal.Hand

end
-- ==== Proof.Reg2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The decoder's layers, the last of the three pipelined calls: what its body leaves in the output block, and that it does. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the buffers when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, fetched there or not, for any data that starts from `V` and leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 holds its block at every point, fetched there or not, for any data that starts from `V` and leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 holds its block at every point, fetched there or not, for any data that starts from `V` and leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3 holds its block at every point, fetched there or not, for any data that starts from `V` and leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4 holds its block at every point, fetched there or not, for any data that starts from `V` and leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5 holds its block at every point, fetched there or not, for any data that starts from `V` and leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6 holds its block at every point, fetched there or not, for any data that starts from `V` and leaves the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7 holds its block at every point, fetched there or not, for any data that starts from `V` and leaves the block in place. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S256x1024 := Rect.unit (s := S256x1024) ![0, 0] S256x1024.size inb_S256x1024_S256x1024_0_0
abbrev r2_1 : Rect S8x1024 := Rect.unit (s := S8x1024) ![0, 0] S1x1024.size inb_S8x1024_S1x1024_0_0
abbrev r2_2 : Rect S1024x1024 := Rect.unit (s := S1024x1024) ![0, 0] S1024x1024.size inb_S1024x1024_S1024x1024_0_0
abbrev r2_3 : Rect S1024x256 := Rect.unit (s := S1024x256) ![0, 0] S1024x256.size inb_S1024x256_S1024x256_0_0
abbrev r2_4 : Rect S8x256 := Rect.unit (s := S8x256) ![0, 0] S1x256.size inb_S8x256_S1x256_0_0
abbrev r2_5 : Rect S256x256 := Rect.unit (s := S256x256) ![0, 0] S256x256.size inb_S256x256_S256x256_0_0

/-! ## What the body leaves in each output window's buffer -/

/-- Window 8's staging buffer after the body, from the input windows' blocks: its 1 store as pieces, LAST
    FIRST (Lib/Pipeline/FrameBody.lean `View.canon`; the payloads are the skeleton's). -/
def out2_8 (x0 : Vec F S256x1024 .f32) (x1 : Vec F S8x1024 .f32) (x2 : Vec F S1024x1024 .f32) (x3 : Vec F S8x1024 .f32) (x4 : Vec F S1024x1024 .f32) (x5 : Vec F S8x1024 .f32) (x6 : Vec F S1024x256 .f32) (x7 : Vec F S8x256 .f32) : Vec F S256x256 .f32 :=
  View.canon [⟨r2_5, k2_pay1 (k2_pay2 (View.ld x0 r2_0) (View.ld x1 r2_1) (View.ld x2 r2_2) (View.ld x3 r2_1) (View.ld x4 r2_2) (View.ld x5 r2_1)) (View.ld x6 r2_3) (View.ld x7 r2_4)⟩]

/-- Its stores tile the buffer (checked by evaluation), so they cover it. -/
theorem cover2_8 (p0 : Vec F S256x256 .f32) (y : S256x256.Idx) :
    ∃ pc ∈ ([⟨r2_5, p0⟩] : List (View.Piece (Elt F) S256x256 .f32)), y ∈ pc.1.set :=
  View.cover_of_tiled [⟨r2_5, p0⟩] S256x256.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`*_eq_skeleton`), which `sl_exec` runs (Lib/Exec.lean), through every part call. -/
theorem sound_kernel2 (c : Dev nD) (E : Set ℕ) (i : grid2.Coords) (arg1 : Memref sig .tc .vmem S256x1024 .f32) (harg1 : arg1.IsWhole) (arg2 : Memref sig .tc .vmem S8x1024 .f32) (harg2 : arg2.IsWhole) (arg3 : Memref sig .tc .vmem S1024x1024 .f32) (harg3 : arg3.IsWhole) (arg4 : Memref sig .tc .vmem S8x1024 .f32) (harg4 : arg4.IsWhole) (arg5 : Memref sig .tc .vmem S1024x1024 .f32) (harg5 : arg5.IsWhole) (arg6 : Memref sig .tc .vmem S8x1024 .f32) (harg6 : arg6.IsWhole) (arg7 : Memref sig .tc .vmem S1024x256 .f32) (harg7 : arg7.IsWhole) (arg8 : Memref sig .tc .vmem S8x256 .f32) (harg8 : arg8.IsWhole) (arg9 : Memref sig .tc .vmem S256x256 .f32) (harg9 : arg9.IsWhole)
    (x0 : Vec F S256x1024 .f32) (x1 : Vec F S8x1024 .f32) (x2 : Vec F S1024x1024 .f32) (x3 : Vec F S8x1024 .f32) (x4 : Vec F S1024x1024 .f32) (x5 : Vec F S8x1024 .f32) (x6 : Vec F S1024x256 .f32) (x7 : Vec F S8x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out2_8 x0 x1 x2 x3 x4 x5 x6 x7)) -∗ K ⟨⟩))
      ⊢ wp frame (wpE (defs₀ (F := F)) Variants.none c none) E (cc2__dec_kernel i arg1 harg1 arg2 harg2 arg3 harg3 arg4 harg4 arg5 harg5 arg6 harg6 arg7 harg7 arg8 harg8 arg9 harg9) K := by
  simp only [cc2__dec_kernel_eq_skeleton]; unfold cc2__dec_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) (iblk2 V c 6 t) (iblk2 V c 7 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid2.coords t) _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Hand
-- ==== Proof.Run.lean ====
module

public import proofs.«01_k».proof.Proof.Reg0
public import proofs.«01_k».proof.Proof.Reg1
public import proofs.«01_k».proof.Proof.Reg2
public import proofs.«01_k».proof.Proof.Gen.KernelIdeal.Regions

/-! The whole program: its host stretches and its three pipelined calls in order, from the launch to the return. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays the program is called with. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem hostOps0_args : ∀ a ∈ argRefs, a ∉ hostOps0_W := ListAll.forall_mem_of_all_decide (by decide +kernel)
theorem hostOps0_1_args : ∀ a ∈ argRefs, a ∉ hostOps0_1_W := ListAll.forall_mem_of_all_decide (by decide +kernel)
theorem hostOps0_2_args : ∀ a ∈ argRefs, a ∉ hostOps0_2_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)
theorem hostOps3_args : ∀ a ∈ argRefs, a ∉ hostOps3_W := ListAll.forall_mem_of_all_decide (by decide +kernel)

/-! ## The buffers at each boundary -/

/-- A core's buffers at the launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl

/-- The buffers after the host stretch `hostOps0`. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)

/-- The buffers after the host stretch `hostOps0_1`. -/
abbrev W2 : Dev nD → Valuation τ sig (Elt F) := fun c => StableHlo.after hostOps0_1 (W1 m c)
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W2_args (c : Dev nD) : ∀ a ∈ argRefs, W2 m c (Proc.devRef .tc a) = m ((c : Thread nD τ).loc a) :=
  fun a ha => (W2_of m c a (hostOps0_1_args a ha)).trans (W1_args m c a ha)

/-- The buffers after the host stretch `hostOps0_2`. -/
abbrev W3 : Dev nD → Valuation τ sig (Elt F) := fun c => StableHlo.after hostOps0_2 (W2 m c)
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W3_args (c : Dev nD) : ∀ a ∈ argRefs, W3 m c (Proc.devRef .tc a) = m ((c : Thread nD τ).loc a) :=
  fun a ha => (W3_of m c a (hostOps0_2_args a ha)).trans (W2_args m c a ha)

/-- The buffers as call 0 finds them. -/
abbrev U3 : (c : Dev nD) → (b : Ref sig .tc) → Buf (Elt F) ((c : Thread nD τ).loc b) := fun c b => W3 m c b
/-- The buffers after call 0: its arrays at what it leaves, the others as it found them. -/
def W4 (c : Dev nD) : Valuation τ sig (Elt F) :=
  Pipeline.withArrays spec0 c (W3 m c) fun w => (dat0 (U3 m) c).arrAt w cfg0.N
theorem W4_arr (c : Dev nD) (w : Fin cfg0.W) :
    W4 m c (Proc.devRef .tc (Pipeline.arrRef spec0 w)) = (dat0 (U3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- Call 0 changes its output arrays only. -/
theorem W4_of (c : Dev nD) (r : Ref sig .tc) (h : ∀ w : Fin cfg0.W, Pipeline.arrRef spec0 w = r → (cfg0.win w).isOut = false) :
    W4 m c (Proc.devRef .tc r) = W3 m c (Proc.devRef .tc r) := by
  by_cases hw : ∃ w : Fin cfg0.W, Pipeline.arrRef spec0 w = r
  · obtain ⟨w, rfl⟩ := hw
    exact (W4_arr m c w).trans (((dat0 (U3 m) c).arrAt_in w (h w rfl) _).trans (A_eq0 (U3 m) c w))
  · exact W4_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m c (Proc.devRef .tc a) = m ((c : Thread nD τ).loc a) :=
  fun a ha => (W4_of m c a (argsIn0 a ha)).trans (W3_args m c a ha)
/-- The same at the core's own references. -/
abbrev U4 : (c : Dev nD) → (b : Ref sig .tc) → Buf (Elt F) ((c : Thread nD τ).loc b) := fun c b => W4 m c b
theorem hF0 (c : Dev nD) (w : Fin cfg0.W) : (dat0 (U3 m) c).arrAt w cfg0.N = U4 m c (Pipeline.arrRef spec0 w) :=
  (W4_arr m c w).symm
theorem hrest0 (c : Dev nD) : ∀ b, b ∉ Finset.univ.image (Pipeline.arrRef spec0) → U4 m c b = U3 m c b :=
  fun b hb => W4_of_ne m c b fun w e => hb (Finset.mem_image.mpr ⟨w, Finset.mem_univ _, e⟩)

/-- The buffers after the host stretch `hostOps1`. -/
abbrev W5 : Dev nD → Valuation τ sig (Elt F) := fun c => StableHlo.after hostOps1 (W4 m c)
theorem W5_of (c : Dev nD) (r : Ref sig .tc) (h : r ∉ hostOps1_W) : W5 m c (Proc.devRef .tc r) = W4 m c (Proc.devRef .tc r) :=
  StableHlo.after_of_writes_sub hostOps1 _ hostOps1_writes h
theorem W5_args (c : Dev nD) : ∀ a ∈ argRefs, W5 m c (Proc.devRef .tc a) = m ((c : Thread nD τ).loc a) :=
  fun a ha => (W5_of m c a (hostOps1_args a ha)).trans (W4_args m c a ha)

/-- The buffers as call 1 finds them. -/
abbrev U5 : (c : Dev nD) → (b : Ref sig .tc) → Buf (Elt F) ((c : Thread nD τ).loc b) := fun c b => W5 m c b
/-- The buffers after call 1: its arrays at what it leaves, the others as it found them. -/
def W6 (c : Dev nD) : Valuation τ sig (Elt F) :=
  Pipeline.withArrays spec1 c (W5 m c) fun w => (dat1 (U5 m) c).arrAt w cfg1.N
theorem W6_arr (c : Dev nD) (w : Fin cfg1.W) :
    W6 m c (Proc.devRef .tc (Pipeline.arrRef spec1 w)) = (dat1 (U5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- Call 1 changes its output arrays only. -/
theorem W6_of (c : Dev nD) (r : Ref sig .tc) (h : ∀ w : Fin cfg1.W, Pipeline.arrRef spec1 w = r → (cfg1.win w).isOut = false) :
    W6 m c (Proc.devRef .tc r) = W5 m c (Proc.devRef .tc r) := by
  by_cases hw : ∃ w : Fin cfg1.W, Pipeline.arrRef spec1 w = r
  · obtain ⟨w, rfl⟩ := hw
    exact (W6_arr m c w).trans (((dat1 (U5 m) c).arrAt_in w (h w rfl) _).trans (A_eq1 (U5 m) c w))
  · exact W6_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m c (Proc.devRef .tc a) = m ((c : Thread nD τ).loc a) :=
  fun a ha => (W6_of m c a (argsIn1 a ha)).trans (W5_args m c a ha)
/-- The same at the core's own references. -/
abbrev U6 : (c : Dev nD) → (b : Ref sig .tc) → Buf (Elt F) ((c : Thread nD τ).loc b) := fun c b => W6 m c b
theorem hF1 (c : Dev nD) (w : Fin cfg1.W) : (dat1 (U5 m) c).arrAt w cfg1.N = U6 m c (Pipeline.arrRef spec1 w) :=
  (W6_arr m c w).symm
theorem hrest1 (c : Dev nD) : ∀ b, b ∉ Finset.univ.image (Pipeline.arrRef spec1) → U6 m c b = U5 m c b :=
  fun b hb => W6_of_ne m c b fun w e => hb (Finset.mem_image.mpr ⟨w, Finset.mem_univ _, e⟩)

/-- The buffers after the host stretch `hostOps2`. -/
abbrev W7 : Dev nD → Valuation τ sig (Elt F) := fun c => StableHlo.after hostOps2 (W6 m c)
theorem W7_of (c : Dev nD) (r : Ref sig .tc) (h : r ∉ hostOps2_W) : W7 m c (Proc.devRef .tc r) = W6 m c (Proc.devRef .tc r) :=
  StableHlo.after_of_writes_sub hostOps2 _ hostOps2_writes h
theorem W7_args (c : Dev nD) : ∀ a ∈ argRefs, W7 m c (Proc.devRef .tc a) = m ((c : Thread nD τ).loc a) :=
  fun a ha => (W7_of m c a (hostOps2_args a ha)).trans (W6_args m c a ha)

/-- The buffers as call 2 finds them. -/
abbrev U7 : (c : Dev nD) → (b : Ref sig .tc) → Buf (Elt F) ((c : Thread nD τ).loc b) := fun c b => W7 m c b
/-- The buffers after call 2: its arrays at what it leaves, the others as it found them. -/
def W8 (c : Dev nD) : Valuation τ sig (Elt F) :=
  Pipeline.withArrays spec2 c (W7 m c) fun w => (dat2 (U7 m) c).arrAt w cfg2.N
theorem W8_arr (c : Dev nD) (w : Fin cfg2.W) :
    W8 m c (Proc.devRef .tc (Pipeline.arrRef spec2 w)) = (dat2 (U7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- Call 2 changes its output arrays only. -/
theorem W8_of (c : Dev nD) (r : Ref sig .tc) (h : ∀ w : Fin cfg2.W, Pipeline.arrRef spec2 w = r → (cfg2.win w).isOut = false) :
    W8 m c (Proc.devRef .tc r) = W7 m c (Proc.devRef .tc r) := by
  by_cases hw : ∃ w : Fin cfg2.W, Pipeline.arrRef spec2 w = r
  · obtain ⟨w, rfl⟩ := hw
    exact (W8_arr m c w).trans (((dat2 (U7 m) c).arrAt_in w (h w rfl) _).trans (A_eq2 (U7 m) c w))
  · exact W8_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m c (Proc.devRef .tc a) = m ((c : Thread nD τ).loc a) :=
  fun a ha => (W8_of m c a (argsIn2 a ha)).trans (W7_args m c a ha)
/-- The same at the core's own references. -/
abbrev U8 : (c : Dev nD) → (b : Ref sig .tc) → Buf (Elt F) ((c : Thread nD τ).loc b) := fun c b => W8 m c b
theorem hF2 (c : Dev nD) (w : Fin cfg2.W) : (dat2 (U7 m) c).arrAt w cfg2.N = U8 m c (Pipeline.arrRef spec2 w) :=
  (W8_arr m c w).symm
theorem hrest2 (c : Dev nD) : ∀ b, b ∉ Finset.univ.image (Pipeline.arrRef spec2) → U8 m c b = U7 m c b :=
  fun b hb => W8_of_ne m c b fun w e => hb (Finset.mem_image.mpr ⟨w, Finset.mem_univ _, e⟩)

/-- The buffers after the host stretch `hostOps3`. -/
abbrev W9 : Dev nD → Valuation τ sig (Elt F) := fun c => StableHlo.after hostOps3 (W8 m c)
theorem W9_of (c : Dev nD) (r : Ref sig .tc) (h : r ∉ hostOps3_W) : W9 m c (Proc.devRef .tc r) = W8 m c (Proc.devRef .tc r) :=
  StableHlo.after_of_writes_sub hostOps3 _ hostOps3_writes h
theorem W9_args (c : Dev nD) : ∀ a ∈ argRefs, W9 m c (Proc.devRef .tc a) = m ((c : Thread nD τ).loc a) :=
  fun a ha => (W9_of m c a (hostOps3_args a ha)).trans (W8_args m c a ha)

/-! ## The calls as segments -/

/-- The exact data of the three calls. -/
def pdats : (p : Fin 3) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U5 m) c
  | ⟨2, _⟩ => fun c => dat2 (U7 m) c
/-- The data the launch runs on: the second call's fourth result held to its last column only. -/
def rdats : (p : Fin 3) → (c : Dev nD) → Pipeline.RDat τ (Elt F) Unit ℕ (UR sig nD τ) ℕ (Pipeline.pin (pcfgs (F := F)) adm p) c
  | ⟨0, _⟩ => fun c => (dat0 (U3 m) c).toR
  | ⟨1, _⟩ => fun c => rd1 (U5 m) c
  | ⟨2, _⟩ => fun c => (dat2 (U7 m) c).toR
abbrev 𝒱₀ : Variants := Variants.none
abbrev L : GSem nD τ sig → Finset Unit := fun _ => ∅
abbrev lv : GSem nD τ sig → Unit → ℕ := fun _ _ => 0
/-- What accompanies the buffers: the generator register, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the program ends with. -/
abbrev Tₙ (c : Dev nD) : sProp 𝕄 := iprop(StableHlo.held (c : Thread nD τ) (Pipeline.ucRefs τ sig) (W9 m c) ∗ ∃ r, prngReg c r)

/-- The arrays a call enters with, as the exact data and the launch's data name them. -/
theorem entry0 (c : Dev nD) : ((pdats m 0 c).arrays ((pdats m 0 c).arrAt · 0) : sProp 𝕄) ⊢ (rdats m 0 c).arrays (rdats m 0 c).A := .rfl
theorem entry1 (c : Dev nD) : ((pdats m 1 c).arrays ((pdats m 1 c).arrAt · 0) : sProp 𝕄) ⊢ (rdats m 1 c).arrays (rdats m 1 c).A := .rfl
theorem entry2 (c : Dev nD) : ((pdats m 2 c).arrays ((pdats m 2 c).arrAt · 0) : sProp 𝕄) ⊢ (rdats m 2 c).arrays (rdats m 2 c).A := .rfl
/-- What the calls leave in their arrays is what the exact data name. -/
theorem exit0 (c : Dev nD) : (rdats m 0 c).arraysAt (Pipeline.pin (pcfgs (F := F)) adm 0).N ⊢ ((pdats m 0 c).arrays ((pdats m 0 c).arrAt · cfg0.N) : sProp 𝕄) :=
  (dat0 (U3 m) c).toR_arraysAt_post cfg0.N
theorem exit2 (c : Dev nD) : (rdats m 2 c).arraysAt (Pipeline.pin (pcfgs (F := F)) adm 2).N ⊢ ((pdats m 2 c).arrays ((pdats m 2 c).arrAt · cfg2.N) : sProp 𝕄) :=
  (dat2 (U7 m) c).toR_arraysAt_post cfg2.N
theorem left1 (c : Dev nD) : (rd1 (U5 m) c).arraysAt cfg1.N ⊢ ((dat1 (U5 m) c).arrays ((dat1 (U5 m) c).arrAt · cfg1.N) : sProp 𝕄) :=
  Idealize.SL.BI.bigSep_mono fun w _ =>
    show iprop(∃ G, ⌜(rd1 (U5 m) c).ArrAt w cfg1.N G⌝ ∗ (cfg1.win w).arr.view.loc (c : Thread nD τ) ↦[(cfg1.win w).arr.view.set]{(rd1 (U5 m) c).share w} G)
      ⊢ ((cfg1.win w).arr.view.loc (c : Thread nD τ) ↦[(cfg1.win w).arr.view.set]{(dat1 (U5 m) c).share w} (dat1 (U5 m) c).arrAt w cfg1.N : sProp 𝕄) from by
      iintro ⟨%G, %hG, H⟩; rw [rd1_arrAt (U5 m) c w G hG]; iexact H
theorem exit1 (c : Dev nD) : (rdats m 1 c).arraysAt (Pipeline.pin (pcfgs (F := F)) adm 1).N ⊢ ((pdats m 1 c).arrays ((pdats m 1 c).arrAt · cfg1.N) : sProp 𝕄) :=
  left1 m c

set_option backward.isDefEq.respectTransparency.types false in
/-- Call 0, entered at the boundary before it and left at the one after. -/
def reg0 : Pipeline.RDat.RegionSeg (pcfgs (F := F)) adm (rdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U3 m) c).toR
  hwaits := Pipeline.RDat.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) (A_eq0 (U3 m) c)
    rw [Pipeline.unscopedBufs_held] at hsplit
    iintro ⟨⟨Hub, Hp, HO⟩, -, -⟩
    ihave H := hsplit $$ Hub
    icases H with ⟨Ha, Hrest⟩
    imodintro
    isplitl [Ha]; · iapply (entry0 m c); iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    ihave Hb := (exit0 m c) $$ Ha
    imodintro
    isplitl [Hb Hrest]
    · iapply hjoin; isplitl [Hb] <;> iassumption
    isplitl [HY]; · iexact HY
    unfold Pipeline.RDat.owesAt Pipeline.owesWithin
    icases HO with ⟨%W, -, HO⟩; iexists W; iexact HO

set_option backward.isDefEq.respectTransparency.types false in
/-- Call 1, entered at the boundary before it and left at the one after. -/
def reg1 : Pipeline.RDat.RegionSeg (pcfgs (F := F)) adm (rdats m) () defs₀ 𝒱₀ L lv 1 where
  win := launch1.win.to₀
  block_pos := launch1.block_pos
  stage_whole := launch1.stage_whole
  K := PEmpty
  osem k := k.elim
  ho := Pipeline.OwnSemFacts.none _
  hbody c := body_obligation1 (U5 m) c
  hwaits := Pipeline.RDat.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (U5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U5 m c) (A_eq1 (U5 m) c)
    rw [Pipeline.unscopedBufs_held] at hsplit
    iintro ⟨⟨Hub, Hp, HO⟩, -, -⟩
    ihave H := hsplit $$ Hub
    icases H with ⟨Ha, Hrest⟩
    imodintro
    isplitl [Ha]; · iapply (entry1 m c); iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 1 c).Φ 0 = Phi1 (U5 m) c 0 from rfl]
    refine BIBase.Entails.trans ?_ (Phi1_in (U5 m) c)
    unfold Pipeline.ΦA
    iintro ⟨Hp, -, Hr⟩
    isplitl [Hr]; · iexact Hr
    iexact Hp
  hout c := by
    rw [Pipeline.ownSems0_none, show (rdats m 1 c).Φ (Fin.last _) = Phi1 (U5 m) c cfg1.N from rfl]
    refine (Phi1_out (U5 m) c cfg1.N).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U5 m c) (U6 m c) ((pdats m 1 c).arrAt · cfg1.N) (hF1 m c) (hrest1 m c)
    rw [Pipeline.unscopedBufs_held] at hjoin
    iintro ⟨Ha, HO, HY, Hrest⟩
    ihave Hb := (exit1 m c) $$ Ha
    imodintro
    isplitl [Hb Hrest]
    · iapply hjoin; isplitl [Hb] <;> iassumption
    isplitl [HY]; · iexact HY
    unfold Pipeline.RDat.owesAt Pipeline.owesWithin
    icases HO with ⟨%W, -, HO⟩; iexists W; iexact HO

set_option backward.isDefEq.respectTransparency.types false in
/-- Call 2, entered at the boundary before it and left at the one after. -/
def reg2 : Pipeline.RDat.RegionSeg (pcfgs (F := F)) adm (rdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U7 m) c).toR
  hwaits := Pipeline.RDat.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (U7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U7 m c) (A_eq2 (U7 m) c)
    rw [Pipeline.unscopedBufs_held] at hsplit
    iintro ⟨⟨Hub, Hp, HO⟩, -, -⟩
    ihave H := hsplit $$ Hub
    icases H with ⟨Ha, Hrest⟩
    imodintro
    isplitl [Ha]; · iapply (entry2 m c); iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (rdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U7 m c) (U8 m c) ((pdats m 2 c).arrAt · cfg2.N) (hF2 m c) (hrest2 m c)
    rw [Pipeline.unscopedBufs_held] at hjoin
    iintro ⟨Ha, HO, HY, Hrest⟩
    ihave Hb := (exit2 m c) $$ Ha
    imodintro
    isplitl [Hb Hrest]
    · iapply hjoin; isplitl [Hb] <;> iassumption
    isplitl [HY]; · iexact HY
    unfold Pipeline.RDat.owesAt Pipeline.owesWithin
    icases HO with ⟨%W, -, HO⟩; iexists W; iexact HO

/-! ## The program's run -/

/-- The program's segments in order. -/
abbrev psegs : List (Pipeline.RDat.Seg (pcfgs (F := F)) adm (rdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)) ]
theorem main_run (c : Dev nD) : main (F := F) c = Pipeline.RDat.Seg.run (psegs m) := (main_chain c).trans (by chain_rfl)

set_option backward.isDefEq.respectTransparency.types false in
/-- From any memory with zero counters every weakly fair run ends, every buffer at the last boundary's contents and every counter at zero. -/
theorem run_post : θ_run defs (onTc (τ := τ) (main (F := F))) ⟨m, fun _ => 0, ρ⟩ (fun r =>
      (∀ c : Dev nD, ∀ b ∈ Pipeline.ucRefs τ sig, r.2.mem ((c : Thread nD τ).1, b) = W9 m c b) ∧ r.2.sem = fun _ => 0) :=
  Pipeline.RDat.θ_run_regions_kit_sems (pcfgs (F := F)) adm (rdats m) () cellOf_inj emb₁ defs₀ 𝒱₀ L lv m ρ main (psegs m)
    (fun c Q => by rw [main_run m c])
    (by simp only [psegs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun c => by
      dsimp only [Pipeline.RDat.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h hz => ⟨h, funext fun g => hz g (.inr (regions_no_unscoped g.2))⟩)

/-- Every array the program is called with ends as it was, and every counter at zero. -/
theorem frame_args : θ_run defs (onTc (τ := τ) (main (F := F))) ⟨m, fun _ => 0, ρ⟩ (fun r =>
      (∀ c : Dev nD, ∀ a ∈ argRefs, ¬ (Proc.devRef .tc a : DevRef τ sig).isScoped → r.2.mem ((c.tc : Thread nD τ).loc a) = m ((c.tc : Thread nD τ).loc a))
      ∧ r.2.sem = fun _ => 0) :=
  (θ_run defs _ _).mono (fun _ h => ⟨fun c a ha hs => (h.1 c _ (mem_uc a hs)).trans (W9_args m c a ha), h.2⟩) (run_post m ρ)

/-- The frame claim: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  (θ_run defs _ _).mono (fun _ h => ⟨fun c => ⟨h.1 c main_arg0 (by decide) (by decide),
    h.1 c main_arg1 (by decide) (by decide),
    h.1 c main_arg2 (by decide) (by decide),
    h.1 c main_arg3 (by decide) (by decide),
    h.1 c main_arg4 (by decide) (by decide),
    h.1 c main_arg5 (by decide) (by decide),
    h.1 c main_arg6 (by decide) (by decide),
    h.1 c main_arg7 (by decide) (by decide),
    h.1 c main_arg8 (by decide) (by decide),
    h.1 c main_arg9 (by decide) (by decide),
    h.1 c main_arg10 (by decide) (by decide),
    h.1 c main_arg11 (by decide) (by decide),
    h.1 c main_arg12 (by decide) (by decide),
    h.1 c main_arg13 (by decide) (by decide),
    h.1 c main_arg14 (by decide) (by decide),
    h.1 c main_arg15 (by decide) (by decide),
    h.1 c main_arg16 (by decide) (by decide),
    h.1 c main_arg17 (by decide) (by decide),
    h.1 c main_arg18 (by decide) (by decide),
    h.1 c main_arg19 (by decide) (by decide),
    h.1 c main_arg20 (by decide) (by decide),
    h.1 c main_arg21 (by decide) (by decide)⟩, h.2⟩) (frame_args m ρ)

end Cert.KernelIdeal.Hand

end
-- ==== Proof.RefOps.lean ====
/-
  The reference's @main, read as lists of host operations: every call of a module-local function replaced by the
  operations of its body at the call's buffers, the lists cut where a call begins or ends. `main_eq` says that @main is
  exactly these operations in order.
-/
module

public import Idealize.ShloMosaic.Lib.StableHlo.Run
public import Idealize.ShloMosaic.Lib.Pipeline.Regions
public import proofs.«01_k».proof.Proof.Gen.ReferenceIdeal

set_option maxRecDepth 16384

noncomputable section

@[expose] public section

namespace Cert.ReferenceIdeal.Hand

open Idealize.ShloMosaic Idealize.ShloMosaic.TcCoe
open Idealize.SL.Sem
open Cert.ReferenceIdeal Cert.ReferenceIdeal.Gen

variable {F : FTy → Type} [FloatOps F]

/-- 12 operations of @main, from `main_v0` to `main_cst_1`. -/
abbrev ops0 : List (HloOp τ sig (Elt F)) :=
  ( StableHlo.unary main_arg18 main_v0 (broadcastInDim S1x1x256 ![2] bcast_S256_S1x1x256_2 : (⟨S256, .f32⟩ : BufTy).Contents (Elt F) → (⟨S1x1x256, .f32⟩ : BufTy).Contents (Elt F))
  :: StableHlo.unary main_v0 main_v1 (broadcastInDim S1024x8x256 ![0, 1, 2] bcast_S1x1x256_S1024x8x256_0_1_2 : (⟨S1x1x256, .f32⟩ : BufTy).Contents (Elt F) → (⟨S1024x8x256, .f32⟩ : BufTy).Contents (Elt F))
  :: StableHlo.binary main_arg0 main_v1 main_v2 (subf : (⟨S1024x8x256, .f32⟩ : BufTy).Contents (Elt F) → (⟨S1024x8x256, .f32⟩ : BufTy).Contents (Elt F) → (⟨S1024x8x256, .f32⟩ : BufTy).Contents (Elt F))
  :: StableHlo.nullary main_cst (constant S_ .f32 0x38D1B717#32)
  :: StableHlo.unary main_cst main_v3 (broadcastInDim S256 ![] bcast_S_S256 : (⟨S_, .f32⟩ : BufTy).Contents (Elt F) → (⟨S256, .f32⟩ : BufTy).Contents (Elt F))
  :: StableHlo.binary main_arg19 main_v3 main_v4 (addf : (⟨S256, .f32⟩ : BufTy).Contents (Elt F) → (⟨S256, .f32⟩ : BufTy).Contents (Elt F) → (⟨S256, .f32⟩ : BufTy).Contents (Elt F))
  :: StableHlo.unary main_v4 main_v5 (Host.sqrt : (⟨S256, .f32⟩ : BufTy).Contents (Elt F) → (⟨S256, .f32⟩ : BufTy).Contents (Elt F))
  :: StableHlo.unary main_v5 main_v6 (broadcastInDim S1x1x256 ![2] bcast_S256_S1x1x256_2 : (⟨S256, .f32⟩ : BufTy).Contents (Elt F) → (⟨S1x1x256, .f32⟩ : BufTy).Contents (Elt F))
  :: StableHlo.unary main_v6 main_v7 (broadcastInDim S1024x8x256 ![0, 1, 2] bcast_S1x1x256_S1024x8x256_0_1_2 : (⟨S1x1x256, .f32⟩ : BufTy).Contents (Elt F) → (⟨S1024x8x256, .f32⟩ : BufTy).Contents (Elt F))
  :: StableHlo.binary main_v2 main_v7 main_v8 (Host.divf : (⟨S1024x8x256, .f32⟩ : BufTy).Contents (Elt F) → (⟨S1024x8x256, .f32⟩ : BufTy).Contents (Elt F) → (⟨S1024x8x256, .f32⟩ : BufTy).Contents (Elt F))
  :: StableHlo.nullary main_cst_0 (constant S_ .f32 0xC0A00000#32)
  :: StableHlo.nullary main_cst_1 (constant S_ .f32 0x40A00000#32)
  :: [] )
/-- Each touches TensorCore references only. -/
theorem ops0_sub : (ops0 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.nullary_bufs_sub ..⟩
/-- Each determines its results. -/
theorem ops0_fresh : (ops0 : List (HloOp τ sig (Elt F))).Forall fun op => op.fresh = ∅ := StableHlo.forall_fresh_of_map rfl
/-- What they write, in order. -/
abbrev ops0_W : List (Ref sig .tc) := [main_v0, main_v1, main_v2, main_cst, main_v3, main_v4, main_v5, main_v6, main_v7, main_v8, main_cst_0, main_cst_1]
theorem ops0_writes : (ops0 : List (HloOp τ sig (Elt F))).Forall fun op => op.writes ⊆ (ops0_W.map (Proc.devRef (τ := τ) .tc)).toFinset :=
  StableHlo.forall_writes_sub_of_map rfl

/-- 6 operations of a call of @clip, from `main_call0_v0` to `main_v9`. -/
abbrev ops1 : List (HloOp τ sig (Elt F)) :=
  ( StableHlo.TRef.unary (.of main_cst_0 : StableHlo.TRef sig ⟨S_, .f32⟩) (.of main_call0_v0 : StableHlo.TRef sig ⟨S_, .f32⟩) id
  :: StableHlo.TRef.unary (.of main_call0_v0 : StableHlo.TRef sig ⟨S_, .f32⟩) (.of main_call0_v1 : StableHlo.TRef sig ⟨S1024x8x256, .f32⟩) (broadcastInDim S1024x8x256 ![] bcast_S_S1024x8x256)
  :: StableHlo.TRef.binary (.of main_call0_v1 : StableHlo.TRef sig ⟨S1024x8x256, .f32⟩) (.of main_v8 : StableHlo.TRef sig ⟨S1024x8x256, .f32⟩) (.of main_call0_v2 : StableHlo.TRef sig ⟨S1024x8x256, .f32⟩) maximumf
  :: StableHlo.TRef.unary (.of main_cst_1 : StableHlo.TRef sig ⟨S_, .f32⟩) (.of main_call0_v3 : StableHlo.TRef sig ⟨S_, .f32⟩) id
  :: StableHlo.TRef.unary (.of main_call0_v3 : StableHlo.TRef sig ⟨S_, .f32⟩) (.of main_call0_v4 : StableHlo.TRef sig ⟨S1024x8x256, .f32⟩) (broadcastInDim S1024x8x256 ![] bcast_S_S1024x8x256)
  :: StableHlo.TRef.binary (.of main_call0_v4 : StableHlo.TRef sig ⟨S1024x8x256, .f32⟩) (.of main_call0_v2 : StableHlo.TRef sig ⟨S1024x8x256, .f32⟩) (.of main_v9 : StableHlo.TRef sig ⟨S1024x8x256, .f32⟩) minimumf
  :: [] )
/-- Each touches TensorCore references only. -/
theorem ops1_sub : (ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem ops1_fresh : (ops1 : List (HloOp τ sig (Elt F))).Forall fun op => op.fresh = ∅ := StableHlo.forall_fresh_of_map rfl
/-- What they write, in order. -/
abbrev ops1_W : List (Ref sig .tc) := [main_call0_v0, main_call0_v1, main_call0_v2, main_call0_v3, main_call0_v4, main_v9]
theorem ops1_writes : (ops1 : List (HloOp τ sig (Elt F))).Forall fun op => op.writes ⊆ (ops1_W.map (Proc.devRef (τ := τ) .tc)).toFinset :=
  StableHlo.forall_writes_sub_of_map rfl

/-- 2 operations of @main, from `main_v10` to `main_cst_2`. -/
abbrev ops2 : List (HloOp τ sig (Elt F)) :=
  ( StableHlo.binary main_v9 main_v9 main_v10 (cmpf .une : (⟨S1024x8x256, .f32⟩ : BufTy).Contents (Elt F) → (⟨S1024x8x256, .f32⟩ : BufTy).Contents (Elt F) → (⟨S1024x8x256, .i1⟩ : BufTy).Contents (Elt F))
  :: StableHlo.nullary main_cst_2 (constant S_ .f32 0x00000000#32)
  :: [] )
/-- Each touches TensorCore references only. -/
theorem ops2_sub : (ops2 : List (HloOp τ sig (Elt F))).Forall fun op => op.bufs ⊆ StableHlo.tcRefs τ sig :=
  ⟨StableHlo.binary_bufs_sub .., StableHlo.nullary_bufs_sub ..⟩
/-- Each determines its results. -/
theorem ops2_fresh : (ops2 : List (HloOp τ sig (Elt F))).Forall fun op => op.fresh = ∅ := StableHlo.forall_fresh_of_map rfl
/-- What they write, in order. -/
abbrev ops2_W : List (Ref sig .tc) := [main_v10, main_cst_2]
theorem ops2_writes : (ops2 : List (HloOp τ sig (Elt F))).Forall fun op => op.writes ⊆ (ops2_W.map (Proc.devRef (τ := τ) .tc)).toFinset :=
  StableHlo.forall_writes_sub_of_map rfl

/-- 3 operations of a call of @where, from `main_call1_v0` to `main_v11`. -/
abbrev ops3 : List (HloOp τ sig (Elt F)) :=
  ( StableHlo.TRef.unary (.of main_cst_2 : StableHlo.TRef sig ⟨S_, .f32⟩) (.of main_call1_v0 : StableHlo.TRef sig ⟨S_, .f32⟩) id
  :: StableHlo.TRef.unary (.of main_call1_v0 : StableHlo.TRef sig ⟨S_, .f32⟩) (.of main_call1_v1 : StableHlo.TRef sig ⟨S1024x8x256, .f32⟩) (broadcastInDim S1024x8x256 ![] bcast_S_S1024x8x256)
  :: StableHlo.TRef.ternary (.of main_v10 : StableHlo.TRef sig ⟨S1024x8x256, .i1⟩) (.of main_call1_v1 : StableHlo.TRef sig ⟨S1024x8x256, .f32⟩) (.of main_v9 : StableHlo.TRef sig ⟨S1024x8x256, .f32⟩) (.of main_v11 : StableHlo.TRef sig ⟨S1024x8x256, .f32⟩) select
  :: [] )
/-- Each touches TensorCore references only. -/
theorem ops3_sub : (ops3 : List (HloOp τ sig (Elt F))).Forall fun op => op.bufs ⊆ StableHlo.tcRefs τ sig :=
  ⟨StableHlo.unary_bufs_sub .., StableHlo.unary_bufs_sub .., StableHlo.ternary_bufs_sub ..⟩
/-- Each determines its results. -/
theorem ops3_fresh : (ops3 : List (HloOp τ sig (Elt F))).Forall fun op => op.fresh = ∅ := StableHlo.forall_fresh_of_map rfl
/-- What they write, in order. -/
abbrev ops3_W : List (Ref sig .tc) := [main_call1_v0, main_call1_v1, main_v11]
theorem ops3_writes : (ops3 : List (HloOp τ sig (Elt F))).Forall fun op => op.writes ⊆ (ops3_W.map (Proc.devRef (τ := τ) .tc)).toFinset :=
  StableHlo.forall_writes_sub_of_map rfl

/-- 12 operations of @main, from `main_v12` to `main_cst_5`. -/
abbrev ops4 : List (HloOp τ sig (Elt F)) :=
  ( StableHlo.unary main_arg20 main_v12 (broadcastInDim S1x1x128 ![2] bcast_S128_S1x1x128_2 : (⟨S128, .f32⟩ : BufTy).Contents (Elt F) → (⟨S1x1x128, .f32⟩ : BufTy).Contents (Elt F))
  :: StableHlo.unary main_v12 main_v13 (broadcastInDim S1024x4x128 ![0, 1, 2] bcast_S1x1x128_S1024x4x128_0_1_2 : (⟨S1x1x128, .f32⟩ : BufTy).Contents (Elt F) → (⟨S1024x4x128, .f32⟩ : BufTy).Contents (Elt F))
  :: StableHlo.binary main_arg1 main_v13 main_v14 (subf : (⟨S1024x4x128, .f32⟩ : BufTy).Contents (Elt F) → (⟨S1024x4x128, .f32⟩ : BufTy).Contents (Elt F) → (⟨S1024x4x128, .f32⟩ : BufTy).Contents (Elt F))
  :: StableHlo.nullary main_cst_3 (constant S_ .f32 0x38D1B717#32)
  :: StableHlo.unary main_cst_3 main_v15 (broadcastInDim S128 ![] bcast_S_S128 : (⟨S_, .f32⟩ : BufTy).Contents (Elt F) → (⟨S128, .f32⟩ : BufTy).Contents (Elt F))
  :: StableHlo.binary main_arg21 main_v15 main_v16 (addf : (⟨S128, .f32⟩ : BufTy).Contents (Elt F) → (⟨S128, .f32⟩ : BufTy).Contents (Elt F) → (⟨S128, .f32⟩ : BufTy).Contents (Elt F))
  :: StableHlo.unary main_v16 main_v17 (Host.sqrt : (⟨S128, .f32⟩ : BufTy).Contents (Elt F) → (⟨S128, .f32⟩ : BufTy).Contents (Elt F))
  :: StableHlo.unary main_v17 main_v18 (broadcastInDim S1x1x128 ![2] bcast_S128_S1x1x128_2 : (⟨S128, .f32⟩ : BufTy).Contents (Elt F) → (⟨S1x1x128, .f32⟩ : BufTy).Contents (Elt F))
  :: StableHlo.unary main_v18 main_v19 (broadcastInDim S1024x4x128 ![0, 1, 2] bcast_S1x1x128_S1024x4x128_0_1_2 : (⟨S1x1x128, .f32⟩ : BufTy).Contents (Elt F) → (⟨S1024x4x128, .f32⟩ : BufTy).Contents (Elt F))
  :: StableHlo.binary main_v14 main_v19 main_v20 (Host.divf : (⟨S1024x4x128, .f32⟩ : BufTy).Contents (Elt F) → (⟨S1024x4x128, .f32⟩ : BufTy).Contents (Elt F) → (⟨S1024x4x128, .f32⟩ : BufTy).Contents (Elt F))
  :: StableHlo.nullary main_cst_4 (constant S_ .f32 0xC0A00000#32)
  :: StableHlo.nullary main_cst_5 (constant S_ .f32 0x40A00000#32)
  :: [] )
/-- Each touches TensorCore references only. -/
theorem ops4_sub : (ops4 : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.nullary_bufs_sub ..⟩
/-- Each determines its results. -/
theorem ops4_fresh : (ops4 : List (HloOp τ sig (Elt F))).Forall fun op => op.fresh = ∅ := StableHlo.forall_fresh_of_map rfl
/-- What they write, in order. -/
abbrev ops4_W : List (Ref sig .tc) := [main_v12, main_v13, main_v14, main_cst_3, main_v15, main_v16, main_v17, main_v18, main_v19, main_v20, main_cst_4, main_cst_5]
theorem ops4_writes : (ops4 : List (HloOp τ sig (Elt F))).Forall fun op => op.writes ⊆ (ops4_W.map (Proc.devRef (τ := τ) .tc)).toFinset :=
  StableHlo.forall_writes_sub_of_map rfl

/-- 6 operations of a call of @clip_0, from `main_call2_v0` to `main_v21`. -/
abbrev ops5 : List (HloOp τ sig (Elt F)) :=
  ( StableHlo.TRef.unary (.of main_cst_4 : StableHlo.TRef sig ⟨S_, .f32⟩) (.of main_call2_v0 : StableHlo.TRef sig ⟨S_, .f32⟩) id
  :: StableHlo.TRef.unary (.of main_call2_v0 : StableHlo.TRef sig ⟨S_, .f32⟩) (.of main_call2_v1 : StableHlo.TRef sig ⟨S1024x4x128, .f32⟩) (broadcastInDim S1024x4x128 ![] bcast_S_S1024x4x128)
  :: StableHlo.TRef.binary (.of main_call2_v1 : StableHlo.TRef sig ⟨S1024x4x128, .f32⟩) (.of main_v20 : StableHlo.TRef sig ⟨S1024x4x128, .f32⟩) (.of main_call2_v2 : StableHlo.TRef sig ⟨S1024x4x128, .f32⟩) maximumf
  :: StableHlo.TRef.unary (.of main_cst_5 : StableHlo.TRef sig ⟨S_, .f32⟩) (.of main_call2_v3 : StableHlo.TRef sig ⟨S_, .f32⟩) id
  :: StableHlo.TRef.unary (.of main_call2_v3 : StableHlo.TRef sig ⟨S_, .f32⟩) (.of main_call2_v4 : StableHlo.TRef sig ⟨S1024x4x128, .f32⟩) (broadcastInDim S1024x4x128 ![] bcast_S_S1024x4x128)
  :: StableHlo.TRef.binary (.of main_call2_v4 : StableHlo.TRef sig ⟨S1024x4x128, .f32⟩) (.of main_call2_v2 : StableHlo.TRef sig ⟨S1024x4x128, .f32⟩) (.of main_v21 : StableHlo.TRef sig ⟨S1024x4x128, .f32⟩) minimumf
  :: [] )
/-- Each touches TensorCore references only. -/
theorem ops5_sub : (ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem ops5_fresh : (ops5 : List (HloOp τ sig (Elt F))).Forall fun op => op.fresh = ∅ := StableHlo.forall_fresh_of_map rfl
/-- What they write, in order. -/
abbrev ops5_W : List (Ref sig .tc) := [main_call2_v0, main_call2_v1, main_call2_v2, main_call2_v3, main_call2_v4, main_v21]
theorem ops5_writes : (ops5 : List (HloOp τ sig (Elt F))).Forall fun op => op.writes ⊆ (ops5_W.map (Proc.devRef (τ := τ) .tc)).toFinset :=
  StableHlo.forall_writes_sub_of_map rfl

/-- 2 operations of @main, from `main_v22` to `main_cst_6`. -/
abbrev ops6 : List (HloOp τ sig (Elt F)) :=
  ( StableHlo.binary main_v21 main_v21 main_v22 (cmpf .une : (⟨S1024x4x128, .f32⟩ : BufTy).Contents (Elt F) → (⟨S1024x4x128, .f32⟩ : BufTy).Contents (Elt F) → (⟨S1024x4x128, .i1⟩ : BufTy).Contents (Elt F))
  :: StableHlo.nullary main_cst_6 (constant S_ .f32 0x00000000#32)
  :: [] )
/-- Each touches TensorCore references only. -/
theorem ops6_sub : (ops6 : List (HloOp τ sig (Elt F))).Forall fun op => op.bufs ⊆ StableHlo.tcRefs τ sig :=
  ⟨StableHlo.binary_bufs_sub .., StableHlo.nullary_bufs_sub ..⟩
/-- Each determines its results. -/
theorem ops6_fresh : (ops6 : List (HloOp τ sig (Elt F))).Forall fun op => op.fresh = ∅ := StableHlo.forall_fresh_of_map rfl
/-- What they write, in order. -/
abbrev ops6_W : List (Ref sig .tc) := [main_v22, main_cst_6]
theorem ops6_writes : (ops6 : List (HloOp τ sig (Elt F))).Forall fun op => op.writes ⊆ (ops6_W.map (Proc.devRef (τ := τ) .tc)).toFinset :=
  StableHlo.forall_writes_sub_of_map rfl

/-- 3 operations of a call of @where_1, from `main_call3_v0` to `main_v23`. -/
abbrev ops7 : List (HloOp τ sig (Elt F)) :=
  ( StableHlo.TRef.unary (.of main_cst_6 : StableHlo.TRef sig ⟨S_, .f32⟩) (.of main_call3_v0 : StableHlo.TRef sig ⟨S_, .f32⟩) id
  :: StableHlo.TRef.unary (.of main_call3_v0 : StableHlo.TRef sig ⟨S_, .f32⟩) (.of main_call3_v1 : StableHlo.TRef sig ⟨S1024x4x128, .f32⟩) (broadcastInDim S1024x4x128 ![] bcast_S_S1024x4x128)
  :: StableHlo.TRef.ternary (.of main_v22 : StableHlo.TRef sig ⟨S1024x4x128, .i1⟩) (.of main_call3_v1 : StableHlo.TRef sig ⟨S1024x4x128, .f32⟩) (.of main_v21 : StableHlo.TRef sig ⟨S1024x4x128, .f32⟩) (.of main_v23 : StableHlo.TRef sig ⟨S1024x4x128, .f32⟩) select
  :: [] )
/-- Each touches TensorCore references only. -/
theorem ops7_sub : (ops7 : List (HloOp τ sig (Elt F))).Forall fun op => op.bufs ⊆ StableHlo.tcRefs τ sig :=
  ⟨StableHlo.unary_bufs_sub .., StableHlo.unary_bufs_sub .., StableHlo.ternary_bufs_sub ..⟩
/-- Each determines its results. -/
theorem ops7_fresh : (ops7 : List (HloOp τ sig (Elt F))).Forall fun op => op.fresh = ∅ := StableHlo.forall_fresh_of_map rfl
/-- What they write, in order. -/
abbrev ops7_W : List (Ref sig .tc) := [main_call3_v0, main_call3_v1, main_v23]
theorem ops7_writes : (ops7 : List (HloOp τ sig (Elt F))).Forall fun op => op.writes ⊆ (ops7_W.map (Proc.devRef (τ := τ) .tc)).toFinset :=
  StableHlo.forall_writes_sub_of_map rfl

/-- 8 operations of @main, from `main_v24` to `main_cst_7`. -/
abbrev ops8 : List (HloOp τ sig (Elt F)) :=
  ( StableHlo.reshape main_v11 main_v24 (rfl : (.f32 : EltTy) = .f32) shapeCasts_S1024x8x256_S1024x2048
  :: StableHlo.reshape main_v23 main_v25 (rfl : (.f32 : EltTy) = .f32) shapeCasts_S1024x4x128_S1024x512
  :: StableHlo.binary main_v24 main_v25 main_v26 ((fun a b => concatenate S1024x2560 1 [⟨S1024x2048, a⟩, ⟨S1024x512, b⟩] concatenates_S1024x2048_S1024x512_S1024x2560_d1) : (⟨S1024x2048, .f32⟩ : BufTy).Contents (Elt F) → (⟨S1024x512, .f32⟩ : BufTy).Contents (Elt F) → (⟨S1024x2560, .f32⟩ : BufTy).Contents (Elt F))
  :: StableHlo.binary main_v26 main_arg2 main_v27 ((fun l r => Host.dotGeneral dot_S1024x2560_S2560x1024_S1024x1024_1_0_0_1_n_n none l r) : (⟨S1024x2560, .f32⟩ : BufTy).Contents (Elt F) → (⟨S2560x1024, .f32⟩ : BufTy).Contents (Elt F) → (⟨S1024x1024, .f32⟩ : BufTy).Contents (Elt F))
  :: StableHlo.unary main_arg3 main_v28 (broadcastInDim S1x1024 ![1] bcast_S1024_S1x1024_1 : (⟨S1024, .f32⟩ : BufTy).Contents (Elt F) → (⟨S1x1024, .f32⟩ : BufTy).Contents (Elt F))
  :: StableHlo.unary main_v28 main_v29 (broadcastInDim S1024x1024 ![0, 1] bcast_S1x1024_S1024x1024_0_1 : (⟨S1x1024, .f32⟩ : BufTy).Contents (Elt F) → (⟨S1024x1024, .f32⟩ : BufTy).Contents (Elt F))
  :: StableHlo.binary main_v27 main_v29 main_v30 (addf : (⟨S1024x1024, .f32⟩ : BufTy).Contents (Elt F) → (⟨S1024x1024, .f32⟩ : BufTy).Contents (Elt F) → (⟨S1024x1024, .f32⟩ : BufTy).Contents (Elt F))
  :: StableHlo.nullary main_cst_7 (constant S_ .f32 0x3C23D70A#32)
  :: [] )
/-- Each touches TensorCore references only. -/
theorem ops8_sub : (ops8 : List (HloOp τ sig (Elt F))).Forall fun op => op.bufs ⊆ StableHlo.tcRefs τ sig :=
  ⟨StableHlo.reshape_bufs_sub .., StableHlo.reshape_bufs_sub .., StableHlo.binary_bufs_sub .., StableHlo.binary_bufs_sub .., StableHlo.unary_bufs_sub .., StableHlo.unary_bufs_sub .., StableHlo.binary_bufs_sub .., StableHlo.nullary_bufs_sub ..⟩
/-- Each determines its results. -/
theorem ops8_fresh : (ops8 : List (HloOp τ sig (Elt F))).Forall fun op => op.fresh = ∅ := StableHlo.forall_fresh_of_map rfl
/-- What they write, in order. -/
abbrev ops8_W : List (Ref sig .tc) := [main_v24, main_v25, main_v26, main_v27, main_v28, main_v29, main_v30, main_cst_7]
theorem ops8_writes : (ops8 : List (HloOp τ sig (Elt F))).Forall fun op => op.writes ⊆ (ops8_W.map (Proc.devRef (τ := τ) .tc)).toFinset :=
  StableHlo.forall_writes_sub_of_map rfl

/-- 7 operations of a call of @leaky_relu, from `main_call4_cst` to `main_v31`. -/
abbrev ops9 : List (HloOp τ sig (Elt F)) :=
  ( StableHlo.TRef.nullary (.of main_call4_cst : StableHlo.TRef sig ⟨S_, .f32⟩) (constant S_ .f32 0x00000000#32)
  :: StableHlo.TRef.unary (.of main_call4_cst : StableHlo.TRef sig ⟨S_, .f32⟩) (.of main_call4_v0 : StableHlo.TRef sig ⟨S1024x1024, .f32⟩) (broadcastInDim S1024x1024 ![] bcast_S_S1024x1024)
  :: StableHlo.TRef.binary (.of main_v30 : StableHlo.TRef sig ⟨S1024x1024, .f32⟩) (.of main_call4_v0 : StableHlo.TRef sig ⟨S1024x1024, .f32⟩) (.of main_call4_v1 : StableHlo.TRef sig ⟨S1024x1024, .i1⟩) (cmpf .oge)
  :: StableHlo.TRef.unary (.of main_cst_7 : StableHlo.TRef sig ⟨S_, .f32⟩) (.of main_call4_v2 : StableHlo.TRef sig ⟨S_, .f32⟩) id
  :: StableHlo.TRef.unary (.of main_call4_v2 : StableHlo.TRef sig ⟨S_, .f32⟩) (.of main_call4_v3 : StableHlo.TRef sig ⟨S1024x1024, .f32⟩) (broadcastInDim S1024x1024 ![] bcast_S_S1024x1024)
  :: StableHlo.TRef.binary (.of main_call4_v3 : StableHlo.TRef sig ⟨S1024x1024, .f32⟩) (.of main_v30 : StableHlo.TRef sig ⟨S1024x1024, .f32⟩) (.of main_call4_v4 : StableHlo.TRef sig ⟨S1024x1024, .f32⟩) mulf
  :: StableHlo.TRef.ternary (.of main_call4_v1 : StableHlo.TRef sig ⟨S1024x1024, .i1⟩) (.of main_v30 : StableHlo.TRef sig ⟨S1024x1024, .f32⟩) (.of main_call4_v4 : StableHlo.TRef sig ⟨S1024x1024, .f32⟩) (.of main_v31 : StableHlo.TRef sig ⟨S1024x1024, .f32⟩) select
  :: [] )
/-- Each touches TensorCore references only. -/
theorem ops9_sub : (ops9 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
/-- Each determines its results. -/
theorem ops9_fresh : (ops9 : List (HloOp τ sig (Elt F))).Forall fun op => op.fresh = ∅ := StableHlo.forall_fresh_of_map rfl
/-- What they write, in order. -/
abbrev ops9_W : List (Ref sig .tc) := [main_call4_cst, main_call4_v0, main_call4_v1, main_call4_v2, main_call4_v3, main_call4_v4, main_v31]
theorem ops9_writes : (ops9 : List (HloOp τ sig (Elt F))).Forall fun op => op.writes ⊆ (ops9_W.map (Proc.devRef (τ := τ) .tc)).toFinset :=
  StableHlo.forall_writes_sub_of_map rfl

/-- 5 operations of @main, from `main_v32` to `main_cst_8`. -/
abbrev ops10 : List (HloOp τ sig (Elt F)) :=
  ( StableHlo.binary main_v31 main_arg4 main_v32 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F))
  :: StableHlo.unary main_arg5 main_v33 (broadcastInDim S1x1024 ![1] bcast_S1024_S1x1024_1 : (⟨S1024, .f32⟩ : BufTy).Contents (Elt F) → (⟨S1x1024, .f32⟩ : BufTy).Contents (Elt F))
  :: StableHlo.unary main_v33 main_v34 (broadcastInDim S1024x1024 ![0, 1] bcast_S1x1024_S1024x1024_0_1 : (⟨S1x1024, .f32⟩ : BufTy).Contents (Elt F) → (⟨S1024x1024, .f32⟩ : BufTy).Contents (Elt F))
  :: StableHlo.binary main_v32 main_v34 main_v35 (addf : (⟨S1024x1024, .f32⟩ : BufTy).Contents (Elt F) → (⟨S1024x1024, .f32⟩ : BufTy).Contents (Elt F) → (⟨S1024x1024, .f32⟩ : BufTy).Contents (Elt F))
  :: StableHlo.nullary main_cst_8 (constant S_ .f32 0x3C23D70A#32)
  :: [] )
/-- Each touches TensorCore references only. -/
theorem ops10_sub : (ops10 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub ..⟩
/-- Each determines its results. -/
theorem ops10_fresh : (ops10 : List (HloOp τ sig (Elt F))).Forall fun op => op.fresh = ∅ := StableHlo.forall_fresh_of_map rfl
/-- What they write, in order. -/
abbrev ops10_W : List (Ref sig .tc) := [main_v32, main_v33, main_v34, main_v35, main_cst_8]
theorem ops10_writes : (ops10 : List (HloOp τ sig (Elt F))).Forall fun op => op.writes ⊆ (ops10_W.map (Proc.devRef (τ := τ) .tc)).toFinset :=
  StableHlo.forall_writes_sub_of_map rfl

/-- 7 operations of a call of @leaky_relu, from `main_call5_cst` to `main_v36`. -/
abbrev ops11 : List (HloOp τ sig (Elt F)) :=
  ( StableHlo.TRef.nullary (.of main_call5_cst : StableHlo.TRef sig ⟨S_, .f32⟩) (constant S_ .f32 0x00000000#32)
  :: StableHlo.TRef.unary (.of main_call5_cst : StableHlo.TRef sig ⟨S_, .f32⟩) (.of main_call5_v0 : StableHlo.TRef sig ⟨S1024x1024, .f32⟩) (broadcastInDim S1024x1024 ![] bcast_S_S1024x1024)
  :: StableHlo.TRef.binary (.of main_v35 : StableHlo.TRef sig ⟨S1024x1024, .f32⟩) (.of main_call5_v0 : StableHlo.TRef sig ⟨S1024x1024, .f32⟩) (.of main_call5_v1 : StableHlo.TRef sig ⟨S1024x1024, .i1⟩) (cmpf .oge)
  :: StableHlo.TRef.unary (.of main_cst_8 : StableHlo.TRef sig ⟨S_, .f32⟩) (.of main_call5_v2 : StableHlo.TRef sig ⟨S_, .f32⟩) id
  :: StableHlo.TRef.unary (.of main_call5_v2 : StableHlo.TRef sig ⟨S_, .f32⟩) (.of main_call5_v3 : StableHlo.TRef sig ⟨S1024x1024, .f32⟩) (broadcastInDim S1024x1024 ![] bcast_S_S1024x1024)
  :: StableHlo.TRef.binary (.of main_call5_v3 : StableHlo.TRef sig ⟨S1024x1024, .f32⟩) (.of main_v35 : StableHlo.TRef sig ⟨S1024x1024, .f32⟩) (.of main_call5_v4 : StableHlo.TRef sig ⟨S1024x1024, .f32⟩) mulf
  :: StableHlo.TRef.ternary (.of main_call5_v1 : StableHlo.TRef sig ⟨S1024x1024, .i1⟩) (.of main_v35 : StableHlo.TRef sig ⟨S1024x1024, .f32⟩) (.of main_call5_v4 : StableHlo.TRef sig ⟨S1024x1024, .f32⟩) (.of main_v36 : StableHlo.TRef sig ⟨S1024x1024, .f32⟩) select
  :: [] )
/-- Each touches TensorCore references only. -/
theorem ops11_sub : (ops11 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
/-- Each determines its results. -/
theorem ops11_fresh : (ops11 : List (HloOp τ sig (Elt F))).Forall fun op => op.fresh = ∅ := StableHlo.forall_fresh_of_map rfl
/-- What they write, in order. -/
abbrev ops11_W : List (Ref sig .tc) := [main_call5_cst, main_call5_v0, main_call5_v1, main_call5_v2, main_call5_v3, main_call5_v4, main_v36]
theorem ops11_writes : (ops11 : List (HloOp τ sig (Elt F))).Forall fun op => op.writes ⊆ (ops11_W.map (Proc.devRef (τ := τ) .tc)).toFinset :=
  StableHlo.forall_writes_sub_of_map rfl

/-- 5 operations of @main, from `main_v37` to `main_cst_9`. -/
abbrev ops12 : List (HloOp τ sig (Elt F)) :=
  ( StableHlo.binary main_v36 main_arg6 main_v37 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F))
  :: StableHlo.unary main_arg7 main_v38 (broadcastInDim S1x1024 ![1] bcast_S1024_S1x1024_1 : (⟨S1024, .f32⟩ : BufTy).Contents (Elt F) → (⟨S1x1024, .f32⟩ : BufTy).Contents (Elt F))
  :: StableHlo.unary main_v38 main_v39 (broadcastInDim S1024x1024 ![0, 1] bcast_S1x1024_S1024x1024_0_1 : (⟨S1x1024, .f32⟩ : BufTy).Contents (Elt F) → (⟨S1024x1024, .f32⟩ : BufTy).Contents (Elt F))
  :: StableHlo.binary main_v37 main_v39 main_v40 (addf : (⟨S1024x1024, .f32⟩ : BufTy).Contents (Elt F) → (⟨S1024x1024, .f32⟩ : BufTy).Contents (Elt F) → (⟨S1024x1024, .f32⟩ : BufTy).Contents (Elt F))
  :: StableHlo.nullary main_cst_9 (constant S_ .f32 0x3C23D70A#32)
  :: [] )
/-- Each touches TensorCore references only. -/
theorem ops12_sub : (ops12 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub ..⟩
/-- Each determines its results. -/
theorem ops12_fresh : (ops12 : List (HloOp τ sig (Elt F))).Forall fun op => op.fresh = ∅ := StableHlo.forall_fresh_of_map rfl
/-- What they write, in order. -/
abbrev ops12_W : List (Ref sig .tc) := [main_v37, main_v38, main_v39, main_v40, main_cst_9]
theorem ops12_writes : (ops12 : List (HloOp τ sig (Elt F))).Forall fun op => op.writes ⊆ (ops12_W.map (Proc.devRef (τ := τ) .tc)).toFinset :=
  StableHlo.forall_writes_sub_of_map rfl

/-- 7 operations of a call of @leaky_relu, from `main_call6_cst` to `main_v41`. -/
abbrev ops13 : List (HloOp τ sig (Elt F)) :=
  ( StableHlo.TRef.nullary (.of main_call6_cst : StableHlo.TRef sig ⟨S_, .f32⟩) (constant S_ .f32 0x00000000#32)
  :: StableHlo.TRef.unary (.of main_call6_cst : StableHlo.TRef sig ⟨S_, .f32⟩) (.of main_call6_v0 : StableHlo.TRef sig ⟨S1024x1024, .f32⟩) (broadcastInDim S1024x1024 ![] bcast_S_S1024x1024)
  :: StableHlo.TRef.binary (.of main_v40 : StableHlo.TRef sig ⟨S1024x1024, .f32⟩) (.of main_call6_v0 : StableHlo.TRef sig ⟨S1024x1024, .f32⟩) (.of main_call6_v1 : StableHlo.TRef sig ⟨S1024x1024, .i1⟩) (cmpf .oge)
  :: StableHlo.TRef.unary (.of main_cst_9 : StableHlo.TRef sig ⟨S_, .f32⟩) (.of main_call6_v2 : StableHlo.TRef sig ⟨S_, .f32⟩) id
  :: StableHlo.TRef.unary (.of main_call6_v2 : StableHlo.TRef sig ⟨S_, .f32⟩) (.of main_call6_v3 : StableHlo.TRef sig ⟨S1024x1024, .f32⟩) (broadcastInDim S1024x1024 ![] bcast_S_S1024x1024)
  :: StableHlo.TRef.binary (.of main_call6_v3 : StableHlo.TRef sig ⟨S1024x1024, .f32⟩) (.of main_v40 : StableHlo.TRef sig ⟨S1024x1024, .f32⟩) (.of main_call6_v4 : StableHlo.TRef sig ⟨S1024x1024, .f32⟩) mulf
  :: StableHlo.TRef.ternary (.of main_call6_v1 : StableHlo.TRef sig ⟨S1024x1024, .i1⟩) (.of main_v40 : StableHlo.TRef sig ⟨S1024x1024, .f32⟩) (.of main_call6_v4 : StableHlo.TRef sig ⟨S1024x1024, .f32⟩) (.of main_v41 : StableHlo.TRef sig ⟨S1024x1024, .f32⟩) select
  :: [] )
/-- Each touches TensorCore references only. -/
theorem ops13_sub : (ops13 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
/-- Each determines its results. -/
theorem ops13_fresh : (ops13 : List (HloOp τ sig (Elt F))).Forall fun op => op.fresh = ∅ := StableHlo.forall_fresh_of_map rfl
/-- What they write, in order. -/
abbrev ops13_W : List (Ref sig .tc) := [main_call6_cst, main_call6_v0, main_call6_v1, main_call6_v2, main_call6_v3, main_call6_v4, main_v41]
theorem ops13_writes : (ops13 : List (HloOp τ sig (Elt F))).Forall fun op => op.writes ⊆ (ops13_W.map (Proc.devRef (τ := τ) .tc)).toFinset :=
  StableHlo.forall_writes_sub_of_map rfl

/-- 5 operations of @main, from `main_v42` to `main_v46`. -/
abbrev ops14 : List (HloOp τ sig (Elt F)) :=
  ( StableHlo.binary main_v41 main_arg8 main_v42 ((fun l r => Host.dotGeneral dot_S1024x1024_S1024x8192_S1024x8192_1_0_0_1_n_n none l r) : (⟨S1024x1024, .f32⟩ : BufTy).Contents (Elt F) → (⟨S1024x8192, .f32⟩ : BufTy).Contents (Elt F) → (⟨S1024x8192, .f32⟩ : BufTy).Contents (Elt F))
  :: StableHlo.unary main_arg9 main_v43 (broadcastInDim S1x8192 ![1] bcast_S8192_S1x8192_1 : (⟨S8192, .f32⟩ : BufTy).Contents (Elt F) → (⟨S1x8192, .f32⟩ : BufTy).Contents (Elt F))
  :: StableHlo.unary main_v43 main_v44 (broadcastInDim S1024x8192 ![0, 1] bcast_S1x8192_S1024x8192_0_1 : (⟨S1x8192, .f32⟩ : BufTy).Contents (Elt F) → (⟨S1024x8192, .f32⟩ : BufTy).Contents (Elt F))
  :: StableHlo.binary main_v42 main_v44 main_v45 (addf : (⟨S1024x8192, .f32⟩ : BufTy).Contents (Elt F) → (⟨S1024x8192, .f32⟩ : BufTy).Contents (Elt F) → (⟨S1024x8192, .f32⟩ : BufTy).Contents (Elt F))
  :: StableHlo.reshape main_v45 main_v46 (rfl : (.f32 : EltTy) = .f32) shapeCasts_S1024x8192_S1024x1x16x512
  :: [] )
/-- Each touches TensorCore references only. -/
theorem ops14_sub : (ops14 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.reshape_bufs_sub ..⟩
/-- Each determines its results. -/
theorem ops14_fresh : (ops14 : List (HloOp τ sig (Elt F))).Forall fun op => op.fresh = ∅ := StableHlo.forall_fresh_of_map rfl
/-- What they write, in order. -/
abbrev ops14_W : List (Ref sig .tc) := [main_v42, main_v43, main_v44, main_v45, main_v46]
theorem ops14_writes : (ops14 : List (HloOp τ sig (Elt F))).Forall fun op => op.writes ⊆ (ops14_W.map (Proc.devRef (τ := τ) .tc)).toFinset :=
  StableHlo.forall_writes_sub_of_map rfl

/-- 2 operations of @main, from `main_c` to `main_c_10`. -/
abbrev ops15 : List (HloOp τ sig (Elt F)) :=
  ( StableHlo.nullary main_c (constantI S_ 32 42#32)
  :: StableHlo.nullary main_c_10 (constantI S_ 32 32#32)
  :: [] )
/-- Each touches TensorCore references only. -/
theorem ops15_sub : (ops15 : List (HloOp τ sig (Elt F))).Forall fun op => op.bufs ⊆ StableHlo.tcRefs τ sig :=
  ⟨StableHlo.nullary_bufs_sub .., StableHlo.nullary_bufs_sub ..⟩
/-- Each determines its results. -/
theorem ops15_fresh : (ops15 : List (HloOp τ sig (Elt F))).Forall fun op => op.fresh = ∅ := StableHlo.forall_fresh_of_map rfl
/-- What they write, in order. -/
abbrev ops15_W : List (Ref sig .tc) := [main_c, main_c_10]
theorem ops15_writes : (ops15 : List (HloOp τ sig (Elt F))).Forall fun op => op.writes ⊆ (ops15_W.map (Proc.devRef (τ := τ) .tc)).toFinset :=
  StableHlo.forall_writes_sub_of_map rfl

/-- 10 operations of @main, from `main_v47` to `main_cst_13`. -/
abbrev ops16 : List (HloOp τ sig (Elt F)) :=
  ( StableHlo.binary main_c main_c_10 main_v47 (Host.shrui : (⟨S_, .i32⟩ : BufTy).Contents (Elt F) → (⟨S_, .i32⟩ : BufTy).Contents (Elt F) → (⟨S_, .i32⟩ : BufTy).Contents (Elt F))
  :: StableHlo.unary main_v47 main_v48 (id : (⟨S_, .i32⟩ : BufTy).Contents (Elt F) → (⟨S_, .i32⟩ : BufTy).Contents (Elt F))
  :: StableHlo.unary main_v48 main_v49 (broadcastInDim S1 ![] bcast_S_S1 : (⟨S_, .i32⟩ : BufTy).Contents (Elt F) → (⟨S1, .i32⟩ : BufTy).Contents (Elt F))
  :: StableHlo.nullary main_c_11 (constantI S_ 32 4294967295#32)
  :: StableHlo.binary main_c main_c_11 main_v50 (andi : (⟨S_, .i32⟩ : BufTy).Contents (Elt F) → (⟨S_, .i32⟩ : BufTy).Contents (Elt F) → (⟨S_, .i32⟩ : BufTy).Contents (Elt F))
  :: StableHlo.unary main_v50 main_v51 (id : (⟨S_, .i32⟩ : BufTy).Contents (Elt F) → (⟨S_, .i32⟩ : BufTy).Contents (Elt F))
  :: StableHlo.unary main_v51 main_v52 (broadcastInDim S1 ![] bcast_S_S1 : (⟨S_, .i32⟩ : BufTy).Contents (Elt F) → (⟨S1, .i32⟩ : BufTy).Contents (Elt F))
  :: StableHlo.binary main_v49 main_v52 main_v53 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F))
  :: StableHlo.nullary main_cst_12 (constant S_ .f32 0x00000000#32)
  :: StableHlo.nullary main_cst_13 (constant S_ .f32 0x3F800000#32)
  :: [] )
/-- Each touches TensorCore references only. -/
theorem ops16_sub : (ops16 : List (HloOp τ sig (Elt F))).Forall fun op => op.bufs ⊆ StableHlo.tcRefs τ sig :=
  ⟨StableHlo.binary_bufs_sub .., StableHlo.unary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.nullary_bufs_sub ..⟩
/-- Each determines its results. -/
theorem ops16_fresh : (ops16 : List (HloOp τ sig (Elt F))).Forall fun op => op.fresh = ∅ := StableHlo.forall_fresh_of_map rfl
/-- What they write, in order. -/
abbrev ops16_W : List (Ref sig .tc) := [main_v47, main_v48, main_v49, main_c_11, main_v50, main_v51, main_v52, main_v53, main_cst_12, main_cst_13]
theorem ops16_writes : (ops16 : List (HloOp τ sig (Elt F))).Forall fun op => op.writes ⊆ (ops16_W.map (Proc.devRef (τ := τ) .tc)).toFinset :=
  StableHlo.forall_writes_sub_of_map rfl

set_option maxHeartbeats 40000000 in
/-- 272 operations of a call of @uniform, from `main_call7_v0` to `main_v54`. -/
abbrev ops17 : List (HloOp τ sig (Elt F)) :=
  ( StableHlo.TRef.unary (.of main_cst_12 : StableHlo.TRef sig ⟨S_, .f32⟩) (.of main_call7_v0 : StableHlo.TRef sig ⟨S_, .f32⟩) id
  :: StableHlo.TRef.unary (.of main_cst_13 : StableHlo.TRef sig ⟨S_, .f32⟩) (.of main_call7_v1 : StableHlo.TRef sig ⟨S_, .f32⟩) id
  :: StableHlo.TRef.unary (.of main_call7_v0 : StableHlo.TRef sig ⟨S_, .f32⟩) (.of main_call7_v2 : StableHlo.TRef sig ⟨S1x1x1x1, .f32⟩) (broadcastInDim S1x1x1x1 ![] bcast_S_S1x1x1x1)
  :: StableHlo.TRef.unary (.of main_call7_v1 : StableHlo.TRef sig ⟨S_, .f32⟩) (.of main_call7_v3 : StableHlo.TRef sig ⟨S1x1x1x1, .f32⟩) (broadcastInDim S1x1x1x1 ![] bcast_S_S1x1x1x1)
  :: StableHlo.TRef.unary (.of main_v53 : StableHlo.TRef sig ⟨S2, .i32⟩) (.of main_call7_v4 : StableHlo.TRef sig ⟨S1, .i32⟩) (extractStridedSlice S1 ![0] · slices_S2_S1_0)
  :: StableHlo.TRef.reshape (.of main_call7_v4 : StableHlo.TRef sig ⟨S1, .i32⟩) (.of main_call7_v5 : StableHlo.TRef sig ⟨S_, .i32⟩) (rfl : (.i32 : EltTy) = .i32) shapeCasts_S1_S_
  :: StableHlo.TRef.unary (.of main_v53 : StableHlo.TRef sig ⟨S2, .i32⟩) (.of main_call7_v6 : StableHlo.TRef sig ⟨S1, .i32⟩) (extractStridedSlice S1 ![1] · slices_S2_S1_1)
  :: StableHlo.TRef.reshape (.of main_call7_v6 : StableHlo.TRef sig ⟨S1, .i32⟩) (.of main_call7_v7 : StableHlo.TRef sig ⟨S_, .i32⟩) (rfl : (.i32 : EltTy) = .i32) shapeCasts_S1_S_
  :: StableHlo.TRef.nullary (.of main_call7_v8 : StableHlo.TRef sig ⟨S1024x1x16x512, .i64⟩) (iotaInDim S1024x1x16x512 64 0)
  :: StableHlo.TRef.nullary (.of main_call7_v9 : StableHlo.TRef sig ⟨S1024x1x16x512, .i64⟩) (iotaInDim S1024x1x16x512 64 1)
  :: StableHlo.TRef.nullary (.of main_call7_v10 : StableHlo.TRef sig ⟨S1024x1x16x512, .i64⟩) (iotaInDim S1024x1x16x512 64 2)
  :: StableHlo.TRef.nullary (.of main_call7_v11 : StableHlo.TRef sig ⟨S1024x1x16x512, .i64⟩) (iotaInDim S1024x1x16x512 64 3)
  :: StableHlo.TRef.nullary (.of main_call7_c : StableHlo.TRef sig ⟨S_, .i64⟩) (constantI S_ 64 8192#64)
  :: StableHlo.TRef.unary (.of main_call7_c : StableHlo.TRef sig ⟨S_, .i64⟩) (.of main_call7_v12 : StableHlo.TRef sig ⟨S1024x1x16x512, .i64⟩) (broadcastInDim S1024x1x16x512 ![] bcast_S_S1024x1x16x512)
  :: StableHlo.TRef.binary (.of main_call7_v12 : StableHlo.TRef sig ⟨S1024x1x16x512, .i64⟩) (.of main_call7_v8 : StableHlo.TRef sig ⟨S1024x1x16x512, .i64⟩) (.of main_call7_v13 : StableHlo.TRef sig ⟨S1024x1x16x512, .i64⟩) muli
  :: StableHlo.TRef.nullary (.of main_call7_c_0 : StableHlo.TRef sig ⟨S_, .i64⟩) (constantI S_ 64 8192#64)
  :: StableHlo.TRef.unary (.of main_call7_c_0 : StableHlo.TRef sig ⟨S_, .i64⟩) (.of main_call7_v14 : StableHlo.TRef sig ⟨S1024x1x16x512, .i64⟩) (broadcastInDim S1024x1x16x512 ![] bcast_S_S1024x1x16x512)
  :: StableHlo.TRef.binary (.of main_call7_v14 : StableHlo.TRef sig ⟨S1024x1x16x512, .i64⟩) (.of main_call7_v9 : StableHlo.TRef sig ⟨S1024x1x16x512, .i64⟩) (.of main_call7_v15 : StableHlo.TRef sig ⟨S1024x1x16x512, .i64⟩) muli
  :: StableHlo.TRef.nullary (.of main_call7_c_1 : StableHlo.TRef sig ⟨S_, .i64⟩) (constantI S_ 64 512#64)
  :: StableHlo.TRef.unary (.of main_call7_c_1 : StableHlo.TRef sig ⟨S_, .i64⟩) (.of main_call7_v16 : StableHlo.TRef sig ⟨S1024x1x16x512, .i64⟩) (broadcastInDim S1024x1x16x512 ![] bcast_S_S1024x1x16x512)
  :: StableHlo.TRef.binary (.of main_call7_v16 : StableHlo.TRef sig ⟨S1024x1x16x512, .i64⟩) (.of main_call7_v10 : StableHlo.TRef sig ⟨S1024x1x16x512, .i64⟩) (.of main_call7_v17 : StableHlo.TRef sig ⟨S1024x1x16x512, .i64⟩) muli
  :: StableHlo.TRef.nullary (.of main_call7_c_2 : StableHlo.TRef sig ⟨S_, .i64⟩) (constantI S_ 64 1#64)
  :: StableHlo.TRef.unary (.of main_call7_c_2 : StableHlo.TRef sig ⟨S_, .i64⟩) (.of main_call7_v18 : StableHlo.TRef sig ⟨S1024x1x16x512, .i64⟩) (broadcastInDim S1024x1x16x512 ![] bcast_S_S1024x1x16x512)
  :: StableHlo.TRef.binary (.of main_call7_v18 : StableHlo.TRef sig ⟨S1024x1x16x512, .i64⟩) (.of main_call7_v11 : StableHlo.TRef sig ⟨S1024x1x16x512, .i64⟩) (.of main_call7_v19 : StableHlo.TRef sig ⟨S1024x1x16x512, .i64⟩) muli
  :: StableHlo.TRef.binary (.of main_call7_v13 : StableHlo.TRef sig ⟨S1024x1x16x512, .i64⟩) (.of main_call7_v15 : StableHlo.TRef sig ⟨S1024x1x16x512, .i64⟩) (.of main_call7_v20 : StableHlo.TRef sig ⟨S1024x1x16x512, .i64⟩) addi
  :: StableHlo.TRef.binary (.of main_call7_v20 : StableHlo.TRef sig ⟨S1024x1x16x512, .i64⟩) (.of main_call7_v17 : StableHlo.TRef sig ⟨S1024x1x16x512, .i64⟩) (.of main_call7_v21 : StableHlo.TRef sig ⟨S1024x1x16x512, .i64⟩) addi
  :: StableHlo.TRef.binary (.of main_call7_v21 : StableHlo.TRef sig ⟨S1024x1x16x512, .i64⟩) (.of main_call7_v19 : StableHlo.TRef sig ⟨S1024x1x16x512, .i64⟩) (.of main_call7_v22 : StableHlo.TRef sig ⟨S1024x1x16x512, .i64⟩) addi
  :: StableHlo.TRef.nullary (.of main_call7_c_3 : StableHlo.TRef sig ⟨S_, .i64⟩) (constantI S_ 64 32#64)
  :: StableHlo.TRef.unary (.of main_call7_c_3 : StableHlo.TRef sig ⟨S_, .i64⟩) (.of main_call7_v23 : StableHlo.TRef sig ⟨S1024x1x16x512, .i64⟩) (broadcastInDim S1024x1x16x512 ![] bcast_S_S1024x1x16x512)
  :: StableHlo.TRef.binary (.of main_call7_v22 : StableHlo.TRef sig ⟨S1024x1x16x512, .i64⟩) (.of main_call7_v23 : StableHlo.TRef sig ⟨S1024x1x16x512, .i64⟩) (.of main_call7_v24 : StableHlo.TRef sig ⟨S1024x1x16x512, .i64⟩) Host.shrui
  :: StableHlo.TRef.unary (.of main_call7_v22 : StableHlo.TRef sig ⟨S1024x1x16x512, .i64⟩) (.of main_call7_v25 : StableHlo.TRef sig ⟨S1024x1x16x512, .i32⟩) (trunci 32 · natLt_32_64)
  :: StableHlo.TRef.unary (.of main_call7_v24 : StableHlo.TRef sig ⟨S1024x1x16x512, .i64⟩) (.of main_call7_v26 : StableHlo.TRef sig ⟨S1024x1x16x512, .i32⟩) (trunci 32 · natLt_32_64)
  :: StableHlo.TRef.binary (.of main_call7_v5 : StableHlo.TRef sig ⟨S_, .i32⟩) (.of main_call7_v7 : StableHlo.TRef sig ⟨S_, .i32⟩) (.of main_call7_call0_v0 : StableHlo.TRef sig ⟨S_, .i32⟩) xori
  :: StableHlo.TRef.nullary (.of main_call7_call0_c : StableHlo.TRef sig ⟨S_, .i32⟩) (constantI S_ 32 466688986#32)
  :: StableHlo.TRef.binary (.of main_call7_call0_v0 : StableHlo.TRef sig ⟨S_, .i32⟩) (.of main_call7_call0_c : StableHlo.TRef sig ⟨S_, .i32⟩) (.of main_call7_call0_v1 : StableHlo.TRef sig ⟨S_, .i32⟩) xori
  :: StableHlo.TRef.unary (.of main_call7_v5 : StableHlo.TRef sig ⟨S_, .i32⟩) (.of main_call7_call0_v2 : StableHlo.TRef sig ⟨S1024x1x16x512, .i32⟩) (broadcastInDim S1024x1x16x512 ![] bcast_S_S1024x1x16x512)
  :: StableHlo.TRef.binary (.of main_call7_v26 : StableHlo.TRef sig ⟨S1024x1x16x512, .i32⟩) (.of main_call7_call0_v2 : StableHlo.TRef sig ⟨S1024x1x16x512, .i32⟩) (.of main_call7_call0_v3 : StableHlo.TRef sig ⟨S1024x1x16x512, .i32⟩) addi
  :: StableHlo.TRef.unary (.of main_call7_v7 : StableHlo.TRef sig ⟨S_, .i32⟩) (.of main_call7_call0_v4 : StableHlo.TRef sig ⟨S1024x1x16x512, .i32⟩) (broadcastInDim S1024x1x16x512 ![] bcast_S_S1024x1x16x512)
  :: StableHlo.TRef.binary (.of main_call7_v25 : StableHlo.TRef sig ⟨S1024x1x16x512, .i32⟩) (.of main_call7_call0_v4 : StableHlo.TRef sig ⟨S1024x1x16x512, .i32⟩) (.of main_call7_call0_v5 : StableHlo.TRef sig ⟨S1024x1x16x512, .i32⟩) addi
  :: StableHlo.TRef.binary (.of main_call7_call0_v3 : StableHlo.TRef sig ⟨S1024x1x16x512, .i32⟩) (.of main_call7_call0_v5 : StableHlo.TRef sig ⟨S1024x1x16x512, .i32⟩) (.of main_call7_call0_v6 : StableHlo.TRef sig ⟨S1024x1x16x512, .i32⟩) addi
  :: StableHlo.TRef.nullary (.of main_call7_call0_c_0 : StableHlo.TRef sig ⟨S_, .i32⟩) (constantI S_ 32 13#32)
  :: StableHlo.TRef.unary (.of main_call7_call0_c_0 : StableHlo.TRef sig ⟨S_, .i32⟩) (.of main_call7_call0_v7 : StableHlo.TRef sig ⟨S1024x1x16x512, .i32⟩) (broadcastInDim S1024x1x16x512 ![] bcast_S_S1024x1x16x512)
  :: StableHlo.TRef.binary (.of main_call7_call0_v5 : StableHlo.TRef sig ⟨S1024x1x16x512, .i32⟩) (.of main_call7_call0_v7 : StableHlo.TRef sig ⟨S1024x1x16x512, .i32⟩) (.of main_call7_call0_v8 : StableHlo.TRef sig ⟨S1024x1x16x512, .i32⟩) Host.shli
  :: StableHlo.TRef.nullary (.of main_call7_call0_c_1 : StableHlo.TRef sig ⟨S_, .i32⟩) (constantI S_ 32 19#32)
  :: StableHlo.TRef.unary (.of main_call7_call0_c_1 : StableHlo.TRef sig ⟨S_, .i32⟩) (.of main_call7_call0_v9 : StableHlo.TRef sig ⟨S1024x1x16x512, .i32⟩) (broadcastInDim S1024x1x16x512 ![] bcast_S_S1024x1x16x512)
  :: StableHlo.TRef.binary (.of main_call7_call0_v5 : StableHlo.TRef sig ⟨S1024x1x16x512, .i32⟩) (.of main_call7_call0_v9 : StableHlo.TRef sig ⟨S1024x1x16x512, .i32⟩) (.of main_call7_call0_v10 : StableHlo.TRef sig ⟨S1024x1x16x512, .i32⟩) Host.shrui
  :: StableHlo.TRef.binary (.of main_call7_call0_v8 : StableHlo.TRef sig ⟨S1024x1x16x512, .i32⟩) (.of main_call7_call0_v10 : StableHlo.TRef sig ⟨S1024x1x16x512, .i32⟩) (.of main_call7_call0_v11 : StableHlo.TRef sig ⟨S1024x1x16x512, .i32⟩) ori
  :: StableHlo.TRef.binary (.of main_call7_call0_v6 : StableHlo.TRef sig ⟨S1024x1x16x512, .i32⟩) (.of main_call7_call0_v11 : StableHlo.TRef sig ⟨S1024x1x16x512, .i32⟩) (.of main_call7_call0_v12 : StableHlo.TRef sig ⟨S1024x1x16x512, .i32⟩) xori
  :: StableHlo.TRef.binary (.of main_call7_call0_v6 : StableHlo.TRef sig ⟨S1024x1x16x512, .i32⟩) (.of main_call7_call0_v12 : StableHlo.TRef sig ⟨S1024x1x16x512, .i32⟩) (.of main_call7_call0_v13 : StableHlo.TRef sig ⟨S1024x1x16x512, .i32⟩) addi
  :: StableHlo.TRef.nullary (.of main_call7_call0_c_2 : StableHlo.TRef sig ⟨S_, .i32⟩) (constantI S_ 32 15#32)
  :: StableHlo.TRef.unary (.of main_call7_call0_c_2 : StableHlo.TRef sig ⟨S_, .i32⟩) (.of main_call7_call0_v14 : StableHlo.TRef sig ⟨S1024x1x16x512, .i32⟩) (broadcastInDim S1024x1x16x512 ![] bcast_S_S1024x1x16x512)
  :: StableHlo.TRef.binary (.of main_call7_call0_v12 : StableHlo.TRef sig ⟨S1024x1x16x512, .i32⟩) (.of main_call7_call0_v14 : StableHlo.TRef sig ⟨S1024x1x16x512, .i32⟩) (.of main_call7_call0_v15 : StableHlo.TRef sig ⟨S1024x1x16x512, .i32⟩) Host.shli
  :: StableHlo.TRef.nullary (.of main_call7_call0_c_3 : StableHlo.TRef sig ⟨S_, .i32⟩) (constantI S_ 32 17#32)
  :: StableHlo.TRef.unary (.of main_call7_call0_c_3 : StableHlo.TRef sig ⟨S_, .i32⟩) (.of main_call7_call0_v16 : StableHlo.TRef sig ⟨S1024x1x16x512, .i32⟩) (broadcastInDim S1024x1x16x512 ![] bcast_S_S1024x1x16x512)
  :: StableHlo.TRef.binary (.of main_call7_call0_v12 : StableHlo.TRef sig ⟨S1024x1x16x512, .i32⟩) (.of main_call7_call0_v16 : StableHlo.TRef sig ⟨S1024x1x16x512, .i32⟩) (.of main_call7_call0_v17 : StableHlo.TRef sig ⟨S1024x1x16x512, .i32⟩) Host.shrui
  :: StableHlo.TRef.binary (.of main_call7_call0_v15 : StableHlo.TRef sig ⟨S1024x1x16x512, .i32⟩) (.of main_call7_call0_v17 : StableHlo.TRef sig ⟨S1024x1x16x512, .i32⟩) (.of main_call7_call0_v18 : StableHlo.TRef sig ⟨S1024x1x16x512, .i32⟩) ori
  :: StableHlo.TRef.binary (.of main_call7_call0_v13 : StableHlo.TRef sig ⟨S1024x1x16x512, .i32⟩) (.of main_call7_call0_v18 : StableHlo.TRef sig ⟨S1024x1x16x512, .i32⟩) (.of main_call7_call0_v19 : StableHlo.TRef sig ⟨S1024x1x16x512, .i32⟩) xori
  :: StableHlo.TRef.binary (.of main_call7_call0_v13 : StableHlo.TRef sig ⟨S1024x1x16x512, .i32⟩) (.of main_call7_call0_v19 : StableHlo.TRef sig ⟨S1024x1x16x512, .i32⟩) (.of main_call7_call0_v20 : StableHlo.TRef sig ⟨S1024x1x16x512, .i32⟩) addi
  :: StableHlo.TRef.nullary (.of main_call7_call0_c_4 : StableHlo.TRef sig ⟨S_, .i32⟩) (constantI S_ 32 26#32)
  :: StableHlo.TRef.unary (.of main_call7_call0_c_4 : StableHlo.TRef sig ⟨S_, .i32⟩) (.of main_call7_call0_v21 : StableHlo.TRef sig ⟨S1024x1x16x512, .i32⟩) (broadcastInDim S1024x1x16x512 ![] bcast_S_S1024x1x16x512)
  :: StableHlo.TRef.binary (.of main_call7_call0_v19 : StableHlo.TRef sig ⟨S1024x1x16x512, .i32⟩) (.of main_call7_call0_v21 : StableHlo.TRef sig ⟨S1024x1x16x512, .i32⟩) (.of main_call7_call0_v22 : StableHlo.TRef sig ⟨S1024x1x16x512, .i32⟩) Host.shli
  :: StableHlo.TRef.nullary (.of main_call7_call0_c_5 : StableHlo.TRef sig ⟨S_, .i32⟩) (constantI S_ 32 6#32)
  :: StableHlo.TRef.unary (.of main_call7_call0_c_5 : StableHlo.TRef sig ⟨S_, .i32⟩) (.of main_call7_call0_v23 : StableHlo.TRef sig ⟨S1024x1x16x512, .i32⟩) (broadcastInDim S1024x1x16x512 ![] bcast_S_S1024x1x16x512)
  :: StableHlo.TRef.binary (.of main_call7_call0_v19 : StableHlo.TRef sig ⟨S1024x1x16x512, .i32⟩) (.of main_call7_call0_v23 : StableHlo.TRef sig ⟨S1024x1x16x512, .i32⟩) (.of main_call7_call0_v24 : StableHlo.TRef sig ⟨S1024x1x16x512, .i32⟩) Host.shrui
  :: StableHlo.TRef.binary (.of main_call7_call0_v22 : StableHlo.TRef sig ⟨S1024x1x16x512, .i32⟩) (.of main_call7_call0_v24 : StableHlo.TRef sig ⟨S1024x1x16x512, .i32⟩) (.of main_call7_call0_v25 : StableHlo.TRef sig ⟨S1024x1x16x512, .i32⟩) ori
  :: StableHlo.TRef.binary (.of main_call7_call0_v20 : StableHlo.TRef sig ⟨S1024x1x16x512, .i32⟩) (.of main_call7_call0_v25 : StableHlo.TRef sig ⟨S1024x1x16x512, .i32⟩) (.of main_call7_call0_v26 : StableHlo.TRef sig ⟨S1024x1x16x512, .i32⟩) xori
  :: StableHlo.TRef.binary (.of main_call7_call0_v20 : StableHlo.TRef sig ⟨S1024x1x16x512, .i32⟩) (.of main_call7_call0_v26 : StableHlo.TRef sig ⟨S1024x1x16x512, .i32⟩) (.of main_call7_call0_v27 : StableHlo.TRef sig ⟨S1024x1x16x512, .i32⟩) addi
  :: StableHlo.TRef.nullary (.of main_call7_call0_c_6 : StableHlo.TRef sig ⟨S_, .i32⟩) (constantI S_ 32 6#32)
  :: StableHlo.TRef.unary (.of main_call7_call0_c_6 : StableHlo.TRef sig ⟨S_, .i32⟩) (.of main_call7_call0_v28 : StableHlo.TRef sig ⟨S1024x1x16x512, .i32⟩) (broadcastInDim S1024x1x16x512 ![] bcast_S_S1024x1x16x512)
  :: StableHlo.TRef.binary (.of main_call7_call0_v26 : StableHlo.TRef sig ⟨S1024x1x16x512, .i32⟩) (.of main_call7_call0_v28 : StableHlo.TRef sig ⟨S1024x1x16x512, .i32⟩) (.of main_call7_call0_v29 : StableHlo.TRef sig ⟨S1024x1x16x512, .i32⟩) Host.shli
  :: StableHlo.TRef.nullary (.of main_call7_call0_c_7 : StableHlo.TRef sig ⟨S_, .i32⟩) (constantI S_ 32 26#32)
  :: StableHlo.TRef.unary (.of main_call7_call0_c_7 : StableHlo.TRef sig ⟨S_, .i32⟩) (.of main_call7_call0_v30 : StableHlo.TRef sig ⟨S1024x1x16x512, .i32⟩) (broadcastInDim S1024x1x16x512 ![] bcast_S_S1024x1x16x512)
  :: StableHlo.TRef.binary (.of main_call7_call0_v26 : StableHlo.TRef sig ⟨S1024x1x16x512, .i32⟩) (.of main_call7_call0_v30 : StableHlo.TRef sig ⟨S1024x1x16x512, .i32⟩) (.of main_call7_call0_v31 : StableHlo.TRef sig ⟨S1024x1x16x512, .i32⟩) Host.shrui
  :: StableHlo.TRef.binary (.of main_call7_call0_v29 : StableHlo.TRef sig ⟨S1024x1x16x512, .i32⟩) (.of main_call7_call0_v31 : StableHlo.TRef sig ⟨S1024x1x16x512, .i32⟩) (.of main_call7_call0_v32 : StableHlo.TRef sig ⟨S1024x1x16x512, .i32⟩) ori
  :: StableHlo.TRef.binary (.of main_call7_call0_v27 : StableHlo.TRef sig ⟨S1024x1x16x512, .i32⟩) (.of main_call7_call0_v32 : StableHlo.TRef sig ⟨S1024x1x16x512, .i32⟩) (.of main_call7_call0_v33 : StableHlo.TRef sig ⟨S1024x1x16x512, .i32⟩) xori
  :: StableHlo.TRef.unary (.of main_call7_v7 : StableHlo.TRef sig ⟨S_, .i32⟩) (.of main_call7_call0_v34 : StableHlo.TRef sig ⟨S1024x1x16x512, .i32⟩) (broadcastInDim S1024x1x16x512 ![] bcast_S_S1024x1x16x512)
  :: StableHlo.TRef.binary (.of main_call7_call0_v27 : StableHlo.TRef sig ⟨S1024x1x16x512, .i32⟩) (.of main_call7_call0_v34 : StableHlo.TRef sig ⟨S1024x1x16x512, .i32⟩) (.of main_call7_call0_v35 : StableHlo.TRef sig ⟨S1024x1x16x512, .i32⟩) addi
  :: StableHlo.TRef.unary (.of main_call7_call0_v1 : StableHlo.TRef sig ⟨S_, .i32⟩) (.of main_call7_call0_v36 : StableHlo.TRef sig ⟨S1024x1x16x512, .i32⟩) (broadcastInDim S1024x1x16x512 ![] bcast_S_S1024x1x16x512)
  :: StableHlo.TRef.binary (.of main_call7_call0_v33 : StableHlo.TRef sig ⟨S1024x1x16x512, .i32⟩) (.of main_call7_call0_v36 : StableHlo.TRef sig ⟨S1024x1x16x512, .i32⟩) (.of main_call7_call0_v37 : StableHlo.TRef sig ⟨S1024x1x16x512, .i32⟩) addi
  :: StableHlo.TRef.nullary (.of main_call7_call0_c_8 : StableHlo.TRef sig ⟨S_, .i32⟩) (constantI S_ 32 1#32)
  :: StableHlo.TRef.unary (.of main_call7_call0_c_8 : StableHlo.TRef sig ⟨S_, .i32⟩) (.of main_call7_call0_v38 : StableHlo.TRef sig ⟨S1024x1x16x512, .i32⟩) (broadcastInDim S1024x1x16x512 ![] bcast_S_S1024x1x16x512)
  :: StableHlo.TRef.binary (.of main_call7_call0_v37 : StableHlo.TRef sig ⟨S1024x1x16x512, .i32⟩) (.of main_call7_call0_v38 : StableHlo.TRef sig ⟨S1024x1x16x512, .i32⟩) (.of main_call7_call0_v39 : StableHlo.TRef sig ⟨S1024x1x16x512, .i32⟩) addi
  :: StableHlo.TRef.binary (.of main_call7_call0_v35 : StableHlo.TRef sig ⟨S1024x1x16x512, .i32⟩) (.of main_call7_call0_v39 : StableHlo.TRef sig ⟨S1024x1x16x512, .i32⟩) (.of main_call7_call0_v40 : StableHlo.TRef sig ⟨S1024x1x16x512, .i32⟩) addi
  :: StableHlo.TRef.nullary (.of main_call7_call0_c_9 : StableHlo.TRef sig ⟨S_, .i32⟩) (constantI S_ 32 17#32)
  :: StableHlo.TRef.unary (.of main_call7_call0_c_9 : StableHlo.TRef sig ⟨S_, .i32⟩) (.of main_call7_call0_v41 : StableHlo.TRef sig ⟨S1024x1x16x512, .i32⟩) (broadcastInDim S1024x1x16x512 ![] bcast_S_S1024x1x16x512)
  :: StableHlo.TRef.binary (.of main_call7_call0_v39 : StableHlo.TRef sig ⟨S1024x1x16x512, .i32⟩) (.of main_call7_call0_v41 : StableHlo.TRef sig ⟨S1024x1x16x512, .i32⟩) (.of main_call7_call0_v42 : StableHlo.TRef sig ⟨S1024x1x16x512, .i32⟩) Host.shli
  :: StableHlo.TRef.nullary (.of main_call7_call0_c_10 : StableHlo.TRef sig ⟨S_, .i32⟩) (constantI S_ 32 15#32)
  :: StableHlo.TRef.unary (.of main_call7_call0_c_10 : StableHlo.TRef sig ⟨S_, .i32⟩) (.of main_call7_call0_v43 : StableHlo.TRef sig ⟨S1024x1x16x512, .i32⟩) (broadcastInDim S1024x1x16x512 ![] bcast_S_S1024x1x16x512)
  :: StableHlo.TRef.binary (.of main_call7_call0_v39 : StableHlo.TRef sig ⟨S1024x1x16x512, .i32⟩) (.of main_call7_call0_v43 : StableHlo.TRef sig ⟨S1024x1x16x512, .i32⟩) (.of main_call7_call0_v44 : StableHlo.TRef sig ⟨S1024x1x16x512, .i32⟩) Host.shrui
  :: StableHlo.TRef.binary (.of main_call7_call0_v42 : StableHlo.TRef sig ⟨S1024x1x16x512, .i32⟩) (.of main_call7_call0_v44 : StableHlo.TRef sig ⟨S1024x1x16x512, .i32⟩) (.of main_call7_call0_v45 : StableHlo.TRef sig ⟨S1024x1x16x512, .i32⟩) ori
  :: StableHlo.TRef.binary (.of main_call7_call0_v40 : StableHlo.TRef sig ⟨S1024x1x16x512, .i32⟩) (.of main_call7_call0_v45 : StableHlo.TRef sig ⟨S1024x1x16x512, .i32⟩) (.of main_call7_call0_v46 : StableHlo.TRef sig ⟨S1024x1x16x512, .i32⟩) xori
  :: StableHlo.TRef.binary (.of main_call7_call0_v40 : StableHlo.TRef sig ⟨S1024x1x16x512, .i32⟩) (.of main_call7_call0_v46 : StableHlo.TRef sig ⟨S1024x1x16x512, .i32⟩) (.of main_call7_call0_v47 : StableHlo.TRef sig ⟨S1024x1x16x512, .i32⟩) addi
  :: StableHlo.TRef.nullary (.of main_call7_call0_c_11 : StableHlo.TRef sig ⟨S_, .i32⟩) (constantI S_ 32 29#32)
  :: StableHlo.TRef.unary (.of main_call7_call0_c_11 : StableHlo.TRef sig ⟨S_, .i32⟩) (.of main_call7_call0_v48 : StableHlo.TRef sig ⟨S1024x1x16x512, .i32⟩) (broadcastInDim S1024x1x16x512 ![] bcast_S_S1024x1x16x512)
  :: StableHlo.TRef.binary (.of main_call7_call0_v46 : StableHlo.TRef sig ⟨S1024x1x16x512, .i32⟩) (.of main_call7_call0_v48 : StableHlo.TRef sig ⟨S1024x1x16x512, .i32⟩) (.of main_call7_call0_v49 : StableHlo.TRef sig ⟨S1024x1x16x512, .i32⟩) Host.shli
  :: StableHlo.TRef.nullary (.of main_call7_call0_c_12 : StableHlo.TRef sig ⟨S_, .i32⟩) (constantI S_ 32 3#32)
  :: StableHlo.TRef.unary (.of main_call7_call0_c_12 : StableHlo.TRef sig ⟨S_, .i32⟩) (.of main_call7_call0_v50 : StableHlo.TRef sig ⟨S1024x1x16x512, .i32⟩) (broadcastInDim S1024x1x16x512 ![] bcast_S_S1024x1x16x512)
  :: StableHlo.TRef.binary (.of main_call7_call0_v46 : StableHlo.TRef sig ⟨S1024x1x16x512, .i32⟩) (.of main_call7_call0_v50 : StableHlo.TRef sig ⟨S1024x1x16x512, .i32⟩) (.of main_call7_call0_v51 : StableHlo.TRef sig ⟨S1024x1x16x512, .i32⟩) Host.shrui
  :: StableHlo.TRef.binary (.of main_call7_call0_v49 : StableHlo.TRef sig ⟨S1024x1x16x512, .i32⟩) (.of main_call7_call0_v51 : StableHlo.TRef sig ⟨S1024x1x16x512, .i32⟩) (.of main_call7_call0_v52 : StableHlo.TRef sig ⟨S1024x1x16x512, .i32⟩) ori
  :: StableHlo.TRef.binary (.of main_call7_call0_v47 : StableHlo.TRef sig ⟨S1024x1x16x512, .i32⟩) (.of main_call7_call0_v52 : StableHlo.TRef sig ⟨S1024x1x16x512, .i32⟩) (.of main_call7_call0_v53 : StableHlo.TRef sig ⟨S1024x1x16x512, .i32⟩) xori
  :: StableHlo.TRef.binary (.of main_call7_call0_v47 : StableHlo.TRef sig ⟨S1024x1x16x512, .i32⟩) (.of main_call7_call0_v53 : StableHlo.TRef sig ⟨S1024x1x16x512, .i32⟩) (.of main_call7_call0_v54 : StableHlo.TRef sig ⟨S1024x1x16x512, .i32⟩) addi
  :: StableHlo.TRef.nullary (.of main_call7_call0_c_13 : StableHlo.TRef sig ⟨S_, .i32⟩) (constantI S_ 32 16#32)
  :: StableHlo.TRef.unary (.of main_call7_call0_c_13 : StableHlo.TRef sig ⟨S_, .i32⟩) (.of main_call7_call0_v55 : StableHlo.TRef sig ⟨S1024x1x16x512, .i32⟩) (broadcastInDim S1024x1x16x512 ![] bcast_S_S1024x1x16x512)
  :: StableHlo.TRef.binary (.of main_call7_call0_v53 : StableHlo.TRef sig ⟨S1024x1x16x512, .i32⟩) (.of main_call7_call0_v55 : StableHlo.TRef sig ⟨S1024x1x16x512, .i32⟩) (.of main_call7_call0_v56 : StableHlo.TRef sig ⟨S1024x1x16x512, .i32⟩) Host.shli
  :: StableHlo.TRef.nullary (.of main_call7_call0_c_14 : StableHlo.TRef sig ⟨S_, .i32⟩) (constantI S_ 32 16#32)
  :: StableHlo.TRef.unary (.of main_call7_call0_c_14 : StableHlo.TRef sig ⟨S_, .i32⟩) (.of main_call7_call0_v57 : StableHlo.TRef sig ⟨S1024x1x16x512, .i32⟩) (broadcastInDim S1024x1x16x512 ![] bcast_S_S1024x1x16x512)
  :: StableHlo.TRef.binary (.of main_call7_call0_v53 : StableHlo.TRef sig ⟨S1024x1x16x512, .i32⟩) (.of main_call7_call0_v57 : StableHlo.TRef sig ⟨S1024x1x16x512, .i32⟩) (.of main_call7_call0_v58 : StableHlo.TRef sig ⟨S1024x1x16x512, .i32⟩) Host.shrui
  :: StableHlo.TRef.binary (.of main_call7_call0_v56 : StableHlo.TRef sig ⟨S1024x1x16x512, .i32⟩) (.of main_call7_call0_v58 : StableHlo.TRef sig ⟨S1024x1x16x512, .i32⟩) (.of main_call7_call0_v59 : StableHlo.TRef sig ⟨S1024x1x16x512, .i32⟩) ori
  :: StableHlo.TRef.binary (.of main_call7_call0_v54 : StableHlo.TRef sig ⟨S1024x1x16x512, .i32⟩) (.of main_call7_call0_v59 : StableHlo.TRef sig ⟨S1024x1x16x512, .i32⟩) (.of main_call7_call0_v60 : StableHlo.TRef sig ⟨S1024x1x16x512, .i32⟩) xori
  :: StableHlo.TRef.binary (.of main_call7_call0_v54 : StableHlo.TRef sig ⟨S1024x1x16x512, .i32⟩) (.of main_call7_call0_v60 : StableHlo.TRef sig ⟨S1024x1x16x512, .i32⟩) (.of main_call7_call0_v61 : StableHlo.TRef sig ⟨S1024x1x16x512, .i32⟩) addi
  :: StableHlo.TRef.nullary (.of main_call7_call0_c_15 : StableHlo.TRef sig ⟨S_, .i32⟩) (constantI S_ 32 24#32)
  :: StableHlo.TRef.unary (.of main_call7_call0_c_15 : StableHlo.TRef sig ⟨S_, .i32⟩) (.of main_call7_call0_v62 : StableHlo.TRef sig ⟨S1024x1x16x512, .i32⟩) (broadcastInDim S1024x1x16x512 ![] bcast_S_S1024x1x16x512)
  :: StableHlo.TRef.binary (.of main_call7_call0_v60 : StableHlo.TRef sig ⟨S1024x1x16x512, .i32⟩) (.of main_call7_call0_v62 : StableHlo.TRef sig ⟨S1024x1x16x512, .i32⟩) (.of main_call7_call0_v63 : StableHlo.TRef sig ⟨S1024x1x16x512, .i32⟩) Host.shli
  :: StableHlo.TRef.nullary (.of main_call7_call0_c_16 : StableHlo.TRef sig ⟨S_, .i32⟩) (constantI S_ 32 8#32)
  :: StableHlo.TRef.unary (.of main_call7_call0_c_16 : StableHlo.TRef sig ⟨S_, .i32⟩) (.of main_call7_call0_v64 : StableHlo.TRef sig ⟨S1024x1x16x512, .i32⟩) (broadcastInDim S1024x1x16x512 ![] bcast_S_S1024x1x16x512)
  :: StableHlo.TRef.binary (.of main_call7_call0_v60 : StableHlo.TRef sig ⟨S1024x1x16x512, .i32⟩) (.of main_call7_call0_v64 : StableHlo.TRef sig ⟨S1024x1x16x512, .i32⟩) (.of main_call7_call0_v65 : StableHlo.TRef sig ⟨S1024x1x16x512, .i32⟩) Host.shrui
  :: StableHlo.TRef.binary (.of main_call7_call0_v63 : StableHlo.TRef sig ⟨S1024x1x16x512, .i32⟩) (.of main_call7_call0_v65 : StableHlo.TRef sig ⟨S1024x1x16x512, .i32⟩) (.of main_call7_call0_v66 : StableHlo.TRef sig ⟨S1024x1x16x512, .i32⟩) ori
  :: StableHlo.TRef.binary (.of main_call7_call0_v61 : StableHlo.TRef sig ⟨S1024x1x16x512, .i32⟩) (.of main_call7_call0_v66 : StableHlo.TRef sig ⟨S1024x1x16x512, .i32⟩) (.of main_call7_call0_v67 : StableHlo.TRef sig ⟨S1024x1x16x512, .i32⟩) xori
  :: StableHlo.TRef.unary (.of main_call7_call0_v1 : StableHlo.TRef sig ⟨S_, .i32⟩) (.of main_call7_call0_v68 : StableHlo.TRef sig ⟨S1024x1x16x512, .i32⟩) (broadcastInDim S1024x1x16x512 ![] bcast_S_S1024x1x16x512)
  :: StableHlo.TRef.binary (.of main_call7_call0_v61 : StableHlo.TRef sig ⟨S1024x1x16x512, .i32⟩) (.of main_call7_call0_v68 : StableHlo.TRef sig ⟨S1024x1x16x512, .i32⟩) (.of main_call7_call0_v69 : StableHlo.TRef sig ⟨S1024x1x16x512, .i32⟩) addi
  :: StableHlo.TRef.unary (.of main_call7_v5 : StableHlo.TRef sig ⟨S_, .i32⟩) (.of main_call7_call0_v70 : StableHlo.TRef sig ⟨S1024x1x16x512, .i32⟩) (broadcastInDim S1024x1x16x512 ![] bcast_S_S1024x1x16x512)
  :: StableHlo.TRef.binary (.of main_call7_call0_v67 : StableHlo.TRef sig ⟨S1024x1x16x512, .i32⟩) (.of main_call7_call0_v70 : StableHlo.TRef sig ⟨S1024x1x16x512, .i32⟩) (.of main_call7_call0_v71 : StableHlo.TRef sig ⟨S1024x1x16x512, .i32⟩) addi
  :: StableHlo.TRef.nullary (.of main_call7_call0_c_17 : StableHlo.TRef sig ⟨S_, .i32⟩) (constantI S_ 32 2#32)
  :: StableHlo.TRef.unary (.of main_call7_call0_c_17 : StableHlo.TRef sig ⟨S_, .i32⟩) (.of main_call7_call0_v72 : StableHlo.TRef sig ⟨S1024x1x16x512, .i32⟩) (broadcastInDim S1024x1x16x512 ![] bcast_S_S1024x1x16x512)
  :: StableHlo.TRef.binary (.of main_call7_call0_v71 : StableHlo.TRef sig ⟨S1024x1x16x512, .i32⟩) (.of main_call7_call0_v72 : StableHlo.TRef sig ⟨S1024x1x16x512, .i32⟩) (.of main_call7_call0_v73 : StableHlo.TRef sig ⟨S1024x1x16x512, .i32⟩) addi
  :: StableHlo.TRef.binary (.of main_call7_call0_v69 : StableHlo.TRef sig ⟨S1024x1x16x512, .i32⟩) (.of main_call7_call0_v73 : StableHlo.TRef sig ⟨S1024x1x16x512, .i32⟩) (.of main_call7_call0_v74 : StableHlo.TRef sig ⟨S1024x1x16x512, .i32⟩) addi
  :: StableHlo.TRef.nullary (.of main_call7_call0_c_18 : StableHlo.TRef sig ⟨S_, .i32⟩) (constantI S_ 32 13#32)
  :: StableHlo.TRef.unary (.of main_call7_call0_c_18 : StableHlo.TRef sig ⟨S_, .i32⟩) (.of main_call7_call0_v75 : StableHlo.TRef sig ⟨S1024x1x16x512, .i32⟩) (broadcastInDim S1024x1x16x512 ![] bcast_S_S1024x1x16x512)
  :: StableHlo.TRef.binary (.of main_call7_call0_v73 : StableHlo.TRef sig ⟨S1024x1x16x512, .i32⟩) (.of main_call7_call0_v75 : StableHlo.TRef sig ⟨S1024x1x16x512, .i32⟩) (.of main_call7_call0_v76 : StableHlo.TRef sig ⟨S1024x1x16x512, .i32⟩) Host.shli
  :: StableHlo.TRef.nullary (.of main_call7_call0_c_19 : StableHlo.TRef sig ⟨S_, .i32⟩) (constantI S_ 32 19#32)
  :: StableHlo.TRef.unary (.of main_call7_call0_c_19 : StableHlo.TRef sig ⟨S_, .i32⟩) (.of main_call7_call0_v77 : StableHlo.TRef sig ⟨S1024x1x16x512, .i32⟩) (broadcastInDim S1024x1x16x512 ![] bcast_S_S1024x1x16x512)
  :: StableHlo.TRef.binary (.of main_call7_call0_v73 : StableHlo.TRef sig ⟨S1024x1x16x512, .i32⟩) (.of main_call7_call0_v77 : StableHlo.TRef sig ⟨S1024x1x16x512, .i32⟩) (.of main_call7_call0_v78 : StableHlo.TRef sig ⟨S1024x1x16x512, .i32⟩) Host.shrui
  :: StableHlo.TRef.binary (.of main_call7_call0_v76 : StableHlo.TRef sig ⟨S1024x1x16x512, .i32⟩) (.of main_call7_call0_v78 : StableHlo.TRef sig ⟨S1024x1x16x512, .i32⟩) (.of main_call7_call0_v79 : StableHlo.TRef sig ⟨S1024x1x16x512, .i32⟩) ori
  :: StableHlo.TRef.binary (.of main_call7_call0_v74 : StableHlo.TRef sig ⟨S1024x1x16x512, .i32⟩) (.of main_call7_call0_v79 : StableHlo.TRef sig ⟨S1024x1x16x512, .i32⟩) (.of main_call7_call0_v80 : StableHlo.TRef sig ⟨S1024x1x16x512, .i32⟩) xori
  :: StableHlo.TRef.binary (.of main_call7_call0_v74 : StableHlo.TRef sig ⟨S1024x1x16x512, .i32⟩) (.of main_call7_call0_v80 : StableHlo.TRef sig ⟨S1024x1x16x512, .i32⟩) (.of main_call7_call0_v81 : StableHlo.TRef sig ⟨S1024x1x16x512, .i32⟩) addi
  :: StableHlo.TRef.nullary (.of main_call7_call0_c_20 : StableHlo.TRef sig ⟨S_, .i32⟩) (constantI S_ 32 15#32)
  :: StableHlo.TRef.unary (.of main_call7_call0_c_20 : StableHlo.TRef sig ⟨S_, .i32⟩) (.of main_call7_call0_v82 : StableHlo.TRef sig ⟨S1024x1x16x512, .i32⟩) (broadcastInDim S1024x1x16x512 ![] bcast_S_S1024x1x16x512)
  :: StableHlo.TRef.binary (.of main_call7_call0_v80 : StableHlo.TRef sig ⟨S1024x1x16x512, .i32⟩) (.of main_call7_call0_v82 : StableHlo.TRef sig ⟨S1024x1x16x512, .i32⟩) (.of main_call7_call0_v83 : StableHlo.TRef sig ⟨S1024x1x16x512, .i32⟩) Host.shli
  :: StableHlo.TRef.nullary (.of main_call7_call0_c_21 : StableHlo.TRef sig ⟨S_, .i32⟩) (constantI S_ 32 17#32)
  :: StableHlo.TRef.unary (.of main_call7_call0_c_21 : StableHlo.TRef sig ⟨S_, .i32⟩) (.of main_call7_call0_v84 : StableHlo.TRef sig ⟨S1024x1x16x512, .i32⟩) (broadcastInDim S1024x1x16x512 ![] bcast_S_S1024x1x16x512)
  :: StableHlo.TRef.binary (.of main_call7_call0_v80 : StableHlo.TRef sig ⟨S1024x1x16x512, .i32⟩) (.of main_call7_call0_v84 : StableHlo.TRef sig ⟨S1024x1x16x512, .i32⟩) (.of main_call7_call0_v85 : StableHlo.TRef sig ⟨S1024x1x16x512, .i32⟩) Host.shrui
  :: StableHlo.TRef.binary (.of main_call7_call0_v83 : StableHlo.TRef sig ⟨S1024x1x16x512, .i32⟩) (.of main_call7_call0_v85 : StableHlo.TRef sig ⟨S1024x1x16x512, .i32⟩) (.of main_call7_call0_v86 : StableHlo.TRef sig ⟨S1024x1x16x512, .i32⟩) ori
  :: StableHlo.TRef.binary (.of main_call7_call0_v81 : StableHlo.TRef sig ⟨S1024x1x16x512, .i32⟩) (.of main_call7_call0_v86 : StableHlo.TRef sig ⟨S1024x1x16x512, .i32⟩) (.of main_call7_call0_v87 : StableHlo.TRef sig ⟨S1024x1x16x512, .i32⟩) xori
  :: StableHlo.TRef.binary (.of main_call7_call0_v81 : StableHlo.TRef sig ⟨S1024x1x16x512, .i32⟩) (.of main_call7_call0_v87 : StableHlo.TRef sig ⟨S1024x1x16x512, .i32⟩) (.of main_call7_call0_v88 : StableHlo.TRef sig ⟨S1024x1x16x512, .i32⟩) addi
  :: StableHlo.TRef.nullary (.of main_call7_call0_c_22 : StableHlo.TRef sig ⟨S_, .i32⟩) (constantI S_ 32 26#32)
  :: StableHlo.TRef.unary (.of main_call7_call0_c_22 : StableHlo.TRef sig ⟨S_, .i32⟩) (.of main_call7_call0_v89 : StableHlo.TRef sig ⟨S1024x1x16x512, .i32⟩) (broadcastInDim S1024x1x16x512 ![] bcast_S_S1024x1x16x512)
  :: StableHlo.TRef.binary (.of main_call7_call0_v87 : StableHlo.TRef sig ⟨S1024x1x16x512, .i32⟩) (.of main_call7_call0_v89 : StableHlo.TRef sig ⟨S1024x1x16x512, .i32⟩) (.of main_call7_call0_v90 : StableHlo.TRef sig ⟨S1024x1x16x512, .i32⟩) Host.shli
  :: StableHlo.TRef.nullary (.of main_call7_call0_c_23 : StableHlo.TRef sig ⟨S_, .i32⟩) (constantI S_ 32 6#32)
  :: StableHlo.TRef.unary (.of main_call7_call0_c_23 : StableHlo.TRef sig ⟨S_, .i32⟩) (.of main_call7_call0_v91 : StableHlo.TRef sig ⟨S1024x1x16x512, .i32⟩) (broadcastInDim S1024x1x16x512 ![] bcast_S_S1024x1x16x512)
  :: StableHlo.TRef.binary (.of main_call7_call0_v87 : StableHlo.TRef sig ⟨S1024x1x16x512, .i32⟩) (.of main_call7_call0_v91 : StableHlo.TRef sig ⟨S1024x1x16x512, .i32⟩) (.of main_call7_call0_v92 : StableHlo.TRef sig ⟨S1024x1x16x512, .i32⟩) Host.shrui
  :: StableHlo.TRef.binary (.of main_call7_call0_v90 : StableHlo.TRef sig ⟨S1024x1x16x512, .i32⟩) (.of main_call7_call0_v92 : StableHlo.TRef sig ⟨S1024x1x16x512, .i32⟩) (.of main_call7_call0_v93 : StableHlo.TRef sig ⟨S1024x1x16x512, .i32⟩) ori
  :: StableHlo.TRef.binary (.of main_call7_call0_v88 : StableHlo.TRef sig ⟨S1024x1x16x512, .i32⟩) (.of main_call7_call0_v93 : StableHlo.TRef sig ⟨S1024x1x16x512, .i32⟩) (.of main_call7_call0_v94 : StableHlo.TRef sig ⟨S1024x1x16x512, .i32⟩) xori
  :: StableHlo.TRef.binary (.of main_call7_call0_v88 : StableHlo.TRef sig ⟨S1024x1x16x512, .i32⟩) (.of main_call7_call0_v94 : StableHlo.TRef sig ⟨S1024x1x16x512, .i32⟩) (.of main_call7_call0_v95 : StableHlo.TRef sig ⟨S1024x1x16x512, .i32⟩) addi
  :: StableHlo.TRef.nullary (.of main_call7_call0_c_24 : StableHlo.TRef sig ⟨S_, .i32⟩) (constantI S_ 32 6#32)
  :: StableHlo.TRef.unary (.of main_call7_call0_c_24 : StableHlo.TRef sig ⟨S_, .i32⟩) (.of main_call7_call0_v96 : StableHlo.TRef sig ⟨S1024x1x16x512, .i32⟩) (broadcastInDim S1024x1x16x512 ![] bcast_S_S1024x1x16x512)
  :: StableHlo.TRef.binary (.of main_call7_call0_v94 : StableHlo.TRef sig ⟨S1024x1x16x512, .i32⟩) (.of main_call7_call0_v96 : StableHlo.TRef sig ⟨S1024x1x16x512, .i32⟩) (.of main_call7_call0_v97 : StableHlo.TRef sig ⟨S1024x1x16x512, .i32⟩) Host.shli
  :: StableHlo.TRef.nullary (.of main_call7_call0_c_25 : StableHlo.TRef sig ⟨S_, .i32⟩) (constantI S_ 32 26#32)
  :: StableHlo.TRef.unary (.of main_call7_call0_c_25 : StableHlo.TRef sig ⟨S_, .i32⟩) (.of main_call7_call0_v98 : StableHlo.TRef sig ⟨S1024x1x16x512, .i32⟩) (broadcastInDim S1024x1x16x512 ![] bcast_S_S1024x1x16x512)
  :: StableHlo.TRef.binary (.of main_call7_call0_v94 : StableHlo.TRef sig ⟨S1024x1x16x512, .i32⟩) (.of main_call7_call0_v98 : StableHlo.TRef sig ⟨S1024x1x16x512, .i32⟩) (.of main_call7_call0_v99 : StableHlo.TRef sig ⟨S1024x1x16x512, .i32⟩) Host.shrui
  :: StableHlo.TRef.binary (.of main_call7_call0_v97 : StableHlo.TRef sig ⟨S1024x1x16x512, .i32⟩) (.of main_call7_call0_v99 : StableHlo.TRef sig ⟨S1024x1x16x512, .i32⟩) (.of main_call7_call0_v100 : StableHlo.TRef sig ⟨S1024x1x16x512, .i32⟩) ori
  :: StableHlo.TRef.binary (.of main_call7_call0_v95 : StableHlo.TRef sig ⟨S1024x1x16x512, .i32⟩) (.of main_call7_call0_v100 : StableHlo.TRef sig ⟨S1024x1x16x512, .i32⟩) (.of main_call7_call0_v101 : StableHlo.TRef sig ⟨S1024x1x16x512, .i32⟩) xori
  :: StableHlo.TRef.unary (.of main_call7_v5 : StableHlo.TRef sig ⟨S_, .i32⟩) (.of main_call7_call0_v102 : StableHlo.TRef sig ⟨S1024x1x16x512, .i32⟩) (broadcastInDim S1024x1x16x512 ![] bcast_S_S1024x1x16x512)
  :: StableHlo.TRef.binary (.of main_call7_call0_v95 : StableHlo.TRef sig ⟨S1024x1x16x512, .i32⟩) (.of main_call7_call0_v102 : StableHlo.TRef sig ⟨S1024x1x16x512, .i32⟩) (.of main_call7_call0_v103 : StableHlo.TRef sig ⟨S1024x1x16x512, .i32⟩) addi
  :: StableHlo.TRef.unary (.of main_call7_v7 : StableHlo.TRef sig ⟨S_, .i32⟩) (.of main_call7_call0_v104 : StableHlo.TRef sig ⟨S1024x1x16x512, .i32⟩) (broadcastInDim S1024x1x16x512 ![] bcast_S_S1024x1x16x512)
  :: StableHlo.TRef.binary (.of main_call7_call0_v101 : StableHlo.TRef sig ⟨S1024x1x16x512, .i32⟩) (.of main_call7_call0_v104 : StableHlo.TRef sig ⟨S1024x1x16x512, .i32⟩) (.of main_call7_call0_v105 : StableHlo.TRef sig ⟨S1024x1x16x512, .i32⟩) addi
  :: StableHlo.TRef.nullary (.of main_call7_call0_c_26 : StableHlo.TRef sig ⟨S_, .i32⟩) (constantI S_ 32 3#32)
  :: StableHlo.TRef.unary (.of main_call7_call0_c_26 : StableHlo.TRef sig ⟨S_, .i32⟩) (.of main_call7_call0_v106 : StableHlo.TRef sig ⟨S1024x1x16x512, .i32⟩) (broadcastInDim S1024x1x16x512 ![] bcast_S_S1024x1x16x512)
  :: StableHlo.TRef.binary (.of main_call7_call0_v105 : StableHlo.TRef sig ⟨S1024x1x16x512, .i32⟩) (.of main_call7_call0_v106 : StableHlo.TRef sig ⟨S1024x1x16x512, .i32⟩) (.of main_call7_call0_v107 : StableHlo.TRef sig ⟨S1024x1x16x512, .i32⟩) addi
  :: StableHlo.TRef.binary (.of main_call7_call0_v103 : StableHlo.TRef sig ⟨S1024x1x16x512, .i32⟩) (.of main_call7_call0_v107 : StableHlo.TRef sig ⟨S1024x1x16x512, .i32⟩) (.of main_call7_call0_v108 : StableHlo.TRef sig ⟨S1024x1x16x512, .i32⟩) addi
  :: StableHlo.TRef.nullary (.of main_call7_call0_c_27 : StableHlo.TRef sig ⟨S_, .i32⟩) (constantI S_ 32 17#32)
  :: StableHlo.TRef.unary (.of main_call7_call0_c_27 : StableHlo.TRef sig ⟨S_, .i32⟩) (.of main_call7_call0_v109 : StableHlo.TRef sig ⟨S1024x1x16x512, .i32⟩) (broadcastInDim S1024x1x16x512 ![] bcast_S_S1024x1x16x512)
  :: StableHlo.TRef.binary (.of main_call7_call0_v107 : StableHlo.TRef sig ⟨S1024x1x16x512, .i32⟩) (.of main_call7_call0_v109 : StableHlo.TRef sig ⟨S1024x1x16x512, .i32⟩) (.of main_call7_call0_v110 : StableHlo.TRef sig ⟨S1024x1x16x512, .i32⟩) Host.shli
  :: StableHlo.TRef.nullary (.of main_call7_call0_c_28 : StableHlo.TRef sig ⟨S_, .i32⟩) (constantI S_ 32 15#32)
  :: StableHlo.TRef.unary (.of main_call7_call0_c_28 : StableHlo.TRef sig ⟨S_, .i32⟩) (.of main_call7_call0_v111 : StableHlo.TRef sig ⟨S1024x1x16x512, .i32⟩) (broadcastInDim S1024x1x16x512 ![] bcast_S_S1024x1x16x512)
  :: StableHlo.TRef.binary (.of main_call7_call0_v107 : StableHlo.TRef sig ⟨S1024x1x16x512, .i32⟩) (.of main_call7_call0_v111 : StableHlo.TRef sig ⟨S1024x1x16x512, .i32⟩) (.of main_call7_call0_v112 : StableHlo.TRef sig ⟨S1024x1x16x512, .i32⟩) Host.shrui
  :: StableHlo.TRef.binary (.of main_call7_call0_v110 : StableHlo.TRef sig ⟨S1024x1x16x512, .i32⟩) (.of main_call7_call0_v112 : StableHlo.TRef sig ⟨S1024x1x16x512, .i32⟩) (.of main_call7_call0_v113 : StableHlo.TRef sig ⟨S1024x1x16x512, .i32⟩) ori
  :: StableHlo.TRef.binary (.of main_call7_call0_v108 : StableHlo.TRef sig ⟨S1024x1x16x512, .i32⟩) (.of main_call7_call0_v113 : StableHlo.TRef sig ⟨S1024x1x16x512, .i32⟩) (.of main_call7_call0_v114 : StableHlo.TRef sig ⟨S1024x1x16x512, .i32⟩) xori
  :: StableHlo.TRef.binary (.of main_call7_call0_v108 : StableHlo.TRef sig ⟨S1024x1x16x512, .i32⟩) (.of main_call7_call0_v114 : StableHlo.TRef sig ⟨S1024x1x16x512, .i32⟩) (.of main_call7_call0_v115 : StableHlo.TRef sig ⟨S1024x1x16x512, .i32⟩) addi
  :: StableHlo.TRef.nullary (.of main_call7_call0_c_29 : StableHlo.TRef sig ⟨S_, .i32⟩) (constantI S_ 32 29#32)
  :: StableHlo.TRef.unary (.of main_call7_call0_c_29 : StableHlo.TRef sig ⟨S_, .i32⟩) (.of main_call7_call0_v116 : StableHlo.TRef sig ⟨S1024x1x16x512, .i32⟩) (broadcastInDim S1024x1x16x512 ![] bcast_S_S1024x1x16x512)
  :: StableHlo.TRef.binary (.of main_call7_call0_v114 : StableHlo.TRef sig ⟨S1024x1x16x512, .i32⟩) (.of main_call7_call0_v116 : StableHlo.TRef sig ⟨S1024x1x16x512, .i32⟩) (.of main_call7_call0_v117 : StableHlo.TRef sig ⟨S1024x1x16x512, .i32⟩) Host.shli
  :: StableHlo.TRef.nullary (.of main_call7_call0_c_30 : StableHlo.TRef sig ⟨S_, .i32⟩) (constantI S_ 32 3#32)
  :: StableHlo.TRef.unary (.of main_call7_call0_c_30 : StableHlo.TRef sig ⟨S_, .i32⟩) (.of main_call7_call0_v118 : StableHlo.TRef sig ⟨S1024x1x16x512, .i32⟩) (broadcastInDim S1024x1x16x512 ![] bcast_S_S1024x1x16x512)
  :: StableHlo.TRef.binary (.of main_call7_call0_v114 : StableHlo.TRef sig ⟨S1024x1x16x512, .i32⟩) (.of main_call7_call0_v118 : StableHlo.TRef sig ⟨S1024x1x16x512, .i32⟩) (.of main_call7_call0_v119 : StableHlo.TRef sig ⟨S1024x1x16x512, .i32⟩) Host.shrui
  :: StableHlo.TRef.binary (.of main_call7_call0_v117 : StableHlo.TRef sig ⟨S1024x1x16x512, .i32⟩) (.of main_call7_call0_v119 : StableHlo.TRef sig ⟨S1024x1x16x512, .i32⟩) (.of main_call7_call0_v120 : StableHlo.TRef sig ⟨S1024x1x16x512, .i32⟩) ori
  :: StableHlo.TRef.binary (.of main_call7_call0_v115 : StableHlo.TRef sig ⟨S1024x1x16x512, .i32⟩) (.of main_call7_call0_v120 : StableHlo.TRef sig ⟨S1024x1x16x512, .i32⟩) (.of main_call7_call0_v121 : StableHlo.TRef sig ⟨S1024x1x16x512, .i32⟩) xori
  :: StableHlo.TRef.binary (.of main_call7_call0_v115 : StableHlo.TRef sig ⟨S1024x1x16x512, .i32⟩) (.of main_call7_call0_v121 : StableHlo.TRef sig ⟨S1024x1x16x512, .i32⟩) (.of main_call7_call0_v122 : StableHlo.TRef sig ⟨S1024x1x16x512, .i32⟩) addi
  :: StableHlo.TRef.nullary (.of main_call7_call0_c_31 : StableHlo.TRef sig ⟨S_, .i32⟩) (constantI S_ 32 16#32)
  :: StableHlo.TRef.unary (.of main_call7_call0_c_31 : StableHlo.TRef sig ⟨S_, .i32⟩) (.of main_call7_call0_v123 : StableHlo.TRef sig ⟨S1024x1x16x512, .i32⟩) (broadcastInDim S1024x1x16x512 ![] bcast_S_S1024x1x16x512)
  :: StableHlo.TRef.binary (.of main_call7_call0_v121 : StableHlo.TRef sig ⟨S1024x1x16x512, .i32⟩) (.of main_call7_call0_v123 : StableHlo.TRef sig ⟨S1024x1x16x512, .i32⟩) (.of main_call7_call0_v124 : StableHlo.TRef sig ⟨S1024x1x16x512, .i32⟩) Host.shli
  :: StableHlo.TRef.nullary (.of main_call7_call0_c_32 : StableHlo.TRef sig ⟨S_, .i32⟩) (constantI S_ 32 16#32)
  :: StableHlo.TRef.unary (.of main_call7_call0_c_32 : StableHlo.TRef sig ⟨S_, .i32⟩) (.of main_call7_call0_v125 : StableHlo.TRef sig ⟨S1024x1x16x512, .i32⟩) (broadcastInDim S1024x1x16x512 ![] bcast_S_S1024x1x16x512)
  :: StableHlo.TRef.binary (.of main_call7_call0_v121 : StableHlo.TRef sig ⟨S1024x1x16x512, .i32⟩) (.of main_call7_call0_v125 : StableHlo.TRef sig ⟨S1024x1x16x512, .i32⟩) (.of main_call7_call0_v126 : StableHlo.TRef sig ⟨S1024x1x16x512, .i32⟩) Host.shrui
  :: StableHlo.TRef.binary (.of main_call7_call0_v124 : StableHlo.TRef sig ⟨S1024x1x16x512, .i32⟩) (.of main_call7_call0_v126 : StableHlo.TRef sig ⟨S1024x1x16x512, .i32⟩) (.of main_call7_call0_v127 : StableHlo.TRef sig ⟨S1024x1x16x512, .i32⟩) ori
  :: StableHlo.TRef.binary (.of main_call7_call0_v122 : StableHlo.TRef sig ⟨S1024x1x16x512, .i32⟩) (.of main_call7_call0_v127 : StableHlo.TRef sig ⟨S1024x1x16x512, .i32⟩) (.of main_call7_call0_v128 : StableHlo.TRef sig ⟨S1024x1x16x512, .i32⟩) xori
  :: StableHlo.TRef.binary (.of main_call7_call0_v122 : StableHlo.TRef sig ⟨S1024x1x16x512, .i32⟩) (.of main_call7_call0_v128 : StableHlo.TRef sig ⟨S1024x1x16x512, .i32⟩) (.of main_call7_call0_v129 : StableHlo.TRef sig ⟨S1024x1x16x512, .i32⟩) addi
  :: StableHlo.TRef.nullary (.of main_call7_call0_c_33 : StableHlo.TRef sig ⟨S_, .i32⟩) (constantI S_ 32 24#32)
  :: StableHlo.TRef.unary (.of main_call7_call0_c_33 : StableHlo.TRef sig ⟨S_, .i32⟩) (.of main_call7_call0_v130 : StableHlo.TRef sig ⟨S1024x1x16x512, .i32⟩) (broadcastInDim S1024x1x16x512 ![] bcast_S_S1024x1x16x512)
  :: StableHlo.TRef.binary (.of main_call7_call0_v128 : StableHlo.TRef sig ⟨S1024x1x16x512, .i32⟩) (.of main_call7_call0_v130 : StableHlo.TRef sig ⟨S1024x1x16x512, .i32⟩) (.of main_call7_call0_v131 : StableHlo.TRef sig ⟨S1024x1x16x512, .i32⟩) Host.shli
  :: StableHlo.TRef.nullary (.of main_call7_call0_c_34 : StableHlo.TRef sig ⟨S_, .i32⟩) (constantI S_ 32 8#32)
  :: StableHlo.TRef.unary (.of main_call7_call0_c_34 : StableHlo.TRef sig ⟨S_, .i32⟩) (.of main_call7_call0_v132 : StableHlo.TRef sig ⟨S1024x1x16x512, .i32⟩) (broadcastInDim S1024x1x16x512 ![] bcast_S_S1024x1x16x512)
  :: StableHlo.TRef.binary (.of main_call7_call0_v128 : StableHlo.TRef sig ⟨S1024x1x16x512, .i32⟩) (.of main_call7_call0_v132 : StableHlo.TRef sig ⟨S1024x1x16x512, .i32⟩) (.of main_call7_call0_v133 : StableHlo.TRef sig ⟨S1024x1x16x512, .i32⟩) Host.shrui
  :: StableHlo.TRef.binary (.of main_call7_call0_v131 : StableHlo.TRef sig ⟨S1024x1x16x512, .i32⟩) (.of main_call7_call0_v133 : StableHlo.TRef sig ⟨S1024x1x16x512, .i32⟩) (.of main_call7_call0_v134 : StableHlo.TRef sig ⟨S1024x1x16x512, .i32⟩) ori
  :: StableHlo.TRef.binary (.of main_call7_call0_v129 : StableHlo.TRef sig ⟨S1024x1x16x512, .i32⟩) (.of main_call7_call0_v134 : StableHlo.TRef sig ⟨S1024x1x16x512, .i32⟩) (.of main_call7_call0_v135 : StableHlo.TRef sig ⟨S1024x1x16x512, .i32⟩) xori
  :: StableHlo.TRef.unary (.of main_call7_v7 : StableHlo.TRef sig ⟨S_, .i32⟩) (.of main_call7_call0_v136 : StableHlo.TRef sig ⟨S1024x1x16x512, .i32⟩) (broadcastInDim S1024x1x16x512 ![] bcast_S_S1024x1x16x512)
  :: StableHlo.TRef.binary (.of main_call7_call0_v129 : StableHlo.TRef sig ⟨S1024x1x16x512, .i32⟩) (.of main_call7_call0_v136 : StableHlo.TRef sig ⟨S1024x1x16x512, .i32⟩) (.of main_call7_call0_v137 : StableHlo.TRef sig ⟨S1024x1x16x512, .i32⟩) addi
  :: StableHlo.TRef.unary (.of main_call7_call0_v1 : StableHlo.TRef sig ⟨S_, .i32⟩) (.of main_call7_call0_v138 : StableHlo.TRef sig ⟨S1024x1x16x512, .i32⟩) (broadcastInDim S1024x1x16x512 ![] bcast_S_S1024x1x16x512)
  :: StableHlo.TRef.binary (.of main_call7_call0_v135 : StableHlo.TRef sig ⟨S1024x1x16x512, .i32⟩) (.of main_call7_call0_v138 : StableHlo.TRef sig ⟨S1024x1x16x512, .i32⟩) (.of main_call7_call0_v139 : StableHlo.TRef sig ⟨S1024x1x16x512, .i32⟩) addi
  :: StableHlo.TRef.nullary (.of main_call7_call0_c_35 : StableHlo.TRef sig ⟨S_, .i32⟩) (constantI S_ 32 4#32)
  :: StableHlo.TRef.unary (.of main_call7_call0_c_35 : StableHlo.TRef sig ⟨S_, .i32⟩) (.of main_call7_call0_v140 : StableHlo.TRef sig ⟨S1024x1x16x512, .i32⟩) (broadcastInDim S1024x1x16x512 ![] bcast_S_S1024x1x16x512)
  :: StableHlo.TRef.binary (.of main_call7_call0_v139 : StableHlo.TRef sig ⟨S1024x1x16x512, .i32⟩) (.of main_call7_call0_v140 : StableHlo.TRef sig ⟨S1024x1x16x512, .i32⟩) (.of main_call7_call0_v141 : StableHlo.TRef sig ⟨S1024x1x16x512, .i32⟩) addi
  :: StableHlo.TRef.binary (.of main_call7_call0_v137 : StableHlo.TRef sig ⟨S1024x1x16x512, .i32⟩) (.of main_call7_call0_v141 : StableHlo.TRef sig ⟨S1024x1x16x512, .i32⟩) (.of main_call7_call0_v142 : StableHlo.TRef sig ⟨S1024x1x16x512, .i32⟩) addi
  :: StableHlo.TRef.nullary (.of main_call7_call0_c_36 : StableHlo.TRef sig ⟨S_, .i32⟩) (constantI S_ 32 13#32)
  :: StableHlo.TRef.unary (.of main_call7_call0_c_36 : StableHlo.TRef sig ⟨S_, .i32⟩) (.of main_call7_call0_v143 : StableHlo.TRef sig ⟨S1024x1x16x512, .i32⟩) (broadcastInDim S1024x1x16x512 ![] bcast_S_S1024x1x16x512)
  :: StableHlo.TRef.binary (.of main_call7_call0_v141 : StableHlo.TRef sig ⟨S1024x1x16x512, .i32⟩) (.of main_call7_call0_v143 : StableHlo.TRef sig ⟨S1024x1x16x512, .i32⟩) (.of main_call7_call0_v144 : StableHlo.TRef sig ⟨S1024x1x16x512, .i32⟩) Host.shli
  :: StableHlo.TRef.nullary (.of main_call7_call0_c_37 : StableHlo.TRef sig ⟨S_, .i32⟩) (constantI S_ 32 19#32)
  :: StableHlo.TRef.unary (.of main_call7_call0_c_37 : StableHlo.TRef sig ⟨S_, .i32⟩) (.of main_call7_call0_v145 : StableHlo.TRef sig ⟨S1024x1x16x512, .i32⟩) (broadcastInDim S1024x1x16x512 ![] bcast_S_S1024x1x16x512)
  :: StableHlo.TRef.binary (.of main_call7_call0_v141 : StableHlo.TRef sig ⟨S1024x1x16x512, .i32⟩) (.of main_call7_call0_v145 : StableHlo.TRef sig ⟨S1024x1x16x512, .i32⟩) (.of main_call7_call0_v146 : StableHlo.TRef sig ⟨S1024x1x16x512, .i32⟩) Host.shrui
  :: StableHlo.TRef.binary (.of main_call7_call0_v144 : StableHlo.TRef sig ⟨S1024x1x16x512, .i32⟩) (.of main_call7_call0_v146 : StableHlo.TRef sig ⟨S1024x1x16x512, .i32⟩) (.of main_call7_call0_v147 : StableHlo.TRef sig ⟨S1024x1x16x512, .i32⟩) ori
  :: StableHlo.TRef.binary (.of main_call7_call0_v142 : StableHlo.TRef sig ⟨S1024x1x16x512, .i32⟩) (.of main_call7_call0_v147 : StableHlo.TRef sig ⟨S1024x1x16x512, .i32⟩) (.of main_call7_call0_v148 : StableHlo.TRef sig ⟨S1024x1x16x512, .i32⟩) xori
  :: StableHlo.TRef.binary (.of main_call7_call0_v142 : StableHlo.TRef sig ⟨S1024x1x16x512, .i32⟩) (.of main_call7_call0_v148 : StableHlo.TRef sig ⟨S1024x1x16x512, .i32⟩) (.of main_call7_call0_v149 : StableHlo.TRef sig ⟨S1024x1x16x512, .i32⟩) addi
  :: StableHlo.TRef.nullary (.of main_call7_call0_c_38 : StableHlo.TRef sig ⟨S_, .i32⟩) (constantI S_ 32 15#32)
  :: StableHlo.TRef.unary (.of main_call7_call0_c_38 : StableHlo.TRef sig ⟨S_, .i32⟩) (.of main_call7_call0_v150 : StableHlo.TRef sig ⟨S1024x1x16x512, .i32⟩) (broadcastInDim S1024x1x16x512 ![] bcast_S_S1024x1x16x512)
  :: StableHlo.TRef.binary (.of main_call7_call0_v148 : StableHlo.TRef sig ⟨S1024x1x16x512, .i32⟩) (.of main_call7_call0_v150 : StableHlo.TRef sig ⟨S1024x1x16x512, .i32⟩) (.of main_call7_call0_v151 : StableHlo.TRef sig ⟨S1024x1x16x512, .i32⟩) Host.shli
  :: StableHlo.TRef.nullary (.of main_call7_call0_c_39 : StableHlo.TRef sig ⟨S_, .i32⟩) (constantI S_ 32 17#32)
  :: StableHlo.TRef.unary (.of main_call7_call0_c_39 : StableHlo.TRef sig ⟨S_, .i32⟩) (.of main_call7_call0_v152 : StableHlo.TRef sig ⟨S1024x1x16x512, .i32⟩) (broadcastInDim S1024x1x16x512 ![] bcast_S_S1024x1x16x512)
  :: StableHlo.TRef.binary (.of main_call7_call0_v148 : StableHlo.TRef sig ⟨S1024x1x16x512, .i32⟩) (.of main_call7_call0_v152 : StableHlo.TRef sig ⟨S1024x1x16x512, .i32⟩) (.of main_call7_call0_v153 : StableHlo.TRef sig ⟨S1024x1x16x512, .i32⟩) Host.shrui
  :: StableHlo.TRef.binary (.of main_call7_call0_v151 : StableHlo.TRef sig ⟨S1024x1x16x512, .i32⟩) (.of main_call7_call0_v153 : StableHlo.TRef sig ⟨S1024x1x16x512, .i32⟩) (.of main_call7_call0_v154 : StableHlo.TRef sig ⟨S1024x1x16x512, .i32⟩) ori
  :: StableHlo.TRef.binary (.of main_call7_call0_v149 : StableHlo.TRef sig ⟨S1024x1x16x512, .i32⟩) (.of main_call7_call0_v154 : StableHlo.TRef sig ⟨S1024x1x16x512, .i32⟩) (.of main_call7_call0_v155 : StableHlo.TRef sig ⟨S1024x1x16x512, .i32⟩) xori
  :: StableHlo.TRef.binary (.of main_call7_call0_v149 : StableHlo.TRef sig ⟨S1024x1x16x512, .i32⟩) (.of main_call7_call0_v155 : StableHlo.TRef sig ⟨S1024x1x16x512, .i32⟩) (.of main_call7_call0_v156 : StableHlo.TRef sig ⟨S1024x1x16x512, .i32⟩) addi
  :: StableHlo.TRef.nullary (.of main_call7_call0_c_40 : StableHlo.TRef sig ⟨S_, .i32⟩) (constantI S_ 32 26#32)
  :: StableHlo.TRef.unary (.of main_call7_call0_c_40 : StableHlo.TRef sig ⟨S_, .i32⟩) (.of main_call7_call0_v157 : StableHlo.TRef sig ⟨S1024x1x16x512, .i32⟩) (broadcastInDim S1024x1x16x512 ![] bcast_S_S1024x1x16x512)
  :: StableHlo.TRef.binary (.of main_call7_call0_v155 : StableHlo.TRef sig ⟨S1024x1x16x512, .i32⟩) (.of main_call7_call0_v157 : StableHlo.TRef sig ⟨S1024x1x16x512, .i32⟩) (.of main_call7_call0_v158 : StableHlo.TRef sig ⟨S1024x1x16x512, .i32⟩) Host.shli
  :: StableHlo.TRef.nullary (.of main_call7_call0_c_41 : StableHlo.TRef sig ⟨S_, .i32⟩) (constantI S_ 32 6#32)
  :: StableHlo.TRef.unary (.of main_call7_call0_c_41 : StableHlo.TRef sig ⟨S_, .i32⟩) (.of main_call7_call0_v159 : StableHlo.TRef sig ⟨S1024x1x16x512, .i32⟩) (broadcastInDim S1024x1x16x512 ![] bcast_S_S1024x1x16x512)
  :: StableHlo.TRef.binary (.of main_call7_call0_v155 : StableHlo.TRef sig ⟨S1024x1x16x512, .i32⟩) (.of main_call7_call0_v159 : StableHlo.TRef sig ⟨S1024x1x16x512, .i32⟩) (.of main_call7_call0_v160 : StableHlo.TRef sig ⟨S1024x1x16x512, .i32⟩) Host.shrui
  :: StableHlo.TRef.binary (.of main_call7_call0_v158 : StableHlo.TRef sig ⟨S1024x1x16x512, .i32⟩) (.of main_call7_call0_v160 : StableHlo.TRef sig ⟨S1024x1x16x512, .i32⟩) (.of main_call7_call0_v161 : StableHlo.TRef sig ⟨S1024x1x16x512, .i32⟩) ori
  :: StableHlo.TRef.binary (.of main_call7_call0_v156 : StableHlo.TRef sig ⟨S1024x1x16x512, .i32⟩) (.of main_call7_call0_v161 : StableHlo.TRef sig ⟨S1024x1x16x512, .i32⟩) (.of main_call7_call0_v162 : StableHlo.TRef sig ⟨S1024x1x16x512, .i32⟩) xori
  :: StableHlo.TRef.binary (.of main_call7_call0_v156 : StableHlo.TRef sig ⟨S1024x1x16x512, .i32⟩) (.of main_call7_call0_v162 : StableHlo.TRef sig ⟨S1024x1x16x512, .i32⟩) (.of main_call7_call0_v163 : StableHlo.TRef sig ⟨S1024x1x16x512, .i32⟩) addi
  :: StableHlo.TRef.nullary (.of main_call7_call0_c_42 : StableHlo.TRef sig ⟨S_, .i32⟩) (constantI S_ 32 6#32)
  :: StableHlo.TRef.unary (.of main_call7_call0_c_42 : StableHlo.TRef sig ⟨S_, .i32⟩) (.of main_call7_call0_v164 : StableHlo.TRef sig ⟨S1024x1x16x512, .i32⟩) (broadcastInDim S1024x1x16x512 ![] bcast_S_S1024x1x16x512)
  :: StableHlo.TRef.binary (.of main_call7_call0_v162 : StableHlo.TRef sig ⟨S1024x1x16x512, .i32⟩) (.of main_call7_call0_v164 : StableHlo.TRef sig ⟨S1024x1x16x512, .i32⟩) (.of main_call7_call0_v165 : StableHlo.TRef sig ⟨S1024x1x16x512, .i32⟩) Host.shli
  :: StableHlo.TRef.nullary (.of main_call7_call0_c_43 : StableHlo.TRef sig ⟨S_, .i32⟩) (constantI S_ 32 26#32)
  :: StableHlo.TRef.unary (.of main_call7_call0_c_43 : StableHlo.TRef sig ⟨S_, .i32⟩) (.of main_call7_call0_v166 : StableHlo.TRef sig ⟨S1024x1x16x512, .i32⟩) (broadcastInDim S1024x1x16x512 ![] bcast_S_S1024x1x16x512)
  :: StableHlo.TRef.binary (.of main_call7_call0_v162 : StableHlo.TRef sig ⟨S1024x1x16x512, .i32⟩) (.of main_call7_call0_v166 : StableHlo.TRef sig ⟨S1024x1x16x512, .i32⟩) (.of main_call7_call0_v167 : StableHlo.TRef sig ⟨S1024x1x16x512, .i32⟩) Host.shrui
  :: StableHlo.TRef.binary (.of main_call7_call0_v165 : StableHlo.TRef sig ⟨S1024x1x16x512, .i32⟩) (.of main_call7_call0_v167 : StableHlo.TRef sig ⟨S1024x1x16x512, .i32⟩) (.of main_call7_call0_v168 : StableHlo.TRef sig ⟨S1024x1x16x512, .i32⟩) ori
  :: StableHlo.TRef.binary (.of main_call7_call0_v163 : StableHlo.TRef sig ⟨S1024x1x16x512, .i32⟩) (.of main_call7_call0_v168 : StableHlo.TRef sig ⟨S1024x1x16x512, .i32⟩) (.of main_call7_call0_v169 : StableHlo.TRef sig ⟨S1024x1x16x512, .i32⟩) xori
  :: StableHlo.TRef.unary (.of main_call7_call0_v1 : StableHlo.TRef sig ⟨S_, .i32⟩) (.of main_call7_call0_v170 : StableHlo.TRef sig ⟨S1024x1x16x512, .i32⟩) (broadcastInDim S1024x1x16x512 ![] bcast_S_S1024x1x16x512)
  :: StableHlo.TRef.binary (.of main_call7_call0_v163 : StableHlo.TRef sig ⟨S1024x1x16x512, .i32⟩) (.of main_call7_call0_v170 : StableHlo.TRef sig ⟨S1024x1x16x512, .i32⟩) (.of main_call7_v27_0 : StableHlo.TRef sig ⟨S1024x1x16x512, .i32⟩) addi
  :: StableHlo.TRef.unary (.of main_call7_v5 : StableHlo.TRef sig ⟨S_, .i32⟩) (.of main_call7_call0_v172 : StableHlo.TRef sig ⟨S1024x1x16x512, .i32⟩) (broadcastInDim S1024x1x16x512 ![] bcast_S_S1024x1x16x512)
  :: StableHlo.TRef.binary (.of main_call7_call0_v169 : StableHlo.TRef sig ⟨S1024x1x16x512, .i32⟩) (.of main_call7_call0_v172 : StableHlo.TRef sig ⟨S1024x1x16x512, .i32⟩) (.of main_call7_call0_v173 : StableHlo.TRef sig ⟨S1024x1x16x512, .i32⟩) addi
  :: StableHlo.TRef.nullary (.of main_call7_call0_c_44 : StableHlo.TRef sig ⟨S_, .i32⟩) (constantI S_ 32 5#32)
  :: StableHlo.TRef.unary (.of main_call7_call0_c_44 : StableHlo.TRef sig ⟨S_, .i32⟩) (.of main_call7_call0_v174 : StableHlo.TRef sig ⟨S1024x1x16x512, .i32⟩) (broadcastInDim S1024x1x16x512 ![] bcast_S_S1024x1x16x512)
  :: StableHlo.TRef.binary (.of main_call7_call0_v173 : StableHlo.TRef sig ⟨S1024x1x16x512, .i32⟩) (.of main_call7_call0_v174 : StableHlo.TRef sig ⟨S1024x1x16x512, .i32⟩) (.of main_call7_v27_1 : StableHlo.TRef sig ⟨S1024x1x16x512, .i32⟩) addi
  :: StableHlo.TRef.binary (.of main_call7_v27_0 : StableHlo.TRef sig ⟨S1024x1x16x512, .i32⟩) (.of main_call7_v27_1 : StableHlo.TRef sig ⟨S1024x1x16x512, .i32⟩) (.of main_call7_v28 : StableHlo.TRef sig ⟨S1024x1x16x512, .i32⟩) xori
  :: StableHlo.TRef.nullary (.of main_call7_c_4 : StableHlo.TRef sig ⟨S_, .i32⟩) (constantI S_ 32 9#32)
  :: StableHlo.TRef.unary (.of main_call7_c_4 : StableHlo.TRef sig ⟨S_, .i32⟩) (.of main_call7_v29 : StableHlo.TRef sig ⟨S1024x1x16x512, .i32⟩) (broadcastInDim S1024x1x16x512 ![] bcast_S_S1024x1x16x512)
  :: StableHlo.TRef.binary (.of main_call7_v28 : StableHlo.TRef sig ⟨S1024x1x16x512, .i32⟩) (.of main_call7_v29 : StableHlo.TRef sig ⟨S1024x1x16x512, .i32⟩) (.of main_call7_v30 : StableHlo.TRef sig ⟨S1024x1x16x512, .i32⟩) Host.shrui
  :: StableHlo.TRef.nullary (.of main_call7_c_5 : StableHlo.TRef sig ⟨S_, .i32⟩) (constantI S_ 32 1065353216#32)
  :: StableHlo.TRef.unary (.of main_call7_c_5 : StableHlo.TRef sig ⟨S_, .i32⟩) (.of main_call7_v31 : StableHlo.TRef sig ⟨S1024x1x16x512, .i32⟩) (broadcastInDim S1024x1x16x512 ![] bcast_S_S1024x1x16x512)
  :: StableHlo.TRef.binary (.of main_call7_v30 : StableHlo.TRef sig ⟨S1024x1x16x512, .i32⟩) (.of main_call7_v31 : StableHlo.TRef sig ⟨S1024x1x16x512, .i32⟩) (.of main_call7_v32 : StableHlo.TRef sig ⟨S1024x1x16x512, .i32⟩) ori
  :: StableHlo.TRef.unary (.of main_call7_v32 : StableHlo.TRef sig ⟨S1024x1x16x512, .i32⟩) (.of main_call7_v33 : StableHlo.TRef sig ⟨S1024x1x16x512, .f32⟩) (bitcastToFloat .f32)
  :: StableHlo.TRef.nullary (.of main_call7_cst : StableHlo.TRef sig ⟨S_, .f32⟩) (constant S_ .f32 0x3F800000#32)
  :: StableHlo.TRef.unary (.of main_call7_cst : StableHlo.TRef sig ⟨S_, .f32⟩) (.of main_call7_v34 : StableHlo.TRef sig ⟨S1024x1x16x512, .f32⟩) (broadcastInDim S1024x1x16x512 ![] bcast_S_S1024x1x16x512)
  :: StableHlo.TRef.binary (.of main_call7_v33 : StableHlo.TRef sig ⟨S1024x1x16x512, .f32⟩) (.of main_call7_v34 : StableHlo.TRef sig ⟨S1024x1x16x512, .f32⟩) (.of main_call7_v35 : StableHlo.TRef sig ⟨S1024x1x16x512, .f32⟩) subf
  :: StableHlo.TRef.binary (.of main_call7_v3 : StableHlo.TRef sig ⟨S1x1x1x1, .f32⟩) (.of main_call7_v2 : StableHlo.TRef sig ⟨S1x1x1x1, .f32⟩) (.of main_call7_v36 : StableHlo.TRef sig ⟨S1x1x1x1, .f32⟩) subf
  :: StableHlo.TRef.unary (.of main_call7_v36 : StableHlo.TRef sig ⟨S1x1x1x1, .f32⟩) (.of main_call7_v37 : StableHlo.TRef sig ⟨S1024x1x16x512, .f32⟩) (broadcastInDim S1024x1x16x512 ![0, 1, 2, 3] bcast_S1x1x1x1_S1024x1x16x512_0_1_2_3)
  :: StableHlo.TRef.binary (.of main_call7_v35 : StableHlo.TRef sig ⟨S1024x1x16x512, .f32⟩) (.of main_call7_v37 : StableHlo.TRef sig ⟨S1024x1x16x512, .f32⟩) (.of main_call7_v38 : StableHlo.TRef sig ⟨S1024x1x16x512, .f32⟩) mulf
  :: StableHlo.TRef.unary (.of main_call7_v2 : StableHlo.TRef sig ⟨S1x1x1x1, .f32⟩) (.of main_call7_v39 : StableHlo.TRef sig ⟨S1024x1x16x512, .f32⟩) (broadcastInDim S1024x1x16x512 ![0, 1, 2, 3] bcast_S1x1x1x1_S1024x1x16x512_0_1_2_3)
  :: StableHlo.TRef.binary (.of main_call7_v38 : StableHlo.TRef sig ⟨S1024x1x16x512, .f32⟩) (.of main_call7_v39 : StableHlo.TRef sig ⟨S1024x1x16x512, .f32⟩) (.of main_call7_v40 : StableHlo.TRef sig ⟨S1024x1x16x512, .f32⟩) addf
  :: StableHlo.TRef.unary (.of main_call7_v2 : StableHlo.TRef sig ⟨S1x1x1x1, .f32⟩) (.of main_call7_v41 : StableHlo.TRef sig ⟨S1024x1x16x512, .f32⟩) (broadcastInDim S1024x1x16x512 ![0, 1, 2, 3] bcast_S1x1x1x1_S1024x1x16x512_0_1_2_3)
  :: StableHlo.TRef.binary (.of main_call7_v41 : StableHlo.TRef sig ⟨S1024x1x16x512, .f32⟩) (.of main_call7_v40 : StableHlo.TRef sig ⟨S1024x1x16x512, .f32⟩) (.of main_v54 : StableHlo.TRef sig ⟨S1024x1x16x512, .f32⟩) maximumf
  :: [] )
/-- Each touches TensorCore references only. -/
theorem ops17_sub : (ops17 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.reshape_bufs_sub .., StableHlo.unary_bufs_sub .., StableHlo.reshape_bufs_sub .., StableHlo.nullary_bufs_sub .., StableHlo.nullary_bufs_sub .., StableHlo.nullary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub ..⟩
/-- Each determines its results. -/
theorem ops17_fresh : (ops17 : List (HloOp τ sig (Elt F))).Forall fun op => op.fresh = ∅ := StableHlo.forall_fresh_of_map rfl
/-- What they write, in order. -/
abbrev ops17_W : List (Ref sig .tc) := [main_call7_v0, main_call7_v1, main_call7_v2, main_call7_v3, main_call7_v4, main_call7_v5, main_call7_v6, main_call7_v7, main_call7_v8, main_call7_v9, main_call7_v10, main_call7_v11, main_call7_c, main_call7_v12, main_call7_v13, main_call7_c_0, main_call7_v14, main_call7_v15, main_call7_c_1, main_call7_v16, main_call7_v17, main_call7_c_2, main_call7_v18, main_call7_v19, main_call7_v20, main_call7_v21, main_call7_v22, main_call7_c_3, main_call7_v23, main_call7_v24, main_call7_v25, main_call7_v26, main_call7_call0_v0, main_call7_call0_c, main_call7_call0_v1, main_call7_call0_v2, main_call7_call0_v3, main_call7_call0_v4, main_call7_call0_v5, main_call7_call0_v6, main_call7_call0_c_0, main_call7_call0_v7, main_call7_call0_v8, main_call7_call0_c_1, main_call7_call0_v9, main_call7_call0_v10, main_call7_call0_v11, main_call7_call0_v12, main_call7_call0_v13, main_call7_call0_c_2, main_call7_call0_v14, main_call7_call0_v15, main_call7_call0_c_3, main_call7_call0_v16, main_call7_call0_v17, main_call7_call0_v18, main_call7_call0_v19, main_call7_call0_v20, main_call7_call0_c_4, main_call7_call0_v21, main_call7_call0_v22, main_call7_call0_c_5, main_call7_call0_v23, main_call7_call0_v24, main_call7_call0_v25, main_call7_call0_v26, main_call7_call0_v27, main_call7_call0_c_6, main_call7_call0_v28, main_call7_call0_v29, main_call7_call0_c_7, main_call7_call0_v30, main_call7_call0_v31, main_call7_call0_v32, main_call7_call0_v33, main_call7_call0_v34, main_call7_call0_v35, main_call7_call0_v36, main_call7_call0_v37, main_call7_call0_c_8, main_call7_call0_v38, main_call7_call0_v39, main_call7_call0_v40, main_call7_call0_c_9, main_call7_call0_v41, main_call7_call0_v42, main_call7_call0_c_10, main_call7_call0_v43, main_call7_call0_v44, main_call7_call0_v45, main_call7_call0_v46, main_call7_call0_v47, main_call7_call0_c_11, main_call7_call0_v48, main_call7_call0_v49, main_call7_call0_c_12, main_call7_call0_v50, main_call7_call0_v51, main_call7_call0_v52, main_call7_call0_v53, main_call7_call0_v54, main_call7_call0_c_13, main_call7_call0_v55, main_call7_call0_v56, main_call7_call0_c_14, main_call7_call0_v57, main_call7_call0_v58, main_call7_call0_v59, main_call7_call0_v60, main_call7_call0_v61, main_call7_call0_c_15, main_call7_call0_v62, main_call7_call0_v63, main_call7_call0_c_16, main_call7_call0_v64, main_call7_call0_v65, main_call7_call0_v66, main_call7_call0_v67, main_call7_call0_v68, main_call7_call0_v69, main_call7_call0_v70, main_call7_call0_v71, main_call7_call0_c_17, main_call7_call0_v72, main_call7_call0_v73, main_call7_call0_v74, main_call7_call0_c_18, main_call7_call0_v75, main_call7_call0_v76, main_call7_call0_c_19, main_call7_call0_v77, main_call7_call0_v78, main_call7_call0_v79, main_call7_call0_v80, main_call7_call0_v81, main_call7_call0_c_20, main_call7_call0_v82, main_call7_call0_v83, main_call7_call0_c_21, main_call7_call0_v84, main_call7_call0_v85, main_call7_call0_v86, main_call7_call0_v87, main_call7_call0_v88, main_call7_call0_c_22, main_call7_call0_v89, main_call7_call0_v90, main_call7_call0_c_23, main_call7_call0_v91, main_call7_call0_v92, main_call7_call0_v93, main_call7_call0_v94, main_call7_call0_v95, main_call7_call0_c_24, main_call7_call0_v96, main_call7_call0_v97, main_call7_call0_c_25, main_call7_call0_v98, main_call7_call0_v99, main_call7_call0_v100, main_call7_call0_v101, main_call7_call0_v102, main_call7_call0_v103, main_call7_call0_v104, main_call7_call0_v105, main_call7_call0_c_26, main_call7_call0_v106, main_call7_call0_v107, main_call7_call0_v108, main_call7_call0_c_27, main_call7_call0_v109, main_call7_call0_v110, main_call7_call0_c_28, main_call7_call0_v111, main_call7_call0_v112, main_call7_call0_v113, main_call7_call0_v114, main_call7_call0_v115, main_call7_call0_c_29, main_call7_call0_v116, main_call7_call0_v117, main_call7_call0_c_30, main_call7_call0_v118, main_call7_call0_v119, main_call7_call0_v120, main_call7_call0_v121, main_call7_call0_v122, main_call7_call0_c_31, main_call7_call0_v123, main_call7_call0_v124, main_call7_call0_c_32, main_call7_call0_v125, main_call7_call0_v126, main_call7_call0_v127, main_call7_call0_v128, main_call7_call0_v129, main_call7_call0_c_33, main_call7_call0_v130, main_call7_call0_v131, main_call7_call0_c_34, main_call7_call0_v132, main_call7_call0_v133, main_call7_call0_v134, main_call7_call0_v135, main_call7_call0_v136, main_call7_call0_v137, main_call7_call0_v138, main_call7_call0_v139, main_call7_call0_c_35, main_call7_call0_v140, main_call7_call0_v141, main_call7_call0_v142, main_call7_call0_c_36, main_call7_call0_v143, main_call7_call0_v144, main_call7_call0_c_37, main_call7_call0_v145, main_call7_call0_v146, main_call7_call0_v147, main_call7_call0_v148, main_call7_call0_v149, main_call7_call0_c_38, main_call7_call0_v150, main_call7_call0_v151, main_call7_call0_c_39, main_call7_call0_v152, main_call7_call0_v153, main_call7_call0_v154, main_call7_call0_v155, main_call7_call0_v156, main_call7_call0_c_40, main_call7_call0_v157, main_call7_call0_v158, main_call7_call0_c_41, main_call7_call0_v159, main_call7_call0_v160, main_call7_call0_v161, main_call7_call0_v162, main_call7_call0_v163, main_call7_call0_c_42, main_call7_call0_v164, main_call7_call0_v165, main_call7_call0_c_43, main_call7_call0_v166, main_call7_call0_v167, main_call7_call0_v168, main_call7_call0_v169, main_call7_call0_v170, main_call7_v27_0, main_call7_call0_v172, main_call7_call0_v173, main_call7_call0_c_44, main_call7_call0_v174, main_call7_v27_1, main_call7_v28, main_call7_c_4, main_call7_v29, main_call7_v30, main_call7_c_5, main_call7_v31, main_call7_v32, main_call7_v33, main_call7_cst, main_call7_v34, main_call7_v35, main_call7_v36, main_call7_v37, main_call7_v38, main_call7_v39, main_call7_v40, main_call7_v41, main_v54]
theorem ops17_writes : (ops17 : List (HloOp τ sig (Elt F))).Forall fun op => op.writes ⊆ (ops17_W.map (Proc.devRef (τ := τ) .tc)).toFinset :=
  StableHlo.forall_writes_sub_of_map rfl

/-- 14 operations of @main, from `main_cst_14` to `main_v65`. -/
abbrev ops18 : List (HloOp τ sig (Elt F)) :=
  ( StableHlo.nullary main_cst_14 (constant S_ .f32 0x1E3CE508#32)
  :: StableHlo.unary main_cst_14 main_v55 (broadcastInDim S1024x1x16x512 ![] bcast_S_S1024x1x16x512 : (⟨S_, .f32⟩ : BufTy).Contents (Elt F) → (⟨S1024x1x16x512, .f32⟩ : BufTy).Contents (Elt F))
  :: StableHlo.binary main_v54 main_v55 main_v56 (addf : (⟨S1024x1x16x512, .f32⟩ : BufTy).Contents (Elt F) → (⟨S1024x1x16x512, .f32⟩ : BufTy).Contents (Elt F) → (⟨S1024x1x16x512, .f32⟩ : BufTy).Contents (Elt F))
  :: StableHlo.unary main_v56 main_v57 (Host.log : (⟨S1024x1x16x512, .f32⟩ : BufTy).Contents (Elt F) → (⟨S1024x1x16x512, .f32⟩ : BufTy).Contents (Elt F))
  :: StableHlo.unary main_v57 main_v58 (Host.negf : (⟨S1024x1x16x512, .f32⟩ : BufTy).Contents (Elt F) → (⟨S1024x1x16x512, .f32⟩ : BufTy).Contents (Elt F))
  :: StableHlo.nullary main_cst_15 (constant S_ .f32 0x1E3CE508#32)
  :: StableHlo.unary main_cst_15 main_v59 (broadcastInDim S1024x1x16x512 ![] bcast_S_S1024x1x16x512 : (⟨S_, .f32⟩ : BufTy).Contents (Elt F) → (⟨S1024x1x16x512, .f32⟩ : BufTy).Contents (Elt F))
  :: StableHlo.binary main_v58 main_v59 main_v60 (addf : (⟨S1024x1x16x512, .f32⟩ : BufTy).Contents (Elt F) → (⟨S1024x1x16x512, .f32⟩ : BufTy).Contents (Elt F) → (⟨S1024x1x16x512, .f32⟩ : BufTy).Contents (Elt F))
  :: StableHlo.unary main_v60 main_v61 (Host.log : (⟨S1024x1x16x512, .f32⟩ : BufTy).Contents (Elt F) → (⟨S1024x1x16x512, .f32⟩ : BufTy).Contents (Elt F))
  :: StableHlo.unary main_v61 main_v62 (Host.negf : (⟨S1024x1x16x512, .f32⟩ : BufTy).Contents (Elt F) → (⟨S1024x1x16x512, .f32⟩ : BufTy).Contents (Elt F))
  :: StableHlo.binary main_v46 main_v62 main_v63 (addf : (⟨S1024x1x16x512, .f32⟩ : BufTy).Contents (Elt F) → (⟨S1024x1x16x512, .f32⟩ : BufTy).Contents (Elt F) → (⟨S1024x1x16x512, .f32⟩ : BufTy).Contents (Elt F))
  :: StableHlo.nullary main_cst_16 (constant S_ .f32 0x3F800000#32)
  :: StableHlo.unary main_cst_16 main_v64 (broadcastInDim S1024x1x16x512 ![] bcast_S_S1024x1x16x512 : (⟨S_, .f32⟩ : BufTy).Contents (Elt F) → (⟨S1024x1x16x512, .f32⟩ : BufTy).Contents (Elt F))
  :: StableHlo.binary main_v63 main_v64 main_v65 (Host.divf : (⟨S1024x1x16x512, .f32⟩ : BufTy).Contents (Elt F) → (⟨S1024x1x16x512, .f32⟩ : BufTy).Contents (Elt F) → (⟨S1024x1x16x512, .f32⟩ : BufTy).Contents (Elt F))
  :: [] )
/-- Each touches TensorCore references only. -/
theorem ops18_sub : (ops18 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩
/-- Each determines its results. -/
theorem ops18_fresh : (ops18 : List (HloOp τ sig (Elt F))).Forall fun op => op.fresh = ∅ := StableHlo.forall_fresh_of_map rfl
/-- What they write, in order. -/
abbrev ops18_W : List (Ref sig .tc) := [main_cst_14, main_v55, main_v56, main_v57, main_v58, main_cst_15, main_v59, main_v60, main_v61, main_v62, main_v63, main_cst_16, main_v64, main_v65]
theorem ops18_writes : (ops18 : List (HloOp τ sig (Elt F))).Forall fun op => op.writes ⊆ (ops18_W.map (Proc.devRef (τ := τ) .tc)).toFinset :=
  StableHlo.forall_writes_sub_of_map rfl

/-- 14 operations of @main, from `main_cst_17` to `main_v76`. -/
abbrev ops19 : List (HloOp τ sig (Elt F)) :=
  ( StableHlo.nullary main_cst_17 (constant S_ .f32 0xFF800000#32)
  :: StableHlo.binary main_v65 main_cst_17 main_v66 ((fun x v => Host.reduce FloatOps.maximumf x v reducesTo_S1024x1x16x512_S1024x1x16_d3 h_S_) : (⟨S1024x1x16x512, .f32⟩ : BufTy).Contents (Elt F) → (⟨S_, .f32⟩ : BufTy).Contents (Elt F) → (⟨S1024x1x16, .f32⟩ : BufTy).Contents (Elt F))
  :: StableHlo.nullary main_cst_18 (constant S_ .f32 0xFF800000#32)
  :: StableHlo.unary main_cst_18 main_v67 (broadcastInDim S1024x1x16 ![] bcast_S_S1024x1x16 : (⟨S_, .f32⟩ : BufTy).Contents (Elt F) → (⟨S1024x1x16, .f32⟩ : BufTy).Contents (Elt F))
  :: StableHlo.binary main_v67 main_v66 main_v68 (maximumf : (⟨S1024x1x16, .f32⟩ : BufTy).Contents (Elt F) → (⟨S1024x1x16, .f32⟩ : BufTy).Contents (Elt F) → (⟨S1024x1x16, .f32⟩ : BufTy).Contents (Elt F))
  :: StableHlo.unary main_v68 main_v69 (broadcastInDim S1024x1x16x1 ![0, 1, 2] bcast_S1024x1x16_S1024x1x16x1_0_1_2 : (⟨S1024x1x16, .f32⟩ : BufTy).Contents (Elt F) → (⟨S1024x1x16x1, .f32⟩ : BufTy).Contents (Elt F))
  :: StableHlo.unary main_v69 main_v70 (broadcastInDim S1024x1x16x512 ![0, 1, 2, 3] bcast_S1024x1x16x1_S1024x1x16x512_0_1_2_3 : (⟨S1024x1x16x1, .f32⟩ : BufTy).Contents (Elt F) → (⟨S1024x1x16x512, .f32⟩ : BufTy).Contents (Elt F))
  :: StableHlo.binary main_v65 main_v70 main_v71 (subf : (⟨S1024x1x16x512, .f32⟩ : BufTy).Contents (Elt F) → (⟨S1024x1x16x512, .f32⟩ : BufTy).Contents (Elt F) → (⟨S1024x1x16x512, .f32⟩ : BufTy).Contents (Elt F))
  :: StableHlo.unary main_v71 main_v72 (Host.exp : (⟨S1024x1x16x512, .f32⟩ : BufTy).Contents (Elt F) → (⟨S1024x1x16x512, .f32⟩ : BufTy).Contents (Elt F))
  :: StableHlo.nullary main_cst_19 (constant S_ .f32 0x00000000#32)
  :: StableHlo.binary main_v72 main_cst_19 main_v73 ((fun x v => Host.reduceAdd x v reducesTo_S1024x1x16x512_S1024x1x16_d3 h_S_) : (⟨S1024x1x16x512, .f32⟩ : BufTy).Contents (Elt F) → (⟨S_, .f32⟩ : BufTy).Contents (Elt F) → (⟨S1024x1x16, .f32⟩ : BufTy).Contents (Elt F))
  :: StableHlo.unary main_v73 main_v74 (broadcastInDim S1024x1x16x1 ![0, 1, 2] bcast_S1024x1x16_S1024x1x16x1_0_1_2 : (⟨S1024x1x16, .f32⟩ : BufTy).Contents (Elt F) → (⟨S1024x1x16x1, .f32⟩ : BufTy).Contents (Elt F))
  :: StableHlo.unary main_v74 main_v75 (broadcastInDim S1024x1x16x512 ![0, 1, 2, 3] bcast_S1024x1x16x1_S1024x1x16x512_0_1_2_3 : (⟨S1024x1x16x1, .f32⟩ : BufTy).Contents (Elt F) → (⟨S1024x1x16x512, .f32⟩ : BufTy).Contents (Elt F))
  :: StableHlo.binary main_v72 main_v75 main_v76 (Host.divf : (⟨S1024x1x16x512, .f32⟩ : BufTy).Contents (Elt F) → (⟨S1024x1x16x512, .f32⟩ : BufTy).Contents (Elt F) → (⟨S1024x1x16x512, .f32⟩ : BufTy).Contents (Elt F))
  :: [] )
/-- Each touches TensorCore references only. -/
theorem ops19_sub : (ops19 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub ..⟩
/-- Each determines its results. -/
theorem ops19_fresh : (ops19 : List (HloOp τ sig (Elt F))).Forall fun op => op.fresh = ∅ := StableHlo.forall_fresh_of_map rfl
/-- What they write, in order. -/
abbrev ops19_W : List (Ref sig .tc) := [main_cst_17, main_v66, main_cst_18, main_v67, main_v68, main_v69, main_v70, main_v71, main_v72, main_cst_19, main_v73, main_v74, main_v75, main_v76]
theorem ops19_writes : (ops19 : List (HloOp τ sig (Elt F))).Forall fun op => op.writes ⊆ (ops19_W.map (Proc.devRef (τ := τ) .tc)).toFinset :=
  StableHlo.forall_writes_sub_of_map rfl

/-- 5 operations of a call of @argmax, from `main_call8_v0` to `main_v77`. -/
abbrev ops20 : List (HloOp τ sig (Elt F)) :=
  ( StableHlo.TRef.nullary (.of main_call8_v0 : StableHlo.TRef sig ⟨S1024x1x16x512, .i32⟩) (iotaInDim S1024x1x16x512 32 3)
  :: StableHlo.TRef.nullary (.of main_call8_cst : StableHlo.TRef sig ⟨S_, .f32⟩) (constant S_ .f32 0xFF800000#32)
  :: StableHlo.TRef.nullary (.of main_call8_c : StableHlo.TRef sig ⟨S_, .i32⟩) (constantI S_ 32 0#32)
  :: StableHlo.TRef.quaternary (.of main_v76 : StableHlo.TRef sig ⟨S1024x1x16x512, .f32⟩) (.of main_call8_v0 : StableHlo.TRef sig ⟨S1024x1x16x512, .i32⟩) (.of main_call8_cst : StableHlo.TRef sig ⟨S_, .f32⟩) (.of main_call8_c : StableHlo.TRef sig ⟨S_, .i32⟩) (.of main_call8_v1_0 : StableHlo.TRef sig ⟨S1024x1x16, .f32⟩) (fun x y u v j => (Host.argReduce reducer_argmax_f32_i32 x y u v reducesTo_S1024x1x16x512_S1024x1x16_d3 h_S_ j).1)
  :: StableHlo.TRef.quaternary (.of main_v76 : StableHlo.TRef sig ⟨S1024x1x16x512, .f32⟩) (.of main_call8_v0 : StableHlo.TRef sig ⟨S1024x1x16x512, .i32⟩) (.of main_call8_cst : StableHlo.TRef sig ⟨S_, .f32⟩) (.of main_call8_c : StableHlo.TRef sig ⟨S_, .i32⟩) (.of main_v77 : StableHlo.TRef sig ⟨S1024x1x16, .i32⟩) (fun x y u v j => (Host.argReduce reducer_argmax_f32_i32 x y u v reducesTo_S1024x1x16x512_S1024x1x16_d3 h_S_ j).2)
  :: [] )
/-- Each touches TensorCore references only. -/
theorem ops20_sub : (ops20 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- Each determines its results. -/
theorem ops20_fresh : (ops20 : List (HloOp τ sig (Elt F))).Forall fun op => op.fresh = ∅ := StableHlo.forall_fresh_of_map rfl
/-- What they write, in order. -/
abbrev ops20_W : List (Ref sig .tc) := [main_call8_v0, main_call8_cst, main_call8_c, main_call8_v1_0, main_v77]
theorem ops20_writes : (ops20 : List (HloOp τ sig (Elt F))).Forall fun op => op.writes ⊆ (ops20_W.map (Proc.devRef (τ := τ) .tc)).toFinset :=
  StableHlo.forall_writes_sub_of_map rfl

/-- 6 operations of a call of @one_hot, from `main_call9_v0` to `main_v78`. -/
abbrev ops21 : List (HloOp τ sig (Elt F)) :=
  ( StableHlo.TRef.unary (.of main_v77 : StableHlo.TRef sig ⟨S1024x1x16, .i32⟩) (.of main_call9_v0 : StableHlo.TRef sig ⟨S1024x1x16x1, .i32⟩) (broadcastInDim S1024x1x16x1 ![0, 1, 2] bcast_S1024x1x16_S1024x1x16x1_0_1_2)
  :: StableHlo.TRef.nullary (.of main_call9_v1 : StableHlo.TRef sig ⟨S1x1x1x512, .i32⟩) (iotaInDim S1x1x1x512 32 3)
  :: StableHlo.TRef.unary (.of main_call9_v0 : StableHlo.TRef sig ⟨S1024x1x16x1, .i32⟩) (.of main_call9_v2 : StableHlo.TRef sig ⟨S1024x1x16x512, .i32⟩) (broadcastInDim S1024x1x16x512 ![0, 1, 2, 3] bcast_S1024x1x16x1_S1024x1x16x512_0_1_2_3)
  :: StableHlo.TRef.unary (.of main_call9_v1 : StableHlo.TRef sig ⟨S1x1x1x512, .i32⟩) (.of main_call9_v3 : StableHlo.TRef sig ⟨S1024x1x16x512, .i32⟩) (broadcastInDim S1024x1x16x512 ![0, 1, 2, 3] bcast_S1x1x1x512_S1024x1x16x512_0_1_2_3)
  :: StableHlo.TRef.binary (.of main_call9_v2 : StableHlo.TRef sig ⟨S1024x1x16x512, .i32⟩) (.of main_call9_v3 : StableHlo.TRef sig ⟨S1024x1x16x512, .i32⟩) (.of main_call9_v4 : StableHlo.TRef sig ⟨S1024x1x16x512, .i1⟩) (cmpi .eq)
  :: StableHlo.TRef.unary (.of main_call9_v4 : StableHlo.TRef sig ⟨S1024x1x16x512, .i1⟩) (.of main_v78 : StableHlo.TRef sig ⟨S1024x1x16x512, .f32⟩) (uitofp .f32)
  :: [] )
/-- Each touches TensorCore references only. -/
theorem ops21_sub : (ops21 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
/-- Each determines its results. -/
theorem ops21_fresh : (ops21 : List (HloOp τ sig (Elt F))).Forall fun op => op.fresh = ∅ := StableHlo.forall_fresh_of_map rfl
/-- What they write, in order. -/
abbrev ops21_W : List (Ref sig .tc) := [main_call9_v0, main_call9_v1, main_call9_v2, main_call9_v3, main_call9_v4, main_v78]
theorem ops21_writes : (ops21 : List (HloOp τ sig (Elt F))).Forall fun op => op.writes ⊆ (ops21_W.map (Proc.devRef (τ := τ) .tc)).toFinset :=
  StableHlo.forall_writes_sub_of_map rfl

/-- 2 operations of @main, from `main_v79` to `main_v80`. -/
abbrev ops22 : List (HloOp τ sig (Elt F)) :=
  ( StableHlo.binary main_v78 main_v76 main_v79 (subf : (⟨S1024x1x16x512, .f32⟩ : BufTy).Contents (Elt F) → (⟨S1024x1x16x512, .f32⟩ : BufTy).Contents (Elt F) → (⟨S1024x1x16x512, .f32⟩ : BufTy).Contents (Elt F))
  :: StableHlo.binary main_v79 main_v76 main_v80 (addf : (⟨S1024x1x16x512, .f32⟩ : BufTy).Contents (Elt F) → (⟨S1024x1x16x512, .f32⟩ : BufTy).Contents (Elt F) → (⟨S1024x1x16x512, .f32⟩ : BufTy).Contents (Elt F))
  :: [] )
/-- Each touches TensorCore references only. -/
theorem ops22_sub : (ops22 : List (HloOp τ sig (Elt F))).Forall fun op => op.bufs ⊆ StableHlo.tcRefs τ sig :=
  ⟨StableHlo.binary_bufs_sub .., StableHlo.binary_bufs_sub ..⟩
/-- Each determines its results. -/
theorem ops22_fresh : (ops22 : List (HloOp τ sig (Elt F))).Forall fun op => op.fresh = ∅ := StableHlo.forall_fresh_of_map rfl
/-- What they write, in order. -/
abbrev ops22_W : List (Ref sig .tc) := [main_v79, main_v80]
theorem ops22_writes : (ops22 : List (HloOp τ sig (Elt F))).Forall fun op => op.writes ⊆ (ops22_W.map (Proc.devRef (τ := τ) .tc)).toFinset :=
  StableHlo.forall_writes_sub_of_map rfl

/-- 5 operations of a call of @argmax, from `main_call10_v0` to `main_v81`. -/
abbrev ops23 : List (HloOp τ sig (Elt F)) :=
  ( StableHlo.TRef.nullary (.of main_call10_v0 : StableHlo.TRef sig ⟨S1024x1x16x512, .i32⟩) (iotaInDim S1024x1x16x512 32 3)
  :: StableHlo.TRef.nullary (.of main_call10_cst : StableHlo.TRef sig ⟨S_, .f32⟩) (constant S_ .f32 0xFF800000#32)
  :: StableHlo.TRef.nullary (.of main_call10_c : StableHlo.TRef sig ⟨S_, .i32⟩) (constantI S_ 32 0#32)
  :: StableHlo.TRef.quaternary (.of main_v80 : StableHlo.TRef sig ⟨S1024x1x16x512, .f32⟩) (.of main_call10_v0 : StableHlo.TRef sig ⟨S1024x1x16x512, .i32⟩) (.of main_call10_cst : StableHlo.TRef sig ⟨S_, .f32⟩) (.of main_call10_c : StableHlo.TRef sig ⟨S_, .i32⟩) (.of main_call10_v1_0 : StableHlo.TRef sig ⟨S1024x1x16, .f32⟩) (fun x y u v j => (Host.argReduce reducer_argmax_f32_i32 x y u v reducesTo_S1024x1x16x512_S1024x1x16_d3 h_S_ j).1)
  :: StableHlo.TRef.quaternary (.of main_v80 : StableHlo.TRef sig ⟨S1024x1x16x512, .f32⟩) (.of main_call10_v0 : StableHlo.TRef sig ⟨S1024x1x16x512, .i32⟩) (.of main_call10_cst : StableHlo.TRef sig ⟨S_, .f32⟩) (.of main_call10_c : StableHlo.TRef sig ⟨S_, .i32⟩) (.of main_v81 : StableHlo.TRef sig ⟨S1024x1x16, .i32⟩) (fun x y u v j => (Host.argReduce reducer_argmax_f32_i32 x y u v reducesTo_S1024x1x16x512_S1024x1x16_d3 h_S_ j).2)
  :: [] )
/-- Each touches TensorCore references only. -/
theorem ops23_sub : (ops23 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- Each determines its results. -/
theorem ops23_fresh : (ops23 : List (HloOp τ sig (Elt F))).Forall fun op => op.fresh = ∅ := StableHlo.forall_fresh_of_map rfl
/-- What they write, in order. -/
abbrev ops23_W : List (Ref sig .tc) := [main_call10_v0, main_call10_cst, main_call10_c, main_call10_v1_0, main_v81]
theorem ops23_writes : (ops23 : List (HloOp τ sig (Elt F))).Forall fun op => op.writes ⊆ (ops23_W.map (Proc.devRef (τ := τ) .tc)).toFinset :=
  StableHlo.forall_writes_sub_of_map rfl

/-- 6 operations of @main, from `main_v82` to `main_cst_21`. -/
abbrev ops24 : List (HloOp τ sig (Elt F)) :=
  ( StableHlo.reshape main_v76 main_v82 (rfl : (.f32 : EltTy) = .f32) shapeCasts_S1024x1x16x512_S1024x8192
  :: StableHlo.reshape main_v80 main_v83 (rfl : (.f32 : EltTy) = .f32) shapeCasts_S1024x1x16x512_S1024x8192
  :: StableHlo.nullary main_cst_20 (constant S_ .f32 0x3F800000#32)
  :: StableHlo.unary main_cst_20 main_v84 (broadcastInDim S1024x8192 ![] bcast_S_S1024x8192 : (⟨S_, .f32⟩ : BufTy).Contents (Elt F) → (⟨S1024x8192, .f32⟩ : BufTy).Contents (Elt F))
  :: StableHlo.binary main_v82 main_v84 main_v85 (mulf : (⟨S1024x8192, .f32⟩ : BufTy).Contents (Elt F) → (⟨S1024x8192, .f32⟩ : BufTy).Contents (Elt F) → (⟨S1024x8192, .f32⟩ : BufTy).Contents (Elt F))
  :: StableHlo.nullary main_cst_21 (constant S_ .f32 0x3C23D70A#32)
  :: [] )
/-- Each touches TensorCore references only. -/
theorem ops24_sub : (ops24 : List (HloOp τ sig (Elt F))).Forall fun op => op.bufs ⊆ StableHlo.tcRefs τ sig :=
  ⟨StableHlo.reshape_bufs_sub .., StableHlo.reshape_bufs_sub .., StableHlo.nullary_bufs_sub .., StableHlo.unary_bufs_sub .., StableHlo.binary_bufs_sub .., StableHlo.nullary_bufs_sub ..⟩
/-- Each determines its results. -/
theorem ops24_fresh : (ops24 : List (HloOp τ sig (Elt F))).Forall fun op => op.fresh = ∅ := StableHlo.forall_fresh_of_map rfl
/-- What they write, in order. -/
abbrev ops24_W : List (Ref sig .tc) := [main_v82, main_v83, main_cst_20, main_v84, main_v85, main_cst_21]
theorem ops24_writes : (ops24 : List (HloOp τ sig (Elt F))).Forall fun op => op.writes ⊆ (ops24_W.map (Proc.devRef (τ := τ) .tc)).toFinset :=
  StableHlo.forall_writes_sub_of_map rfl

/-- 7 operations of a call of @leaky_relu_3, from `main_call11_cst` to `main_v86`. -/
abbrev ops25 : List (HloOp τ sig (Elt F)) :=
  ( StableHlo.TRef.nullary (.of main_call11_cst : StableHlo.TRef sig ⟨S_, .f32⟩) (constant S_ .f32 0x00000000#32)
  :: StableHlo.TRef.unary (.of main_call11_cst : StableHlo.TRef sig ⟨S_, .f32⟩) (.of main_call11_v0 : StableHlo.TRef sig ⟨S1024x8192, .f32⟩) (broadcastInDim S1024x8192 ![] bcast_S_S1024x8192)
  :: StableHlo.TRef.binary (.of main_v85 : StableHlo.TRef sig ⟨S1024x8192, .f32⟩) (.of main_call11_v0 : StableHlo.TRef sig ⟨S1024x8192, .f32⟩) (.of main_call11_v1 : StableHlo.TRef sig ⟨S1024x8192, .i1⟩) (cmpf .oge)
  :: StableHlo.TRef.unary (.of main_cst_21 : StableHlo.TRef sig ⟨S_, .f32⟩) (.of main_call11_v2 : StableHlo.TRef sig ⟨S_, .f32⟩) id
  :: StableHlo.TRef.unary (.of main_call11_v2 : StableHlo.TRef sig ⟨S_, .f32⟩) (.of main_call11_v3 : StableHlo.TRef sig ⟨S1024x8192, .f32⟩) (broadcastInDim S1024x8192 ![] bcast_S_S1024x8192)
  :: StableHlo.TRef.binary (.of main_call11_v3 : StableHlo.TRef sig ⟨S1024x8192, .f32⟩) (.of main_v85 : StableHlo.TRef sig ⟨S1024x8192, .f32⟩) (.of main_call11_v4 : StableHlo.TRef sig ⟨S1024x8192, .f32⟩) mulf
  :: StableHlo.TRef.ternary (.of main_call11_v1 : StableHlo.TRef sig ⟨S1024x8192, .i1⟩) (.of main_v85 : StableHlo.TRef sig ⟨S1024x8192, .f32⟩) (.of main_call11_v4 : StableHlo.TRef sig ⟨S1024x8192, .f32⟩) (.of main_v86 : StableHlo.TRef sig ⟨S1024x8192, .f32⟩) select
  :: [] )
/-- Each touches TensorCore references only. -/
theorem ops25_sub : (ops25 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
/-- Each determines its results. -/
theorem ops25_fresh : (ops25 : List (HloOp τ sig (Elt F))).Forall fun op => op.fresh = ∅ := StableHlo.forall_fresh_of_map rfl
/-- What they write, in order. -/
abbrev ops25_W : List (Ref sig .tc) := [main_call11_cst, main_call11_v0, main_call11_v1, main_call11_v2, main_call11_v3, main_call11_v4, main_v86]
theorem ops25_writes : (ops25 : List (HloOp τ sig (Elt F))).Forall fun op => op.writes ⊆ (ops25_W.map (Proc.devRef (τ := τ) .tc)).toFinset :=
  StableHlo.forall_writes_sub_of_map rfl

/-- 5 operations of @main, from `main_v87` to `main_cst_22`. -/
abbrev ops26 : List (HloOp τ sig (Elt F)) :=
  ( StableHlo.binary main_v86 main_arg10 main_v87 ((fun l r => Host.dotGeneral dot_S1024x8192_S8192x1024_S1024x1024_1_0_0_1_n_n none l r) : (⟨S1024x8192, .f32⟩ : BufTy).Contents (Elt F) → (⟨S8192x1024, .f32⟩ : BufTy).Contents (Elt F) → (⟨S1024x1024, .f32⟩ : BufTy).Contents (Elt F))
  :: StableHlo.unary main_arg11 main_v88 (broadcastInDim S1x1024 ![1] bcast_S1024_S1x1024_1 : (⟨S1024, .f32⟩ : BufTy).Contents (Elt F) → (⟨S1x1024, .f32⟩ : BufTy).Contents (Elt F))
  :: StableHlo.unary main_v88 main_v89 (broadcastInDim S1024x1024 ![0, 1] bcast_S1x1024_S1024x1024_0_1 : (⟨S1x1024, .f32⟩ : BufTy).Contents (Elt F) → (⟨S1024x1024, .f32⟩ : BufTy).Contents (Elt F))
  :: StableHlo.binary main_v87 main_v89 main_v90 (addf : (⟨S1024x1024, .f32⟩ : BufTy).Contents (Elt F) → (⟨S1024x1024, .f32⟩ : BufTy).Contents (Elt F) → (⟨S1024x1024, .f32⟩ : BufTy).Contents (Elt F))
  :: StableHlo.nullary main_cst_22 (constant S_ .f32 0x3C23D70A#32)
  :: [] )
/-- Each touches TensorCore references only. -/
theorem ops26_sub : (ops26 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub ..⟩
/-- Each determines its results. -/
theorem ops26_fresh : (ops26 : List (HloOp τ sig (Elt F))).Forall fun op => op.fresh = ∅ := StableHlo.forall_fresh_of_map rfl
/-- What they write, in order. -/
abbrev ops26_W : List (Ref sig .tc) := [main_v87, main_v88, main_v89, main_v90, main_cst_22]
theorem ops26_writes : (ops26 : List (HloOp τ sig (Elt F))).Forall fun op => op.writes ⊆ (ops26_W.map (Proc.devRef (τ := τ) .tc)).toFinset :=
  StableHlo.forall_writes_sub_of_map rfl

/-- 7 operations of a call of @leaky_relu, from `main_call12_cst` to `main_v91`. -/
abbrev ops27 : List (HloOp τ sig (Elt F)) :=
  ( StableHlo.TRef.nullary (.of main_call12_cst : StableHlo.TRef sig ⟨S_, .f32⟩) (constant S_ .f32 0x00000000#32)
  :: StableHlo.TRef.unary (.of main_call12_cst : StableHlo.TRef sig ⟨S_, .f32⟩) (.of main_call12_v0 : StableHlo.TRef sig ⟨S1024x1024, .f32⟩) (broadcastInDim S1024x1024 ![] bcast_S_S1024x1024)
  :: StableHlo.TRef.binary (.of main_v90 : StableHlo.TRef sig ⟨S1024x1024, .f32⟩) (.of main_call12_v0 : StableHlo.TRef sig ⟨S1024x1024, .f32⟩) (.of main_call12_v1 : StableHlo.TRef sig ⟨S1024x1024, .i1⟩) (cmpf .oge)
  :: StableHlo.TRef.unary (.of main_cst_22 : StableHlo.TRef sig ⟨S_, .f32⟩) (.of main_call12_v2 : StableHlo.TRef sig ⟨S_, .f32⟩) id
  :: StableHlo.TRef.unary (.of main_call12_v2 : StableHlo.TRef sig ⟨S_, .f32⟩) (.of main_call12_v3 : StableHlo.TRef sig ⟨S1024x1024, .f32⟩) (broadcastInDim S1024x1024 ![] bcast_S_S1024x1024)
  :: StableHlo.TRef.binary (.of main_call12_v3 : StableHlo.TRef sig ⟨S1024x1024, .f32⟩) (.of main_v90 : StableHlo.TRef sig ⟨S1024x1024, .f32⟩) (.of main_call12_v4 : StableHlo.TRef sig ⟨S1024x1024, .f32⟩) mulf
  :: StableHlo.TRef.ternary (.of main_call12_v1 : StableHlo.TRef sig ⟨S1024x1024, .i1⟩) (.of main_v90 : StableHlo.TRef sig ⟨S1024x1024, .f32⟩) (.of main_call12_v4 : StableHlo.TRef sig ⟨S1024x1024, .f32⟩) (.of main_v91 : StableHlo.TRef sig ⟨S1024x1024, .f32⟩) select
  :: [] )
/-- Each touches TensorCore references only. -/
theorem ops27_sub : (ops27 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
/-- Each determines its results. -/
theorem ops27_fresh : (ops27 : List (HloOp τ sig (Elt F))).Forall fun op => op.fresh = ∅ := StableHlo.forall_fresh_of_map rfl
/-- What they write, in order. -/
abbrev ops27_W : List (Ref sig .tc) := [main_call12_cst, main_call12_v0, main_call12_v1, main_call12_v2, main_call12_v3, main_call12_v4, main_v91]
theorem ops27_writes : (ops27 : List (HloOp τ sig (Elt F))).Forall fun op => op.writes ⊆ (ops27_W.map (Proc.devRef (τ := τ) .tc)).toFinset :=
  StableHlo.forall_writes_sub_of_map rfl

/-- 3 operations of @main, from `main_v92` to `main_v94`. -/
abbrev ops28 : List (HloOp τ sig (Elt F)) :=
  ( StableHlo.binary main_v91 main_arg12 main_v92 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F))
  :: StableHlo.unary main_arg13 main_v93 (broadcastInDim S1x1024 ![1] bcast_S1024_S1x1024_1 : (⟨S1024, .f32⟩ : BufTy).Contents (Elt F) → (⟨S1x1024, .f32⟩ : BufTy).Contents (Elt F))
  :: StableHlo.unary main_v93 main_v94 (broadcastInDim S1024x1024 ![0, 1] bcast_S1x1024_S1024x1024_0_1 : (⟨S1x1024, .f32⟩ : BufTy).Contents (Elt F) → (⟨S1024x1024, .f32⟩ : BufTy).Contents (Elt F))
  :: [] )
/-- Each touches TensorCore references only. -/
theorem ops28_sub : (ops28 : List (HloOp τ sig (Elt F))).Forall fun op => op.bufs ⊆ StableHlo.tcRefs τ sig :=
  ⟨StableHlo.binary_bufs_sub .., StableHlo.unary_bufs_sub .., StableHlo.unary_bufs_sub ..⟩
/-- Each determines its results. -/
theorem ops28_fresh : (ops28 : List (HloOp τ sig (Elt F))).Forall fun op => op.fresh = ∅ := StableHlo.forall_fresh_of_map rfl
/-- What they write, in order. -/
abbrev ops28_W : List (Ref sig .tc) := [main_v92, main_v93, main_v94]
theorem ops28_writes : (ops28 : List (HloOp τ sig (Elt F))).Forall fun op => op.writes ⊆ (ops28_W.map (Proc.devRef (τ := τ) .tc)).toFinset :=
  StableHlo.forall_writes_sub_of_map rfl

/-- 2 operations of @main, from `main_v95` to `main_cst_23`. -/
abbrev ops29 : List (HloOp τ sig (Elt F)) :=
  ( StableHlo.binary main_v92 main_v94 main_v95 (addf : (⟨S1024x1024, .f32⟩ : BufTy).Contents (Elt F) → (⟨S1024x1024, .f32⟩ : BufTy).Contents (Elt F) → (⟨S1024x1024, .f32⟩ : BufTy).Contents (Elt F))
  :: StableHlo.nullary main_cst_23 (constant S_ .f32 0x3C23D70A#32)
  :: [] )
/-- Each touches TensorCore references only. -/
theorem ops29_sub : (ops29 : List (HloOp τ sig (Elt F))).Forall fun op => op.bufs ⊆ StableHlo.tcRefs τ sig :=
  ⟨StableHlo.binary_bufs_sub .., StableHlo.nullary_bufs_sub ..⟩
/-- Each determines its results. -/
theorem ops29_fresh : (ops29 : List (HloOp τ sig (Elt F))).Forall fun op => op.fresh = ∅ := StableHlo.forall_fresh_of_map rfl
/-- What they write, in order. -/
abbrev ops29_W : List (Ref sig .tc) := [main_v95, main_cst_23]
theorem ops29_writes : (ops29 : List (HloOp τ sig (Elt F))).Forall fun op => op.writes ⊆ (ops29_W.map (Proc.devRef (τ := τ) .tc)).toFinset :=
  StableHlo.forall_writes_sub_of_map rfl

/-- 7 operations of a call of @leaky_relu, from `main_call13_cst` to `main_v96`. -/
abbrev ops30 : List (HloOp τ sig (Elt F)) :=
  ( StableHlo.TRef.nullary (.of main_call13_cst : StableHlo.TRef sig ⟨S_, .f32⟩) (constant S_ .f32 0x00000000#32)
  :: StableHlo.TRef.unary (.of main_call13_cst : StableHlo.TRef sig ⟨S_, .f32⟩) (.of main_call13_v0 : StableHlo.TRef sig ⟨S1024x1024, .f32⟩) (broadcastInDim S1024x1024 ![] bcast_S_S1024x1024)
  :: StableHlo.TRef.binary (.of main_v95 : StableHlo.TRef sig ⟨S1024x1024, .f32⟩) (.of main_call13_v0 : StableHlo.TRef sig ⟨S1024x1024, .f32⟩) (.of main_call13_v1 : StableHlo.TRef sig ⟨S1024x1024, .i1⟩) (cmpf .oge)
  :: StableHlo.TRef.unary (.of main_cst_23 : StableHlo.TRef sig ⟨S_, .f32⟩) (.of main_call13_v2 : StableHlo.TRef sig ⟨S_, .f32⟩) id
  :: StableHlo.TRef.unary (.of main_call13_v2 : StableHlo.TRef sig ⟨S_, .f32⟩) (.of main_call13_v3 : StableHlo.TRef sig ⟨S1024x1024, .f32⟩) (broadcastInDim S1024x1024 ![] bcast_S_S1024x1024)
  :: StableHlo.TRef.binary (.of main_call13_v3 : StableHlo.TRef sig ⟨S1024x1024, .f32⟩) (.of main_v95 : StableHlo.TRef sig ⟨S1024x1024, .f32⟩) (.of main_call13_v4 : StableHlo.TRef sig ⟨S1024x1024, .f32⟩) mulf
  :: StableHlo.TRef.ternary (.of main_call13_v1 : StableHlo.TRef sig ⟨S1024x1024, .i1⟩) (.of main_v95 : StableHlo.TRef sig ⟨S1024x1024, .f32⟩) (.of main_call13_v4 : StableHlo.TRef sig ⟨S1024x1024, .f32⟩) (.of main_v96 : StableHlo.TRef sig ⟨S1024x1024, .f32⟩) select
  :: [] )
/-- Each touches TensorCore references only. -/
theorem ops30_sub : (ops30 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
/-- Each determines its results. -/
theorem ops30_fresh : (ops30 : List (HloOp τ sig (Elt F))).Forall fun op => op.fresh = ∅ := StableHlo.forall_fresh_of_map rfl
/-- What they write, in order. -/
abbrev ops30_W : List (Ref sig .tc) := [main_call13_cst, main_call13_v0, main_call13_v1, main_call13_v2, main_call13_v3, main_call13_v4, main_v96]
theorem ops30_writes : (ops30 : List (HloOp τ sig (Elt F))).Forall fun op => op.writes ⊆ (ops30_W.map (Proc.devRef (τ := τ) .tc)).toFinset :=
  StableHlo.forall_writes_sub_of_map rfl

/-- 5 operations of @main, from `main_v97` to `main_cst_24`. -/
abbrev ops31 : List (HloOp τ sig (Elt F)) :=
  ( StableHlo.binary main_v96 main_arg14 main_v97 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F))
  :: StableHlo.unary main_arg15 main_v98 (broadcastInDim S1x1024 ![1] bcast_S1024_S1x1024_1 : (⟨S1024, .f32⟩ : BufTy).Contents (Elt F) → (⟨S1x1024, .f32⟩ : BufTy).Contents (Elt F))
  :: StableHlo.unary main_v98 main_v99 (broadcastInDim S1024x1024 ![0, 1] bcast_S1x1024_S1024x1024_0_1 : (⟨S1x1024, .f32⟩ : BufTy).Contents (Elt F) → (⟨S1024x1024, .f32⟩ : BufTy).Contents (Elt F))
  :: StableHlo.binary main_v97 main_v99 main_v100 (addf : (⟨S1024x1024, .f32⟩ : BufTy).Contents (Elt F) → (⟨S1024x1024, .f32⟩ : BufTy).Contents (Elt F) → (⟨S1024x1024, .f32⟩ : BufTy).Contents (Elt F))
  :: StableHlo.nullary main_cst_24 (constant S_ .f32 0x3C23D70A#32)
  :: [] )
/-- Each touches TensorCore references only. -/
theorem ops31_sub : (ops31 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub ..⟩
/-- Each determines its results. -/
theorem ops31_fresh : (ops31 : List (HloOp τ sig (Elt F))).Forall fun op => op.fresh = ∅ := StableHlo.forall_fresh_of_map rfl
/-- What they write, in order. -/
abbrev ops31_W : List (Ref sig .tc) := [main_v97, main_v98, main_v99, main_v100, main_cst_24]
theorem ops31_writes : (ops31 : List (HloOp τ sig (Elt F))).Forall fun op => op.writes ⊆ (ops31_W.map (Proc.devRef (τ := τ) .tc)).toFinset :=
  StableHlo.forall_writes_sub_of_map rfl

/-- 7 operations of a call of @leaky_relu, from `main_call14_cst` to `main_v101`. -/
abbrev ops32 : List (HloOp τ sig (Elt F)) :=
  ( StableHlo.TRef.nullary (.of main_call14_cst : StableHlo.TRef sig ⟨S_, .f32⟩) (constant S_ .f32 0x00000000#32)
  :: StableHlo.TRef.unary (.of main_call14_cst : StableHlo.TRef sig ⟨S_, .f32⟩) (.of main_call14_v0 : StableHlo.TRef sig ⟨S1024x1024, .f32⟩) (broadcastInDim S1024x1024 ![] bcast_S_S1024x1024)
  :: StableHlo.TRef.binary (.of main_v100 : StableHlo.TRef sig ⟨S1024x1024, .f32⟩) (.of main_call14_v0 : StableHlo.TRef sig ⟨S1024x1024, .f32⟩) (.of main_call14_v1 : StableHlo.TRef sig ⟨S1024x1024, .i1⟩) (cmpf .oge)
  :: StableHlo.TRef.unary (.of main_cst_24 : StableHlo.TRef sig ⟨S_, .f32⟩) (.of main_call14_v2 : StableHlo.TRef sig ⟨S_, .f32⟩) id
  :: StableHlo.TRef.unary (.of main_call14_v2 : StableHlo.TRef sig ⟨S_, .f32⟩) (.of main_call14_v3 : StableHlo.TRef sig ⟨S1024x1024, .f32⟩) (broadcastInDim S1024x1024 ![] bcast_S_S1024x1024)
  :: StableHlo.TRef.binary (.of main_call14_v3 : StableHlo.TRef sig ⟨S1024x1024, .f32⟩) (.of main_v100 : StableHlo.TRef sig ⟨S1024x1024, .f32⟩) (.of main_call14_v4 : StableHlo.TRef sig ⟨S1024x1024, .f32⟩) mulf
  :: StableHlo.TRef.ternary (.of main_call14_v1 : StableHlo.TRef sig ⟨S1024x1024, .i1⟩) (.of main_v100 : StableHlo.TRef sig ⟨S1024x1024, .f32⟩) (.of main_call14_v4 : StableHlo.TRef sig ⟨S1024x1024, .f32⟩) (.of main_v101 : StableHlo.TRef sig ⟨S1024x1024, .f32⟩) select
  :: [] )
/-- Each touches TensorCore references only. -/
theorem ops32_sub : (ops32 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
/-- Each determines its results. -/
theorem ops32_fresh : (ops32 : List (HloOp τ sig (Elt F))).Forall fun op => op.fresh = ∅ := StableHlo.forall_fresh_of_map rfl
/-- What they write, in order. -/
abbrev ops32_W : List (Ref sig .tc) := [main_call14_cst, main_call14_v0, main_call14_v1, main_call14_v2, main_call14_v3, main_call14_v4, main_v101]
theorem ops32_writes : (ops32 : List (HloOp τ sig (Elt F))).Forall fun op => op.writes ⊆ (ops32_W.map (Proc.devRef (τ := τ) .tc)).toFinset :=
  StableHlo.forall_writes_sub_of_map rfl

/-- 4 operations of @main, from `main_v102` to `main_v105`. -/
abbrev ops33 : List (HloOp τ sig (Elt F)) :=
  ( StableHlo.binary main_v101 main_arg16 main_v102 ((fun l r => Host.dotGeneral dot_S1024x1024_S1024x256_S1024x256_1_0_0_1_n_n none l r) : (⟨S1024x1024, .f32⟩ : BufTy).Contents (Elt F) → (⟨S1024x256, .f32⟩ : BufTy).Contents (Elt F) → (⟨S1024x256, .f32⟩ : BufTy).Contents (Elt F))
  :: StableHlo.unary main_arg17 main_v103 (broadcastInDim S1x256 ![1] bcast_S256_S1x256_1 : (⟨S256, .f32⟩ : BufTy).Contents (Elt F) → (⟨S1x256, .f32⟩ : BufTy).Contents (Elt F))
  :: StableHlo.unary main_v103 main_v104 (broadcastInDim S1024x256 ![0, 1] bcast_S1x256_S1024x256_0_1 : (⟨S1x256, .f32⟩ : BufTy).Contents (Elt F) → (⟨S1024x256, .f32⟩ : BufTy).Contents (Elt F))
  :: StableHlo.binary main_v102 main_v104 main_v105 (addf : (⟨S1024x256, .f32⟩ : BufTy).Contents (Elt F) → (⟨S1024x256, .f32⟩ : BufTy).Contents (Elt F) → (⟨S1024x256, .f32⟩ : BufTy).Contents (Elt F))
  :: [] )
/-- Each touches TensorCore references only. -/
theorem ops33_sub : (ops33 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
/-- Each determines its results. -/
theorem ops33_fresh : (ops33 : List (HloOp τ sig (Elt F))).Forall fun op => op.fresh = ∅ := StableHlo.forall_fresh_of_map rfl
/-- What they write, in order. -/
abbrev ops33_W : List (Ref sig .tc) := [main_v102, main_v103, main_v104, main_v105]
theorem ops33_writes : (ops33 : List (HloOp τ sig (Elt F))).Forall fun op => op.writes ⊆ (ops33_W.map (Proc.devRef (τ := τ) .tc)).toFinset :=
  StableHlo.forall_writes_sub_of_map rfl

end Cert.ReferenceIdeal.Hand
-- ==== Proof.RefRun.lean ====
/-
  The reference's @main, read as lists of host operations: every call of a module-local function replaced by the
  operations of its body at the call's buffers, the lists cut where a call begins or ends (RefOps). `main_eq` says that @main is
  exactly these operations in order.
-/
module

public import Idealize.ShloMosaic.Lib.StableHlo.Run
public import Idealize.ShloMosaic.Lib.Pipeline.Regions
public import proofs.«01_k».proof.Proof.Gen.ReferenceIdeal
public import proofs.«01_k».proof.Proof.RefOps

set_option maxRecDepth 16384

noncomputable section

@[expose] public section

namespace Cert.ReferenceIdeal.Hand

open Idealize.ShloMosaic Idealize.ShloMosaic.TcCoe
open Idealize.SL.Sem
open Cert.ReferenceIdeal Cert.ReferenceIdeal.Gen

variable {F : FTy → Type} [FloatOps F]

set_option maxHeartbeats 40000000 in
/-- A window of @main is the chain of its lists. -/
theorem main_part0_chain (c : Dev nD) : main_part0 (F := F) c = (Pipeline.chainK [StableHlo.seq ops0, StableHlo.seq ops1, StableHlo.seq ops2, StableHlo.seq ops3, StableHlo.seq ops4, StableHlo.seq ops5, StableHlo.seq ops6, StableHlo.seq ops7, StableHlo.seq ops8, StableHlo.seq ops9, StableHlo.seq ops10, StableHlo.seq ops11, StableHlo.seq ops12, StableHlo.seq ops13, StableHlo.seq ops14] (StableHlo.seq ops15) : Prog (TpuEff nD τ sig (Elt F) (Pipeline.Sig Λ₀ (Fin 0) fun p => (pcfgs (F := F) p).Adm) .tc) PUnit) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons]
  chain_rfl

set_option maxHeartbeats 40000000 in
/-- A window of @main is the chain of its lists. -/
theorem main_part1_chain (c : Dev nD) : main_part1 (F := F) c = (Pipeline.chainK [StableHlo.seq ops16, StableHlo.seq ops17, StableHlo.seq ops18, StableHlo.seq ops19, StableHlo.seq ops20, StableHlo.seq ops21, StableHlo.seq ops22, StableHlo.seq ops23, StableHlo.seq ops24, StableHlo.seq ops25, StableHlo.seq ops26, StableHlo.seq ops27] (StableHlo.seq ops28) : Prog (TpuEff nD τ sig (Elt F) (Pipeline.Sig Λ₀ (Fin 0) fun p => (pcfgs (F := F) p).Adm) .tc) PUnit) := by
  rewrite [StableHlo.chainK_seq_cons, Pipeline.chainK_cons, StableHlo.chainK_seq_cons, StableHlo.chainK_seq_cons, Pipeline.chainK_cons, Pipeline.chainK_cons, StableHlo.chainK_seq_cons, Pipeline.chainK_cons, StableHlo.chainK_seq_cons, Pipeline.chainK_cons, StableHlo.chainK_seq_cons, Pipeline.chainK_cons]
  chain_rfl

set_option maxHeartbeats 40000000 in
/-- A window of @main is the chain of its lists. -/
theorem main_part2_chain (c : Dev nD) : main_part2 (F := F) c = (Pipeline.chain [StableHlo.seq ops29, StableHlo.seq ops30, StableHlo.seq ops31, StableHlo.seq ops32, StableHlo.seq ops33] : Prog (TpuEff nD τ sig (Elt F) (Pipeline.Sig Λ₀ (Fin 0) fun p => (pcfgs (F := F) p).Adm) .tc) PUnit) := by
  rewrite [StableHlo.chain_seq_cons, Pipeline.chain_cons, StableHlo.chain_seq_cons, Pipeline.chain_cons, StableHlo.chain_seq_cons]
  chain_rfl

/-- The lists of @main, in order. -/
abbrev parts : List (List (HloOp τ sig (Elt F))) := [ops0, ops1, ops2, ops3, ops4, ops5, ops6, ops7, ops8, ops9, ops10, ops11, ops12, ops13, ops14, ops15, ops16, ops17, ops18, ops19, ops20, ops21, ops22, ops23, ops24, ops25, ops26, ops27, ops28, ops29, ops30, ops31, ops32, ops33]

/-- A chain of straight lines is the straight line of their concatenation. -/
theorem chain_map_seq (ls : List (List (HloOp τ sig (Elt F)))) :
    (Pipeline.chain (ls.map StableHlo.seq) : Prog (TpuEff nD τ sig (Elt F) (Pipeline.Sig Λ₀ (Fin 0) fun p => (pcfgs (F := F) p).Adm) .tc) PUnit) = StableHlo.seq ls.flatten := by
  induction ls with
  | nil => rfl
  | cons l ls ih => rw [List.map_cons, Pipeline.chain_cons, ih, List.flatten_cons, StableHlo.seq_append]

/-- @main is the straight line of its operations. -/
theorem main_eq (c : Dev nD) : main (F := F) c = StableHlo.seq (parts (F := F)).flatten := by
  rw [← chain_map_seq]
  show (main_part0 (F := F) c >>= fun _ => main_part1 (F := F) c >>= fun _ => main_part2 (F := F) c) = _
  rewrite [main_part2_chain, main_part1_chain, main_part0_chain, Pipeline.chainK_bind_chain, Pipeline.chainK_bind_chain]
  rfl

/-- What holds of the operations of every list holds of all of them. -/
theorem forall_parts {P : HloOp τ sig (Elt F) → Prop} {ls : List (List (HloOp τ sig (Elt F)))} (h : ls.Forall fun l => l.Forall P) :
    ls.flatten.Forall P := by
  rw [List.forall_iff_forall_mem] at h ⊢
  intro op hop
  obtain ⟨l, hl, ho⟩ := List.mem_flatten.mp hop
  exact List.forall_iff_forall_mem.mp (h l hl) op ho

theorem parts_sub : (parts (F := F)).flatten.Forall fun op => op.bufs ⊆ StableHlo.tcRefs τ sig :=
  forall_parts ⟨ops0_sub, ops1_sub, ops2_sub, ops3_sub, ops4_sub, ops5_sub, ops6_sub, ops7_sub, ops8_sub, ops9_sub, ops10_sub, ops11_sub, ops12_sub, ops13_sub, ops14_sub, ops15_sub, ops16_sub, ops17_sub, ops18_sub, ops19_sub, ops20_sub, ops21_sub, ops22_sub, ops23_sub, ops24_sub, ops25_sub, ops26_sub, ops27_sub, ops28_sub, ops29_sub, ops30_sub, ops31_sub, ops32_sub, ops33_sub⟩
theorem parts_fresh : (parts (F := F)).flatten.Forall fun op => op.fresh = ∅ :=
  forall_parts ⟨ops0_fresh, ops1_fresh, ops2_fresh, ops3_fresh, ops4_fresh, ops5_fresh, ops6_fresh, ops7_fresh, ops8_fresh, ops9_fresh, ops10_fresh, ops11_fresh, ops12_fresh, ops13_fresh, ops14_fresh, ops15_fresh, ops16_fresh, ops17_fresh, ops18_fresh, ops19_fresh, ops20_fresh, ops21_fresh, ops22_fresh, ops23_fresh, ops24_fresh, ops25_fresh, ops26_fresh, ops27_fresh, ops28_fresh, ops29_fresh, ops30_fresh, ops31_fresh, ops32_fresh, ops33_fresh⟩

theorem scopedRefs_eq : (Finset.univ.filter fun b : Ref sig .tc => b.isScoped) = ∅ := by decide +kernel
theorem scopedSems_eq : (Finset.univ.filter fun sm : SemLoc sig => sm.isScoped .tc) = ∅ := by decide +kernel

/-- The reference has no semaphore. -/
theorem noSem : IsEmpty (SemLoc sig) := Fintype.card_eq_zero_iff.mp (SemLoc.card_eq.trans rfl)

/-- Every execution of the reference ends with each buffer at the operations' results, folded over the contents at
    the launch, and every counter at zero. -/
theorem run_post (m : (ℓ : Loc nD τ sig) → Buf (Elt F) ℓ) (ρ : Dev nD → PrngReg) :
    θ_run defs (onTc (τ := τ) (main (F := F))) ⟨m, fun _ => 0, ρ⟩ (fun r =>
      (∀ (d : Dev nD) (b : Ref sig .tc), r.2.mem ((d.tc : Thread nD τ).loc b)
        = StableHlo.after (parts (F := F)).flatten (fun x => m (d, x)) (Proc.devRef .tc b)) ∧ r.2.sem = fun _ => 0) :=
  (θ_run defs _ _).mono (fun _ h => ⟨h, funext fun s => (noSem.false s.2).elim⟩)
    (StableHlo.run_seq scopedRefs_eq scopedSems_eq defs main (fun _ => (parts (F := F)).flatten) main_eq (fun _ => parts_sub) m ρ
      fun _ op h => List.forall_iff_forall_mem.mp parts_fresh op h)

/-- The arrays the program is called with. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- What all the lists write. -/
abbrev parts_W : List (Ref sig .tc) := [ops0_W, ops1_W, ops2_W, ops3_W, ops4_W, ops5_W, ops6_W, ops7_W, ops8_W, ops9_W, ops10_W, ops11_W, ops12_W, ops13_W, ops14_W, ops15_W, ops16_W, ops17_W, ops18_W, ops19_W, ops20_W, ops21_W, ops22_W, ops23_W, ops24_W, ops25_W, ops26_W, ops27_W, ops28_W, ops29_W, ops30_W, ops31_W, ops32_W, ops33_W].flatten
theorem parts_writes : (parts (F := F)).flatten.Forall fun op => op.writes ⊆ (parts_W.map (Proc.devRef (τ := τ) .tc)).toFinset :=
  StableHlo.forall_writes_sub_of_map rfl

theorem argRefs_kept : ∀ a ∈ argRefs, a ∉ parts_W := ListAll.forall_mem_of_all_decide (by decide +kernel)

theorem args_kept (V : Valuation τ sig (Elt F)) (a : Ref sig .tc) (ha : a ∈ argRefs) :
    StableHlo.after (parts (F := F)).flatten V (Proc.devRef .tc a) = V (Proc.devRef .tc a) :=
  StableHlo.after_of_writes_sub _ _ parts_writes (argRefs_kept a ha)

/-! ## The stages

The lists are read in eight stages: the standardised inputs, the three layers of the encoder, the latent code, the uniform
draw, the perturbed logits, their softmax, the selected entries and the decoder. -/

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

abbrev stA : List (HloOp τ sig (Elt F)) := ops0 ++ ops1 ++ ops2 ++ ops3 ++ ops4 ++ ops5 ++ ops6 ++ ops7
abbrev stA_W : List (Ref sig .tc) := ops0_W ++ ops1_W ++ ops2_W ++ ops3_W ++ ops4_W ++ ops5_W ++ ops6_W ++ ops7_W
theorem stA_writes : (stA (F := F)).Forall fun op => op.writes ⊆ (stA_W.map (Proc.devRef (τ := τ) .tc)).toFinset :=
  StableHlo.forall_writes_sub_of_map rfl

abbrev stB : List (HloOp τ sig (Elt F)) := ops8 ++ ops9 ++ ops10 ++ ops11 ++ ops12 ++ ops13
abbrev stB_W : List (Ref sig .tc) := ops8_W ++ ops9_W ++ ops10_W ++ ops11_W ++ ops12_W ++ ops13_W
theorem stB_writes : (stB (F := F)).Forall fun op => op.writes ⊆ (stB_W.map (Proc.devRef (τ := τ) .tc)).toFinset :=
  StableHlo.forall_writes_sub_of_map rfl

abbrev stC : List (HloOp τ sig (Elt F)) := ops14
abbrev stC_W : List (Ref sig .tc) := ops14_W
theorem stC_writes : (stC (F := F)).Forall fun op => op.writes ⊆ (stC_W.map (Proc.devRef (τ := τ) .tc)).toFinset :=
  StableHlo.forall_writes_sub_of_map rfl

abbrev stU : List (HloOp τ sig (Elt F)) := ops15 ++ ops16 ++ ops17
abbrev stU_W : List (Ref sig .tc) := ops15_W ++ ops16_W ++ ops17_W
theorem stU_writes : (stU (F := F)).Forall fun op => op.writes ⊆ (stU_W.map (Proc.devRef (τ := τ) .tc)).toFinset :=
  StableHlo.forall_writes_sub_of_map rfl

abbrev stD : List (HloOp τ sig (Elt F)) := ops18
abbrev stD_W : List (Ref sig .tc) := ops18_W
theorem stD_writes : (stD (F := F)).Forall fun op => op.writes ⊆ (stD_W.map (Proc.devRef (τ := τ) .tc)).toFinset :=
  StableHlo.forall_writes_sub_of_map rfl

abbrev stE : List (HloOp τ sig (Elt F)) := ops19
abbrev stE_W : List (Ref sig .tc) := ops19_W
theorem stE_writes : (stE (F := F)).Forall fun op => op.writes ⊆ (stE_W.map (Proc.devRef (τ := τ) .tc)).toFinset :=
  StableHlo.forall_writes_sub_of_map rfl

abbrev stG : List (HloOp τ sig (Elt F)) := ops20 ++ ops21 ++ ops22 ++ ops23
abbrev stG_W : List (Ref sig .tc) := ops20_W ++ ops21_W ++ ops22_W ++ ops23_W
theorem stG_writes : (stG (F := F)).Forall fun op => op.writes ⊆ (stG_W.map (Proc.devRef (τ := τ) .tc)).toFinset :=
  StableHlo.forall_writes_sub_of_map rfl

abbrev stH : List (HloOp τ sig (Elt F)) := ops24 ++ ops25 ++ ops26 ++ ops27 ++ ops28 ++ ops29 ++ ops30 ++ ops31 ++ ops32 ++ ops33
abbrev stH_W : List (Ref sig .tc) := ops24_W ++ ops25_W ++ ops26_W ++ ops27_W ++ ops28_W ++ ops29_W ++ ops30_W ++ ops31_W ++ ops32_W ++ ops33_W
theorem stH_writes : (stH (F := F)).Forall fun op => op.writes ⊆ (stH_W.map (Proc.devRef (τ := τ) .tc)).toFinset :=
  StableHlo.forall_writes_sub_of_map rfl

theorem parts_eq : (parts (F := F)).flatten = stA ++ (stB ++ (stC ++ (stU ++ (stD ++ (stE ++ (stG ++ (stH))))))) := rfl

variable (V : Valuation τ sig (Elt F))

/-- The buffers after stage A. -/
def VA : Valuation τ sig (Elt F) := StableHlo.after stA (V)
theorem VA_of (r : Ref sig .tc) (h : r ∉ stA_W) : VA V (Proc.devRef .tc r) = V (Proc.devRef .tc r) :=
  StableHlo.after_of_writes_sub _ _ stA_writes h
/-- The buffers after stage B. -/
def VB : Valuation τ sig (Elt F) := StableHlo.after stB (VA V)
theorem VB_of (r : Ref sig .tc) (h : r ∉ stB_W) : VB V (Proc.devRef .tc r) = VA V (Proc.devRef .tc r) :=
  StableHlo.after_of_writes_sub _ _ stB_writes h
/-- The buffers after stage C. -/
def VC : Valuation τ sig (Elt F) := StableHlo.after stC (VB V)
theorem VC_of (r : Ref sig .tc) (h : r ∉ stC_W) : VC V (Proc.devRef .tc r) = VB V (Proc.devRef .tc r) :=
  StableHlo.after_of_writes_sub _ _ stC_writes h
/-- The buffers after stage U. -/
def VU : Valuation τ sig (Elt F) := StableHlo.after stU (VC V)
theorem VU_of (r : Ref sig .tc) (h : r ∉ stU_W) : VU V (Proc.devRef .tc r) = VC V (Proc.devRef .tc r) :=
  StableHlo.after_of_writes_sub _ _ stU_writes h
/-- The buffers after stage D. -/
def VD : Valuation τ sig (Elt F) := StableHlo.after stD (VU V)
theorem VD_of (r : Ref sig .tc) (h : r ∉ stD_W) : VD V (Proc.devRef .tc r) = VU V (Proc.devRef .tc r) :=
  StableHlo.after_of_writes_sub _ _ stD_writes h
/-- The buffers after stage E. -/
def VE : Valuation τ sig (Elt F) := StableHlo.after stE (VD V)
theorem VE_of (r : Ref sig .tc) (h : r ∉ stE_W) : VE V (Proc.devRef .tc r) = VD V (Proc.devRef .tc r) :=
  StableHlo.after_of_writes_sub _ _ stE_writes h
/-- The buffers after stage G. -/
def VG : Valuation τ sig (Elt F) := StableHlo.after stG (VE V)
theorem VG_of (r : Ref sig .tc) (h : r ∉ stG_W) : VG V (Proc.devRef .tc r) = VE V (Proc.devRef .tc r) :=
  StableHlo.after_of_writes_sub _ _ stG_writes h
/-- The buffers after stage H. -/
def VH : Valuation τ sig (Elt F) := StableHlo.after stH (VG V)
theorem VH_of (r : Ref sig .tc) (h : r ∉ stH_W) : VH V (Proc.devRef .tc r) = VG V (Proc.devRef .tc r) :=
  StableHlo.after_of_writes_sub _ _ stH_writes h

/-- The buffers after the whole program are those after the last stage. -/
theorem after_parts : StableHlo.after (parts (F := F)).flatten V = VH V := by
  rw [parts_eq]
  simp only [after_append]
  rfl

/-- The reference's frame: it ends with its arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  (θ_run defs _ _).mono (fun r h => ⟨fun c =>
    have k : ∀ a ∈ argRefs, r.2.mem ((c.tc : Thread nD τ).loc a) = m ((c.tc : Thread nD τ).loc a) :=
      fun a ha => (h.1 c a).trans (args_kept _ a ha)
    ⟨k main_arg0 (by decide +kernel), k main_arg1 (by decide +kernel), k main_arg2 (by decide +kernel), k main_arg3 (by decide +kernel), k main_arg4 (by decide +kernel), k main_arg5 (by decide +kernel), k main_arg6 (by decide +kernel), k main_arg7 (by decide +kernel), k main_arg8 (by decide +kernel), k main_arg9 (by decide +kernel), k main_arg10 (by decide +kernel), k main_arg11 (by decide +kernel), k main_arg12 (by decide +kernel), k main_arg13 (by decide +kernel), k main_arg14 (by decide +kernel), k main_arg15 (by decide +kernel), k main_arg16 (by decide +kernel), k main_arg17 (by decide +kernel), k main_arg18 (by decide +kernel), k main_arg19 (by decide +kernel), k main_arg20 (by decide +kernel), k main_arg21 (by decide +kernel)⟩, h.2⟩) (run_post m ρ)

end Cert.ReferenceIdeal.Hand
-- ==== Proof.Sim.lean ====
module

public import Idealize.ShloMosaic.Lib.StableHlo.Run

/-! Two straight lines of host operations, over two signatures, that are the same operation for operation: what the first
leaves in a buffer is what the second leaves in the buffer of the same turn. A list of pairs says which buffer of the one
program is which of the other; each step adds the pair the two operations write. What the operations compute is never
looked at. -/

@[expose] public section

namespace Cert.Sim

open Idealize.ShloMosaic Idealize.ShloMosaic.TcCoe

variable {τ τ' : Topo} {sig sig' : RefSig} {Val : EltTy → Type}

/-- The paired buffers hold the same contents. -/
def Agree (ps : List (Ref sig .tc × Ref sig' .tc)) (V : Valuation τ sig Val) (W : Valuation τ' sig' Val) : Prop :=
  ∀ p ∈ ps, HEq (V (Proc.devRef .tc p.1)) (W (Proc.devRef .tc p.2))

/-- From contents that agree on the pairs, the two lines leave the same contents at `t` and `t'`. -/
def Same (t : Ref sig .tc) (t' : Ref sig' .tc) (ps : List (Ref sig .tc × Ref sig' .tc))
    (l : List (HloOp τ sig Val)) (l' : List (HloOp τ' sig' Val)) : Prop :=
  ∀ V W, Agree ps V W → HEq (StableHlo.after l V (Proc.devRef .tc t)) (StableHlo.after l' W (Proc.devRef .tc t'))

/-- Neither buffer of the pair is among the pairs already. -/
def fresh (y : Ref sig .tc) (y' : Ref sig' .tc) (ps : List (Ref sig .tc × Ref sig' .tc)) : Bool :=
  ps.all fun p => decide (p.1 ≠ y) && decide (p.2 ≠ y')

variable {t : Ref sig .tc} {t' : Ref sig' .tc} {ps : List (Ref sig .tc × Ref sig' .tc)}
  {l : List (HloOp τ sig Val)} {l' : List (HloOp τ' sig' Val)}

/-- At the end of both lines a pair among the pairs holds the same contents. -/
theorem Same.nil (h : (t, t') ∈ ps) : Same (τ := τ) (τ' := τ') (Val := Val) t t' ps [] [] := fun V W a => a _ h

/-- One operation on each side: they write the buffers of a new pair, with the same contents. -/
theorem Same.step {op : HloOp τ sig Val} {op' : HloOp τ' sig' Val} {y : Ref sig .tc} {y' : Ref sig' .tc}
    (hw : ∀ V r, r ≠ y → op.result V (Proc.devRef .tc r) = V (Proc.devRef .tc r))
    (hw' : ∀ W r, r ≠ y' → op'.result W (Proc.devRef .tc r) = W (Proc.devRef .tc r))
    (hv : ∀ V W, Agree ps V W → HEq (op.result V (Proc.devRef .tc y)) (op'.result W (Proc.devRef .tc y')))
    (hf : fresh y y' ps = true) (k : Same t t' ((y, y') :: ps) l l') : Same t t' ps (op :: l) (op' :: l') := by
  intro V W a
  refine k _ _ fun p hp => ?_
  rcases List.mem_cons.mp hp with rfl | hp
  · exact hv V W a
  · have := List.all_eq_true.mp hf p hp
    simp only [Bool.and_eq_true, decide_eq_true_eq] at this
    rw [hw V _ this.1, hw' W _ this.2]
    exact a p hp

/-- One line after another. -/
theorem after_append (l₁ l₂ : List (HloOp τ sig Val)) (V : Valuation τ sig Val) :
    StableHlo.after (l₁ ++ l₂) V = StableHlo.after l₂ (StableHlo.after l₁ V) := by
  induction l₁ generalizing V with
  | nil => rfl
  | cons op ops ih => exact ih _

/-- Two stretches on each side: the first leaves the pairs the second starts from. -/
theorem Same.append {qs : List (Ref sig .tc × Ref sig' .tc)} {l₁ l₂ : List (HloOp τ sig Val)} {l₁' l₂' : List (HloOp τ' sig' Val)}
    (h₁ : ∀ q ∈ qs, Same q.1 q.2 ps l₁ l₁') (h₂ : Same t t' qs l₂ l₂') : Same t t' ps (l₁ ++ l₂) (l₁' ++ l₂') := by
  intro V W a
  rw [after_append, after_append]
  exact h₂ _ _ fun q hq => h₁ q hq V W a

variable {T U S : BufTy}

theorem apply1 {A A' B B' : BufTy} (hA : A = A') (hB : B = B') {f : A.Contents Val → B.Contents Val}
    {f' : A'.Contents Val → B'.Contents Val} (hf : HEq f f') {u : A.Contents Val} {u' : A'.Contents Val} (hu : HEq u u') :
    HEq (f u) (f' u') := by
  cases hA; cases hB; cases hf; cases hu; rfl

theorem apply2 {A A' B B' C C' : BufTy} (hA : A = A') (hB : B = B') (hC : C = C')
    {f : A.Contents Val → B.Contents Val → C.Contents Val} {f' : A'.Contents Val → B'.Contents Val → C'.Contents Val}
    (hf : HEq f f') {u : A.Contents Val} {u' : A'.Contents Val} (hu : HEq u u') {v : B.Contents Val} {v' : B'.Contents Val}
    (hv : HEq v v') : HEq (f u v) (f' u' v') := by
  cases hA; cases hB; cases hC; cases hf; cases hu; cases hv; rfl

/-- The same operation without operands. -/
theorem Same.nullary {y : Ref sig .tc} {y' : Ref sig' .tc} {v v'} {hy hy'} (e : HEq v v')
    (hf : fresh y y' ps = true) (k : Same t t' ((y, y') :: ps) l l') :
    Same (τ := τ) (τ' := τ') (Val := Val) t t' ps (StableHlo.nullary y v hy :: l) (StableHlo.nullary y' v' hy' :: l') :=
  .step (fun V r h => StableHlo.nullary_result_ne' v hy V h) (fun W r h => StableHlo.nullary_result_ne' v' hy' W h)
    (fun V W a => by rw [StableHlo.nullary_result, StableHlo.nullary_result]; exact e) hf k

/-- The same operation of one operand. -/
theorem Same.unary {x y : Ref sig .tc} {x' y' : Ref sig' .tc} {f f'} {hx hy hx' hy'} (eT : x.ty = x'.ty) (eU : y.ty = y'.ty)
    (e : HEq f f') (hm : (x, x') ∈ ps) (hf : fresh y y' ps = true) (k : Same t t' ((y, y') :: ps) l l') :
    Same (τ := τ) (τ' := τ') (Val := Val) t t' ps (StableHlo.unary x y f hx hy :: l) (StableHlo.unary x' y' f' hx' hy' :: l') :=
  .step (fun V r h => StableHlo.unary_result_ne' f hx hy V h) (fun W r h => StableHlo.unary_result_ne' f' hx' hy' W h)
    (fun V W a => by rw [StableHlo.unary_result, StableHlo.unary_result]; exact apply1 eT eU e (a _ hm)) hf k

/-- The same operation of two operands. -/
theorem Same.binary {x z y : Ref sig .tc} {x' z' y' : Ref sig' .tc} {f f'} {hx hz hy hx' hz' hy'} (eT : x.ty = x'.ty)
    (eS : z.ty = z'.ty) (eU : y.ty = y'.ty) (e : HEq f f') (hm : (x, x') ∈ ps) (hn : (z, z') ∈ ps)
    (hf : fresh y y' ps = true) (k : Same t t' ((y, y') :: ps) l l') :
    Same (τ := τ) (τ' := τ') (Val := Val) t t' ps (StableHlo.binary x z y f hx hz hy :: l)
      (StableHlo.binary x' z' y' f' hx' hz' hy' :: l') :=
  .step (fun V r h => StableHlo.binary_result_ne' f hx hz hy V h) (fun W r h => StableHlo.binary_result_ne' f' hx' hz' hy' W h)
    (fun V W a => by rw [StableHlo.binary_result, StableHlo.binary_result]; exact apply2 eT eS eU e (a _ hm) (a _ hn)) hf k

/-- The same operation without operands, in a module-local function. -/
theorem Same.tnullary {y : StableHlo.TRef sig T} {y' : StableHlo.TRef sig' T} {v}
    (hf : fresh y.ref y'.ref ps = true) (k : Same t t' ((y.ref, y'.ref) :: ps) l l') :
    Same (τ := τ) (τ' := τ') (Val := Val) t t' ps (StableHlo.TRef.nullary y v :: l) (StableHlo.TRef.nullary y' v :: l') :=
  .nullary ((cast_heq _ _).trans (cast_heq _ _).symm) hf k

/-- The same operation of one operand, in a module-local function. -/
theorem Same.tunary {x : StableHlo.TRef sig T} {x' : StableHlo.TRef sig' T} {y : StableHlo.TRef sig U}
    {y' : StableHlo.TRef sig' U} {f} (hm : (x.ref, x'.ref) ∈ ps) (hf : fresh y.ref y'.ref ps = true)
    (k : Same t t' ((y.ref, y'.ref) :: ps) l l') :
    Same (τ := τ) (τ' := τ') (Val := Val) t t' ps (StableHlo.TRef.unary x y f :: l) (StableHlo.TRef.unary x' y' f :: l') :=
  .step (fun V r h => StableHlo.unary_result_ne' _ _ _ V h) (fun W r h => StableHlo.unary_result_ne' _ _ _ W h)
    (fun V W a => by
      rw [StableHlo.unary_result, StableHlo.unary_result]
      refine (cast_heq _ _).trans (HEq.trans ?_ (cast_heq _ _).symm)
      exact heq_of_eq (congrArg f (eq_of_heq ((cast_heq _ _).trans ((a _ hm).trans (cast_heq _ _).symm))))) hf k

/-- The same operation of two operands, in a module-local function. -/
theorem Same.tbinary {x : StableHlo.TRef sig T} {x' : StableHlo.TRef sig' T} {z : StableHlo.TRef sig S}
    {z' : StableHlo.TRef sig' S} {y : StableHlo.TRef sig U} {y' : StableHlo.TRef sig' U} {f}
    (hm : (x.ref, x'.ref) ∈ ps) (hn : (z.ref, z'.ref) ∈ ps) (hf : fresh y.ref y'.ref ps = true)
    (k : Same t t' ((y.ref, y'.ref) :: ps) l l') :
    Same (τ := τ) (τ' := τ') (Val := Val) t t' ps (StableHlo.TRef.binary x z y f :: l)
      (StableHlo.TRef.binary x' z' y' f :: l') :=
  .step (fun V r h => StableHlo.binary_result_ne' _ _ _ _ V h) (fun W r h => StableHlo.binary_result_ne' _ _ _ _ W h)
    (fun V W a => by
      rw [StableHlo.binary_result, StableHlo.binary_result]
      refine (cast_heq _ _).trans (HEq.trans ?_ (cast_heq _ _).symm)
      exact heq_of_eq (congrArg₂ f (eq_of_heq ((cast_heq _ _).trans ((a _ hm).trans (cast_heq _ _).symm)))
        (eq_of_heq ((cast_heq _ _).trans ((a _ hn).trans (cast_heq _ _).symm))))) hf k

theorem cast_fn {A A' B B' : BufTy} (hA : A = A') (hB : B = B') (he : A.elt = B.elt) (he' : A'.elt = B'.elt)
    (hn : A.shape.ShapeCasts B.shape) (hn' : A'.shape.ShapeCasts B'.shape) {u : A.Contents Val} {u' : A'.Contents Val}
    (hu : HEq u u') :
    HEq (fun i => he ▸ shapeCast B.shape u hn i : B.Contents Val) (fun i => he' ▸ shapeCast B'.shape u' hn' i : B'.Contents Val) := by
  cases hA; cases hB; cases hu; rfl

/-- The same reshape, in a module-local function. -/
theorem Same.treshape {x : StableHlo.TRef sig T} {x' : StableHlo.TRef sig' T} {y : StableHlo.TRef sig U}
    {y' : StableHlo.TRef sig' U} {he he' hn hn'} (hm : (x.ref, x'.ref) ∈ ps) (hf : fresh y.ref y'.ref ps = true)
    (k : Same t t' ((y.ref, y'.ref) :: ps) l l') :
    Same (τ := τ) (τ' := τ') (Val := Val) t t' ps (StableHlo.TRef.reshape x y he hn :: l)
      (StableHlo.TRef.reshape x' y' he' hn' :: l') :=
  .step (fun V r h => StableHlo.reshape_result_ne' _ _ _ _ V h) (fun W r h => StableHlo.reshape_result_ne' _ _ _ _ W h)
    (fun V W a => by
      rw [StableHlo.reshape_result, StableHlo.reshape_result]
      exact cast_fn (x.ty_eq.trans x'.ty_eq.symm) (y.ty_eq.trans y'.ty_eq.symm) _ _ _ _ (a _ hm)) hf k

end Cert.Sim
-- ==== Proof.Draw.lean ====
module

public import proofs.«01_k».proof.Proof.Sim
public import proofs.«01_k».proof.Proof.Run
public import proofs.«01_k».proof.Proof.RefRun
public import Idealize.ShloMosaic.Lib.Pointwise

/-! The uniform draw: the kernel's program and the reference draw the same numbers, because they draw them by the same
operations, 284 of them, from the same key. Neither program's draw reads an argument. -/

@[expose] public section
set_option maxRecDepth 16384
noncomputable section
namespace Cert.Draw
open Idealize.ShloMosaic Idealize.ShloMosaic.TcCoe Cert.Sim

variable {F : FTy → Type} [FloatOps F]

/-- What the draw proper starts from: the lower and upper bound and the key. -/
abbrev inputs : List (Ref Cert.KernelIdeal.sig .tc × Ref Cert.ReferenceIdeal.sig .tc) :=
  [(Cert.KernelIdeal.main_cst_3, Cert.ReferenceIdeal.main_cst_12), (Cert.KernelIdeal.main_cst_4, Cert.ReferenceIdeal.main_cst_13),
    (Cert.KernelIdeal.main_v34, Cert.ReferenceIdeal.main_v53)]

set_option maxHeartbeats 4000000 in
/-- Both programs make the same bounds and the same key. -/
theorem key_same (t : Ref Cert.KernelIdeal.sig .tc) (t' : Ref Cert.ReferenceIdeal.sig .tc) (h : (t, t') ∈ inputs) :
    Same (Val := Elt F) t t' [] (Cert.KernelIdeal.Gen.hostOps0.drop 30) (Cert.ReferenceIdeal.Hand.ops15 ++ Cert.ReferenceIdeal.Hand.ops16) := by
  simp only [Cert.KernelIdeal.Gen.hostOps0, Cert.ReferenceIdeal.Hand.ops15, Cert.ReferenceIdeal.Hand.ops16,
    List.drop_succ_cons, List.drop_zero, List.cons_append, List.nil_append]
  iterate 12 first
    | refine Same.binary rfl rfl rfl HEq.rfl ?_ ?_ ?_ ?_; decide +kernel; decide +kernel; decide +kernel
    | refine Same.unary rfl rfl HEq.rfl ?_ ?_ ?_; decide +kernel; decide +kernel
    | refine Same.nullary HEq.rfl ?_ ?_; decide +kernel
  refine Same.nil ?_
  simp only [inputs, List.mem_cons, List.not_mem_nil, or_false] at h
  rcases h with h | h | h <;> rw [h] <;> decide +kernel

set_option maxHeartbeats 40000000 in
/-- From the same bounds and key both programs draw the same numbers. -/
theorem draw_same : Same (Val := Elt F) Cert.KernelIdeal.main_v35 Cert.ReferenceIdeal.main_v54 inputs
    Cert.KernelIdeal.Gen.hostOps0_1 Cert.ReferenceIdeal.Hand.ops17 := by
  iterate 272 first
    | with_reducible refine Same.tbinary ?_ ?_ ?_ ?_; decide +kernel; decide +kernel; decide +kernel
    | with_reducible refine Same.tunary ?_ ?_ ?_; decide +kernel; decide +kernel
    | with_reducible refine Same.tnullary ?_ ?_; decide +kernel
    | with_reducible refine Same.treshape ?_ ?_ ?_; decide +kernel; decide +kernel
  exact Same.nil (by decide +kernel)

/-- What the kernel's program has drawn before its first call is what the reference draws, whatever the two started from. -/
theorem draw_heq (V : Valuation Cert.KernelIdeal.τ Cert.KernelIdeal.sig (Elt F))
    (W : Valuation Cert.ReferenceIdeal.τ Cert.ReferenceIdeal.sig (Elt F)) :
    HEq (StableHlo.after Cert.KernelIdeal.Gen.hostOps0_1 (StableHlo.after Cert.KernelIdeal.Gen.hostOps0 V) (Proc.devRef .tc Cert.KernelIdeal.main_v35))
      (StableHlo.after Cert.ReferenceIdeal.Hand.stU W (Proc.devRef .tc Cert.ReferenceIdeal.main_v54)) := by
  have h := Same.append (fun q hq => key_same (F := F) q.1 q.2 hq) draw_same
    (StableHlo.after (Cert.KernelIdeal.Gen.hostOps0.take 30) V) W (fun p hp => absurd hp List.not_mem_nil)
  rw [after_append, ← after_append (Cert.KernelIdeal.Gen.hostOps0.take 30), List.take_append_drop] at h
  exact h

/-- The same at an index. -/
theorem draw_at (V : Valuation Cert.KernelIdeal.τ Cert.KernelIdeal.sig (Elt F))
    (W : Valuation Cert.ReferenceIdeal.τ Cert.ReferenceIdeal.sig (Elt F)) (r : Fin 1024) (g : Fin 16) (p : Fin 512) :
    StableHlo.after Cert.KernelIdeal.Gen.hostOps0_1 (StableHlo.after Cert.KernelIdeal.Gen.hostOps0 V)
        (Proc.devRef .tc Cert.KernelIdeal.main_v35) (ix4 r (0 : Fin 1) g p)
      = StableHlo.after Cert.ReferenceIdeal.Hand.stU W (Proc.devRef .tc Cert.ReferenceIdeal.main_v54) (ix4 r (0 : Fin 1) g p) :=
  congrFun (eq_of_heq (draw_heq V W)) _

end Cert.Draw
-- ==== Proof.Num.lean ====
module

public import Idealize.ShloMosaic.PureOps.Ideal
public import Idealize.ShloMosaic.PureOps.Ideal.Laws
public import Idealize.ShloMosaic.Lib.IdealHost
public import Idealize.ShloMosaic.Lib.Pointwise

/-! The scalar and row functions both programs compute, over the extended reals: one row at a time, no program in sight. -/

@[expose] public section

set_option maxRecDepth 16384

noncomputable section

namespace Cert.Num

open Idealize.ShloMosaic

/-! ## Layers -/

/-- The slope of the rectifier below zero. -/
def kLeak : EReal := Ideal.ofBits .f32 1008981770#32

/-- The rectifier with a small slope below zero. -/
def leaky (v : EReal) : EReal := if 0 ≤ v then v else kLeak * v

/-- A row times a matrix, plus a bias. -/
def lin {K N : ℕ} (x : Fin K → EReal) (W : Fin K → Fin N → EReal) (b : Fin N → EReal) (j : Fin N) : EReal := ∑ k, x k * W k j + b j

/-- A linear layer and the rectifier. -/
def lay {K N : ℕ} (x : Fin K → EReal) (W : Fin K → Fin N → EReal) (b : Fin N → EReal) (j : Fin N) : EReal := leaky (lin x W b j)

/-- Normalise by a mean and a deviation and clip to `[-5, 5]`. -/
def nrm (x m s : EReal) : EReal := min (Ideal.ofBits .f32 1084227584#32) (max (Ideal.ofBits .f32 3231711232#32) (Ideal.div (x - m) s))

/-- The deviation of a variance. -/
def dev (v : EReal) : EReal := Ideal.sqrt (v + Ideal.ofBits .f32 0x38D1B717#32)

/-- A logit disturbed by the noise of the uniform draw `u`. -/
def noisy (z u : EReal) : EReal :=
  z + -Ideal.log (-Ideal.log (u + Ideal.ofBits .f32 507307272#32) + Ideal.ofBits .f32 507307272#32)

/-! ## The soft maximum -/

/-- The greatest of a row. -/
def vmax (x : Fin 512 → EReal) : EReal := Finset.univ.fold max ⊥ x

/-- The soft maximum of a row. -/
def smx (x : Fin 512 → EReal) (j : Fin 512) : EReal := Ideal.div (Ideal.exp (x j - vmax x)) (∑ k, Ideal.exp (x k - vmax x))

/-- An entry is at most the greatest of its row. -/
theorem le_vmax (x : Fin 512 → EReal) (k : Fin 512) : x k ≤ vmax x :=
  (Finset.le_fold_max _).mpr (.inr ⟨k, Finset.mem_univ _, le_rfl⟩)

/-- What bounds every entry bounds the greatest. -/
theorem vmax_le (x : Fin 512 → EReal) (b : EReal) (h : ∀ k, x k ≤ b) : vmax x ≤ b :=
  (Finset.fold_max_le _).mpr ⟨bot_le, fun k _ => h k⟩

/-- The least position of the greatest value. -/
def IsAm (x : Fin 512 → EReal) (k : Fin 512) : Prop := (∀ j, x j ≤ x k) ∧ ∀ j, x j = x k → k ≤ j

/-- Every row has a first greatest entry. -/
theorem exists_isAm (x : Fin 512 → EReal) : ∃ k, IsAm x k := by
  obtain ⟨m, -, hm⟩ := Finset.exists_max_image Finset.univ x ⟨0, Finset.mem_univ _⟩
  have hne : (Finset.univ.filter fun k => x k = x m).Nonempty := ⟨m, by simp⟩
  have h1 := Finset.min'_mem _ hne
  refine ⟨(Finset.univ.filter fun k => x k = x m).min' hne, fun j => ?_, fun j hj => Finset.min'_le _ j ?_⟩
  · rw [(Finset.mem_filter.mp h1).2]; exact hm j (Finset.mem_univ _)
  · rw [(Finset.mem_filter.mp h1).2] at hj; simp [hj]

/-- The first greatest entry is at one position only. -/
theorem isAm_unique {x : Fin 512 → EReal} {k l : Fin 512} (hk : IsAm x k) (hl : IsAm x l) : k = l :=
  le_antisymm (hk.2 l (le_antisymm (hk.1 l) (hl.1 k))) (hl.2 k (le_antisymm (hl.1 k) (hk.1 l)))

/-- The first position of the greatest value. -/
def am (x : Fin 512 → EReal) : Fin 512 := (exists_isAm x).choose

/-- The chosen position is that of the first greatest entry. -/
theorem am_spec (x : Fin 512 → EReal) : IsAm x (am x) := (exists_isAm x).choose_spec

/-- A position of the first greatest entry is the chosen one. -/
theorem am_eq {x : Fin 512 → EReal} {k : Fin 512} (h : IsAm x k) : am x = k := isAm_unique (am_spec x) h

/-- The greatest of a row is the entry at the chosen position. -/
theorem vmax_eq (x : Fin 512 → EReal) : vmax x = x (am x) :=
  le_antisymm (vmax_le x _ (am_spec x).1) (le_vmax x _)

/-- The one-hot row of the first greatest value, written so that its slope would be the soft maximum's. -/
def hard (s : Fin 512 → EReal) (j : Fin 512) : EReal := (if j = am s then 1 else 0) - s j + s j

/-- An exponential is not below zero. -/
theorem exp_nonneg (x : EReal) : 0 ≤ Ideal.exp x := by
  induction x using EReal.rec with
  | bot => rw [Ideal.exp_bot]
  | top => rw [Ideal.exp_top]; exact le_top
  | coe r => rw [Ideal.exp_coe]; exact EReal.coe_nonneg.mpr (Real.exp_pos r).le

/-- The exponential of what is not infinite is not infinite. -/
theorem exp_ne_top {x : EReal} (h : x ≠ ⊤) : Ideal.exp x ≠ ⊤ := by
  induction x using EReal.rec with
  | bot => rw [Ideal.exp_bot]; exact EReal.zero_ne_top
  | top => exact absurd rfl h
  | coe r => rw [Ideal.exp_coe]; exact EReal.coe_ne_top _

/-- An entry less something no smaller is not infinite. -/
theorem sub_ne_top {x m : EReal} (h : x ≤ m) : x - m ≠ ⊤ := by
  induction m using EReal.rec with
  | bot => rw [le_bot_iff.mp h]; simp
  | top => simp
  | coe r =>
    induction x using EReal.rec with
    | bot => simp
    | top => simp at h
    | coe q => rw [← EReal.coe_sub]; exact EReal.coe_ne_top _

/-- A soft maximum is `⊥` throughout (its sum is zero), or real and not below zero throughout. -/
theorem smx_cases (x : Fin 512 → EReal) : (∀ j, smx x j = ⊥) ∨ ∀ j, 0 ≤ smx x j ∧ smx x j ≠ ⊤ := by
  by_cases hS : ∑ k, Ideal.exp (x k - vmax x) = 0
  · refine .inl fun j => ?_
    have := (Finset.sum_eq_zero_iff_of_nonneg fun k _ => exp_nonneg _).mp hS j (Finset.mem_univ _)
    unfold smx; rw [this, hS]; simp [Ideal.div]
  · refine .inr fun j => ?_
    have hpos : 0 < ∑ k, Ideal.exp (x k - vmax x) := lt_of_le_of_ne (Finset.sum_nonneg fun k _ => exp_nonneg _) (Ne.symm hS)
    have he := exp_nonneg (x j - vmax x)
    have ht := exp_ne_top (sub_ne_top (le_vmax x j))
    unfold smx Ideal.div
    rw [if_neg hS]
    have hi : 0 ≤ (∑ k, Ideal.exp (x k - vmax x))⁻¹ := EReal.inv_nonneg_of_nonneg hpos.le
    have hi' : (∑ k, Ideal.exp (x k - vmax x))⁻¹ ≠ ⊤ := by
      generalize (∑ k, Ideal.exp (x k - vmax x)) = S at *
      induction S using EReal.rec with
      | bot => simp at hpos
      | top => simp
      | coe r => rw [← EReal.coe_inv]; exact EReal.coe_ne_top _
    generalize (∑ k, Ideal.exp (x k - vmax x))⁻¹ = I at *
    generalize Ideal.exp (x j - vmax x) = E at *
    refine ⟨mul_nonneg he hi, ?_⟩
    lift I to ℝ using ⟨hi', fun h => by simp [h] at hi⟩
    lift E to ℝ using ⟨ht, fun h => by simp [h] at he⟩
    rw [← EReal.coe_mul]; exact EReal.coe_ne_top _

/-- The rectifier's slope is above zero. -/
theorem kLeak_pos : 0 < kLeak := by
  have : kLeak = (((10737418 : ℕ) : ℝ) * (2 : ℝ) ^ (-30 : ℤ) : ℝ) := by
    unfold kLeak; simp [Ideal.ofBits, Ideal.ieee]
  rw [this]; exact EReal.coe_pos.mpr (by positivity)

/-- The rectifier does nothing to a soft maximum. -/
theorem leaky_smx (x : Fin 512 → EReal) (j : Fin 512) : leaky (smx x j) = smx x j := by
  rcases smx_cases x with h | h
  · rw [h]; unfold leaky; rw [if_neg (by simp), EReal.mul_bot_of_pos kLeak_pos]
  · unfold leaky; rw [if_pos (h j).1]

/-- The first greatest entry of the one-hot row is the first greatest entry of the soft maximum. -/
theorem am_hard (x : Fin 512 → EReal) : am (hard (smx x)) = am (smx x) := by
  rcases smx_cases x with h | h
  · have h0 : ∀ j, hard (smx x) j = ⊥ := fun j => by unfold hard; rw [h]; simp
    refine am_eq ⟨fun j => by rw [h0, h0], fun j _ => (am_spec (smx x)).2 j ?_⟩
    rw [h, h]
  · have h0 : ∀ j, hard (smx x) j = if j = am (smx x) then 1 else 0 := fun j => by
      unfold hard
      have hj := h j
      generalize smx x j = s at *
      lift s to ℝ using ⟨hj.2, fun e => by simp [e] at hj⟩
      split
      · rw [← EReal.coe_one, ← EReal.coe_sub, ← EReal.coe_add]; simp
      · rw [← EReal.coe_zero, ← EReal.coe_sub, ← EReal.coe_add]; simp
    refine am_eq ⟨fun j => ?_, fun j hj => ?_⟩
    · rw [h0, h0, if_pos rfl]; split <;> simp
    · rw [h0, h0, if_pos rfl] at hj
      split at hj
      · rename_i e; exact e.ge
      · simp at hj

/-! ## The first greatest value, as the programs find it -/

theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.mp h)]

theorem toInt_ofNat (n : ℕ) (h : n ≤ 512) : (BitVec.ofNat 32 n).toInt = n := by
  rw [BitVec.toInt_eq_toNat_of_lt] <;> simp [BitVec.toNat_ofNat] <;> omega

/-- The least position among those holding the greatest value, the others counted as 512: the first position of the greatest value. -/
theorem fold_minsi (x : Fin 512 → EReal) :
    Finset.fold IntOp.minsi (2147483647#32) (fun k : Fin 512 => if x k = vmax x then BitVec.ofNat 32 k.val else 512#32) Finset.univ
      = BitVec.ofNat 32 (am x).val := by
  apply BitVec.eq_of_toInt_eq
  rw [← Finset.fold_hom (op := IntOp.minsi) (op' := min) (m := BitVec.toInt) toInt_minsi, toInt_ofNat _ (am x).isLt.le]
  refine le_antisymm ?_ ?_
  · refine (Finset.fold_min_le _).mpr (.inr ⟨am x, Finset.mem_univ _, ?_⟩)
    simp only [if_pos (vmax_eq x).symm, toInt_ofNat _ (am x).isLt.le, le_refl]
  · refine (Finset.le_fold_min _).mpr ⟨?_, fun k _ => ?_⟩
    · have := (am x).isLt
      have e : (2147483647#32 : BitVec 32).toInt = 2147483647 := by decide
      rw [e]; omega
    · have := (am x).isLt
      split
      · rename_i h
        rw [toInt_ofNat _ k.isLt.le]
        exact_mod_cast (am_spec x).2 k (h.trans (vmax_eq x))
      · have e : (512#32 : BitVec 32).toInt = 512 := by decide
        rw [e]; omega

/-- One step of the search for the first greatest value: keep the greater value, on equal values the lesser position. -/
def amStep (a b : EReal × BitVec 32) : EReal × BitVec 32 :=
  (if b.1 < a.1 then a.1 else b.1, if b.1 < a.1 ∨ (a.1 = b.1 ∧ a.2.toInt < b.2.toInt) then a.2 else b.2)

/-- `p` is a greatest of the list `L`, and the first such by position. -/
def Best (p : EReal × BitVec 32) (L : List (EReal × BitVec 32)) : Prop :=
  p ∈ L ∧ ∀ q ∈ L, q.1 ≤ p.1 ∧ (q.1 = p.1 → p.2.toInt ≤ q.2.toInt)

theorem amStep_best (a b : EReal × BitVec 32) : Best (amStep a b) [a, b] := by
  unfold Best amStep
  obtain ⟨a1, a2⟩ := a
  obtain ⟨b1, b2⟩ := b
  simp only [List.mem_cons, List.not_mem_nil, or_false, forall_eq_or_imp, forall_eq]
  rcases lt_trichotomy b1 a1 with h | h | h
  · simp [h, h.ne, h.le]
  · subst h
    by_cases h2 : a2.toInt < b2.toInt
    · simp [h2, h2.le]
    · simp [h2, not_lt.mp h2]
  · simp [h, h.ne, h.le, h.not_gt]

theorem foldl_best (L : List (EReal × BitVec 32)) (a : EReal × BitVec 32) : Best (L.foldl amStep a) (a :: L) := by
  induction L generalizing a with
  | nil => simp [Best]
  | cons b L ih =>
    obtain ⟨hm, hb⟩ := ih (amStep a b)
    obtain ⟨sm, sb⟩ := amStep_best a b
    rw [List.foldl_cons]
    generalize L.foldl amStep (amStep a b) = p at *
    generalize amStep a b = s at *
    have hs := hb s (by simp)
    refine ⟨?_, fun q hq => ?_⟩
    · simp only [List.mem_cons, List.not_mem_nil, or_false] at hm sm ⊢
      rcases hm with rfl | hm
      · tauto
      · tauto
    · have hq' : q ∈ [a, b] ∨ q ∈ L := by simp only [List.mem_cons, List.not_mem_nil, or_false] at hq ⊢; tauto
      rcases hq' with hq | hq
      · have h1 := sb q hq
        refine ⟨h1.1.trans hs.1, fun e => ?_⟩
        have e1 : q.1 = s.1 := le_antisymm h1.1 (e ▸ hs.1)
        exact (hs.2 (e1.symm.trans e)).trans (h1.2 e1)
      · exact hb q (by simp [hq])

/-- The search over a list that holds exactly the pairs of a row, from the pair `(⊥, 0)`. -/
theorem foldl_am (x : Fin 512 → EReal) (L : List (EReal × BitVec 32)) (h : ∀ p, p ∈ L ↔ ∃ k : Fin 512, p = (x k, BitVec.ofNat 32 k.val)) :
    (L.foldl amStep (⊥, 0#32)).2 = BitVec.ofNat 32 (am x).val := by
  obtain ⟨hm, hb⟩ := foldl_best L (⊥, 0#32)
  generalize L.foldl amStep (⊥, 0#32) = p at *
  have hk : ∃ k : Fin 512, p = (x k, BitVec.ofNat 32 k.val) := by
    rcases List.mem_cons.mp hm with e | e
    · refine ⟨0, ?_⟩
      have := (hb (x 0, BitVec.ofNat 32 0) (List.mem_cons_of_mem _ ((h _).mpr ⟨0, rfl⟩))).1
      rw [e] at this ⊢
      have h0 : x 0 = ⊥ := le_bot_iff.mp this
      rw [h0]; rfl
    · exact (h p).mp e
  obtain ⟨k, rfl⟩ := hk
  have : IsAm x k := ⟨fun j => (hb _ (List.mem_cons_of_mem _ ((h _).mpr ⟨j, rfl⟩))).1, fun j hj => by
    have := (hb _ (List.mem_cons_of_mem _ ((h _).mpr ⟨j, rfl⟩))).2 hj
    rw [toInt_ofNat _ j.isLt.le, toInt_ofNat _ k.isLt.le] at this
    exact_mod_cast this⟩
  rw [am_eq this]

/-! ## The network -/

/-- A row of the encoder's input: the normalised observation, then the normalised condition. -/
def encRow (x m s : Fin 2048 → EReal) (y cm cs : Fin 512 → EReal) (l : Fin 2560) : EReal :=
  if h : l.val < 2048 then nrm (x ⟨l, h⟩) (m ⟨l, h⟩) (s ⟨l, h⟩)
  else nrm (y ⟨l.val - 2048, by omega⟩) (cm ⟨l.val - 2048, by omega⟩) (cs ⟨l.val - 2048, by omega⟩)

/-- The encoder's three hidden layers. -/
def trunk (x : Fin 2560 → EReal) (w0 : Fin 2560 → Fin 1024 → EReal) (b0 : Fin 1024 → EReal) (w1 : Fin 1024 → Fin 1024 → EReal) (b1 : Fin 1024 → EReal)
    (w2 : Fin 1024 → Fin 1024 → EReal) (b2 : Fin 1024 → EReal) : Fin 1024 → EReal :=
  lay (lay (lay x w0 b0) w1 b1) w2 b2

/-- The decoder from the first layer's product on. -/
def decode (d b0 : Fin 1024 → EReal) (w1 : Fin 1024 → Fin 1024 → EReal) (b1 : Fin 1024 → EReal) (w2 : Fin 1024 → Fin 1024 → EReal) (b2 : Fin 1024 → EReal)
    (w3 : Fin 1024 → Fin 256 → EReal) (b3 : Fin 256 → EReal) : Fin 256 → EReal :=
  lin (lay (lay (fun j => leaky (d j + b0 j)) w1 b1) w2 b2) w3 b3

/-- The latent code of a row. -/
def code (h : Fin 1024 → EReal) (w : Fin 1024 → Fin 8192 → EReal) (b : Fin 8192 → EReal) : Fin 8192 → EReal := lin h w b

/-- The soft maximum of group `g` of a row of disturbed logits. -/
def soft (z u : Fin 8192 → EReal) (g : Fin 16) : Fin 512 → EReal :=
  smx fun k => noisy (z ⟨512 * g.val + k.val, by omega⟩) (u ⟨512 * g.val + k.val, by omega⟩)

/-- The group of a position of the code. -/
def gOf (l : Fin 8192) : Fin 16 := ⟨l.val / 512, by omega⟩
/-- The place of a position of the code in its group. -/
def pOf (l : Fin 8192) : Fin 512 := ⟨l.val % 512, by omega⟩

end Cert.Num

end
-- ==== Proof.Spec.lean ====
module

public import proofs.«01_k».proof.Proof.Num

/-! The model as plain mathematics over the extended reals: what the four results are, of the arguments and the uniform
draw. -/

@[expose] public section
noncomputable section
namespace Cert.Num
open Idealize.ShloMosaic

/-- The arguments by their meaning, and the uniform draw. -/
structure Ins where
  x : Fin 1024 → Fin 8 → Fin 256 → EReal
  y : Fin 1024 → Fin 4 → Fin 128 → EReal
  w0 : Fin 2560 → Fin 1024 → EReal
  b0 : Fin 1024 → EReal
  w1 : Fin 1024 → Fin 1024 → EReal
  b1 : Fin 1024 → EReal
  w2 : Fin 1024 → Fin 1024 → EReal
  b2 : Fin 1024 → EReal
  w3 : Fin 1024 → Fin 8192 → EReal
  b3 : Fin 8192 → EReal
  w4 : Fin 8192 → Fin 1024 → EReal
  b4 : Fin 1024 → EReal
  w5 : Fin 1024 → Fin 1024 → EReal
  b5 : Fin 1024 → EReal
  w6 : Fin 1024 → Fin 1024 → EReal
  b6 : Fin 1024 → EReal
  w7 : Fin 1024 → Fin 256 → EReal
  b7 : Fin 256 → EReal
  xm : Fin 256 → EReal
  xv : Fin 256 → EReal
  ym : Fin 128 → EReal
  yv : Fin 128 → EReal
  u : Fin 1024 → Fin 16 → Fin 512 → EReal

namespace Ins
variable (a : Ins)

/-- The encoder's input row: the standardised observations and the standardised conditions. -/
def e (i : Fin 1024) : Fin 2560 → EReal :=
  encRow (fun l => a.x i ⟨l.val / 256, by omega⟩ ⟨l.val % 256, by omega⟩) (fun l => a.xm ⟨l.val % 256, by omega⟩) (fun l => dev (a.xv ⟨l.val % 256, by omega⟩))
    (fun l => a.y i ⟨l.val / 128, by omega⟩ ⟨l.val % 128, by omega⟩) (fun l => a.ym ⟨l.val % 128, by omega⟩) (fun l => dev (a.yv ⟨l.val % 128, by omega⟩))
/-- The encoder's trunk. -/
def t (i : Fin 1024) : Fin 1024 → EReal := trunk (a.e i) a.w0 a.b0 a.w1 a.b1 a.w2 a.b2
/-- The latent code. -/
def z (i : Fin 1024) : Fin 8192 → EReal := code (a.t i) a.w3 a.b3
/-- The soft selection, group by group. -/
def s (i : Fin 1024) : Fin 16 → Fin 512 → EReal := soft (a.z i) fun l => a.u i (gOf l) (pOf l)
/-- The index selected in a group. -/
def k (i : Fin 1024) (g : Fin 16) : BitVec 32 := BitVec.ofNat 32 (am (a.s i g)).val
/-- The hard selection with the soft one's gradient. -/
def h (i : Fin 1024) (l : Fin 8192) : EReal := hard (a.s i (gOf l)) (pOf l)
/-- The soft selection times the decoder's first matrix. -/
def d (i : Fin 1024) (j : Fin 1024) : EReal := ∑ l, a.s i (gOf l) (pOf l) * a.w4 l j
/-- The decoded row. -/
def o (i : Fin 1024) : Fin 256 → EReal :=
  decode (a.d i) a.b4 a.w5 a.b5 a.w6 a.b6 a.w7 a.b7

end Ins

/-- A product and bias reads only the entries of its arguments. -/
theorem lin_congr {K N : ℕ} {x x' : Fin K → EReal} {W W' : Fin K → Fin N → EReal} {b b' : Fin N → EReal} (hx : ∀ k, x k = x' k)
    (hW : ∀ k j, W k j = W' k j) (hb : ∀ j, b j = b' j) (j : Fin N) : lin x W b j = lin x' W' b' j := by
  rw [funext hx, show W = W' from funext fun k => funext (hW k), funext hb]

/-- So does a layer. -/
theorem lay_congr {K N : ℕ} {x x' : Fin K → EReal} {W W' : Fin K → Fin N → EReal} {b b' : Fin N → EReal} (hx : ∀ k, x k = x' k)
    (hW : ∀ k j, W k j = W' k j) (hb : ∀ j, b j = b' j) (j : Fin N) : lay x W b j = lay x' W' b' j :=
  congrArg leaky (lin_congr hx hW hb j)

/-- So does the encoder's input row. -/
theorem encRow_congr {x x' m m' s s' : Fin 2048 → EReal} {y y' cm cm' cs cs' : Fin 512 → EReal} (hx : ∀ l, x l = x' l) (hm : ∀ l, m l = m' l)
    (hs : ∀ l, s l = s' l) (hy : ∀ l, y l = y' l) (hcm : ∀ l, cm l = cm' l) (hcs : ∀ l, cs l = cs' l) (l : Fin 2560) :
    encRow x m s y cm cs l = encRow x' m' s' y' cm' cs' l := by
  rw [funext hx, funext hm, funext hs, funext hy, funext hcm, funext hcs]

/-- So do the soft maxima. -/
theorem soft_congr {z z' u u' : Fin 8192 → EReal} (hz : ∀ l, z l = z' l) (hu : ∀ l, u l = u' l) (g : Fin 16) : soft z u g = soft z' u' g := by
  rw [funext hz, funext hu]

/-- A column is the place its group and its position in the group give. -/
theorem gp_eq (l : Fin 8192) : (⟨512 * (gOf l).val + (pOf l).val, by omega⟩ : Fin 8192) = l :=
  Fin.ext (by simp only [gOf, pOf]; omega)

/-- The group of the column at a group and a position. -/
theorem gOf_at (g : Fin 16) (p : Fin 512) (h) : gOf ⟨512 * g.val + p.val, h⟩ = g := Fin.ext (by simp only [gOf]; omega)
/-- The position of the column at a group and a position. -/
theorem pOf_at (g : Fin 16) (p : Fin 512) (h) : pOf ⟨512 * g.val + p.val, h⟩ = p := Fin.ext (by simp only [pOf]; omega)

end Cert.Num
-- ==== Proof.ValHost.lean ====
module

public import proofs.«01_k».proof.Proof.Run
public import proofs.«01_k».proof.Proof.Num
public import Idealize.ShloMosaic.PureOps.Ideal
public import Idealize.ShloMosaic.Lib.Pointwise
public import Idealize.ShloMosaic.Lib.StableHlo.ReadAt

/-! What the kernel's host operations hand to its three calls, at an index: the inputs laid out in rows, the means and
deviations and biases repeated over rows, and the codes turned around after the last call. -/

@[expose] public section
set_option maxRecDepth 16384
noncomputable section
namespace Cert.KernelIdeal.Hand
open Cert.KernelIdeal Cert.KernelIdeal.Gen Cert.Num
open Idealize.ShloMosaic Idealize.ShloMosaic.TcCoe

variable (V : Valuation τ sig (Elt Ideal))

/-- The observations, laid out in rows. -/
theorem host0_x (i : Fin 1024) (l : Fin 2048) :
    StableHlo.after hostOps0 V (Proc.devRef .tc main_v0) (ix2 i l) = V (Proc.devRef .tc main_arg0) (ix3 i (⟨l.val / 256, by omega⟩ : Fin 8) (⟨l.val % 256, by omega⟩ : Fin 256)) := by
  after_reads_at

/-- The conditions, laid out in rows. -/
theorem host0_y (i : Fin 1024) (l : Fin 512) :
    StableHlo.after hostOps0 V (Proc.devRef .tc main_v1) (ix2 i l) = V (Proc.devRef .tc main_arg1) (ix3 i (⟨l.val / 128, by omega⟩ : Fin 4) (⟨l.val % 128, by omega⟩ : Fin 128)) := by
  after_reads_at

/-- The observations' mean, repeated over the frames. -/
theorem host0_xm (l : Fin 2048) :
    StableHlo.after hostOps0 V (Proc.devRef .tc main_v6) (ix2 (0 : Fin 8) l) = V (Proc.devRef .tc main_arg18) (ix1 (⟨l.val % 256, by omega⟩ : Fin 256)) := by
  after_reads_at

/-- The observations' deviation, repeated over the frames. -/
theorem host0_xs (l : Fin 2048) :
    StableHlo.after hostOps0 V (Proc.devRef .tc main_v14) (ix2 (0 : Fin 8) l) = dev (V (Proc.devRef .tc main_arg19) (ix1 (⟨l.val % 256, by omega⟩ : Fin 256))) := by
  after_reads_at
  rfl

/-- The conditions' mean, repeated over the frames. -/
theorem host0_ym (l : Fin 512) :
    StableHlo.after hostOps0 V (Proc.devRef .tc main_v19) (ix2 (0 : Fin 8) l) = V (Proc.devRef .tc main_arg20) (ix1 (⟨l.val % 128, by omega⟩ : Fin 128)) := by
  after_reads_at

/-- The conditions' deviation, repeated over the frames. -/
theorem host0_ys (l : Fin 512) :
    StableHlo.after hostOps0 V (Proc.devRef .tc main_v27) (ix2 (0 : Fin 8) l) = dev (V (Proc.devRef .tc main_arg21) (ix1 (⟨l.val % 128, by omega⟩ : Fin 128))) := by
  after_reads_at
  rfl

/-- The draw, laid out in rows. -/
theorem host2_u (r : Fin 1024) (g : Fin 16) (p : Fin 512) :
    StableHlo.after hostOps0_2 V (Proc.devRef .tc main_v36) (ix2 r (⟨512 * g.val + p.val, by omega⟩ : Fin 8192)) = V (Proc.devRef .tc main_v35) (ix4 r (0 : Fin 1) g p) := by
  after_reads_at

/-- The encoder's first bias, as a row. -/
theorem host2_b0 (j : Fin 1024) :
    StableHlo.after hostOps0_2 V (Proc.devRef .tc main_v38) (ix2 (0 : Fin 8) j) = V (Proc.devRef .tc main_arg3) (ix1 j) := by
  after_reads_at

/-- The encoder's second bias, as a row. -/
theorem host2_b1 (j : Fin 1024) :
    StableHlo.after hostOps0_2 V (Proc.devRef .tc main_v40) (ix2 (0 : Fin 8) j) = V (Proc.devRef .tc main_arg5) (ix1 j) := by
  after_reads_at

/-- The encoder's third bias, as a row. -/
theorem host2_b2 (j : Fin 1024) :
    StableHlo.after hostOps0_2 V (Proc.devRef .tc main_v42) (ix2 (0 : Fin 8) j) = V (Proc.devRef .tc main_arg7) (ix1 j) := by
  after_reads_at

/-- The encoder's last bias, as a row. -/
theorem host3_b (j : Fin 8192) :
    StableHlo.after hostOps1 V (Proc.devRef .tc main_v45) (ix2 (0 : Fin 8) j) = V (Proc.devRef .tc main_arg9) (ix1 j) := by
  after_reads_at

/-- The decoder's first bias, as a row. -/
theorem host4_b0 (j : Fin 1024) :
    StableHlo.after hostOps2 V (Proc.devRef .tc main_v48) (ix2 (0 : Fin 8) j) = V (Proc.devRef .tc main_arg11) (ix1 j) := by
  after_reads_at

/-- The decoder's second bias, as a row. -/
theorem host4_b1 (j : Fin 1024) :
    StableHlo.after hostOps2 V (Proc.devRef .tc main_v50) (ix2 (0 : Fin 8) j) = V (Proc.devRef .tc main_arg13) (ix1 j) := by
  after_reads_at

/-- The decoder's third bias, as a row. -/
theorem host4_b2 (j : Fin 1024) :
    StableHlo.after hostOps2 V (Proc.devRef .tc main_v52) (ix2 (0 : Fin 8) j) = V (Proc.devRef .tc main_arg15) (ix1 j) := by
  after_reads_at

/-- The decoder's last bias, as a row. -/
theorem host4_b3 (j : Fin 256) :
    StableHlo.after hostOps2 V (Proc.devRef .tc main_v54) (ix2 (0 : Fin 8) j) = V (Proc.devRef .tc main_arg17) (ix1 j) := by
  after_reads_at

/-- The selected indices, put back in the order of the groups. -/
theorem host5_k (r : Fin 1024) (g : Fin 16) :
    StableHlo.after hostOps3 V (Proc.devRef .tc main_v57) (ix3 r (0 : Fin 1) g) = V (Proc.devRef .tc main_v46_2) (ix3 (⟨g.val / 4, by omega⟩ : Fin 4) r (⟨g.val % 4, by omega⟩ : Fin 4)) := by
  after_reads_at

end Cert.KernelIdeal.Hand
-- ==== Proof.Val0.lean ====
module

public import proofs.«01_k».proof.Proof.Reg0
public import proofs.«01_k».proof.Proof.Num
public import Idealize.ShloMosaic.PureOps.Ideal
public import Idealize.ShloMosaic.Lib.Pointwise
public import Idealize.ShloMosaic.Lib.Pipeline.ValueKit

/-! The encoder's trunk over the extended reals: the array the first call leaves, row by row. -/

@[expose] public section
set_option maxRecDepth 16384
noncomputable section
namespace Cert.KernelIdeal.Hand
open Cert.KernelIdeal Cert.KernelIdeal.Gen Cert.Num
open Idealize.ShloMosaic Idealize.ShloMosaic.TcCoe
open Idealize.ShloMosaic.Pipeline (Dat Cfg Window)

variable [Facts]

/-- The body's first value is the encoder's input row. -/
theorem pay1_apply (x : Vec Ideal S256x2048 .f32) (m s : Vec Ideal S1x2048 .f32) (y : Vec Ideal S256x512 .f32) (cm cs : Vec Ideal S1x512 .f32) (r : Fin 256) (l : Fin 2560) :
    k0_pay1 x m s y cm cs (ix2 r l)
      = encRow (fun l => x (ix2 r l)) (fun l => m (ix2 0 l)) (fun l => s (ix2 0 l)) (fun l => y (ix2 r l)) (fun l => cm (ix2 0 l)) (fun l => cs (ix2 0 l)) l := by
  pointwise [k0_pay1]
  simp only [ne_eq, not_true_eq_false, if_false]
  rfl

/-- The body's stored value is the trunk of its input row. -/
theorem pay3_apply (v36 : FVec Ideal S256x2560 .bf16) (v37 : Vec Ideal S2560x1024 .f32) (v39 : Vec Ideal S1x1024 .f32) (v48 : Vec Ideal S1024x1024 .f32) (v52 : Vec Ideal S1x1024 .f32) (v61 : Vec Ideal S1024x1024 .f32) (v65 : Vec Ideal S1x1024 .f32) (r : Fin 256) (l : Fin 1024) :
    k0_pay3 v36 (k0_pay2 v37) (constant S256x1024 .f32 0x00000000#32) v39 v48 v52 v61 v65 (ix2 r l)
      = trunk (fun l => v36 (ix2 r l)) (fun k j => v37 (ix2 k j)) (fun j => v39 (ix2 0 j)) (fun k j => v48 (ix2 k j)) (fun j => v52 (ix2 0 j)) (fun k j => v61 (ix2 k j)) (fun j => v65 (ix2 0 j)) l := by
  pointwise [k0_pay3, k0_pay2]
  rfl

theorem ld0_1 (x : Vec Ideal S8x2048 .f32) (l : Fin 2048) : View.ld x r0_1 (ix2 0 l) = x (ix2 0 l) := by pointwise
theorem ld0_3 (x : Vec Ideal S8x512 .f32) (l : Fin 512) : View.ld x r0_3 (ix2 0 l) = x (ix2 0 l) := by pointwise
theorem ld0_5 (x : Vec Ideal S8x1024 .f32) (l : Fin 1024) : View.ld x r0_5 (ix2 0 l) = x (ix2 0 l) := by pointwise

variable (V : (c : Dev nD) → (b : Ref sig .tc) → Buf (Elt Ideal) ((c : Thread nD τ).loc b))

/-- The trunk of row `i`, of the arrays the first call is entered with. -/
def trunkOf (c : Dev nD) (i : Fin 1024) : Fin 1024 → EReal :=
  trunk (encRow (fun l => V c main_v0 (ix2 i l)) (fun l => V c main_v6 (ix2 0 l)) (fun l => V c main_v14 (ix2 0 l)) (fun l => V c main_v1 (ix2 i l)) (fun l => V c main_v19 (ix2 0 l)) (fun l => V c main_v27 (ix2 0 l)))
    (fun k j => V c main_arg2 (ix2 k j)) (fun j => V c main_v38 (ix2 0 j)) (fun k j => V c main_arg4 (ix2 k j)) (fun j => V c main_v40 (ix2 0 j)) (fun k j => V c main_arg6 (ix2 k j)) (fun j => V c main_v42 (ix2 0 j))

/-- The block of each array that a grid point takes. -/
theorem idx0 : ∀ t : Fin grid0.N, win0_0.index t = ![t.val, 0] ∧ win0_1.index t = ![t.val, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![t.val, 0] := by decide +kernel

set_option maxHeartbeats 4000000 in
/-- The first call leaves the trunk of every row. -/
theorem arr0 (c : Dev nD) : (dat0 V c).arrAt 12 cfg0.N = fun k => trunkOf V c (k 0) (k 1) := by
  refine (dat0 V c).arrAt_eq_of_covers 12 _ (by decide +kernel) fun t hf y => ?_
  blk_simp
  rw [after0_12]
  unfold out0_12
  frame_out
  obtain ⟨a, b, rfl⟩ : ∃ (a : Fin 256) (b : Fin 1024), y = ix2 a b := ⟨y 0, y 1, eq_ix2 y⟩
  rw [pay3_apply]
  simp only [pay1_apply]
  unfold trunkOf
  reads_congr
  all_goals first
    | refine (ld0_1 _ _).trans ?_
    | refine (ld0_3 _ _).trans ?_
    | refine (ld0_5 _ _).trans ?_
    | skip
  all_goals blk_ext! [iblk0, idx0 t]

end Cert.KernelIdeal.Hand

end
-- ==== Proof.Val1.lean ====
module

public import proofs.«01_k».proof.Proof.Reg1
public import proofs.«01_k».proof.Proof.Num
public import Idealize.ShloMosaic.PureOps.Ideal
public import Idealize.ShloMosaic.Lib.Pointwise
public import Idealize.ShloMosaic.Lib.Pipeline.ValueKit

/-! The quantiser over the extended reals: the arrays the second call leaves, row by row. -/

@[expose] public section
set_option maxRecDepth 16384
noncomputable section
namespace Cert.KernelIdeal.Hand
open Cert.KernelIdeal Cert.KernelIdeal.Gen Cert.Num
open Idealize.ShloMosaic Idealize.ShloMosaic.TcCoe
open Idealize.ShloMosaic.Pipeline (Dat Cfg Window)

variable [Facts]

/-- The word that the greatest of a row starts from is the bottom of the extended reals. -/
theorem negInf : Ideal.ofBits FTy.f32 4286578688#32 = ⊥ := by simp [Ideal.ofBits, Ideal.ieee]

/-- The latent code of a block. -/
theorem pay5_apply (v0 : Vec Ideal S256x1024 .bf16) (v2 : Vec Ideal S1024x2048 .f32) (v5 : Vec Ideal S1x2048 .f32) (r : Fin 256) (l : Fin 2048) :
    k1_pay5 v0 v2 v5 (ix2 r l) = lin (fun k => v0 (ix2 r k)) (fun k j => v2 (ix2 k j)) (fun j => v5 (ix2 0 j)) l := by
  pointwise [k1_pay5]
  rfl

theorem div_one' (x : EReal) : Ideal.div x 1 = x := by
  unfold Ideal.div
  rw [if_neg one_ne_zero, ← EReal.coe_one, ← EReal.coe_inv, inv_one, EReal.coe_one, mul_one]

/-- The disturbed logits of a block. -/
theorem pay6_apply (v0 : Vec Ideal S256x1024 .bf16) (v2 : Vec Ideal S1024x2048 .f32) (v5 : Vec Ideal S1x2048 .f32) (v10 : Vec Ideal S256x2048 .f32) (r : Fin 256) (l : Fin 2048) :
    k1_pay6 v0 v2 v5 v10 (ix2 r l) = noisy (k1_pay5 v0 v2 v5 (ix2 r l)) (v10 (ix2 r l)) := by
  pointwise [k1_pay6]
  rw [div_one']
  simp only [zero_sub]
  rfl

/-- The soft maximum of each group of a block. -/
theorem pay7_apply (v0 : Vec Ideal S256x1024 .bf16) (v2 : Vec Ideal S1024x2048 .f32) (v5 : Vec Ideal S1x2048 .f32) (v10 : Vec Ideal S256x2048 .f32) (r : Fin 256) (l : Fin 512) :
    k1_pay7 v0 v2 v5 v10 (ix2 r l) = smx (fun k => k1_pay6 v0 v2 v5 v10 (ix2 r ⟨k.val, by omega⟩)) l := by
  pointwise [k1_pay7]
  simp only [negInf]
  rfl

/-- The soft maximum of the second group. -/
theorem pay11_apply (v : FVec Ideal S256x2048 .f32) (r : Fin 256) (l : Fin 512) :
    k1_pay11 v (ix2 r l) = smx (fun k => v (ix2 r ⟨512 + k.val, by omega⟩)) l := by
  pointwise [k1_pay11]
  simp only [negInf]
  rfl

/-- The soft maximum of the third group. -/
theorem pay14_apply (v : FVec Ideal S256x2048 .f32) (r : Fin 256) (l : Fin 512) :
    k1_pay14 v (ix2 r l) = smx (fun k => v (ix2 r ⟨1024 + k.val, by omega⟩)) l := by
  pointwise [k1_pay14]
  simp only [negInf]
  rfl

/-- The soft maximum of the fourth group. -/
theorem pay17_apply (v : FVec Ideal S256x2048 .f32) (r : Fin 256) (l : Fin 512) :
    k1_pay17 v (ix2 r l) = smx (fun k => v (ix2 r ⟨1536 + k.val, by omega⟩)) l := by
  pointwise [k1_pay17]
  simp only [negInf]
  rfl

/-- The first greatest entry of a row of a group, found by the least position that holds the row's greatest value. -/
theorem pay9_apply (s : FVec Ideal S256x512 .f32) (m : FVec Ideal S256x1 .f32) (r : Fin 256) (hm : m (ix2 r 0) = vmax fun k => s (ix2 r k)) :
    k1_pay9 s io1 m (ix2 r 0) = BitVec.ofNat 32 (am fun k => s (ix2 r k)).val := by
  pointwise [k1_pay9, io1]
  rw [hm]
  exact fold_minsi _

/-- The index selected in the third group. -/
theorem pay16_apply (s : FVec Ideal S256x512 .f32) (m : FVec Ideal S256x1 .f32) (r : Fin 256) (hm : m (ix2 r 0) = vmax fun k => s (ix2 r k)) :
    k1_pay16 s io1 m (ix2 r 0) = BitVec.ofNat 32 (am fun k => s (ix2 r k)).val := pay9_apply s m r hm

/-- The greatest entry of the first group's soft maximum. -/
theorem pay8_apply (v0 : Vec Ideal S256x1024 .bf16) (v2 : Vec Ideal S1024x2048 .f32) (v5 : Vec Ideal S1x2048 .f32) (v10 : Vec Ideal S256x2048 .f32) (r : Fin 256) :
    k1_pay8 v0 v2 v5 v10 (ix2 r 0) = vmax fun k => k1_pay7 v0 v2 v5 v10 (ix2 r k) := by
  pointwise [k1_pay8]
  rw [negInf]
  rfl

/-- The greatest entry of the third group's soft maximum. -/
theorem pay15_apply (v : FVec Ideal S256x2048 .f32) (r : Fin 256) :
    k1_pay15 v (ix2 r 0) = vmax fun k => k1_pay14 v (ix2 r k) := by
  pointwise [k1_pay15]
  rw [negInf]
  rfl

/-- The index selected in the second group. -/
theorem pay12_apply (v : FVec Ideal S256x2048 .f32) (r : Fin 256) :
    k1_pay12 v (ix2 r 0) = BitVec.ofNat 32 (am fun k => k1_pay11 v (ix2 r k)).val := by
  pointwise [k1_pay12]
  rw [negInf]
  exact fold_minsi _

/-- The index selected in the fourth group. -/
theorem pay18_apply (v : FVec Ideal S256x2048 .f32) (r : Fin 256) :
    k1_pay18 v (ix2 r 0) = BitVec.ofNat 32 (am fun k => k1_pay17 v (ix2 r k)).val := by
  pointwise [k1_pay18]
  rw [negInf]
  exact fold_minsi _

/-- The one-hot entry, made from a comparison of two words. -/
theorem onehot_word (j k : Fin 512) (a : EReal) :
    FloatOps.sitofp (F := Ideal) FTy.f32 (BitVec.setWidth 32 (IntOp.cmpi CmpIPredicate.eq (BitVec.ofNat 32 j.val) (BitVec.ofNat 32 k.val))) - a + a = (if j = k then 1 else 0) - a + a := by
  congr 2
  by_cases h : j = k
  · subst h
    have : BitVec.setWidth 32 (IntOp.cmpi CmpIPredicate.eq (BitVec.ofNat 32 j.val) (BitVec.ofNat 32 j.val)) = 1#32 := by simp [IntOp.cmpi]
    rw [this, if_pos rfl]
    show (((1#32 : BitVec 32).toInt : ℝ) : EReal) = 1
    simp
  · have : ¬ BitVec.ofNat 32 j.val = BitVec.ofNat 32 k.val := fun e => h (Fin.ext (by
      have := congrArg BitVec.toNat e
      simp only [BitVec.toNat_ofNat] at this; omega))
    have : BitVec.setWidth 32 (IntOp.cmpi CmpIPredicate.eq (BitVec.ofNat 32 j.val) (BitVec.ofNat 32 k.val)) = 0#32 := by
      simp only [IntOp.cmpi, beq_eq_false_iff_ne.mpr this]; rfl
    rw [this, if_neg h]
    show (((0#32 : BitVec 32).toInt : ℝ) : EReal) = 0
    simp

/-- The soft maximum of group `g` of a row of a block of logits. -/
def grp (v : FVec Ideal S256x2048 .f32) (r : Fin 256) (g : Fin 4) : Fin 512 → EReal :=
  smx fun k => v (ix2 r ⟨512 * g.val + k.val, by omega⟩)

/-- The hard selection of a group, from its soft maximum and the greatest entry of it. -/
theorem pay10_apply (s : FVec Ideal S256x512 .f32) (m : FVec Ideal S256x1 .f32) (r : Fin 256) (hm : m (ix2 r 0) = vmax fun k => s (ix2 r k)) (l : Fin 512) :
    k1_pay10 s io1 m (ix2 r l) = hard (fun k => s (ix2 r k)) l := by
  pointwise [k1_pay10]
  rw [pay9_apply s m r hm, show io1 (ix2 r l) = BitVec.ofNat 32 l.val by pointwise [io1], onehot_word]
  rfl

/-- The hard selection of the second group. -/
theorem pay13_apply (v : FVec Ideal S256x2048 .f32) (r : Fin 256) (l : Fin 512) :
    k1_pay13 v (ix2 r l) = hard (fun k => k1_pay11 v (ix2 r k)) l := by
  pointwise [k1_pay13]
  rw [pay12_apply, onehot_word]
  rfl

variable (x0 : Vec Ideal S256x1024 .bf16) (x1 : Vec Ideal S1024x2048 .f32) (x2 : Vec Ideal S8x2048 .f32) (x3 : Vec Ideal S256x2048 .f32)

theorem sm1_0_apply (r : Fin 256) : (fun k => sm1_0 x0 x1 x2 x3 (ix2 r k)) = grp (lg1 x0 x1 x2 x3) r 0 := by
  funext k
  unfold sm1_0 grp lg1
  rw [pay7_apply]
  congr 1; funext k; congr 2; apply Fin.ext; simp

theorem g1_apply (v : FVec Ideal S256x2048 .f32) (r : Fin 256) : (fun k => k1_pay11 v (ix2 r k)) = grp v r 1 := funext fun k => pay11_apply v r k
theorem g2_apply (v : FVec Ideal S256x2048 .f32) (r : Fin 256) : (fun k => k1_pay14 v (ix2 r k)) = grp v r 2 := funext fun k => pay14_apply v r k
theorem g3_apply (v : FVec Ideal S256x2048 .f32) (r : Fin 256) : (fun k => k1_pay17 v (ix2 r k)) = grp v r 3 := funext fun k => pay17_apply v r k

theorem mx1_0_apply (r : Fin 256) : mx1_0 x0 x1 x2 x3 (ix2 r 0) = vmax fun k => sm1_0 x0 x1 x2 x3 (ix2 r k) := pay8_apply _ _ _ _ r

/-- The soft maxima of a block, group by group. -/
theorem soft1_apply (r : Fin 256) (g : Fin 4) (p : Fin 512) :
    soft1 x0 x1 x2 x3 (ix2 r ⟨512 * g.val + p.val, by omega⟩) = grp (lg1 x0 x1 x2 x3) r g p := by
  have e0 := fun k => congrFun (sm1_0_apply x0 x1 x2 x3 r) k
  have e1 := fun k => congrFun (g1_apply (lg1 x0 x1 x2 x3) r) k
  have e2 := fun k => congrFun (g2_apply (lg1 x0 x1 x2 x3) r) k
  have e3 := fun k => congrFun (g3_apply (lg1 x0 x1 x2 x3) r) k
  pointwise [soft1, k1_pay19]
  rcases (by omega : g.val = 0 ∨ g.val = 1 ∨ g.val = 2 ∨ g.val = 3) with h | h | h | h
  · obtain rfl : g = 0 := Fin.ext h
    rw [dif_pos (by omega)]
    refine (congrArg _ (congrArg _ (Fin.ext ?_))).trans (e0 p)
    simp
  · obtain rfl : g = 1 := Fin.ext h
    rw [dif_neg (by omega), dif_pos (by omega)]
    refine (congrArg _ (congrArg _ (Fin.ext ?_))).trans (e1 p)
    simp
  · obtain rfl : g = 2 := Fin.ext h
    rw [dif_neg (by omega), dif_neg (by omega), dif_pos (by omega)]
    refine (congrArg _ (congrArg _ (Fin.ext ?_))).trans (e2 p)
    show 512 * 2 + p.val - 512 - 512 = p.val
    omega
  · obtain rfl : g = 3 := Fin.ext h
    rw [dif_neg (by omega), dif_neg (by omega), dif_neg (by omega)]
    refine (congrArg _ (congrArg _ (Fin.ext ?_))).trans (e3 p)
    show 512 * 3 + p.val - 512 - 512 - 512 = p.val
    omega

/-- The one-hot rows of a block, group by group. -/
theorem hard1_apply (r : Fin 256) (g : Fin 4) (p : Fin 512) :
    k1_pay20 (lg1 x0 x1 x2 x3) (k1_pay10 (sm1_0 x0 x1 x2 x3) io1 (mx1_0 x0 x1 x2 x3)) (k1_pay13 (lg1 x0 x1 x2 x3)) (k1_pay14 (lg1 x0 x1 x2 x3)) io1 (k1_pay15 (lg1 x0 x1 x2 x3))
      (ix2 r ⟨512 * g.val + p.val, by omega⟩) = hard (grp (lg1 x0 x1 x2 x3) r g) p := by
  generalize hv : lg1 x0 x1 x2 x3 = v
  have e0 : ∀ q, k1_pay10 (sm1_0 x0 x1 x2 x3) io1 (mx1_0 x0 x1 x2 x3) (ix2 r q) = hard (grp v r 0) q := fun q =>
    (pay10_apply _ _ r (mx1_0_apply x0 x1 x2 x3 r) q).trans (by rw [sm1_0_apply, hv])
  have e1 : ∀ q, k1_pay13 v (ix2 r q) = hard (grp v r 1) q := fun q => (pay13_apply v r q).trans (by rw [g1_apply])
  have e2 : ∀ q, FloatOps.sitofp (F := Ideal) FTy.f32 (BitVec.setWidth 32 (IntOp.cmpi CmpIPredicate.eq (io1 (ix2 r q)) (k1_pay16 (k1_pay14 v) io1 (k1_pay15 v) (ix2 r 0))))
      - k1_pay14 v (ix2 r q) + k1_pay14 v (ix2 r q) = hard (grp v r 2) q := fun q => by
    rw [pay16_apply _ _ r (pay15_apply v r), show io1 (ix2 r q) = BitVec.ofNat 32 q.val by pointwise [io1], onehot_word, g2_apply, pay14_apply]
    rfl
  have e3 : ∀ q : Fin 512, FloatOps.sitofp (F := Ideal) FTy.f32 (BitVec.setWidth 32 (IntOp.cmpi CmpIPredicate.eq (BitVec.ofNat 32 q.val) (k1_pay18 v (ix2 r 0))))
      - k1_pay17 v (ix2 r q) + k1_pay17 v (ix2 r q) = hard (grp v r 3) q := fun q => by
    rw [pay18_apply, onehot_word, g3_apply, pay17_apply]
    rfl
  generalize k1_pay10 (sm1_0 x0 x1 x2 x3) io1 (mx1_0 x0 x1 x2 x3) = A at *
  generalize k1_pay13 v = B at *
  pointwise [k1_pay20]
  rcases (by omega : g.val = 0 ∨ g.val = 1 ∨ g.val = 2 ∨ g.val = 3) with h | h | h | h
  · obtain rfl : g = 0 := Fin.ext h
    rw [dif_pos (by omega), ← e0]
    congr 2; apply Fin.ext; simp
  · obtain rfl : g = 1 := Fin.ext h
    rw [dif_neg (by omega), dif_pos (by omega), ← e1]
    congr 2; apply Fin.ext; simp
  · obtain rfl : g = 2 := Fin.ext h
    rw [dif_neg (by omega), dif_neg (by omega), dif_pos (by omega), ← e2]
    have e : (⟨512 * (2 : Fin 4).val + p.val - 512 - 512, by have := p.isLt; show 512 * 2 + p.val - 512 - 512 < 512; omega⟩ : Fin 512) = p := Fin.ext (by show 512 * 2 + p.val - 512 - 512 = p.val; omega)
    rw [e]
  · obtain rfl : g = 3 := Fin.ext h
    rw [dif_neg (by omega), dif_neg (by omega), dif_neg (by omega), ← e3]
    have e' : 512 * (3 : Fin 4).val + p.val - 512 - 512 - 512 = p.val := by show 512 * 3 + p.val - 512 - 512 - 512 = p.val; omega
    have e : (⟨512 * (3 : Fin 4).val + p.val - 512 - 512 - 512, by rw [e']; exact p.isLt⟩ : Fin 512) = p := Fin.ext e'
    rw [e, e']

/-- The chosen positions of a block, group by group. -/
theorem k1_apply (r : Fin 256) (g : Fin 4) :
    k1_pay21 (lg1 x0 x1 x2 x3) (k1_pay9 (sm1_0 x0 x1 x2 x3) io1 (mx1_0 x0 x1 x2 x3)) (k1_pay12 (lg1 x0 x1 x2 x3)) (k1_pay14 (lg1 x0 x1 x2 x3)) io1 (k1_pay15 (lg1 x0 x1 x2 x3)) (ix3 0 r g)
      = BitVec.ofNat 32 (am (grp (lg1 x0 x1 x2 x3) r g)).val := by
  generalize hv : lg1 x0 x1 x2 x3 = v
  have e0 : k1_pay9 (sm1_0 x0 x1 x2 x3) io1 (mx1_0 x0 x1 x2 x3) (ix2 r 0) = _ := (pay9_apply _ _ r (mx1_0_apply x0 x1 x2 x3 r)).trans (by rw [sm1_0_apply, hv])
  have e1 : k1_pay12 v (ix2 r 0) = _ := (pay12_apply v r).trans (by rw [g1_apply])
  have e2 : k1_pay16 (k1_pay14 v) io1 (k1_pay15 v) (ix2 r 0) = _ := (pay16_apply _ _ r (pay15_apply v r)).trans (by rw [g2_apply])
  have e3 : k1_pay18 v (ix2 r 0) = _ := (pay18_apply v r).trans (by rw [g3_apply])
  generalize k1_pay9 (sm1_0 x0 x1 x2 x3) io1 (mx1_0 x0 x1 x2 x3) = A at *
  generalize k1_pay12 v = B at *
  pointwise [k1_pay21]
  rcases (by omega : g.val = 0 ∨ g.val = 1 ∨ g.val = 2 ∨ g.val = 3) with h | h | h | h
  · obtain rfl : g = 0 := Fin.ext h
    rw [dif_pos (by omega)]; exact e0
  · obtain rfl : g = 1 := Fin.ext h
    rw [dif_neg (by omega), dif_pos (by omega)]; exact e1
  · obtain rfl : g = 2 := Fin.ext h
    rw [dif_neg (by omega), dif_neg (by omega), dif_pos (by omega)]; exact e2
  · obtain rfl : g = 3 := Fin.ext h
    rw [dif_neg (by omega), dif_neg (by omega), dif_neg (by omega)]; exact e3

end Cert.KernelIdeal.Hand

end
-- ==== Proof.Val1A.lean ====
module

public import proofs.«01_k».proof.Proof.Val1

/-! The arrays the quantiser leaves, from the arrays it is entered with. -/

@[expose] public section
set_option maxRecDepth 16384
noncomputable section
namespace Cert.KernelIdeal.Hand
open Cert.KernelIdeal Cert.KernelIdeal.Gen Cert.Num
open Idealize.ShloMosaic Idealize.ShloMosaic.TcCoe
open Idealize.ShloMosaic.Pipeline (Dat Cfg Window)

variable [Facts]

variable (V : (c : Dev nD) → (b : Ref sig .tc) → Buf (Elt Ideal) ((c : Thread nD τ).loc b))

/-- The latent code of row `i`. -/
def zRow (c : Dev nD) (i : Fin 1024) : Fin 8192 → EReal :=
  code (fun k => V c main_v43 (ix2 i k)) (fun k j => V c main_arg8 (ix2 k j)) (fun j => V c main_v45 (ix2 0 j))

/-- The soft maxima of row `i`. -/
def sRow (c : Dev nD) (i : Fin 1024) : Fin 16 → Fin 512 → EReal := soft (zRow V c i) (fun l => V c main_v36 (ix2 i l))

/-- The block of each array that a grid point takes. -/
theorem idx1 : ∀ t : Fin grid1.N, win1_0.index t = ![t.val % 4, 0] ∧ win1_1.index t = ![0, t.val / 4] ∧ win1_2.index t = ![0, t.val / 4] ∧ win1_3.index t = ![t.val % 4, t.val / 4] ∧ win1_4.index t = ![t.val / 4, 0]
    ∧ win1_5.index t = ![t.val % 4, t.val / 4] ∧ win1_6.index t = ![t.val % 4, t.val / 4] ∧ win1_7.index t = ![t.val / 4, t.val % 4, 0] ∧ win1_8.index t = ![t.val % 4, 0] := by decide +kernel

theorem ld1_0 (x : Vec Ideal S256x1024 .bf16) (r : Fin 256) (l : Fin 1024) : View.ld x r1_0 (ix2 r l) = x (ix2 r l) := by pointwise
theorem ld1_1 (x : Vec Ideal S1024x2048 .f32) (r : Fin 1024) (l : Fin 2048) : View.ld x r1_1 (ix2 r l) = x (ix2 r l) := by pointwise
theorem ld1_2 (x : Vec Ideal S8x2048 .f32) (l : Fin 2048) : View.ld x r1_2 (ix2 0 l) = x (ix2 0 l) := by pointwise
theorem ld1_3 (x : Vec Ideal S256x2048 .f32) (r : Fin 256) (l : Fin 2048) : View.ld x r1_3 (ix2 r l) = x (ix2 r l) := by pointwise
theorem ld1_5 (x : Vec Ideal S2048x1024 .f32) (r : Fin 2048) (l : Fin 1024) : View.ld x r1_5 (ix2 r l) = x (ix2 r l) := by pointwise

/-- The row of the whole arrays that row `a` of the blocks of point `t` is. -/
def rowOf (t : Fin cfg1.N) (a : Fin 256) : Fin 1024 := ⟨256 * (t.val % 4) + a.val, by omega⟩
/-- The column of the whole arrays that column `l` of the blocks of point `t` is. -/
def colOf (t : Fin cfg1.N) (l : Fin 2048) : Fin 8192 := ⟨2048 * (t.val / 4) + l.val, by have : t.val < 16 := t.isLt; omega⟩

/-- A grid point's latent code is that of its rows and columns. -/
theorem z_blk (c : Dev nD) (t : Fin cfg1.N) (a : Fin 256) (l : Fin 2048) :
    k1_pay5 (View.ld (iblk1 V c 0 t) r1_0) (View.ld (iblk1 V c 1 t) r1_1) (View.ld (iblk1 V c 2 t) r1_2) (ix2 a l) = zRow V c (rowOf t a) (colOf t l) := by
  rw [pay5_apply]
  unfold zRow code lin
  congr 1
  · refine Finset.sum_congr rfl fun k _ => ?_
    congr 1
    · refine (ld1_0 _ _ _).trans ?_
      blk_ext! [iblk1, idx1 t, rowOf]
    · refine (ld1_1 _ _ _).trans ?_
      blk_ext! [iblk1, idx1 t, colOf]
  · refine (ld1_2 _ _).trans ?_
    blk_ext! [iblk1, idx1 t, colOf]

/-- A grid point's disturbed logits are those of its rows and columns. -/
theorem lg_blk (c : Dev nD) (t : Fin cfg1.N) (a : Fin 256) (l : Fin 2048) :
    lg1 (iblk1 V c 0 t) (iblk1 V c 1 t) (iblk1 V c 2 t) (iblk1 V c 3 t) (ix2 a l) = noisy (zRow V c (rowOf t a) (colOf t l)) (V c main_v36 (ix2 (rowOf t a) (colOf t l))) := by
  unfold lg1
  rw [pay6_apply]
  refine congrArg₂ noisy (z_blk V c t a l) ((ld1_3 _ _ _).trans ?_)
  blk_ext! [iblk1, idx1 t, rowOf, colOf]

/-- A grid point's soft maxima are those of its rows and groups. -/
theorem grp_blk (c : Dev nD) (t : Fin cfg1.N) (a : Fin 256) (g : Fin 4) :
    grp (lg1 (iblk1 V c 0 t) (iblk1 V c 1 t) (iblk1 V c 2 t) (iblk1 V c 3 t)) a g = sRow V c (rowOf t a) ⟨4 * (t.val / 4) + g.val, by have : t.val < 16 := t.isLt; omega⟩ := by
  unfold grp sRow soft
  congr 1; funext k
  have e : colOf t ⟨512 * g.val + k.val, by omega⟩ = ⟨512 * (4 * (t.val / 4) + g.val) + k.val, by have : t.val < 16 := t.isLt; omega⟩ := Fin.ext (by simp only [colOf]; omega)
  rw [lg_blk, e]

theorem canon1_3 (v : Vec Ideal S256x2048 .f32) : View.canon [⟨r1_3, v⟩] = v := by
  frame_out

theorem emb1_5 (t : Fin cfg1.N) (a : Fin 256) (b : Fin 2048) : ((View.whole main_v46_0).slice (win1_5.rect t)).emb (ix2 a b) = ix2 (rowOf t a) (colOf t b) := by
  blk_ext! [idx1 t, rowOf, colOf]

end Cert.KernelIdeal.Hand

end
-- ==== Proof.Val1B.lean ====
module

public import proofs.«01_k».proof.Proof.Val1A

/-! The arrays the quantiser leaves, from the arrays it is entered with. -/

@[expose] public section
set_option maxRecDepth 16384
noncomputable section
namespace Cert.KernelIdeal.Hand
open Cert.KernelIdeal Cert.KernelIdeal.Gen Cert.Num
open Idealize.ShloMosaic Idealize.ShloMosaic.TcCoe
open Idealize.ShloMosaic.Pipeline (Dat Cfg Window)

variable [Facts]
variable (V : (c : Dev nD) → (b : Ref sig .tc) → Buf (Elt Ideal) ((c : Thread nD τ).loc b))

theorem emb1_6 (t : Fin cfg1.N) (a : Fin 256) (b : Fin 2048) : ((View.whole main_v46_1).slice (win1_6.rect t)).emb (ix2 a b) = ix2 (rowOf t a) (colOf t b) := by
  blk_ext! [idx1 t, rowOf, colOf]

theorem emb1_7 (t : Fin cfg1.N) (a : Fin 256) (g : Fin 4) : ((View.whole main_v46_2).slice (win1_7.rect t)).emb (ix3 0 a g) = ix3 (⟨t.val / 4, by have : t.val < 16 := t.isLt; omega⟩ : Fin 4) (rowOf t a) g := by
  blk_ext! [idx1 t, rowOf]

theorem emb1_8 (t : Fin cfg1.N) (a : Fin 256) (b : Fin 1024) : ((View.whole main_v46_3).slice (win1_8.rect t)).emb (ix2 a b) = ix2 (rowOf t a) b := by
  blk_ext! [idx1 t, rowOf]

set_option maxHeartbeats 1000000 in
/-- The latent codes. -/
theorem arr1_5 (c : Dev nD) : (dat1 V c).arrAt 5 cfg1.N = fun k => zRow V c (k 0) (k 1) := by
  refine (dat1 V c).arrAt_eq_of_covers 5 _ (by decide +kernel) fun t hf y => ?_
  blk_simp
  rw [after1_5]
  unfold out1_5
  rw [canon1_3]
  obtain ⟨a, b, rfl⟩ : ∃ (a : Fin 256) (b : Fin 2048), y = ix2 a b := ⟨y 0, y 1, eq_ix2 y⟩
  refine (z_blk V c t a b).trans ?_
  rw [emb1_5]
  rfl

/-- A position of a block is a place of one of its groups. -/
theorem split_col (b : Fin 2048) : ∃ (g : Fin 4) (p : Fin 512), b = ⟨512 * g.val + p.val, by omega⟩ :=
  ⟨⟨b.val / 512, by omega⟩, ⟨b.val % 512, by omega⟩, Fin.ext (Nat.div_add_mod _ _).symm⟩

theorem gOf_col (t : Fin cfg1.N) (g : Fin 4) (p : Fin 512) : gOf (colOf t ⟨512 * g.val + p.val, by omega⟩) = ⟨4 * (t.val / 4) + g.val, by have : t.val < 16 := t.isLt; omega⟩ :=
  Fin.ext (by simp only [gOf, colOf]; omega)

theorem pOf_col (t : Fin cfg1.N) (g : Fin 4) (p : Fin 512) : pOf (colOf t ⟨512 * g.val + p.val, by omega⟩) = p :=
  Fin.ext (by simp only [pOf, colOf]; omega)

/-- The soft maximum at a position of row `i`. -/
def sAt (c : Dev nD) (i : Fin 1024) (l : Fin 8192) : EReal := sRow V c i (gOf l) (pOf l)

/-- A grid point's soft selection is that of its rows and columns. -/
theorem soft_blk (c : Dev nD) (t : Fin cfg1.N) (a : Fin 256) (b : Fin 2048) :
    soft1 (iblk1 V c 0 t) (iblk1 V c 1 t) (iblk1 V c 2 t) (iblk1 V c 3 t) (ix2 a b) = sAt V c (rowOf t a) (colOf t b) := by
  obtain ⟨g, p, rfl⟩ := split_col b
  unfold sAt
  rw [gOf_col, pOf_col]
  exact (soft1_apply _ _ _ _ a g p).trans (congrFun (grp_blk V c t a g) p)

set_option maxHeartbeats 1000000 in
/-- The hard codes, with the soft maxima taken away and added again. -/
theorem arr1_6 (c : Dev nD) : (dat1 V c).arrAt 6 cfg1.N = fun k => hard (sRow V c (k 0) (gOf (k 1))) (pOf (k 1)) := by
  refine (dat1 V c).arrAt_eq_of_covers 6 _ (by decide +kernel) fun t hf y => ?_
  blk_simp
  rw [after1_6]
  unfold out1_6
  rw [canon1_3]
  obtain ⟨a, b, rfl⟩ : ∃ (a : Fin 256) (b : Fin 2048), y = ix2 a b := ⟨y 0, y 1, eq_ix2 y⟩
  obtain ⟨g, p, rfl⟩ := split_col b
  rw [emb1_6]
  refine (hard1_apply _ _ _ _ a g p).trans ?_
  rw [grp_blk]
  show _ = hard (sRow V c (rowOf t a) (gOf (colOf t _))) (pOf (colOf t _))
  rw [gOf_col, pOf_col]

theorem canon1_4 (v : Vec Ideal S1x256x4 .i32) : View.canon [⟨r1_4, v⟩] = v := by
  frame_out

/-- The index of the largest soft maximum of group `4 * q + g` of row `i`. -/
def kAt (c : Dev nD) (q : Fin 4) (i : Fin 1024) (g : Fin 4) : BitVec 32 := BitVec.ofNat 32 (am (sRow V c i ⟨4 * q.val + g.val, by omega⟩)).val

set_option maxHeartbeats 1000000 in
/-- The indices of the largest soft maxima. -/
theorem arr1_7 (c : Dev nD) : (dat1 V c).arrAt 7 cfg1.N = fun k => kAt V c (k 0) (k 1) (k 2) := by
  refine (dat1 V c).arrAt_eq_of_covers 7 _ (by decide +kernel) fun t hf y => ?_
  blk_simp
  rw [after1_7]
  unfold out1_7
  rw [canon1_4]
  obtain ⟨q, a, g, rfl⟩ : ∃ (q : Fin 1) (a : Fin 256) (g : Fin 4), y = ix3 q a g := ⟨y 0, y 1, y 2, eq_ix3 y⟩
  obtain rfl : q = 0 := Subsingleton.elim _ _
  rw [emb1_7]
  refine (k1_apply _ _ _ _ a g).trans ?_
  rw [grp_blk]
  rfl

/-- The partial product of a grid point. -/
theorem pay2_apply (s : Vec Ideal S256x2048 .f32) (w : Vec Ideal S2048x1024 .f32) (a : Fin 256) (j : Fin 1024) :
    k1_pay2 s w (ix2 a j) = ∑ l : Fin 2048, s (ix2 a l) * w (ix2 l j) := by
  pointwise [k1_pay2, k1_pay1]
  try simp only [zero_add]
  try rfl

/-- A stored partial sum and the next partial product. -/
theorem pay3_apply1 (s : Vec Ideal S256x2048 .f32) (w : Vec Ideal S2048x1024 .f32) (x : Vec Ideal S256x1024 .f32) (a : Fin 256) (j : Fin 1024) :
    k1_pay3 s w x (ix2 a j) = x (ix2 a j) + ∑ l : Fin 2048, s (ix2 a l) * w (ix2 l j) := by
  pointwise [k1_pay3, k1_pay1]
  try simp only [zero_add]
  try rfl

/-- The last stored sum and the last partial product. -/
theorem pay4_apply (s : Vec Ideal S256x2048 .f32) (w : Vec Ideal S2048x1024 .f32) (x : Vec Ideal S256x1024 .f32) (a : Fin 256) (j : Fin 1024) :
    k1_pay4 s w x (ix2 a j) = x (ix2 a j) + ∑ l : Fin 2048, s (ix2 a l) * w (ix2 l j) := by
  pointwise [k1_pay4, k1_pay1]
  try simp only [zero_add]
  try rfl

theorem canon1_0 (v : Vec Ideal S256x1024 .f32) : View.canon [⟨r1_0, v⟩] = v := by
  frame_out

/-- A sum over the code, a column of blocks at a time. -/
theorem sum4 (f : Fin 8192 → EReal) : ∑ l, f l = ((∑ l : Fin 2048, f ⟨2048 * 0 + l.val, by omega⟩) + (∑ l : Fin 2048, f ⟨2048 * 1 + l.val, by omega⟩) + (∑ l : Fin 2048, f ⟨2048 * 2 + l.val, by omega⟩)) + (∑ l : Fin 2048, f ⟨2048 * 3 + l.val, by omega⟩) := by
  rw [← (finProdFinEquiv (m := 4) (n := 2048)).sum_comp f, Fintype.sum_prod_type, Fin.sum_univ_four]
  have h (k : Fin 4) (l : Fin 2048) : (finProdFinEquiv (k, l) : Fin (4 * 2048)) = (⟨2048 * k.val + l.val, by omega⟩ : Fin 8192) := Fin.ext (by simp [finProdFinEquiv]; omega)
  simp only [h]
  rfl

/-- One column's share of the decoder's first product. -/
theorem part_blk (c : Dev nD) (t : Fin cfg1.N) (a : Fin 256) (j : Fin 1024) :
    ∑ l : Fin 2048, soft1 (iblk1 V c 0 t) (iblk1 V c 1 t) (iblk1 V c 2 t) (iblk1 V c 3 t) (ix2 a l) * View.ld (iblk1 V c 4 t) r1_5 (ix2 l j)
      = ∑ l : Fin 2048, (fun l => sAt V c (rowOf t a) l * V c main_arg10 (ix2 l j)) (colOf t l) := by
  refine Finset.sum_congr rfl fun l _ => ?_
  refine congrArg₂ (· * ·) (soft_blk V c t a l) ((ld1_5 _ _ _).trans ?_)
  blk_ext! [iblk1, idx1 t, colOf]

/-- The decoder's first product. -/
def first (c : Dev nD) (i : Fin 1024) (j : Fin 1024) : EReal := ∑ l, sAt V c i l * V c main_arg10 (ix2 l j)

theorem row_pt (k : ℕ) (hk : k < 4) (i : Fin 4) (a : Fin 256) : rowOf (pt k i) a = ⟨256 * i.val + a.val, by omega⟩ :=
  Fin.ext (by simp only [rowOf, pt]; omega)
theorem col_pt (k : ℕ) (hk : k < 4) (i : Fin 4) (l : Fin 2048) : colOf (pt k i) l = ⟨2048 * k + l.val, by omega⟩ :=
  Fin.ext (by simp only [colOf, pt]; omega)

/-- The last sum of a block is the whole product of its rows. -/
theorem fin_blk (c : Dev nD) (i : Fin 4) (a : Fin 256) (j : Fin 1024) : fin1 V c i (ix2 a j) = first V c ⟨256 * i.val + a.val, by omega⟩ j := by
  unfold fin1
  rw [canon1_0]
  refine (pay4_apply _ _ _ a j).trans ?_
  unfold first
  rw [sum4]
  refine congrArg₂ (· + ·) ?_ ?_
  · refine (pay3_apply1 _ _ _ a j).trans ?_
    refine congrArg₂ (· + ·) ?_ ?_
    · refine (pay3_apply1 _ _ _ a j).trans ?_
      refine congrArg₂ (· + ·) ?_ ?_
      · refine (pay2_apply _ _ a j).trans ?_
        rw [part_blk]
        simp only [row_pt 0 (by decide), col_pt 0 (by decide)]
      · rw [part_blk]
        simp only [row_pt 1 (by decide), col_pt 1 (by decide)]
    · rw [part_blk]
      simp only [row_pt 2 (by decide), col_pt 2 (by decide)]
  · rw [part_blk]
    simp only [row_pt 3 (by decide), col_pt 3 (by decide)]

set_option maxHeartbeats 1000000 in
/-- The decoder's first products. -/
theorem arr1_8 (c : Dev nD) : (dat1 V c).arrAt 8 cfg1.N = fun k => first V c (k 0) (k 1) := by
  refine (dat1 V c).arrAt_eq_of_covers 8 _ (by decide +kernel) fun t hf y => ?_
  blk_simp
  rw [after1_8]
  obtain ⟨a, b, rfl⟩ : ∃ (a : Fin 256) (b : Fin 1024), y = ix2 a b := ⟨y 0, y 1, eq_ix2 y⟩
  rw [fin_blk, emb1_8]
  rfl

end Cert.KernelIdeal.Hand

end
-- ==== Proof.Val2.lean ====
module

public import proofs.«01_k».proof.Proof.Reg2
public import proofs.«01_k».proof.Proof.Num
public import Idealize.ShloMosaic.PureOps.Ideal
public import Idealize.ShloMosaic.Lib.Pointwise
public import Idealize.ShloMosaic.Lib.Pipeline.ValueKit

/-! The decoder over the extended reals: the array the third call leaves, row by row. -/

@[expose] public section
set_option maxRecDepth 16384
noncomputable section
namespace Cert.KernelIdeal.Hand
open Cert.KernelIdeal Cert.KernelIdeal.Gen Cert.Num
open Idealize.ShloMosaic Idealize.ShloMosaic.TcCoe
open Idealize.ShloMosaic.Pipeline (Dat Cfg Window)

variable [Facts]

/-- The body's stored value is the decoded row. -/
theorem k2_apply (x0 : Vec Ideal S256x1024 .f32) (x1 : Vec Ideal S1x1024 .f32) (x2 : Vec Ideal S1024x1024 .f32) (x3 : Vec Ideal S1x1024 .f32) (x4 : Vec Ideal S1024x1024 .f32) (x5 : Vec Ideal S1x1024 .f32)
    (x6 : Vec Ideal S1024x256 .f32) (x7 : Vec Ideal S1x256 .f32) (r : Fin 256) (l : Fin 256) :
    k2_pay1 (k2_pay2 x0 x1 x2 x3 x4 x5) x6 x7 (ix2 r l)
      = decode (fun j => x0 (ix2 r j)) (fun j => x1 (ix2 0 j)) (fun k j => x2 (ix2 k j)) (fun j => x3 (ix2 0 j)) (fun k j => x4 (ix2 k j)) (fun j => x5 (ix2 0 j))
          (fun k j => x6 (ix2 k j)) (fun j => x7 (ix2 0 j)) l := by
  pointwise [k2_pay1, k2_pay2]
  rfl

theorem ld2_1 (x : Vec Ideal S8x1024 .f32) (l : Fin 1024) : View.ld x r2_1 (ix2 0 l) = x (ix2 0 l) := by pointwise
theorem ld2_4 (x : Vec Ideal S8x256 .f32) (l : Fin 256) : View.ld x r2_4 (ix2 0 l) = x (ix2 0 l) := by pointwise

variable (V : (c : Dev nD) → (b : Ref sig .tc) → Buf (Elt Ideal) ((c : Thread nD τ).loc b))

/-- The decoded row `i`, of the arrays the third call is entered with. -/
def decodeOf (c : Dev nD) (i : Fin 1024) : Fin 256 → EReal :=
  decode (fun j => V c main_v46_3 (ix2 i j)) (fun j => V c main_v48 (ix2 0 j)) (fun k j => V c main_arg12 (ix2 k j)) (fun j => V c main_v50 (ix2 0 j))
    (fun k j => V c main_arg14 (ix2 k j)) (fun j => V c main_v52 (ix2 0 j)) (fun k j => V c main_arg16 (ix2 k j)) (fun j => V c main_v54 (ix2 0 j))

/-- The block of each array that a grid point takes. -/
theorem idx2 : ∀ t : Fin grid2.N, win2_0.index t = ![t.val, 0] ∧ win2_1.index t = ![0, 0] ∧ win2_2.index t = ![0, 0] ∧ win2_3.index t = ![0, 0] ∧ win2_4.index t = ![0, 0]
    ∧ win2_5.index t = ![0, 0] ∧ win2_6.index t = ![0, 0] ∧ win2_7.index t = ![0, 0] ∧ win2_8.index t = ![t.val, 0] := by decide +kernel

/-- The third call's result: every row decoded. -/
theorem arr2 (c : Dev nD) : (dat2 V c).arrAt 8 cfg2.N = fun k => decodeOf V c (k 0) (k 1) := by
  refine (dat2 V c).arrAt_eq_of_covers 8 _ (by decide +kernel) fun t hf y => ?_
  blk_simp
  rw [after2_8]
  unfold out2_8
  frame_out
  obtain ⟨a, b, rfl⟩ : ∃ (a : Fin 256) (b : Fin 256), y = ix2 a b := ⟨y 0, y 1, eq_ix2 y⟩
  rw [k2_apply]
  unfold decodeOf
  reads_congr
  all_goals first
    | refine (ld2_1 _ _).trans ?_
    | refine (ld2_4 _ _).trans ?_
    | skip
  all_goals blk_ext! [iblk2, idx2 t]

end Cert.KernelIdeal.Hand

end
-- ==== Proof.ValK.lean ====
module

public import proofs.«01_k».proof.Proof.Spec
public import proofs.«01_k».proof.Proof.ValHost
public import proofs.«01_k».proof.Proof.Val0
public import proofs.«01_k».proof.Proof.Val1B
public import proofs.«01_k».proof.Proof.Val2

/-! The kernel's program computes the model: what its four results hold at the end, of the arguments and what it has drawn. -/

@[expose] public section
set_option maxRecDepth 16384
noncomputable section
namespace Cert.KernelIdeal.Hand
open Cert.KernelIdeal Cert.KernelIdeal.Gen Cert.Num
open Idealize.ShloMosaic Idealize.ShloMosaic.TcCoe

variable (m : (ℓ : Loc nD τ sig) → Buf (Elt Ideal) ℓ) (c : Dev nD)

/-- The arguments the program is called with, and the numbers it has drawn before its first call. -/
def kIns : Ins where
  x := fun i s e => W0 m c (Proc.devRef .tc main_arg0) (ix3 i s e)
  y := fun i s e => W0 m c (Proc.devRef .tc main_arg1) (ix3 i s e)
  w0 := fun k j => W0 m c (Proc.devRef .tc main_arg2) (ix2 k j)
  b0 := fun j => W0 m c (Proc.devRef .tc main_arg3) (ix1 j)
  w1 := fun k j => W0 m c (Proc.devRef .tc main_arg4) (ix2 k j)
  b1 := fun j => W0 m c (Proc.devRef .tc main_arg5) (ix1 j)
  w2 := fun k j => W0 m c (Proc.devRef .tc main_arg6) (ix2 k j)
  b2 := fun j => W0 m c (Proc.devRef .tc main_arg7) (ix1 j)
  w3 := fun k j => W0 m c (Proc.devRef .tc main_arg8) (ix2 k j)
  b3 := fun j => W0 m c (Proc.devRef .tc main_arg9) (ix1 j)
  w4 := fun k j => W0 m c (Proc.devRef .tc main_arg10) (ix2 k j)
  b4 := fun j => W0 m c (Proc.devRef .tc main_arg11) (ix1 j)
  w5 := fun k j => W0 m c (Proc.devRef .tc main_arg12) (ix2 k j)
  b5 := fun j => W0 m c (Proc.devRef .tc main_arg13) (ix1 j)
  w6 := fun k j => W0 m c (Proc.devRef .tc main_arg14) (ix2 k j)
  b6 := fun j => W0 m c (Proc.devRef .tc main_arg15) (ix1 j)
  w7 := fun k j => W0 m c (Proc.devRef .tc main_arg16) (ix2 k j)
  b7 := fun j => W0 m c (Proc.devRef .tc main_arg17) (ix1 j)
  xm := fun e => W0 m c (Proc.devRef .tc main_arg18) (ix1 e)
  xv := fun e => W0 m c (Proc.devRef .tc main_arg19) (ix1 e)
  ym := fun e => W0 m c (Proc.devRef .tc main_arg20) (ix1 e)
  yv := fun e => W0 m c (Proc.devRef .tc main_arg21) (ix1 e)
  u := fun i g p => W2 m c (Proc.devRef .tc main_v35) (ix4 i (0 : Fin 1) g p)

theorem W3_first (r : Ref sig .tc) (h : r ∉ hostOps0_2_W) (h' : r ∉ hostOps0_1_W) :
    W3 m c (Proc.devRef .tc r) = W1 m c (Proc.devRef .tc r) := (W3_of m c r h).trans (W2_of m c r h')

/-- The first call's rows are the encoder's input. -/
theorem in_e (i : Fin 1024) (l : Fin 2560) :
    encRow (fun l => U3 m c main_v0 (ix2 i l)) (fun l => U3 m c main_v6 (ix2 0 l)) (fun l => U3 m c main_v14 (ix2 0 l))
      (fun l => U3 m c main_v1 (ix2 i l)) (fun l => U3 m c main_v19 (ix2 0 l)) (fun l => U3 m c main_v27 (ix2 0 l)) l = (kIns m c).e i l :=
  encRow_congr
    (fun l => (congrFun (W3_first m c main_v0 (by decide +kernel) (by decide +kernel)) _).trans (host0_x _ i l))
    (fun l => (congrFun (W3_first m c main_v6 (by decide +kernel) (by decide +kernel)) _).trans (host0_xm _ l))
    (fun l => (congrFun (W3_first m c main_v14 (by decide +kernel) (by decide +kernel)) _).trans (host0_xs _ l))
    (fun l => (congrFun (W3_first m c main_v1 (by decide +kernel) (by decide +kernel)) _).trans (host0_y _ i l))
    (fun l => (congrFun (W3_first m c main_v19 (by decide +kernel) (by decide +kernel)) _).trans (host0_ym _ l))
    (fun l => (congrFun (W3_first m c main_v27 (by decide +kernel) (by decide +kernel)) _).trans (host0_ys _ l)) l

theorem bias0 (j : Fin 1024) : U3 m c main_v38 (ix2 0 j) = (kIns m c).b0 j :=
  (host2_b0 _ j).trans (congrFun (W2_args m c main_arg3 (by decide +kernel)) _)
theorem bias1 (j : Fin 1024) : U3 m c main_v40 (ix2 0 j) = (kIns m c).b1 j :=
  (host2_b1 _ j).trans (congrFun (W2_args m c main_arg5 (by decide +kernel)) _)
theorem bias2 (j : Fin 1024) : U3 m c main_v42 (ix2 0 j) = (kIns m c).b2 j :=
  (host2_b2 _ j).trans (congrFun (W2_args m c main_arg7 (by decide +kernel)) _)
theorem mat0 (k : Fin 2560) (j : Fin 1024) : U3 m c main_arg2 (ix2 k j) = (kIns m c).w0 k j := congrFun (W3_args m c main_arg2 (by decide +kernel)) _
theorem mat1 (k j : Fin 1024) : U3 m c main_arg4 (ix2 k j) = (kIns m c).w1 k j := congrFun (W3_args m c main_arg4 (by decide +kernel)) _
theorem mat2 (k j : Fin 1024) : U3 m c main_arg6 (ix2 k j) = (kIns m c).w2 k j := congrFun (W3_args m c main_arg6 (by decide +kernel)) _

/-- The first call computes the trunk. -/
theorem in_t (i j : Fin 1024) : trunkOf (U3 m) c i j = (kIns m c).t i j := by
  unfold trunkOf Ins.t trunk
  exact lay_congr (lay_congr (lay_congr (in_e m c i) (mat0 m c) (bias0 m c)) (mat1 m c) (bias1 m c)) (mat2 m c) (bias2 m c) j

/-- The second call computes the latent code. -/
theorem in_z (i : Fin 1024) (l : Fin 8192) : zRow (U5 m) c i l = (kIns m c).z i l :=
  lin_congr
    (fun k => (congrFun ((W5_of m c main_v43 (by decide +kernel)).trans ((W4_arr m c 12).trans (arr0 (U3 m) c))) (ix2 i k)).trans (in_t m c i k))
    (fun k j => congrFun (W5_args m c main_arg8 (by decide +kernel)) _)
    (fun j => (host3_b _ j).trans (congrFun (W4_args m c main_arg9 (by decide +kernel)) _)) l

/-- The second call is given the draw. -/
theorem in_u (i : Fin 1024) (l : Fin 8192) : U5 m c main_v36 (ix2 i l) = (kIns m c).u i (gOf l) (pOf l) := by
  have h : U5 m c main_v36 = W3 m c (Proc.devRef .tc main_v36) :=
    (W5_of m c main_v36 (by decide +kernel)).trans (W4_of m c main_v36 (by decide +kernel))
  rw [h]
  conv_lhs => rw [← gp_eq l]
  exact host2_u _ i (gOf l) (pOf l)

/-- The second call computes the soft selection. -/
theorem in_s (i : Fin 1024) (g : Fin 16) : sRow (U5 m) c i g = (kIns m c).s i g :=
  soft_congr (in_z m c i) (in_u m c i) g

/-- A result of the second call that nothing later writes is kept to the end. -/
theorem W9_back (r : Ref sig .tc) (h9 : r ∉ hostOps3_W) (h8 : ∀ w : Fin cfg2.W, Pipeline.arrRef spec2 w = r → (cfg2.win w).isOut = false) (h7 : r ∉ hostOps2_W) :
    W9 m c (Proc.devRef .tc r) = W6 m c (Proc.devRef .tc r) := (W9_of m c r h9).trans ((W8_of m c r h8).trans (W7_of m c r h7))

/-- The first result is the latent code. -/
theorem out_z (i : Fin 1024) (l : Fin 8192) : W9 m c (Proc.devRef .tc main_v46_0) (ix2 i l) = (kIns m c).z i l :=
  (congrFun ((W9_back m c main_v46_0 (by decide +kernel) (by decide +kernel) (by decide +kernel)).trans ((W6_arr m c 5).trans (arr1_5 (U5 m) c))) (ix2 i l)).trans (in_z m c i l)

/-- The second result is the selected indices. -/
theorem out_k (i : Fin 1024) (g : Fin 16) : W9 m c (Proc.devRef .tc main_v57) (ix3 i (0 : Fin 1) g) = (kIns m c).k i g := by
  have h : W8 m c (Proc.devRef .tc main_v46_2) = fun k => kAt (U5 m) c (k 0) (k 1) (k 2) :=
    (W8_of m c main_v46_2 (by decide +kernel)).trans ((W7_of m c main_v46_2 (by decide +kernel)).trans ((W6_arr m c 7).trans (arr1_7 (U5 m) c)))
  refine (host5_k _ i g).trans ((congrFun h _).trans ?_)
  show BitVec.ofNat 32 (am (sRow (U5 m) c i ⟨4 * (g.val / 4) + g.val % 4, _⟩)).val = BitVec.ofNat 32 (am ((kIns m c).s i g)).val
  rw [in_s, show (⟨4 * (g.val / 4) + g.val % 4, by omega⟩ : Fin 16) = g from Fin.ext (by simp only []; omega)]

/-- The third result is the hard selection. -/
theorem out_h (i : Fin 1024) (l : Fin 8192) : W9 m c (Proc.devRef .tc main_v46_1) (ix2 i l) = (kIns m c).h i l :=
  (congrFun ((W9_back m c main_v46_1 (by decide +kernel) (by decide +kernel) (by decide +kernel)).trans ((W6_arr m c 6).trans (arr1_6 (U5 m) c))) (ix2 i l)).trans
    (congrArg (fun s => hard s (pOf l)) (in_s m c i (gOf l)))

/-- The accumulated product is the soft selection times the decoder's first matrix. -/
theorem first_eq (i j : Fin 1024) : first (U5 m) c i j = (kIns m c).d i j := by
  unfold first Ins.d
  refine Finset.sum_congr rfl fun l _ => ?_
  have h : sAt (U5 m) c i l = (kIns m c).s i (gOf l) (pOf l) := congrFun (in_s m c i (gOf l)) (pOf l)
  have h' : U5 m c main_arg10 (ix2 l j) = (kIns m c).w4 l j := congrFun (W5_args m c main_arg10 (by decide +kernel)) _
  rw [h, h']

/-- The third call is given that product. -/
theorem in_d (i j : Fin 1024) : U7 m c main_v46_3 (ix2 i j) = (kIns m c).d i j :=
  (congrFun ((W7_of m c main_v46_3 (by decide +kernel)).trans ((W6_arr m c 8).trans (arr1_8 (U5 m) c))) (ix2 i j)).trans (first_eq m c i j)

theorem bias4 (j : Fin 1024) : U7 m c main_v48 (ix2 0 j) = (kIns m c).b4 j :=
  (host4_b0 _ j).trans (congrFun (W6_args m c main_arg11 (by decide +kernel)) _)
theorem bias5 (j : Fin 1024) : U7 m c main_v50 (ix2 0 j) = (kIns m c).b5 j :=
  (host4_b1 _ j).trans (congrFun (W6_args m c main_arg13 (by decide +kernel)) _)
theorem bias6 (j : Fin 1024) : U7 m c main_v52 (ix2 0 j) = (kIns m c).b6 j :=
  (host4_b2 _ j).trans (congrFun (W6_args m c main_arg15 (by decide +kernel)) _)
theorem bias7 (j : Fin 256) : U7 m c main_v54 (ix2 0 j) = (kIns m c).b7 j :=
  (host4_b3 _ j).trans (congrFun (W6_args m c main_arg17 (by decide +kernel)) _)
theorem mat5 (k j : Fin 1024) : U7 m c main_arg12 (ix2 k j) = (kIns m c).w5 k j := congrFun (W7_args m c main_arg12 (by decide +kernel)) _
theorem mat6 (k j : Fin 1024) : U7 m c main_arg14 (ix2 k j) = (kIns m c).w6 k j := congrFun (W7_args m c main_arg14 (by decide +kernel)) _
theorem mat7 (k : Fin 1024) (j : Fin 256) : U7 m c main_arg16 (ix2 k j) = (kIns m c).w7 k j := congrFun (W7_args m c main_arg16 (by decide +kernel)) _

theorem leaky_congr {x x' y y' : EReal} (hx : x = x') (hy : y = y') : leaky (x + y) = leaky (x' + y') := by rw [hx, hy]

/-- The third call computes the decoded row. -/
theorem in_o (i : Fin 1024) (j : Fin 256) : decodeOf (U7 m) c i j = (kIns m c).o i j := by
  unfold decodeOf Ins.o decode
  exact lin_congr (lay_congr (lay_congr (fun k => leaky_congr (in_d m c i k) (bias4 m c k)) (mat5 m c) (bias5 m c)) (mat6 m c) (bias6 m c)) (mat7 m c) (bias7 m c) j

/-- The fourth result is the decoded row. -/
theorem out_o (i : Fin 1024) (j : Fin 256) : W9 m c (Proc.devRef .tc main_v55) (ix2 i j) = (kIns m c).o i j :=
  (congrFun ((W9_of m c main_v55 (by decide +kernel)).trans ((W8_arr m c 8).trans (arr2 (U7 m) c))) (ix2 i j)).trans (in_o m c i j)

end Cert.KernelIdeal.Hand
-- ==== Proof.RefValA.lean ====
module

public import proofs.«01_k».proof.Proof.RefRun
public import proofs.«01_k».proof.Proof.Num
public import Idealize.ShloMosaic.PureOps.Ideal
public import Idealize.ShloMosaic.Lib.Pointwise
public import Idealize.ShloMosaic.Lib.StableHlo.ReadAt

/-! What the reference's stages compute, at an index: the standardised inputs, the encoder and the logits. -/

@[expose] public section
set_option maxRecDepth 16384
noncomputable section
namespace Cert.ReferenceIdeal.Hand
open Cert.ReferenceIdeal Cert.ReferenceIdeal.Gen Cert.Num
open Idealize.ShloMosaic Idealize.ShloMosaic.TcCoe

variable (V : Valuation τ sig (Elt Ideal))

/-- The standardised observations. -/
theorem stA_x (r : Fin 1024) (s : Fin 8) (e : Fin 256) :
    VA V (Proc.devRef .tc main_v11) (ix3 r s e) = nrm (V (Proc.devRef .tc main_arg0) (ix3 r s e)) (V (Proc.devRef .tc main_arg18) (ix1 e)) (dev (V (Proc.devRef .tc main_arg19) (ix1 e))) := by
  unfold VA
  simp only [stA, ops0, ops1, ops2, ops3, ops4, ops5, ops6, ops7, List.cons_append, List.nil_append]
  after_reads_at
  simp only [ne_eq, not_true_eq_false, if_false]
  rfl

/-- The standardised conditions. -/
theorem stA_y (r : Fin 1024) (s : Fin 4) (e : Fin 128) :
    VA V (Proc.devRef .tc main_v23) (ix3 r s e) = nrm (V (Proc.devRef .tc main_arg1) (ix3 r s e)) (V (Proc.devRef .tc main_arg20) (ix1 e)) (dev (V (Proc.devRef .tc main_arg21) (ix1 e))) := by
  unfold VA
  simp only [stA, ops0, ops1, ops2, ops3, ops4, ops5, ops6, ops7, List.cons_append, List.nil_append]
  after_reads_at
  simp only [ne_eq, not_true_eq_false, if_false]
  rfl

/-- The latent code, of the trunk. -/
theorem stC_z (r : Fin 1024) (l : Fin 8192) :
    VC V (Proc.devRef .tc main_v45) (ix2 r l) = lin (fun k : Fin 1024 => VB V (Proc.devRef .tc main_v41) (ix2 r k)) (fun k j => VB V (Proc.devRef .tc main_arg8) (ix2 k j)) (fun j => VB V (Proc.devRef .tc main_arg9) (ix1 j)) l := by
  unfold VC
  after_reads_at
  rfl

theorem cast4 (x : FVec Ideal S1024x8192 .f32) (r : Fin 1024) (g : Fin 16) (p : Fin 512) :
    (shapeCast S1024x1x16x512 x shapeCasts_S1024x8192_S1024x1x16x512 : FVec Ideal S1024x1x16x512 .f32) (ix4 r 0 g p) = x (ix2 r (⟨512 * g.val + p.val, by omega⟩ : Fin 8192)) := by
  pointwise
  exact congrArg (fun l => x (ix2 r l)) (Fin.ext (by simp only []; omega))

/-- The latent code by groups. -/
theorem stC_zz (r : Fin 1024) (g : Fin 16) (p : Fin 512) :
    VC V (Proc.devRef .tc main_v46) (ix4 r 0 g p) = VC V (Proc.devRef .tc main_v45) (ix2 r (⟨512 * g.val + p.val, by omega⟩ : Fin 8192)) := by
  unfold VC
  after_reads_simp
  exact cast4 _ r g p

/-- The disturbed logits. -/
def logitT (z u : FVec Ideal S1024x1x16x512 .f32) : FVec Ideal S1024x1x16x512 .f32 :=
  Host.divf (addf z (Host.negf (Host.log (addf (Host.negf (Host.log (addf u (broadcastInDim S1024x1x16x512 ![] bcast_S_S1024x1x16x512 (constant S_ FTy.f32 507307272#32)))))
    (broadcastInDim S1024x1x16x512 ![] bcast_S_S1024x1x16x512 (constant S_ FTy.f32 507307272#32)))))) (broadcastInDim S1024x1x16x512 ![] bcast_S_S1024x1x16x512 (constant S_ FTy.f32 1065353216#32))

theorem div_one' (x : EReal) : Ideal.div x 1 = x := by
  unfold Ideal.div
  rw [if_neg one_ne_zero, ← EReal.coe_one, ← EReal.coe_inv, inv_one, EReal.coe_one, mul_one]

/-- The disturbed logits, entry by entry. -/
theorem logitT_apply (z u : FVec Ideal S1024x1x16x512 .f32) (r : Fin 1024) (g : Fin 16) (p : Fin 512) : logitT z u (ix4 r 0 g p) = noisy (z (ix4 r 0 g p)) (u (ix4 r 0 g p)) := by
  pointwise [logitT]
  exact div_one' _

/-- The disturbed logits, of the latent code and the draw. -/
theorem stD_l (r : Fin 1024) (g : Fin 16) (p : Fin 512) :
    VD V (Proc.devRef .tc main_v65) (ix4 r 0 g p) = noisy (VU V (Proc.devRef .tc main_v46) (ix4 r 0 g p)) (VU V (Proc.devRef .tc main_v54) (ix4 r 0 g p)) := by
  unfold VD
  after_reads_simp
  exact logitT_apply _ _ r g p

end Cert.ReferenceIdeal.Hand
end
-- ==== Proof.RefValB.lean ====
module

public import proofs.«01_k».proof.Proof.RefRun
public import proofs.«01_k».proof.Proof.Num
public import Idealize.ShloMosaic.PureOps.Ideal
public import Idealize.ShloMosaic.Lib.Pointwise
public import Idealize.ShloMosaic.Lib.StableHlo.ReadAt

/-! What the reference's stages compute, at an index: the standardised inputs, the encoder and the logits. -/

@[expose] public section
set_option maxRecDepth 16384
noncomputable section
namespace Cert.ReferenceIdeal.Hand
open Cert.ReferenceIdeal Cert.ReferenceIdeal.Gen Cert.Num
open Idealize.ShloMosaic Idealize.ShloMosaic.TcCoe

variable (V : Valuation τ sig (Elt Ideal))

/-! The encoder's input and its first layer: the list before the first rectifier in three parts. -/

section
variable {F : FTy → Type} [FloatOps F]

/-- The inputs laid out in rows. -/
abbrev opsR : List (HloOp τ sig (Elt F)) :=
  ( StableHlo.reshape main_v11 main_v24 (rfl : (.f32 : EltTy) = .f32) shapeCasts_S1024x8x256_S1024x2048
  :: StableHlo.reshape main_v23 main_v25 (rfl : (.f32 : EltTy) = .f32) shapeCasts_S1024x4x128_S1024x512
  :: [] )
/-- The rows side by side. -/
abbrev opsJ : List (HloOp τ sig (Elt F)) :=
  ( StableHlo.binary main_v24 main_v25 main_v26 ((fun a b => concatenate S1024x2560 1 [⟨S1024x2048, a⟩, ⟨S1024x512, b⟩] concatenates_S1024x2048_S1024x512_S1024x2560_d1) : (⟨S1024x2048, .f32⟩ : BufTy).Contents (Elt F) → (⟨S1024x512, .f32⟩ : BufTy).Contents (Elt F) → (⟨S1024x2560, .f32⟩ : BufTy).Contents (Elt F))
  :: [] )
/-- The first layer's product and bias. -/
abbrev opsL : List (HloOp τ sig (Elt F)) :=
  ( StableHlo.binary main_v26 main_arg2 main_v27 ((fun l r => Host.dotGeneral dot_S1024x2560_S2560x1024_S1024x1024_1_0_0_1_n_n none l r) : (⟨S1024x2560, .f32⟩ : BufTy).Contents (Elt F) → (⟨S2560x1024, .f32⟩ : BufTy).Contents (Elt F) → (⟨S1024x1024, .f32⟩ : BufTy).Contents (Elt F))
  :: StableHlo.unary main_arg3 main_v28 (broadcastInDim S1x1024 ![1] bcast_S1024_S1x1024_1 : (⟨S1024, .f32⟩ : BufTy).Contents (Elt F) → (⟨S1x1024, .f32⟩ : BufTy).Contents (Elt F))
  :: StableHlo.unary main_v28 main_v29 (broadcastInDim S1024x1024 ![0, 1] bcast_S1x1024_S1024x1024_0_1 : (⟨S1x1024, .f32⟩ : BufTy).Contents (Elt F) → (⟨S1024x1024, .f32⟩ : BufTy).Contents (Elt F))
  :: StableHlo.binary main_v27 main_v29 main_v30 (addf : (⟨S1024x1024, .f32⟩ : BufTy).Contents (Elt F) → (⟨S1024x1024, .f32⟩ : BufTy).Contents (Elt F) → (⟨S1024x1024, .f32⟩ : BufTy).Contents (Elt F))
  :: StableHlo.nullary main_cst_7 (constant S_ .f32 0x3C23D70A#32)
  :: [] )

/-- The list in three parts. -/
theorem ops8_eq : (ops8 (F := F)) = opsR ++ (opsJ ++ opsL) := rfl
end

/-- The observations of a row, laid out. -/
theorem opsR_x (r : Fin 1024) (l : Fin 2048) :
    StableHlo.after opsR V (Proc.devRef .tc main_v24) (ix2 r l) = V (Proc.devRef .tc main_v11) (ix3 r (⟨l.val / 256, by omega⟩ : Fin 8) (⟨l.val % 256, by omega⟩ : Fin 256)) := by
  after_reads_at

/-- The conditions of a row, laid out. -/
theorem opsR_y (r : Fin 1024) (l : Fin 512) :
    StableHlo.after opsR V (Proc.devRef .tc main_v25) (ix2 r l) = V (Proc.devRef .tc main_v23) (ix3 r (⟨l.val / 128, by omega⟩ : Fin 4) (⟨l.val % 128, by omega⟩ : Fin 128)) := by
  after_reads_at

/-- The joined row. -/
theorem opsJ_apply (r : Fin 1024) (l : Fin 2560) :
    StableHlo.after opsJ V (Proc.devRef .tc main_v26) (ix2 r l) = if h : l.val < 2048 then V (Proc.devRef .tc main_v24) (ix2 r (⟨l.val, h⟩ : Fin 2048)) else V (Proc.devRef .tc main_v25) (ix2 r (⟨l.val - 2048, by omega⟩ : Fin 512)) := by
  after_reads_at

/-- The encoder's first layer. -/
theorem opsL_apply (r : Fin 1024) (j : Fin 1024) :
    StableHlo.after (opsL ++ ops9) V (Proc.devRef .tc main_v31) (ix2 r j) = lay (fun k : Fin 2560 => V (Proc.devRef .tc main_v26) (ix2 r k)) (fun k j => V (Proc.devRef .tc main_arg2) (ix2 k j)) (fun j => V (Proc.devRef .tc main_arg3) (ix1 j)) j := by
  simp only [opsL, ops9, List.cons_append, List.nil_append]
  after_reads_at
  rfl

/-- The encoder's second layer. -/
theorem stB_2 (r : Fin 1024) (j : Fin 1024) :
    StableHlo.after (ops10 ++ ops11) V (Proc.devRef .tc main_v36) (ix2 r j) = lay (fun k : Fin 1024 => V (Proc.devRef .tc main_v31) (ix2 r k)) (fun k j => V (Proc.devRef .tc main_arg4) (ix2 k j)) (fun j => V (Proc.devRef .tc main_arg5) (ix1 j)) j := by
  simp only [ops10, ops11, List.cons_append, List.nil_append]
  after_reads_at
  rfl

/-- The encoder's third layer. -/
theorem stB_3 (r : Fin 1024) (j : Fin 1024) :
    StableHlo.after (ops12 ++ ops13) V (Proc.devRef .tc main_v41) (ix2 r j) = lay (fun k : Fin 1024 => V (Proc.devRef .tc main_v36) (ix2 r k)) (fun k j => V (Proc.devRef .tc main_arg6) (ix2 k j)) (fun j => V (Proc.devRef .tc main_arg7) (ix1 j)) j := by
  simp only [ops12, ops13, List.cons_append, List.nil_append]
  after_reads_at
  rfl

end Cert.ReferenceIdeal.Hand
end
-- ==== Proof.RefValE.lean ====
module

public import proofs.«01_k».proof.Proof.RefRun
public import proofs.«01_k».proof.Proof.Num
public import Idealize.ShloMosaic.PureOps.Ideal
public import Idealize.ShloMosaic.Lib.Pointwise
public import Idealize.ShloMosaic.Lib.StableHlo.ReadAt

/-! What the reference's stages compute, at an index: the soft maxima. -/

@[expose] public section
set_option maxRecDepth 16384
noncomputable section
namespace Cert.ReferenceIdeal.Hand
open Cert.ReferenceIdeal Cert.ReferenceIdeal.Gen Cert.Num
open Idealize.ShloMosaic Idealize.ShloMosaic.TcCoe

variable (V : Valuation τ sig (Elt Ideal))

theorem first_eq : (Shape.Idx.first h_S_ : S_.Idx) = ix0 := by
  funext i; exact i.elim0

theorem red_add (x : FVec Ideal S1024x1x16x512 .f32) (v : FVec Ideal S_ .f32) (r : Fin 1024) (g : Fin 16) :
    (Host.reduceAdd x v reducesTo_S1024x1x16x512_S1024x1x16_d3 h_S_ : FVec Ideal S1024x1x16 .f32) (ix3 r 0 g) = v ix0 + ∑ p : Fin 512, x (ix4 r 0 g p) := by
  pointwise
  rw [first_eq]

/-- A value per group, at every place of the group. -/
def perGroup (x : FVec Ideal S1024x1x16 .f32) : FVec Ideal S1024x1x16x512 .f32 :=
  broadcastInDim S1024x1x16x512 ![0, 1, 2, 3] bcast_S1024x1x16x1_S1024x1x16x512_0_1_2_3 (broadcastInDim S1024x1x16x1 ![0, 1, 2] bcast_S1024x1x16_S1024x1x16x1_0_1_2 x)

theorem perGroup_apply (x : FVec Ideal S1024x1x16 .f32) (r : Fin 1024) (g : Fin 16) (p : Fin 512) : perGroup x (ix4 r 0 g p) = x (ix3 r 0 g) := by
  pointwise [perGroup]

/-- The word that the greatest of a row starts from is the bottom of the extended reals. -/
theorem negInf : Ideal.ofBits FTy.f32 4286578688#32 = ⊥ := by simp [Ideal.ofBits, Ideal.ieee]

/-- The least value, for every group. -/
def botT : FVec Ideal S1024x1x16 .f32 := broadcastInDim S1024x1x16 ![] bcast_S_S1024x1x16 (constant S_ FTy.f32 4286578688#32)
/-- The fold of every group by the greater of two. -/
def redT (x : FVec Ideal S1024x1x16x512 .f32) : FVec Ideal S1024x1x16 .f32 :=
  Host.reduce FloatOps.maximumf x (constant S_ FTy.f32 4286578688#32) reducesTo_S1024x1x16x512_S1024x1x16_d3 h_S_
/-- The greatest of every group. -/
def maxT (x : FVec Ideal S1024x1x16x512 .f32) : FVec Ideal S1024x1x16 .f32 := maximumf botT (redT x)

theorem redT_apply (x : FVec Ideal S1024x1x16x512 .f32) (r : Fin 1024) (g : Fin 16) : redT x (ix3 r 0 g) = vmax fun p => x (ix4 r 0 g p) := by
  pointwise [redT]
  rw [negInf]
  rfl

theorem botT_apply (r : Fin 1024) (g : Fin 16) : botT (ix3 r 0 g) = ⊥ := by
  pointwise [botT]
  exact negInf

theorem maximumf_eq (a b : FVec Ideal S1024x1x16 .f32) (i : S1024x1x16.Idx) (u v : EReal) (h : a i = u) (k : b i = v) : maximumf a b i = max u v := by
  subst h k
  rfl

theorem max_bot' (a : EReal) : max ⊥ a = a := by simp

theorem maxT_apply (x : FVec Ideal S1024x1x16x512 .f32) (r : Fin 1024) (g : Fin 16) : maxT x (ix3 r 0 g) = vmax fun p => x (ix4 r 0 g p) :=
  (maximumf_eq botT (redT x) (ix3 r 0 g) ⊥ _ (botT_apply r g) (redT_apply x r g)).trans (max_bot' _)

/-- The exponentials of what the greatest of the group exceeds. -/
def expT (x : FVec Ideal S1024x1x16x512 .f32) : FVec Ideal S1024x1x16x512 .f32 := Host.exp (subf x (perGroup (maxT x)))

theorem expT_apply (x : FVec Ideal S1024x1x16x512 .f32) (r : Fin 1024) (g : Fin 16) (p : Fin 512) :
    expT x (ix4 r 0 g p) = Ideal.exp (x (ix4 r 0 g p) - vmax fun p => x (ix4 r 0 g p)) := by
  pointwise [expT]
  rw [perGroup_apply, maxT_apply]

/-- The soft maxima. -/
def smxT (x : FVec Ideal S1024x1x16x512 .f32) : FVec Ideal S1024x1x16x512 .f32 :=
  Host.divf (expT x) (perGroup (Host.reduceAdd (expT x) (constant S_ FTy.f32 0#32) reducesTo_S1024x1x16x512_S1024x1x16_d3 h_S_))

theorem smxT_apply (x : FVec Ideal S1024x1x16x512 .f32) (r : Fin 1024) (g : Fin 16) (p : Fin 512) : smxT x (ix4 r 0 g p) = smx (fun p => x (ix4 r 0 g p)) p := by
  refine Eq.trans (b := Ideal.div (expT x (ix4 r 0 g p)) (perGroup (Host.reduceAdd (expT x) (constant S_ FTy.f32 0#32) reducesTo_S1024x1x16x512_S1024x1x16_d3 h_S_) (ix4 r 0 g p))) ?_ ?_
  · pointwise [smxT]
  rw [perGroup_apply, red_add]
  simp only [expT_apply]
  have h : (constant S_ FTy.f32 (0#32) : FVec Ideal S_ .f32) ix0 = 0 := Ideal.ofBits_zero_f32
  rw [h, zero_add]
  rfl

/-- The soft maximum of every group of the disturbed logits. -/
theorem stE_s (r : Fin 1024) (g : Fin 16) (p : Fin 512) :
    VE V (Proc.devRef .tc main_v76) (ix4 r 0 g p) = smx (fun k => VD V (Proc.devRef .tc main_v65) (ix4 r 0 g k)) p := by
  unfold VE
  after_reads_simp
  exact smxT_apply _ r g p

end Cert.ReferenceIdeal.Hand
end
-- ==== Proof.RefValG.lean ====
module

public import proofs.«01_k».proof.Proof.RefRun
public import proofs.«01_k».proof.Proof.Num
public import Idealize.ShloMosaic.PureOps.Ideal
public import Idealize.ShloMosaic.PureOps.Ideal.Laws
public import Idealize.ShloMosaic.Lib.Pointwise
public import Idealize.ShloMosaic.Lib.StableHlo.ReadAt

/-! What the reference's stages compute, at an index: the selected entries and their indices. -/

@[expose] public section
set_option maxRecDepth 16384
noncomputable section
namespace Cert.ReferenceIdeal.Hand
open Cert.ReferenceIdeal Cert.ReferenceIdeal.Gen Cert.Num
open Idealize.ShloMosaic Idealize.ShloMosaic.TcCoe

variable (V : Valuation τ sig (Elt Ideal))

theorem reducer_eq : (reducer_argmax_f32_i32 (F := Ideal)) = amStep := by
  funext a b
  obtain ⟨a1, a2⟩ := a
  obtain ⟨b1, b2⟩ := b
  unfold reducer_argmax_f32_i32 amStep
  simp only [Ideal.cmpf_def, Ideal.cmp]
  have h2 : IntOp.cmpi CmpIPredicate.slt a2 b2 = BitVec.ofBool (decide (a2.toInt < b2.toInt)) := rfl
  rw [h2]
  by_cases h : b1 < a1 <;> by_cases h' : a1 = b1 <;> by_cases h'' : a2.toInt < b2.toInt <;> simp [h, h', h'', Scalar.select, IntOp.ori, IntOp.andi]

/-- The places of a group, in the order of the fold. -/
theorem fiber_mem (x : FVec Ideal S1024x1x16x512 .f32) (r : Fin 1024) (g : Fin 16) (q : EReal × BitVec 32) :
    q ∈ Host.argReduceFiber x (iotaInDim S1024x1x16x512 32 3) reducesTo_S1024x1x16x512_S1024x1x16_d3 (ix3 r 0 g) ↔ ∃ k : Fin 512, q = (x (ix4 r 0 g k), BitVec.ofNat 32 k.val) := by
  unfold Host.argReduceFiber
  simp only [List.mem_map, List.mem_filter, List.mem_finRange, true_and, decide_eq_true_eq]
  constructor
  · rintro ⟨n, hn, rfl⟩
    obtain ⟨k, hk⟩ := (Shape.ReducesTo.fiber_r4_a3 reducesTo_S1024x1x16x512_S1024x1x16_d3 _ _).mp hn
    rw [← hk]
    exact ⟨k, rfl⟩
  · rintro ⟨k, rfl⟩
    refine ⟨Shape.rowMajor _ (ix4 r 0 g k), ?_, ?_⟩
    · rw [Equiv.symm_apply_apply]
      exact (Shape.ReducesTo.fiber_r4_a3 reducesTo_S1024x1x16x512_S1024x1x16_d3 _ _).mpr ⟨k, rfl⟩
    · rw [Equiv.symm_apply_apply]
      rfl

section
variable {s t u : Shape} {axes : List (Fin s.rank)} (f : Ideal FTy.f32 × BitVec 32 → Ideal FTy.f32 × BitVec 32 → Ideal FTy.f32 × BitVec 32) (x : FVec Ideal s .f32) (y : s.Idx → BitVec 32)
  (ix : u.Idx → Ideal FTy.f32) (iy : u.Idx → BitVec 32) (h : s.ReducesTo axes t) (hu : 0 < u.numel)

/-- The second component of a fold over pairs. -/
def argSnd (j : t.Idx) : BitVec 32 := (Host.argReduce f x y ix iy h hu j).2

theorem argSnd_def (j : t.Idx) : (Host.argReduce f x y ix iy h hu j).2 = argSnd f x y ix iy h hu j := rfl

theorem argSnd_fold (j : t.Idx) : argSnd f x y ix iy h hu j = ((Host.argReduceFiber x y h j).foldl f (ix (Shape.Idx.first hu), iy (Shape.Idx.first hu))).2 := by
  unfold argSnd
  rw [Ideal.argReduce_eq_reduce2, Host.reduce2_eq_foldl_fiber]

end

/-- The index of the first greatest of every group. -/
def kT (x : FVec Ideal S1024x1x16x512 .f32) : IVec S1024x1x16 32 :=
  argSnd reducer_argmax_f32_i32 x (iotaInDim S1024x1x16x512 32 3) (constant S_ .f32 0xFF800000#32) (constantI S_ 32 0#32) reducesTo_S1024x1x16x512_S1024x1x16_d3 h_S_

theorem negInf' : Ideal.ofBits FTy.f32 4286578688#32 = ⊥ := by simp [Ideal.ofBits, Ideal.ieee]

theorem fold_am (x : Fin 512 → EReal) (f : Ideal FTy.f32 × BitVec 32 → Ideal FTy.f32 × BitVec 32 → Ideal FTy.f32 × BitVec 32) (hf : f = amStep) (z : Ideal FTy.f32 × BitVec 32) (hz : z = ((⊥ : EReal), 0#32))
    (L : List (Ideal FTy.f32 × BitVec 32)) (h : ∀ p : EReal × BitVec 32, p ∈ L ↔ ∃ k : Fin 512, p = (x k, BitVec.ofNat 32 k.val)) :
    (L.foldl f z).2 = BitVec.ofNat 32 (am x).val := by
  subst hf hz
  exact foldl_am x L h

theorem init_eq : ((constant S_ .f32 0xFF800000#32 : FVec Ideal S_ .f32) (Shape.Idx.first h_S_), (constantI S_ 32 0#32 : IVec S_ 32) (Shape.Idx.first h_S_)) = ((⊥ : EReal), 0#32) :=
  Prod.ext negInf' rfl

theorem kT_apply (x : FVec Ideal S1024x1x16x512 .f32) (r : Fin 1024) (g : Fin 16) : kT x (ix3 r 0 g) = BitVec.ofNat 32 (am fun p => x (ix4 r 0 g p)).val := by
  unfold kT
  rw [argSnd_fold]
  exact fold_am _ _ reducer_eq _ init_eq _ (fiber_mem x r g)

/-- The one-hot groups, with the soft maxima taken away and added again. -/
def hardT (x : FVec Ideal S1024x1x16x512 .f32) (k : IVec S1024x1x16 32) : FVec Ideal S1024x1x16x512 .f32 :=
  addf (subf (uitofp FTy.f32 (cmpi CmpIPredicate.eq
    (broadcastInDim S1024x1x16x512 ![0, 1, 2, 3] bcast_S1024x1x16x1_S1024x1x16x512_0_1_2_3 (broadcastInDim S1024x1x16x1 ![0, 1, 2] bcast_S1024x1x16_S1024x1x16x1_0_1_2 k))
    (broadcastInDim S1024x1x16x512 ![0, 1, 2, 3] bcast_S1x1x1x512_S1024x1x16x512_0_1_2_3 (iotaInDim S1x1x1x512 32 3)))) x) x

theorem hardT_k (x : FVec Ideal S1024x1x16x512 .f32) (k : IVec S1024x1x16 32) (r : Fin 1024) (g : Fin 16) (p : Fin 512) :
    hardT x k (ix4 r 0 g p) = FloatOps.uitofp (F := Ideal) FTy.f32 (IntOp.cmpi CmpIPredicate.eq (k (ix3 r 0 g)) (BitVec.ofNat 32 p.val)) - x (ix4 r 0 g p) + x (ix4 r 0 g p) := by
  pointwise [hardT]

theorem bit_eq (j p : Fin 512) : FloatOps.uitofp (F := Ideal) FTy.f32 (IntOp.cmpi CmpIPredicate.eq (BitVec.ofNat 32 j.val) (BitVec.ofNat 32 p.val)) = ((if p = j then 1 else 0 : EReal)) := by
  by_cases h : p = j
  · subst h
    have : IntOp.cmpi CmpIPredicate.eq (BitVec.ofNat 32 p.val) (BitVec.ofNat 32 p.val) = 1#1 := by simp [IntOp.cmpi]
    rw [this, if_pos rfl]
    show (((1#1 : BitVec 1).toNat : ℝ) : EReal) = 1
    simp
  · have : ¬ BitVec.ofNat 32 j.val = BitVec.ofNat 32 p.val := fun e => h (Fin.ext (by
      have := congrArg BitVec.toNat e
      simp only [BitVec.toNat_ofNat] at this; omega))
    have : IntOp.cmpi CmpIPredicate.eq (BitVec.ofNat 32 j.val) (BitVec.ofNat 32 p.val) = 0#1 := by
      simp only [IntOp.cmpi, beq_eq_false_iff_ne.mpr this]; rfl
    rw [this, if_neg h]
    show (((0#1 : BitVec 1).toNat : ℝ) : EReal) = 0
    simp

theorem hardT_apply (x : FVec Ideal S1024x1x16x512 .f32) (r : Fin 1024) (g : Fin 16) (p : Fin 512) :
    hardT x (kT x) (ix4 r 0 g p) = hard (fun p => x (ix4 r 0 g p)) p := by
  rw [hardT_k, kT_apply, bit_eq]
  rfl

/-- The hard selection, of the soft one. -/
theorem stG_h (r : Fin 1024) (g : Fin 16) (p : Fin 512) :
    VG V (Proc.devRef .tc main_v80) (ix4 r 0 g p) = hard (fun p => VE V (Proc.devRef .tc main_v76) (ix4 r 0 g p)) p := by
  unfold VG
  simp only [stG, ops20, ops21, ops22, ops23, List.cons_append, List.nil_append]
  after_reads_simp
  simp -implicitDefEqProofs only [StableHlo.TRef.toBuf, StableHlo.TRef.ofBuf, cast_cast, cast_eq]
  exact hardT_apply _ r g p

theorem ops23_k (r : Fin 1024) (g : Fin 16) :
    StableHlo.after ops23 V (Proc.devRef .tc main_v81) (ix3 r 0 g) = kT (V (Proc.devRef .tc main_v80)) (ix3 r 0 g) := by
  after_reads_simp
  simp -implicitDefEqProofs only [StableHlo.TRef.toBuf, StableHlo.TRef.ofBuf, cast_cast, cast_eq]
  rw [argSnd_def]
  unfold kT
  rfl

theorem stG_kT (r : Fin 1024) (g : Fin 16) :
    VG V (Proc.devRef .tc main_v81) (ix3 r 0 g) = kT (VG V (Proc.devRef .tc main_v80)) (ix3 r 0 g) := by
  have e : VG V = StableHlo.after ops23 (StableHlo.after (ops20 ++ ops21 ++ ops22) (VE V)) := after_append (ops20 ++ ops21 ++ ops22) ops23 (VE V)
  rw [e, ops23_k, StableHlo.after_of_writes_sub _ _ ops23_writes (by decide +kernel : main_v80 ∉ ops23_W)]

/-- The selected index, that of the first greatest entry of the hard selection. -/
theorem stG_k (r : Fin 1024) (g : Fin 16) :
    VG V (Proc.devRef .tc main_v81) (ix3 r 0 g) = BitVec.ofNat 32 (am (hard (fun p => VE V (Proc.devRef .tc main_v76) (ix4 r 0 g p)))).val :=
  (stG_kT V r g).trans ((kT_apply _ r g).trans (congrArg (fun f => BitVec.ofNat 32 (am f).val) (funext fun p => stG_h V r g p)))

end Cert.ReferenceIdeal.Hand
end
-- ==== Proof.RefValH.lean ====
module

public import proofs.«01_k».proof.Proof.RefRun
public import proofs.«01_k».proof.Proof.Num
public import Idealize.ShloMosaic.PureOps.Ideal
public import Idealize.ShloMosaic.Lib.Pointwise
public import Idealize.ShloMosaic.Lib.StableHlo.ReadAt

/-! What the reference's stages compute, at an index: the decoder. -/

@[expose] public section
set_option maxRecDepth 16384
noncomputable section
namespace Cert.ReferenceIdeal.Hand
open Cert.ReferenceIdeal Cert.ReferenceIdeal.Gen Cert.Num
open Idealize.ShloMosaic Idealize.ShloMosaic.TcCoe

variable (V : Valuation τ sig (Elt Ideal))

/-- The decoder's input: the rectified soft selection, laid out in rows. -/
theorem stH_s (r : Fin 1024) (l : Fin 8192) :
    StableHlo.after (ops24 ++ ops25) V (Proc.devRef .tc main_v86) (ix2 r l) = leaky (V (Proc.devRef .tc main_v76) (ix4 r (0 : Fin 1) (gOf l) (pOf l))) := by
  simp only [ops24, ops25, List.cons_append, List.nil_append]
  after_reads_at
  rfl

/-- The hard selection, laid out in rows. -/
theorem stH_h (r : Fin 1024) (l : Fin 8192) :
    StableHlo.after (ops24 ++ ops25) V (Proc.devRef .tc main_v83) (ix2 r l) = V (Proc.devRef .tc main_v80) (ix4 r (0 : Fin 1) (gOf l) (pOf l)) := by
  simp only [ops24, ops25, List.cons_append, List.nil_append]
  after_reads_at
  rfl

/-- The decoder's first layer. -/
theorem stH_1 (r : Fin 1024) (j : Fin 1024) :
    StableHlo.after (ops26 ++ ops27) V (Proc.devRef .tc main_v91) (ix2 r j) = lay (fun k : Fin 8192 => V (Proc.devRef .tc main_v86) (ix2 r k)) (fun k j => V (Proc.devRef .tc main_arg10) (ix2 k j)) (fun j => V (Proc.devRef .tc main_arg11) (ix1 j)) j := by
  simp only [ops26, ops27, List.cons_append, List.nil_append]
  after_reads_at
  rfl

/-- The decoder's second layer. -/
theorem stH_2 (r : Fin 1024) (j : Fin 1024) :
    StableHlo.after (ops28 ++ ops29 ++ ops30) V (Proc.devRef .tc main_v96) (ix2 r j) = lay (fun k : Fin 1024 => V (Proc.devRef .tc main_v91) (ix2 r k)) (fun k j => V (Proc.devRef .tc main_arg12) (ix2 k j)) (fun j => V (Proc.devRef .tc main_arg13) (ix1 j)) j := by
  simp only [ops28, ops29, ops30, List.cons_append, List.nil_append]
  after_reads_at
  rfl

/-- The decoder's third layer. -/
theorem stH_3 (r : Fin 1024) (j : Fin 1024) :
    StableHlo.after (ops31 ++ ops32) V (Proc.devRef .tc main_v101) (ix2 r j) = lay (fun k : Fin 1024 => V (Proc.devRef .tc main_v96) (ix2 r k)) (fun k j => V (Proc.devRef .tc main_arg14) (ix2 k j)) (fun j => V (Proc.devRef .tc main_arg15) (ix1 j)) j := by
  simp only [ops31, ops32, List.cons_append, List.nil_append]
  after_reads_at
  rfl

/-- The decoder's last product and bias. -/
theorem stH_4 (r : Fin 1024) (j : Fin 256) :
    StableHlo.after ops33 V (Proc.devRef .tc main_v105) (ix2 r j) = lin (fun k : Fin 1024 => V (Proc.devRef .tc main_v101) (ix2 r k)) (fun k j => V (Proc.devRef .tc main_arg16) (ix2 k j)) (fun j => V (Proc.devRef .tc main_arg17) (ix1 j)) j := by
  after_reads_at
  rfl

end Cert.ReferenceIdeal.Hand
end
-- ==== Proof.ValR.lean ====
module

public import proofs.«01_k».proof.Proof.Spec
public import proofs.«01_k».proof.Proof.RefValA
public import proofs.«01_k».proof.Proof.RefValB
public import proofs.«01_k».proof.Proof.RefValE
public import proofs.«01_k».proof.Proof.RefValG
public import proofs.«01_k».proof.Proof.RefValH

/-! The reference computes the model: what its four results hold at the end, of the arguments and what it has drawn. -/

@[expose] public section
set_option maxRecDepth 16384
noncomputable section
namespace Cert.ReferenceIdeal.Hand
open Cert.ReferenceIdeal Cert.ReferenceIdeal.Gen Cert.Num
open Idealize.ShloMosaic Idealize.ShloMosaic.TcCoe

variable (V : Valuation τ sig (Elt Ideal))

/-- The arguments the reference is called with, and the numbers it draws. -/
def rIns : Ins where
  x := fun i s e => V (Proc.devRef .tc main_arg0) (ix3 i s e)
  y := fun i s e => V (Proc.devRef .tc main_arg1) (ix3 i s e)
  w0 := fun k j => V (Proc.devRef .tc main_arg2) (ix2 k j)
  b0 := fun j => V (Proc.devRef .tc main_arg3) (ix1 j)
  w1 := fun k j => V (Proc.devRef .tc main_arg4) (ix2 k j)
  b1 := fun j => V (Proc.devRef .tc main_arg5) (ix1 j)
  w2 := fun k j => V (Proc.devRef .tc main_arg6) (ix2 k j)
  b2 := fun j => V (Proc.devRef .tc main_arg7) (ix1 j)
  w3 := fun k j => V (Proc.devRef .tc main_arg8) (ix2 k j)
  b3 := fun j => V (Proc.devRef .tc main_arg9) (ix1 j)
  w4 := fun k j => V (Proc.devRef .tc main_arg10) (ix2 k j)
  b4 := fun j => V (Proc.devRef .tc main_arg11) (ix1 j)
  w5 := fun k j => V (Proc.devRef .tc main_arg12) (ix2 k j)
  b5 := fun j => V (Proc.devRef .tc main_arg13) (ix1 j)
  w6 := fun k j => V (Proc.devRef .tc main_arg14) (ix2 k j)
  b6 := fun j => V (Proc.devRef .tc main_arg15) (ix1 j)
  w7 := fun k j => V (Proc.devRef .tc main_arg16) (ix2 k j)
  b7 := fun j => V (Proc.devRef .tc main_arg17) (ix1 j)
  xm := fun e => V (Proc.devRef .tc main_arg18) (ix1 e)
  xv := fun e => V (Proc.devRef .tc main_arg19) (ix1 e)
  ym := fun e => V (Proc.devRef .tc main_arg20) (ix1 e)
  yv := fun e => V (Proc.devRef .tc main_arg21) (ix1 e)
  u := fun i g p => VU V (Proc.devRef .tc main_v54) (ix4 i (0 : Fin 1) g p)

/-! ## The encoder's lists one after another -/

theorem w8 : (opsR (F := Ideal)).Forall (fun op => op.writes ⊆ (ops8_W.map (Proc.devRef (τ := τ) .tc)).toFinset)
    ∧ (opsJ (F := Ideal)).Forall (fun op => op.writes ⊆ (ops8_W.map (Proc.devRef (τ := τ) .tc)).toFinset)
    ∧ (opsL (F := Ideal)).Forall (fun op => op.writes ⊆ (ops8_W.map (Proc.devRef (τ := τ) .tc)).toFinset) := by
  have h := ops8_writes (F := Ideal)
  rw [ops8_eq, List.forall_append, List.forall_append] at h
  exact h

def B1 : Valuation τ sig (Elt Ideal) := StableHlo.after opsR (VA V)
def B2 : Valuation τ sig (Elt Ideal) := StableHlo.after opsJ (B1 V)
def B3 : Valuation τ sig (Elt Ideal) := StableHlo.after (opsL ++ ops9) (B2 V)
def B4 : Valuation τ sig (Elt Ideal) := StableHlo.after (ops10 ++ ops11) (B3 V)
theorem VB_eq : VB V = StableHlo.after (ops12 ++ ops13) (B4 V) := by
  unfold VB B4 B3 B2 B1
  simp only [stB, ops8_eq, after_append]

theorem argsA : ∀ a ∈ argRefs, a ∉ stA_W := ListAll.forall_mem_of_all_decide (by decide +kernel)
theorem argsB : ∀ a ∈ argRefs, a ∉ stB_W := ListAll.forall_mem_of_all_decide (by decide +kernel)
theorem argsG : ∀ a ∈ argRefs, a ∉ stC_W ++ (stU_W ++ (stD_W ++ (stE_W ++ stG_W))) := ListAll.forall_mem_of_all_decide (by decide +kernel)
theorem argsH : ∀ a ∈ argRefs, a ∉ stH_W := ListAll.forall_mem_of_all_decide (by decide +kernel)
theorem args8 : ∀ a ∈ argRefs, a ∉ ops8_W := ListAll.forall_mem_of_all_decide (by decide +kernel)
theorem args9 : ∀ a ∈ argRefs, a ∉ ops9_W := ListAll.forall_mem_of_all_decide (by decide +kernel)
theorem args11 : ∀ a ∈ argRefs, a ∉ ops10_W ++ ops11_W := ListAll.forall_mem_of_all_decide (by decide +kernel)
theorem args25 : ∀ a ∈ argRefs, a ∉ ops24_W ++ ops25_W := ListAll.forall_mem_of_all_decide (by decide +kernel)
theorem args27 : ∀ a ∈ argRefs, a ∉ ops26_W ++ ops27_W := ListAll.forall_mem_of_all_decide (by decide +kernel)
theorem args30 : ∀ a ∈ argRefs, a ∉ ops28_W ++ ops29_W ++ ops30_W := ListAll.forall_mem_of_all_decide (by decide +kernel)
theorem args32 : ∀ a ∈ argRefs, a ∉ ops31_W ++ ops32_W := ListAll.forall_mem_of_all_decide (by decide +kernel)

variable {a : Ref sig .tc} (ha : a ∈ argRefs)
include ha

theorem VA_arg : VA V (Proc.devRef .tc a) = V (Proc.devRef .tc a) := VA_of V a (argsA a ha)
theorem B2_arg : B2 V (Proc.devRef .tc a) = V (Proc.devRef .tc a) :=
  (StableHlo.after_of_writes_sub _ _ w8.2.1 (args8 a ha)).trans
    ((StableHlo.after_of_writes_sub _ _ w8.1 (args8 a ha)).trans (VA_arg V ha))
theorem B3_arg : B3 V (Proc.devRef .tc a) = V (Proc.devRef .tc a) := by
  unfold B3
  rw [after_append]
  exact (StableHlo.after_of_writes_sub _ _ ops9_writes (args9 a ha)).trans
    ((StableHlo.after_of_writes_sub _ _ w8.2.2 (args8 a ha)).trans (B2_arg V ha))
theorem B4_arg : B4 V (Proc.devRef .tc a) = V (Proc.devRef .tc a) :=
  (StableHlo.after_of_writes_sub (W := ops10_W ++ ops11_W) _ _ (StableHlo.forall_writes_sub_of_map rfl) (args11 a ha)).trans (B3_arg V ha)
theorem VB_arg : VB V (Proc.devRef .tc a) = V (Proc.devRef .tc a) := (VB_of V a (argsB a ha)).trans (VA_arg V ha)
theorem VG_arg : VG V (Proc.devRef .tc a) = V (Proc.devRef .tc a) := by
  have h := argsG a ha
  simp only [List.mem_append, not_or] at h
  rw [VG_of V a (by simpa only [List.mem_append, not_or] using h.2.2.2.2), VE_of V a h.2.2.2.1, VD_of V a h.2.2.1,
    VU_of V a (by simpa only [List.mem_append, not_or] using h.2.1), VC_of V a h.1]
  exact VB_arg V ha

omit ha

/-! ## The encoder -/

theorem rin_e (i : Fin 1024) (l : Fin 2560) : B2 V (Proc.devRef .tc main_v26) (ix2 i l) = (rIns V).e i l := by
  refine (opsJ_apply _ i l).trans ?_
  unfold Ins.e encRow
  by_cases h : l.val < 2048
  · rw [dif_pos h, dif_pos h]
    exact (opsR_x _ i _).trans (stA_x V i _ _)
  · rw [dif_neg h, dif_neg h]
    exact (opsR_y _ i _).trans (stA_y V i _ _)

/-- The encoder's first layer. -/
theorem rin_1 (i j : Fin 1024) : B3 V (Proc.devRef .tc main_v31) (ix2 i j) = lay ((rIns V).e i) (rIns V).w0 (rIns V).b0 j :=
  (opsL_apply _ i j).trans (lay_congr (rin_e V i) (fun k j => congrFun (B2_arg V (by decide +kernel)) _) (fun j => congrFun (B2_arg V (by decide +kernel)) _) j)
/-- The encoder's second layer. -/
theorem rin_2 (i j : Fin 1024) : B4 V (Proc.devRef .tc main_v36) (ix2 i j) = lay (lay ((rIns V).e i) (rIns V).w0 (rIns V).b0) (rIns V).w1 (rIns V).b1 j :=
  (stB_2 _ i j).trans (lay_congr (rin_1 V i) (fun k j => congrFun (B3_arg V (by decide +kernel)) _) (fun j => congrFun (B3_arg V (by decide +kernel)) _) j)
/-- The encoder's trunk. -/
theorem rin_t (i j : Fin 1024) : VB V (Proc.devRef .tc main_v41) (ix2 i j) = (rIns V).t i j := by
  rw [VB_eq]
  exact (stB_3 _ i j).trans (lay_congr (rin_2 V i) (fun k j => congrFun (B4_arg V (by decide +kernel)) _) (fun j => congrFun (B4_arg V (by decide +kernel)) _) j)

/-- The latent code. -/
theorem rin_z (i : Fin 1024) (l : Fin 8192) : VC V (Proc.devRef .tc main_v45) (ix2 i l) = (rIns V).z i l :=
  (stC_z V i l).trans (lin_congr (rin_t V i) (fun k j => congrFun (VB_arg V (by decide +kernel)) _) (fun j => congrFun (VB_arg V (by decide +kernel)) _) l)

/-! ## The quantiser -/

theorem rin_zz (i : Fin 1024) (g : Fin 16) (p : Fin 512) :
    VU V (Proc.devRef .tc main_v46) (ix4 i (0 : Fin 1) g p) = (rIns V).z i ⟨512 * g.val + p.val, by omega⟩ := by
  rw [VU_of V main_v46 (by decide +kernel), stC_zz]
  exact rin_z V i _

/-- The disturbed logits. -/
theorem rin_l (i : Fin 1024) (g : Fin 16) (p : Fin 512) :
    VD V (Proc.devRef .tc main_v65) (ix4 i (0 : Fin 1) g p) = noisy ((rIns V).z i ⟨512 * g.val + p.val, by omega⟩) ((rIns V).u i g p) := by
  rw [stD_l, rin_zz]
  unfold rIns
  rfl

/-- The soft selection. -/
theorem rin_s (i : Fin 1024) (g : Fin 16) (p : Fin 512) : VE V (Proc.devRef .tc main_v76) (ix4 i (0 : Fin 1) g p) = (rIns V).s i g p := by
  refine (stE_s V i g p).trans (congrArg (fun x => smx x p) (funext fun k => (rin_l V i g k).trans ?_))
  show noisy _ _ = noisy _ ((rIns V).u i (gOf _) (pOf _))
  rw [gOf_at, pOf_at]

/-- The hard selection, by groups. -/
theorem rin_h (i : Fin 1024) (g : Fin 16) (p : Fin 512) : VG V (Proc.devRef .tc main_v80) (ix4 i (0 : Fin 1) g p) = hard ((rIns V).s i g) p :=
  (stG_h V i g p).trans (congrArg (fun s => hard s p) (funext fun p => rin_s V i g p))

/-- The selected indices. -/
theorem rin_k (i : Fin 1024) (g : Fin 16) : VG V (Proc.devRef .tc main_v81) (ix3 i (0 : Fin 1) g) = (rIns V).k i g := by
  refine (stG_k V i g).trans ?_
  rw [show (fun p => VE V (Proc.devRef .tc main_v76) (ix4 i (0 : Fin 1) g p)) = (rIns V).s i g from funext fun p => rin_s V i g p]
  unfold Ins.k Ins.s soft
  rw [am_hard]

/-! ## The decoder -/

def H1 : Valuation τ sig (Elt Ideal) := StableHlo.after (ops24 ++ ops25) (VG V)
def H2 : Valuation τ sig (Elt Ideal) := StableHlo.after (ops26 ++ ops27) (H1 V)
def H3 : Valuation τ sig (Elt Ideal) := StableHlo.after (ops28 ++ ops29 ++ ops30) (H2 V)
def H4 : Valuation τ sig (Elt Ideal) := StableHlo.after (ops31 ++ ops32) (H3 V)
theorem VH_eq : VH V = StableHlo.after ops33 (H4 V) := by
  unfold VH H4 H3 H2 H1
  simp only [stH, after_append]

theorem H1_of {r : Ref sig .tc} (h : r ∉ ops24_W ++ ops25_W) : H1 V (Proc.devRef .tc r) = VG V (Proc.devRef .tc r) :=
  StableHlo.after_of_writes_sub _ _ (StableHlo.forall_writes_sub_of_map rfl) h
theorem H2_of {r : Ref sig .tc} (h : r ∉ ops26_W ++ ops27_W) : H2 V (Proc.devRef .tc r) = H1 V (Proc.devRef .tc r) :=
  StableHlo.after_of_writes_sub _ _ (StableHlo.forall_writes_sub_of_map rfl) h
theorem H3_of {r : Ref sig .tc} (h : r ∉ ops28_W ++ ops29_W ++ ops30_W) : H3 V (Proc.devRef .tc r) = H2 V (Proc.devRef .tc r) :=
  StableHlo.after_of_writes_sub _ _ (StableHlo.forall_writes_sub_of_map rfl) h
theorem H4_of {r : Ref sig .tc} (h : r ∉ ops31_W ++ ops32_W) : H4 V (Proc.devRef .tc r) = H3 V (Proc.devRef .tc r) :=
  StableHlo.after_of_writes_sub _ _ (StableHlo.forall_writes_sub_of_map rfl) h

include ha
theorem H1_arg : H1 V (Proc.devRef .tc a) = V (Proc.devRef .tc a) := (H1_of V (args25 a ha)).trans (VG_arg V ha)
theorem H2_arg : H2 V (Proc.devRef .tc a) = V (Proc.devRef .tc a) := (H2_of V (args27 a ha)).trans (H1_arg V ha)
theorem H3_arg : H3 V (Proc.devRef .tc a) = V (Proc.devRef .tc a) := (H3_of V (args30 a ha)).trans (H2_arg V ha)
theorem H4_arg : H4 V (Proc.devRef .tc a) = V (Proc.devRef .tc a) := (H4_of V (args32 a ha)).trans (H3_arg V ha)
omit ha

/-- The rectified soft selection is the soft selection. -/
theorem rin_86 (i : Fin 1024) (l : Fin 8192) : H1 V (Proc.devRef .tc main_v86) (ix2 i l) = (rIns V).s i (gOf l) (pOf l) := by
  refine (stH_s _ i l).trans ((congrArg leaky ((congrFun (VG_of V main_v76 (by decide +kernel)) _).trans (rin_s V i (gOf l) (pOf l)))).trans ?_)
  unfold Ins.s soft
  exact leaky_smx _ _

theorem rin_91 (i j : Fin 1024) :
    H2 V (Proc.devRef .tc main_v91) (ix2 i j) = leaky (∑ l, (rIns V).s i (gOf l) (pOf l) * (rIns V).w4 l j + (rIns V).b4 j) :=
  (stH_1 _ i j).trans (lay_congr (x' := fun l => (rIns V).s i (gOf l) (pOf l)) (rin_86 V i) (fun k j => congrFun (H1_arg V (by decide +kernel)) _) (fun j => congrFun (H1_arg V (by decide +kernel)) _) j)

/-- The first result is the latent code. -/
theorem rout_z (i : Fin 1024) (l : Fin 8192) : VH V (Proc.devRef .tc main_v45) (ix2 i l) = (rIns V).z i l := by
  rw [VH_of V main_v45 (by decide +kernel), VG_of V main_v45 (by decide +kernel), VE_of V main_v45 (by decide +kernel),
    VD_of V main_v45 (by decide +kernel), VU_of V main_v45 (by decide +kernel)]
  exact rin_z V i l

/-- The second result is the selected indices. -/
theorem rout_k (i : Fin 1024) (g : Fin 16) : VH V (Proc.devRef .tc main_v81) (ix3 i (0 : Fin 1) g) = (rIns V).k i g := by
  rw [VH_of V main_v81 (by decide +kernel)]
  exact rin_k V i g

/-- The third result is the hard selection. -/
theorem rout_h (i : Fin 1024) (l : Fin 8192) : VH V (Proc.devRef .tc main_v83) (ix2 i l) = (rIns V).h i l := by
  rw [VH_eq, StableHlo.after_of_writes_sub _ _ ops33_writes (by decide +kernel), H4_of V (by decide +kernel), H3_of V (by decide +kernel), H2_of V (by decide +kernel)]
  exact (stH_h _ i l).trans (rin_h V i (gOf l) (pOf l))

/-- The fourth result is the decoded row. -/
theorem rout_o (i : Fin 1024) (j : Fin 256) : VH V (Proc.devRef .tc main_v105) (ix2 i j) = (rIns V).o i j := by
  rw [VH_eq]
  refine (stH_4 _ i j).trans (lin_congr (fun k => ?_) (fun k j => congrFun (H4_arg V (by decide +kernel)) _) (fun j => congrFun (H4_arg V (by decide +kernel)) _) j)
  refine (stH_3 _ i k).trans (lay_congr (fun k => ?_) (fun k j => congrFun (H3_arg V (by decide +kernel)) _) (fun j => congrFun (H3_arg V (by decide +kernel)) _) k)
  exact (stH_2 _ i k).trans (lay_congr (rin_91 V i) (fun k j => congrFun (H2_arg V (by decide +kernel)) _) (fun j => congrFun (H2_arg V (by decide +kernel)) _) k)

end Cert.ReferenceIdeal.Hand
-- ==== Proof.Alg.lean ====
module

public import proofs.«01_k».proof.Defs
public import proofs.«01_k».proof.Proof.Draw
public import proofs.«01_k».proof.Proof.ValK
public import proofs.«01_k».proof.Proof.ValR

/-! The value claim: over the extended reals the kernel's program and the reference end with the same four results. -/

@[expose] public section
set_option maxRecDepth 16384
noncomputable section
namespace Cert.Alg
open Idealize.ShloMosaic Idealize.ShloMosaic.TcCoe Idealize.SL.Sem
open Cert.Num

/-- A device's memory at the start, as the kernel's program names it. -/
abbrev KMem := (ℓ : Loc Cert.KernelIdeal.nD Cert.KernelIdeal.τ Cert.KernelIdeal.sig) → Buf (Elt Ideal) ℓ
/-- A device's memory at the start, as the reference names it. -/
abbrev RMem := (ℓ : Loc Cert.ReferenceIdeal.nD Cert.ReferenceIdeal.τ Cert.ReferenceIdeal.sig) → Buf (Elt Ideal) ℓ

/-- The device's buffers at the reference's start. -/
abbrev start (m' : RMem) (c : Dev Cert.ReferenceIdeal.nD) : Valuation Cert.ReferenceIdeal.τ Cert.ReferenceIdeal.sig (Elt Ideal) := fun b => m' (c, b)

/-- The two memories hold the same arguments. -/
def SameArgs (m : KMem) (m' : RMem) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)

variable {m : KMem} {m' : RMem} {c : Dev Cert.KernelIdeal.nD}

/-- From the same arguments both programs compute the model at the same inputs: they draw the same numbers. -/
theorem ins_eq (h : SameArgs m m' c) : Cert.ReferenceIdeal.Hand.rIns (start m' c) = Cert.KernelIdeal.Hand.kIns m c := by
  obtain ⟨h0, h1, h2, h3, h4, h5, h6, h7, h8, h9, h10, h11, h12, h13, h14, h15, h16, h17, h18, h19, h20, h21⟩ := h
  unfold Cert.ReferenceIdeal.Hand.rIns Cert.KernelIdeal.Hand.kIns
  rw [Ins.mk.injEq]
  exact ⟨funext fun i => funext fun s => funext fun e => congrFun h0 (ix3 i s e),
    funext fun i => funext fun s => funext fun e => congrFun h1 (ix3 i s e),
    funext fun k => funext fun j => congrFun h2 (ix2 k j),
    funext fun j => congrFun h3 (ix1 j),
    funext fun k => funext fun j => congrFun h4 (ix2 k j),
    funext fun j => congrFun h5 (ix1 j),
    funext fun k => funext fun j => congrFun h6 (ix2 k j),
    funext fun j => congrFun h7 (ix1 j),
    funext fun k => funext fun j => congrFun h8 (ix2 k j),
    funext fun j => congrFun h9 (ix1 j),
    funext fun k => funext fun j => congrFun h10 (ix2 k j),
    funext fun j => congrFun h11 (ix1 j),
    funext fun k => funext fun j => congrFun h12 (ix2 k j),
    funext fun j => congrFun h13 (ix1 j),
    funext fun k => funext fun j => congrFun h14 (ix2 k j),
    funext fun j => congrFun h15 (ix1 j),
    funext fun k => funext fun j => congrFun h16 (ix2 k j),
    funext fun j => congrFun h17 (ix1 j),
    funext fun j => congrFun h18 (ix1 j),
    funext fun j => congrFun h19 (ix1 j),
    funext fun j => congrFun h20 (ix1 j),
    funext fun j => congrFun h21 (ix1 j),
    funext fun i => funext fun g => funext fun p =>
      (Cert.Draw.draw_at (Cert.KernelIdeal.Hand.W0 m c) (Cert.ReferenceIdeal.Hand.VC (start m' c)) i g p).symm⟩

/-- The first results are equal. -/
theorem same_z (h : SameArgs m m' c) :
    (Cert.ReferenceIdeal.Hand.VH (start m' c) (Proc.devRef .tc Cert.ReferenceIdeal.main_v45) : (⟨Cert.KernelIdeal.S1024x8192, .f32⟩ : BufTy).Contents (Elt Ideal))
      = Cert.KernelIdeal.Hand.W9 m c (Proc.devRef .tc Cert.KernelIdeal.main_v46_0) := by
  funext k
  obtain ⟨i, l, rfl⟩ : ∃ (i : Fin 1024) (l : Fin 8192), k = ix2 i l := ⟨k 0, k 1, eq_ix2 k⟩
  exact (Cert.ReferenceIdeal.Hand.rout_z _ i l).trans ((congrArg (fun a : Ins => a.z i l) (ins_eq h)).trans (Cert.KernelIdeal.Hand.out_z m c i l).symm)

/-- The second results are equal. -/
theorem same_k (h : SameArgs m m' c) :
    (Cert.ReferenceIdeal.Hand.VH (start m' c) (Proc.devRef .tc Cert.ReferenceIdeal.main_v81) : (⟨Cert.KernelIdeal.S1024x1x16, .i32⟩ : BufTy).Contents (Elt Ideal))
      = Cert.KernelIdeal.Hand.W9 m c (Proc.devRef .tc Cert.KernelIdeal.main_v57) := by
  funext k
  obtain ⟨i, o, g, rfl⟩ : ∃ (i : Fin 1024) (o : Fin 1) (g : Fin 16), k = ix3 i o g := ⟨k 0, k 1, k 2, eq_ix3 k⟩
  obtain rfl : o = 0 := Subsingleton.elim _ _
  exact (Cert.ReferenceIdeal.Hand.rout_k _ i g).trans ((congrArg (fun a : Ins => a.k i g) (ins_eq h)).trans (Cert.KernelIdeal.Hand.out_k m c i g).symm)

/-- The third results are equal. -/
theorem same_h (h : SameArgs m m' c) :
    (Cert.ReferenceIdeal.Hand.VH (start m' c) (Proc.devRef .tc Cert.ReferenceIdeal.main_v83) : (⟨Cert.KernelIdeal.S1024x8192, .f32⟩ : BufTy).Contents (Elt Ideal))
      = Cert.KernelIdeal.Hand.W9 m c (Proc.devRef .tc Cert.KernelIdeal.main_v46_1) := by
  funext k
  obtain ⟨i, l, rfl⟩ : ∃ (i : Fin 1024) (l : Fin 8192), k = ix2 i l := ⟨k 0, k 1, eq_ix2 k⟩
  exact (Cert.ReferenceIdeal.Hand.rout_h _ i l).trans ((congrArg (fun a : Ins => a.h i l) (ins_eq h)).trans (Cert.KernelIdeal.Hand.out_h m c i l).symm)

/-- The fourth results are equal. -/
theorem same_o (h : SameArgs m m' c) :
    (Cert.ReferenceIdeal.Hand.VH (start m' c) (Proc.devRef .tc Cert.ReferenceIdeal.main_v105) : (⟨Cert.KernelIdeal.S1024x256, .f32⟩ : BufTy).Contents (Elt Ideal))
      = Cert.KernelIdeal.Hand.W9 m c (Proc.devRef .tc Cert.KernelIdeal.main_v55) := by
  funext k
  obtain ⟨i, l, rfl⟩ : ∃ (i : Fin 1024) (l : Fin 256), k = ix2 i l := ⟨k 0, k 1, eq_ix2 k⟩
  exact (Cert.ReferenceIdeal.Hand.rout_o _ i l).trans ((congrArg (fun a : Ins => a.o i l) (ins_eq h)).trans (Cert.KernelIdeal.Hand.out_o m c i l).symm)

set_option maxHeartbeats 2000000 in
/-- The value claim. -/
theorem algebraic (hK : Cert.KernelIdeal.Facts) (hR : Cert.ReferenceIdeal.Facts) : Cert.algebraic_KernelIdeal_ReferenceIdeal := by
  intro m g m' g' _ hargs
  refine ⟨fun c => Cert.KernelIdeal.Hand.W9 m c (Proc.devRef .tc Cert.KernelIdeal.main_v46_0), fun c => Cert.KernelIdeal.Hand.W9 m c (Proc.devRef .tc Cert.KernelIdeal.main_v57),
    fun c => Cert.KernelIdeal.Hand.W9 m c (Proc.devRef .tc Cert.KernelIdeal.main_v46_1), fun c => Cert.KernelIdeal.Hand.W9 m c (Proc.devRef .tc Cert.KernelIdeal.main_v55),
    (θ_run _ _ _).mono (fun r h c => ?_) (Cert.KernelIdeal.Hand.run_post m g), (θ_run _ _ _).mono (fun r h c => ?_) (Cert.ReferenceIdeal.Hand.run_post m' g')⟩
  · have kr : ∀ a : Ref Cert.KernelIdeal.sig .tc, ¬ (Proc.devRef .tc a : DevRef Cert.KernelIdeal.τ Cert.KernelIdeal.sig).isScoped →
        r.2.mem ((c.tc : Thread Cert.KernelIdeal.nD Cert.KernelIdeal.τ).loc a) = Cert.KernelIdeal.Hand.W9 m c (Proc.devRef .tc a) :=
      fun a hs => h.1 c _ (Cert.KernelIdeal.Hand.mem_uc a hs)
    have ka : ∀ a ∈ Cert.KernelIdeal.Hand.argRefs, ¬ (Proc.devRef .tc a : DevRef Cert.KernelIdeal.τ Cert.KernelIdeal.sig).isScoped →
        r.2.mem ((c.tc : Thread Cert.KernelIdeal.nD Cert.KernelIdeal.τ).loc a) = m ((c.tc : Thread Cert.KernelIdeal.nD Cert.KernelIdeal.τ).loc a) :=
      fun a ha hs => (kr a hs).trans (Cert.KernelIdeal.Hand.W9_args m c a ha)
    exact ⟨kr _ (by decide), kr _ (by decide), kr _ (by decide), kr _ (by decide),
      ka Cert.KernelIdeal.main_arg0 (by decide) (by decide),
      ka Cert.KernelIdeal.main_arg1 (by decide) (by decide),
      ka Cert.KernelIdeal.main_arg2 (by decide) (by decide),
      ka Cert.KernelIdeal.main_arg3 (by decide) (by decide),
      ka Cert.KernelIdeal.main_arg4 (by decide) (by decide),
      ka Cert.KernelIdeal.main_arg5 (by decide) (by decide),
      ka Cert.KernelIdeal.main_arg6 (by decide) (by decide),
      ka Cert.KernelIdeal.main_arg7 (by decide) (by decide),
      ka Cert.KernelIdeal.main_arg8 (by decide) (by decide),
      ka Cert.KernelIdeal.main_arg9 (by decide) (by decide),
      ka Cert.KernelIdeal.main_arg10 (by decide) (by decide),
      ka Cert.KernelIdeal.main_arg11 (by decide) (by decide),
      ka Cert.KernelIdeal.main_arg12 (by decide) (by decide),
      ka Cert.KernelIdeal.main_arg13 (by decide) (by decide),
      ka Cert.KernelIdeal.main_arg14 (by decide) (by decide),
      ka Cert.KernelIdeal.main_arg15 (by decide) (by decide),
      ka Cert.KernelIdeal.main_arg16 (by decide) (by decide),
      ka Cert.KernelIdeal.main_arg17 (by decide) (by decide),
      ka Cert.KernelIdeal.main_arg18 (by decide) (by decide),
      ka Cert.KernelIdeal.main_arg19 (by decide) (by decide),
      ka Cert.KernelIdeal.main_arg20 (by decide) (by decide),
      ka Cert.KernelIdeal.main_arg21 (by decide) (by decide)⟩
  · have rr : ∀ a : Ref Cert.ReferenceIdeal.sig .tc,
        r.2.mem ((c.tc : Thread Cert.ReferenceIdeal.nD Cert.ReferenceIdeal.τ).loc a) = Cert.ReferenceIdeal.Hand.VH (start m' c) (Proc.devRef .tc a) :=
      fun a => (h.1 c a).trans (congrFun (Cert.ReferenceIdeal.Hand.after_parts _) _)
    have ra : ∀ a ∈ Cert.ReferenceIdeal.Hand.argRefs,
        r.2.mem ((c.tc : Thread Cert.ReferenceIdeal.nD Cert.ReferenceIdeal.τ).loc a) = m' ((c.tc : Thread Cert.ReferenceIdeal.nD Cert.ReferenceIdeal.τ).loc a) :=
      fun a ha => (h.1 c a).trans (Cert.ReferenceIdeal.Hand.args_kept _ a ha)
    exact ⟨(rr _).trans (same_z (hargs c)), (rr _).trans (same_k (hargs c)), (rr _).trans (same_h (hargs c)), (rr _).trans (same_o (hargs c)),
      ra Cert.ReferenceIdeal.main_arg0 (by decide +kernel),
      ra Cert.ReferenceIdeal.main_arg1 (by decide +kernel),
      ra Cert.ReferenceIdeal.main_arg2 (by decide +kernel),
      ra Cert.ReferenceIdeal.main_arg3 (by decide +kernel),
      ra Cert.ReferenceIdeal.main_arg4 (by decide +kernel),
      ra Cert.ReferenceIdeal.main_arg5 (by decide +kernel),
      ra Cert.ReferenceIdeal.main_arg6 (by decide +kernel),
      ra Cert.ReferenceIdeal.main_arg7 (by decide +kernel),
      ra Cert.ReferenceIdeal.main_arg8 (by decide +kernel),
      ra Cert.ReferenceIdeal.main_arg9 (by decide +kernel),
      ra Cert.ReferenceIdeal.main_arg10 (by decide +kernel),
      ra Cert.ReferenceIdeal.main_arg11 (by decide +kernel),
      ra Cert.ReferenceIdeal.main_arg12 (by decide +kernel),
      ra Cert.ReferenceIdeal.main_arg13 (by decide +kernel),
      ra Cert.ReferenceIdeal.main_arg14 (by decide +kernel),
      ra Cert.ReferenceIdeal.main_arg15 (by decide +kernel),
      ra Cert.ReferenceIdeal.main_arg16 (by decide +kernel),
      ra Cert.ReferenceIdeal.main_arg17 (by decide +kernel),
      ra Cert.ReferenceIdeal.main_arg18 (by decide +kernel),
      ra Cert.ReferenceIdeal.main_arg19 (by decide +kernel),
      ra Cert.ReferenceIdeal.main_arg20 (by decide +kernel),
      ra Cert.ReferenceIdeal.main_arg21 (by decide +kernel)⟩

end Cert.Alg
-- ==== Proof.lean ====
/- The proof of the certificate's claims. The frames are those of KRun, Run and RefRun, the value claim is Alg. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.KRun
public import proofs.«01_k».proof.Proof.Run
public import proofs.«01_k».proof.Proof.RefRun
public import proofs.«01_k».proof.Proof.Alg
public import Idealize.ShloMosaic.Adequacy
public import Idealize.ShloMosaic.Init

@[expose] public section

noncomputable section

namespace Cert.Proof

open Idealize.ShloMosaic Idealize.SL.Sem

/-- The kernel and its idealization and the reference terminate with their arguments unchanged and every counter at
    zero, the idealization rewrites nothing, and over the extended reals the idealization and the reference end with
    equal results. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ,
    fun m ρ _ => Cert.ReferenceIdeal.Hand.frame m ρ, trivial, Cert.Alg.algebraic _ _⟩

end Cert.Proof

end
